-- ==== Defs.lean ====
def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRef (m : (ℓ : Loc Cert.WgradRef.nD Cert.WgradRef.τ Cert.WgradRef.sig) → Buf (Elt Bits) ℓ) : Prop :=
  True

def Pre_WgradRefIdeal (m : (ℓ : Loc Cert.WgradRefIdeal.nD Cert.WgradRefIdeal.τ Cert.WgradRefIdeal.sig) → Buf (Elt Ideal) ℓ) : Prop :=
  True

def Pre_QuantDy (m : (ℓ : Loc Cert.QuantDy.nD Cert.QuantDy.τ Cert.QuantDy.sig) → Buf (Elt Bits) ℓ) : Prop :=
  True

def Pre_QuantDyIdeal (m : (ℓ : Loc Cert.QuantDyIdeal.nD Cert.QuantDyIdeal.τ Cert.QuantDyIdeal.sig) → Buf (Elt Ideal) ℓ) : Prop :=
  True

def Pre_QuantDyIdeal_finite [hPre_finite : Cert.Pre_finite.Facts] (m : (ℓ : Loc Cert.QuantDyIdeal.nD Cert.QuantDyIdeal.τ Cert.QuantDyIdeal.sig) → Buf (Elt Ideal) ℓ) : Prop :=
  ∀ c : Dev Cert.QuantDyIdeal.nD,
    (Cert.Pre_finite.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2)) (m ((c.tc : Thread Cert.QuantDyIdeal.nD Cert.QuantDyIdeal.τ).loc Cert.QuantDyIdeal.main_arg3))).1 = (fun _ => 1#1)
    ∧ (Cert.Pre_finite.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2)) (m ((c.tc : Thread Cert.QuantDyIdeal.nD Cert.QuantDyIdeal.τ).loc Cert.QuantDyIdeal.main_arg3))).2 = (fun _ => 1#1)

def Pre_QuantDyRef (m : (ℓ : Loc Cert.QuantDyRef.nD Cert.QuantDyRef.τ Cert.QuantDyRef.sig) → Buf (Elt Bits) ℓ) : Prop :=
  True

def Pre_QuantDyRefIdeal (m : (ℓ : Loc Cert.QuantDyRefIdeal.nD Cert.QuantDyRefIdeal.τ Cert.QuantDyRefIdeal.sig) → Buf (Elt Ideal) ℓ) : Prop :=
  True

def Pre_QuantDyRefIdeal_finite [hPre_finite : Cert.Pre_finite.Facts] (m : (ℓ : Loc Cert.QuantDyRefIdeal.nD Cert.QuantDyRefIdeal.τ Cert.QuantDyRefIdeal.sig) → Buf (Elt Ideal) ℓ) : Prop :=
  ∀ c : Dev Cert.QuantDyRefIdeal.nD,
    (Cert.Pre_finite.fn (F := Ideal) (m ((c.tc : Thread Cert.QuantDyRefIdeal.nD Cert.QuantDyRefIdeal.τ).loc Cert.QuantDyRefIdeal.main_arg0)) (m ((c.tc : Thread Cert.QuantDyRefIdeal.nD Cert.QuantDyRefIdeal.τ).loc Cert.QuantDyRefIdeal.main_arg1)) (m ((c.tc : Thread Cert.QuantDyRefIdeal.nD Cert.QuantDyRefIdeal.τ).loc Cert.QuantDyRefIdeal.main_arg2)) (m ((c.tc : Thread Cert.QuantDyRefIdeal.nD Cert.QuantDyRefIdeal.τ).loc Cert.QuantDyRefIdeal.main_arg3))).1 = (fun _ => 1#1)
    ∧ (Cert.Pre_finite.fn (F := Ideal) (m ((c.tc : Thread Cert.QuantDyRefIdeal.nD Cert.QuantDyRefIdeal.τ).loc Cert.QuantDyRefIdeal.main_arg0)) (m ((c.tc : Thread Cert.QuantDyRefIdeal.nD Cert.QuantDyRefIdeal.τ).loc Cert.QuantDyRefIdeal.main_arg1)) (m ((c.tc : Thread Cert.QuantDyRefIdeal.nD Cert.QuantDyRefIdeal.τ).loc Cert.QuantDyRefIdeal.main_arg2)) (m ((c.tc : Thread Cert.QuantDyRefIdeal.nD Cert.QuantDyRefIdeal.τ).loc Cert.QuantDyRefIdeal.main_arg3))).2 = (fun _ => 1#1)

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXRef (m : (ℓ : Loc Cert.QuantXRef.nD Cert.QuantXRef.τ Cert.QuantXRef.sig) → Buf (Elt Bits) ℓ) : Prop :=
  True

def Pre_QuantXRefIdeal (m : (ℓ : Loc Cert.QuantXRefIdeal.nD Cert.QuantXRefIdeal.τ Cert.QuantXRefIdeal.sig) → Buf (Elt Ideal) ℓ) : Prop :=
  True

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ r.2.sem = fun _ => 0)

def quiescent_WgradRef [hWgradRef : Cert.WgradRef.Facts] : Prop :=
  ∀ (m : (ℓ : Loc Cert.WgradRef.nD Cert.WgradRef.τ Cert.WgradRef.sig) → Buf (Elt Bits) ℓ) (g : Dev Cert.WgradRef.nD → PrngReg), Pre_WgradRef m →
    θ_run (Cert.WgradRef.defs (F := Bits)) (onTc (τ := Cert.WgradRef.τ) (Cert.WgradRef.main (F := Bits))) ⟨m, fun _ => 0, g⟩ (fun r => (∀ c : Dev Cert.WgradRef.nD,
      r.2.mem ((c.tc : Thread Cert.WgradRef.nD Cert.WgradRef.τ).loc Cert.WgradRef.main_arg0) = m ((c.tc : Thread Cert.WgradRef.nD Cert.WgradRef.τ).loc Cert.WgradRef.main_arg0)
      ∧ r.2.mem ((c.tc : Thread Cert.WgradRef.nD Cert.WgradRef.τ).loc Cert.WgradRef.main_arg1) = m ((c.tc : Thread Cert.WgradRef.nD Cert.WgradRef.τ).loc Cert.WgradRef.main_arg1)
      ∧ r.2.mem ((c.tc : Thread Cert.WgradRef.nD Cert.WgradRef.τ).loc Cert.WgradRef.main_arg2) = m ((c.tc : Thread Cert.WgradRef.nD Cert.WgradRef.τ).loc Cert.WgradRef.main_arg2)
      ∧ r.2.mem ((c.tc : Thread Cert.WgradRef.nD Cert.WgradRef.τ).loc Cert.WgradRef.main_arg3) = m ((c.tc : Thread Cert.WgradRef.nD Cert.WgradRef.τ).loc Cert.WgradRef.main_arg3))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3))
      ∧ r.2.sem = fun _ => 0)

def quiescent_QuantDy [hQuantDy : Cert.QuantDy.Facts] : Prop :=
  ∀ (m : (ℓ : Loc Cert.QuantDy.nD Cert.QuantDy.τ Cert.QuantDy.sig) → Buf (Elt Bits) ℓ) (g : Dev Cert.QuantDy.nD → PrngReg), Pre_QuantDy m →
    θ_run (Cert.QuantDy.defs (F := Bits)) (onTc (τ := Cert.QuantDy.τ) (Cert.QuantDy.main (F := Bits))) ⟨m, fun _ => 0, g⟩ (fun r => (∀ c : Dev Cert.QuantDy.nD,
      r.2.mem ((c.tc : Thread Cert.QuantDy.nD Cert.QuantDy.τ).loc Cert.QuantDy.main_arg0) = m ((c.tc : Thread Cert.QuantDy.nD Cert.QuantDy.τ).loc Cert.QuantDy.main_arg0)
      ∧ r.2.mem ((c.tc : Thread Cert.QuantDy.nD Cert.QuantDy.τ).loc Cert.QuantDy.main_arg1) = m ((c.tc : Thread Cert.QuantDy.nD Cert.QuantDy.τ).loc Cert.QuantDy.main_arg1)
      ∧ r.2.mem ((c.tc : Thread Cert.QuantDy.nD Cert.QuantDy.τ).loc Cert.QuantDy.main_arg2) = m ((c.tc : Thread Cert.QuantDy.nD Cert.QuantDy.τ).loc Cert.QuantDy.main_arg2)
      ∧ r.2.mem ((c.tc : Thread Cert.QuantDy.nD Cert.QuantDy.τ).loc Cert.QuantDy.main_arg3) = m ((c.tc : Thread Cert.QuantDy.nD Cert.QuantDy.τ).loc Cert.QuantDy.main_arg3))
      ∧ r.2.sem = fun _ => 0)

def quiescent_QuantDyIdeal [hQuantDyIdeal : Cert.QuantDyIdeal.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
      ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ r.2.sem = fun _ => 0)

def quiescent_QuantDyIdeal_pre_finite [hQuantDyIdeal : Cert.QuantDyIdeal.Facts] [hPre_finite : Cert.Pre_finite.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal_finite m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
      ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ r.2.sem = fun _ => 0)

def quiescent_QuantDyRef [hQuantDyRef : Cert.QuantDyRef.Facts] : Prop :=
  ∀ (m : (ℓ : Loc Cert.QuantDyRef.nD Cert.QuantDyRef.τ Cert.QuantDyRef.sig) → Buf (Elt Bits) ℓ) (g : Dev Cert.QuantDyRef.nD → PrngReg), Pre_QuantDyRef m →
    θ_run (Cert.QuantDyRef.defs (F := Bits)) (onTc (τ := Cert.QuantDyRef.τ) (Cert.QuantDyRef.main (F := Bits))) ⟨m, fun _ => 0, g⟩ (fun r => (∀ c : Dev Cert.QuantDyRef.nD,
      r.2.mem ((c.tc : Thread Cert.QuantDyRef.nD Cert.QuantDyRef.τ).loc Cert.QuantDyRef.main_arg0) = m ((c.tc : Thread Cert.QuantDyRef.nD Cert.QuantDyRef.τ).loc Cert.QuantDyRef.main_arg0)
      ∧ r.2.mem ((c.tc : Thread Cert.QuantDyRef.nD Cert.QuantDyRef.τ).loc Cert.QuantDyRef.main_arg1) = m ((c.tc : Thread Cert.QuantDyRef.nD Cert.QuantDyRef.τ).loc Cert.QuantDyRef.main_arg1)
      ∧ r.2.mem ((c.tc : Thread Cert.QuantDyRef.nD Cert.QuantDyRef.τ).loc Cert.QuantDyRef.main_arg2) = m ((c.tc : Thread Cert.QuantDyRef.nD Cert.QuantDyRef.τ).loc Cert.QuantDyRef.main_arg2)
      ∧ r.2.mem ((c.tc : Thread Cert.QuantDyRef.nD Cert.QuantDyRef.τ).loc Cert.QuantDyRef.main_arg3) = m ((c.tc : Thread Cert.QuantDyRef.nD Cert.QuantDyRef.τ).loc Cert.QuantDyRef.main_arg3))
      ∧ r.2.sem = fun _ => 0)

def quiescent_QuantDyRefIdeal [hQuantDyRefIdeal : Cert.QuantDyRefIdeal.Facts] : Prop :=
  ∀ (m : (ℓ : Loc Cert.QuantDyRefIdeal.nD Cert.QuantDyRefIdeal.τ Cert.QuantDyRefIdeal.sig) → Buf (Elt Ideal) ℓ) (g : Dev Cert.QuantDyRefIdeal.nD → PrngReg), Pre_QuantDyRefIdeal m →
    θ_run (Cert.QuantDyRefIdeal.defs (F := Ideal)) (onTc (τ := Cert.QuantDyRefIdeal.τ) (Cert.QuantDyRefIdeal.main (F := Ideal))) ⟨m, fun _ => 0, g⟩ (fun r => (∀ c : Dev Cert.QuantDyRefIdeal.nD,
      r.2.mem ((c.tc : Thread Cert.QuantDyRefIdeal.nD Cert.QuantDyRefIdeal.τ).loc Cert.QuantDyRefIdeal.main_arg0) = m ((c.tc : Thread Cert.QuantDyRefIdeal.nD Cert.QuantDyRefIdeal.τ).loc Cert.QuantDyRefIdeal.main_arg0)
      ∧ r.2.mem ((c.tc : Thread Cert.QuantDyRefIdeal.nD Cert.QuantDyRefIdeal.τ).loc Cert.QuantDyRefIdeal.main_arg1) = m ((c.tc : Thread Cert.QuantDyRefIdeal.nD Cert.QuantDyRefIdeal.τ).loc Cert.QuantDyRefIdeal.main_arg1)
      ∧ r.2.mem ((c.tc : Thread Cert.QuantDyRefIdeal.nD Cert.QuantDyRefIdeal.τ).loc Cert.QuantDyRefIdeal.main_arg2) = m ((c.tc : Thread Cert.QuantDyRefIdeal.nD Cert.QuantDyRefIdeal.τ).loc Cert.QuantDyRefIdeal.main_arg2)
      ∧ r.2.mem ((c.tc : Thread Cert.QuantDyRefIdeal.nD Cert.QuantDyRefIdeal.τ).loc Cert.QuantDyRefIdeal.main_arg3) = m ((c.tc : Thread Cert.QuantDyRefIdeal.nD Cert.QuantDyRefIdeal.τ).loc Cert.QuantDyRefIdeal.main_arg3))
      ∧ r.2.sem = fun _ => 0)

def quiescent_QuantDyRefIdeal_pre_finite [hQuantDyRefIdeal : Cert.QuantDyRefIdeal.Facts] [hPre_finite : Cert.Pre_finite.Facts] : Prop :=
  ∀ (m : (ℓ : Loc Cert.QuantDyRefIdeal.nD Cert.QuantDyRefIdeal.τ Cert.QuantDyRefIdeal.sig) → Buf (Elt Ideal) ℓ) (g : Dev Cert.QuantDyRefIdeal.nD → PrngReg), Pre_QuantDyRefIdeal_finite m →
    θ_run (Cert.QuantDyRefIdeal.defs (F := Ideal)) (onTc (τ := Cert.QuantDyRefIdeal.τ) (Cert.QuantDyRefIdeal.main (F := Ideal))) ⟨m, fun _ => 0, g⟩ (fun r => (∀ c : Dev Cert.QuantDyRefIdeal.nD,
      r.2.mem ((c.tc : Thread Cert.QuantDyRefIdeal.nD Cert.QuantDyRefIdeal.τ).loc Cert.QuantDyRefIdeal.main_arg0) = m ((c.tc : Thread Cert.QuantDyRefIdeal.nD Cert.QuantDyRefIdeal.τ).loc Cert.QuantDyRefIdeal.main_arg0)
      ∧ r.2.mem ((c.tc : Thread Cert.QuantDyRefIdeal.nD Cert.QuantDyRefIdeal.τ).loc Cert.QuantDyRefIdeal.main_arg1) = m ((c.tc : Thread Cert.QuantDyRefIdeal.nD Cert.QuantDyRefIdeal.τ).loc Cert.QuantDyRefIdeal.main_arg1)
      ∧ r.2.mem ((c.tc : Thread Cert.QuantDyRefIdeal.nD Cert.QuantDyRefIdeal.τ).loc Cert.QuantDyRefIdeal.main_arg2) = m ((c.tc : Thread Cert.QuantDyRefIdeal.nD Cert.QuantDyRefIdeal.τ).loc Cert.QuantDyRefIdeal.main_arg2)
      ∧ r.2.mem ((c.tc : Thread Cert.QuantDyRefIdeal.nD Cert.QuantDyRefIdeal.τ).loc Cert.QuantDyRefIdeal.main_arg3) = m ((c.tc : Thread Cert.QuantDyRefIdeal.nD Cert.QuantDyRefIdeal.τ).loc Cert.QuantDyRefIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1)
      ∧ r.2.mem ((c.tc : Thread Cert.QuantX.nD Cert.QuantX.τ).loc Cert.QuantX.main_arg2) = m ((c.tc : Thread Cert.QuantX.nD Cert.QuantX.τ).loc Cert.QuantX.main_arg2))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
      ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ r.2.sem = fun _ => 0)

def quiescent_QuantXRef [hQuantXRef : Cert.QuantXRef.Facts] : Prop :=
  ∀ (m : (ℓ : Loc Cert.QuantXRef.nD Cert.QuantXRef.τ Cert.QuantXRef.sig) → Buf (Elt Bits) ℓ) (g : Dev Cert.QuantXRef.nD → PrngReg), Pre_QuantXRef m →
    θ_run (Cert.QuantXRef.defs (F := Bits)) (onTc (τ := Cert.QuantXRef.τ) (Cert.QuantXRef.main (F := Bits))) ⟨m, fun _ => 0, g⟩ (fun r => (∀ c : Dev Cert.QuantXRef.nD,
      r.2.mem ((c.tc : Thread Cert.QuantXRef.nD Cert.QuantXRef.τ).loc Cert.QuantXRef.main_arg0) = m ((c.tc : Thread Cert.QuantXRef.nD Cert.QuantXRef.τ).loc Cert.QuantXRef.main_arg0)
      ∧ r.2.mem ((c.tc : Thread Cert.QuantXRef.nD Cert.QuantXRef.τ).loc Cert.QuantXRef.main_arg1) = m ((c.tc : Thread Cert.QuantXRef.nD Cert.QuantXRef.τ).loc Cert.QuantXRef.main_arg1)
      ∧ r.2.mem ((c.tc : Thread Cert.QuantXRef.nD Cert.QuantXRef.τ).loc Cert.QuantXRef.main_arg2) = m ((c.tc : Thread Cert.QuantXRef.nD Cert.QuantXRef.τ).loc Cert.QuantXRef.main_arg2))
      ∧ r.2.sem = fun _ => 0)

def quiescent_QuantXRefIdeal [hQuantXRefIdeal : Cert.QuantXRefIdeal.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0)
      ∧ r.2.mem ((c.tc : Thread Cert.QuantXRefIdeal.nD Cert.QuantXRefIdeal.τ).loc Cert.QuantXRefIdeal.main_arg1) = m ((c.tc : Thread Cert.QuantXRefIdeal.nD Cert.QuantXRefIdeal.τ).loc Cert.QuantXRefIdeal.main_arg1)
      ∧ r.2.mem ((c.tc : Thread Cert.QuantXRefIdeal.nD Cert.QuantXRefIdeal.τ).loc Cert.QuantXRefIdeal.main_arg2) = m ((c.tc : Thread Cert.QuantXRefIdeal.nD Cert.QuantXRefIdeal.τ).loc Cert.QuantXRefIdeal.main_arg2))
      ∧ r.2.sem = fun _ => 0)

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v7) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3))

def preserves_QuantDy_QuantDyIdeal : Prop :=
  IdealRules.bf16_pair.Statement Cert.QuantDyIdeal.S8x2x128 Cert.QuantDyIdeal.S8x1x128
  ∧ IdealRules.bf16_pair.Statement Cert.QuantDyIdeal.S16x128 Cert.QuantDyIdeal.S8x128
  ∧ IdealRules.bf16_pair.PackStatement Cert.QuantDyIdeal.S8x128

def algebraic_QuantDyIdeal_QuantDyRefIdeal_pre_finite [hQuantDyIdeal : Cert.QuantDyIdeal.Facts] [hQuantDyRefIdeal : Cert.QuantDyRefIdeal.Facts] [hPre_finite : Cert.Pre_finite.Facts] : Prop :=
  ∀ (m : (ℓ : Loc Cert.QuantDyIdeal.nD Cert.QuantDyIdeal.τ Cert.QuantDyIdeal.sig) → Buf (Elt Ideal) ℓ) (g : Dev Cert.QuantDyIdeal.nD → PrngReg)
    (m' : (ℓ : Loc Cert.QuantDyRefIdeal.nD Cert.QuantDyRefIdeal.τ Cert.QuantDyRefIdeal.sig) → Buf (Elt Ideal) ℓ) (g' : Dev Cert.QuantDyRefIdeal.nD → PrngReg), Pre_QuantDyIdeal_finite m →
    (∀ c : Dev Cert.QuantDyIdeal.nD,
      m' ((c.tc : Thread Cert.QuantDyRefIdeal.nD Cert.QuantDyRefIdeal.τ).loc Cert.QuantDyRefIdeal.main_arg0) = m ((c.tc : Thread Cert.QuantDyIdeal.nD Cert.QuantDyIdeal.τ).loc Cert.QuantDyIdeal.main_arg0)
      ∧ m' ((c.tc : Thread Cert.QuantDyRefIdeal.nD Cert.QuantDyRefIdeal.τ).loc Cert.QuantDyRefIdeal.main_arg1) = m ((c.tc : Thread Cert.QuantDyIdeal.nD Cert.QuantDyIdeal.τ).loc Cert.QuantDyIdeal.main_arg1)
      ∧ m' ((c.tc : Thread Cert.QuantDyRefIdeal.nD Cert.QuantDyRefIdeal.τ).loc Cert.QuantDyRefIdeal.main_arg2) = m ((c.tc : Thread Cert.QuantDyIdeal.nD Cert.QuantDyIdeal.τ).loc Cert.QuantDyIdeal.main_arg2)
      ∧ m' ((c.tc : Thread Cert.QuantDyRefIdeal.nD Cert.QuantDyRefIdeal.τ).loc Cert.QuantDyRefIdeal.main_arg3) = m ((c.tc : Thread Cert.QuantDyIdeal.nD Cert.QuantDyIdeal.τ).loc Cert.QuantDyIdeal.main_arg3)) →
    ∃ (v0 : (c : Dev Cert.QuantDyIdeal.nD) → Buf (Elt Ideal) ((c.tc : Thread Cert.QuantDyIdeal.nD Cert.QuantDyIdeal.τ).loc Cert.QuantDyIdeal.main_v0_0)) (v1 : (c : Dev Cert.QuantDyIdeal.nD) → Buf (Elt Ideal) ((c.tc : Thread Cert.QuantDyIdeal.nD Cert.QuantDyIdeal.τ).loc Cert.QuantDyIdeal.main_v0_1)) (v2 : (c : Dev Cert.QuantDyIdeal.nD) → Buf (Elt Ideal) ((c.tc : Thread Cert.QuantDyIdeal.nD Cert.QuantDyIdeal.τ).loc Cert.QuantDyIdeal.main_v0_2)) (v3 : (c : Dev Cert.QuantDyIdeal.nD) → Buf (Elt Ideal) ((c.tc : Thread Cert.QuantDyIdeal.nD Cert.QuantDyIdeal.τ).loc Cert.QuantDyIdeal.main_v0_3)),
      θ_run (Cert.QuantDyIdeal.defs (F := Ideal)) (onTc (τ := Cert.QuantDyIdeal.τ) (Cert.QuantDyIdeal.main (F := Ideal))) ⟨m, fun _ => 0, g⟩ (fun r => ∀ c : Dev Cert.QuantDyIdeal.nD,
          r.2.mem ((c.tc : Thread Cert.QuantDyIdeal.nD Cert.QuantDyIdeal.τ).loc Cert.QuantDyIdeal.main_v0_0) = v0 c
          ∧ r.2.mem ((c.tc : Thread Cert.QuantDyIdeal.nD Cert.QuantDyIdeal.τ).loc Cert.QuantDyIdeal.main_v0_1) = v1 c
          ∧ r.2.mem ((c.tc : Thread Cert.QuantDyIdeal.nD Cert.QuantDyIdeal.τ).loc Cert.QuantDyIdeal.main_v0_2) = v2 c
          ∧ r.2.mem ((c.tc : Thread Cert.QuantDyIdeal.nD Cert.QuantDyIdeal.τ).loc Cert.QuantDyIdeal.main_v0_3) = v3 c
          ∧ r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
          ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
          ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
          ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ θ_run (Cert.QuantDyRefIdeal.defs (F := Ideal)) (onTc (τ := Cert.QuantDyRefIdeal.τ) (Cert.QuantDyRefIdeal.main (F := Ideal))) ⟨m', fun _ => 0, g'⟩ (fun r => ∀ c : Dev Cert.QuantDyRefIdeal.nD,
          r.2.mem ((c.tc : Thread Cert.QuantDyRefIdeal.nD Cert.QuantDyRefIdeal.τ).loc Cert.QuantDyRefIdeal.main_v10_0) = v0 c
          ∧ r.2.mem ((c.tc : Thread Cert.QuantDyRefIdeal.nD Cert.QuantDyRefIdeal.τ).loc Cert.QuantDyRefIdeal.main_v10_1) = v1 c
          ∧ r.2.mem ((c.tc : Thread Cert.QuantDyRefIdeal.nD Cert.QuantDyRefIdeal.τ).loc Cert.QuantDyRefIdeal.main_v10_2) = v2 c
          ∧ r.2.mem ((c.tc : Thread Cert.QuantDyRefIdeal.nD Cert.QuantDyRefIdeal.τ).loc Cert.QuantDyRefIdeal.main_v10_3) = v3 c
          ∧ r.2.mem ((c.tc : Thread Cert.QuantDyRefIdeal.nD Cert.QuantDyRefIdeal.τ).loc Cert.QuantDyRefIdeal.main_arg0) = m' ((c.tc : Thread Cert.QuantDyRefIdeal.nD Cert.QuantDyRefIdeal.τ).loc Cert.QuantDyRefIdeal.main_arg0)
          ∧ r.2.mem ((c.tc : Thread Cert.QuantDyRefIdeal.nD Cert.QuantDyRefIdeal.τ).loc Cert.QuantDyRefIdeal.main_arg1) = m' ((c.tc : Thread Cert.QuantDyRefIdeal.nD Cert.QuantDyRefIdeal.τ).loc Cert.QuantDyRefIdeal.main_arg1)
          ∧ r.2.mem ((c.tc : Thread Cert.QuantDyRefIdeal.nD Cert.QuantDyRefIdeal.τ).loc Cert.QuantDyRefIdeal.main_arg2) = m' ((c.tc : Thread Cert.QuantDyRefIdeal.nD Cert.QuantDyRefIdeal.τ).loc Cert.QuantDyRefIdeal.main_arg2)
          ∧ r.2.mem ((c.tc : Thread Cert.QuantDyRefIdeal.nD Cert.QuantDyRefIdeal.τ).loc Cert.QuantDyRefIdeal.main_arg3) = m' ((c.tc : Thread Cert.QuantDyRefIdeal.nD Cert.QuantDyRefIdeal.τ).loc Cert.QuantDyRefIdeal.main_arg3))

def preserves_QuantX_QuantXIdeal : Prop :=
  IdealRules.bf16_pair.Statement Cert.QuantXIdeal.S8x2x128 Cert.QuantXIdeal.S8x1x128
  ∧ IdealRules.bf16_pair.Statement Cert.QuantXIdeal.S16x128 Cert.QuantXIdeal.S8x128
  ∧ IdealRules.bf16_pair.PackStatement Cert.QuantXIdeal.S8x128

def algebraic_QuantXIdeal_QuantXRefIdeal [hQuantXIdeal : Cert.QuantXIdeal.Facts] [hQuantXRefIdeal : Cert.QuantXRefIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXRefIdeal.nD Cert.QuantXRefIdeal.τ Cert.QuantXRefIdeal.sig) → Buf (Elt Ideal) ℓ) (g' : Dev Cert.QuantXRefIdeal.nD → PrngReg), Pre_QuantXIdeal m →
    (∀ c : Dev Cert.QuantXIdeal.nD,
      m' ((c.tc : Thread Cert.QuantXRefIdeal.nD Cert.QuantXRefIdeal.τ).loc Cert.QuantXRefIdeal.main_arg0) = m ((c.tc : Thread Cert.QuantXIdeal.nD Cert.QuantXIdeal.τ).loc Cert.QuantXIdeal.main_arg0)
      ∧ m' ((c.tc : Thread Cert.QuantXRefIdeal.nD Cert.QuantXRefIdeal.τ).loc Cert.QuantXRefIdeal.main_arg1) = m ((c.tc : Thread Cert.QuantXIdeal.nD Cert.QuantXIdeal.τ).loc Cert.QuantXIdeal.main_arg1)
      ∧ m' ((c.tc : Thread Cert.QuantXRefIdeal.nD Cert.QuantXRefIdeal.τ).loc Cert.QuantXRefIdeal.main_arg2) = m ((c.tc : Thread Cert.QuantXIdeal.nD Cert.QuantXIdeal.τ).loc Cert.QuantXIdeal.main_arg2)) →
    ∃ (v0 : (c : Dev Cert.QuantXIdeal.nD) → Buf (Elt Ideal) ((c.tc : Thread Cert.QuantXIdeal.nD Cert.QuantXIdeal.τ).loc Cert.QuantXIdeal.main_v0_2)) (v1 : (c : Dev Cert.QuantXIdeal.nD) → Buf (Elt Ideal) ((c.tc : Thread Cert.QuantXIdeal.nD Cert.QuantXIdeal.τ).loc Cert.QuantXIdeal.main_v0_3)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v0_2) = v0 c
          ∧ r.2.mem ((c.tc : Thread Cert.QuantXIdeal.nD Cert.QuantXIdeal.τ).loc Cert.QuantXIdeal.main_v0_3) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
          ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ θ_run (Cert.QuantXRefIdeal.defs (F := Ideal)) (onTc (τ := Cert.QuantXRefIdeal.τ) (Cert.QuantXRefIdeal.main (F := Ideal))) ⟨m', fun _ => 0, g'⟩ (fun r => ∀ c : Dev Cert.QuantXRefIdeal.nD,
          r.2.mem ((c.tc : Thread Cert.QuantXRefIdeal.nD Cert.QuantXRefIdeal.τ).loc Cert.QuantXRefIdeal.main_v10_0) = v0 c
          ∧ r.2.mem ((c.tc : Thread Cert.QuantXRefIdeal.nD Cert.QuantXRefIdeal.τ).loc Cert.QuantXRefIdeal.main_v10_1) = v1 c
          ∧ r.2.mem ((c.tc : Thread Cert.QuantXRefIdeal.nD Cert.QuantXRefIdeal.τ).loc Cert.QuantXRefIdeal.main_arg0) = m' ((c.tc : Thread Cert.QuantXRefIdeal.nD Cert.QuantXRefIdeal.τ).loc Cert.QuantXRefIdeal.main_arg0)
          ∧ r.2.mem ((c.tc : Thread Cert.QuantXRefIdeal.nD Cert.QuantXRefIdeal.τ).loc Cert.QuantXRefIdeal.main_arg1) = m' ((c.tc : Thread Cert.QuantXRefIdeal.nD Cert.QuantXRefIdeal.τ).loc Cert.QuantXRefIdeal.main_arg1)
          ∧ r.2.mem ((c.tc : Thread Cert.QuantXRefIdeal.nD Cert.QuantXRefIdeal.τ).loc Cert.QuantXRefIdeal.main_arg2) = m' ((c.tc : Thread Cert.QuantXRefIdeal.nD Cert.QuantXRefIdeal.τ).loc Cert.QuantXRefIdeal.main_arg2))

def Claim : Prop :=
  ∃ (hWgrad : Cert.Wgrad.Facts) (hWgradIdeal : Cert.WgradIdeal.Facts) (hWgradRef : Cert.WgradRef.Facts) (hWgradRefIdeal : Cert.WgradRefIdeal.Facts) (hQuantDy : Cert.QuantDy.Facts) (hQuantDyIdeal : Cert.QuantDyIdeal.Facts) (hQuantDyRef : Cert.QuantDyRef.Facts) (hQuantDyRefIdeal : Cert.QuantDyRefIdeal.Facts) (hQuantX : Cert.QuantX.Facts) (hQuantXIdeal : Cert.QuantXIdeal.Facts) (hQuantXRef : Cert.QuantXRef.Facts) (hQuantXRefIdeal : Cert.QuantXRefIdeal.Facts) (hPre_finite : Cert.Pre_finite.Facts),
    quiescent_Wgrad (hWgrad := hWgrad)
    ∧ quiescent_WgradIdeal (hWgradIdeal := hWgradIdeal)
    ∧ quiescent_WgradRef (hWgradRef := hWgradRef)
    ∧ quiescent_WgradRefIdeal (hWgradRefIdeal := hWgradRefIdeal)
    ∧ quiescent_QuantDy (hQuantDy := hQuantDy)
    ∧ quiescent_QuantDyIdeal (hQuantDyIdeal := hQuantDyIdeal)
    ∧ quiescent_QuantDyIdeal_pre_finite (hQuantDyIdeal := hQuantDyIdeal) (hPre_finite := hPre_finite)
    ∧ quiescent_QuantDyRef (hQuantDyRef := hQuantDyRef)
    ∧ quiescent_QuantDyRefIdeal (hQuantDyRefIdeal := hQuantDyRefIdeal)
    ∧ quiescent_QuantDyRefIdeal_pre_finite (hQuantDyRefIdeal := hQuantDyRefIdeal) (hPre_finite := hPre_finite)
    ∧ quiescent_QuantX (hQuantX := hQuantX)
    ∧ quiescent_QuantXIdeal (hQuantXIdeal := hQuantXIdeal)
    ∧ quiescent_QuantXRef (hQuantXRef := hQuantXRef)
    ∧ quiescent_QuantXRefIdeal (hQuantXRefIdeal := hQuantXRefIdeal)
    ∧ preserves_Wgrad_WgradIdeal
    ∧ algebraic_WgradIdeal_WgradRefIdeal (hWgradIdeal := hWgradIdeal) (hWgradRefIdeal := hWgradRefIdeal)
    ∧ preserves_QuantDy_QuantDyIdeal
    ∧ algebraic_QuantDyIdeal_QuantDyRefIdeal_pre_finite (hQuantDyIdeal := hQuantDyIdeal) (hQuantDyRefIdeal := hQuantDyRefIdeal) (hPre_finite := hPre_finite)
    ∧ preserves_QuantX_QuantXIdeal
    ∧ algebraic_QuantXIdeal_QuantXRefIdeal (hQuantXIdeal := hQuantXIdeal) (hQuantXRefIdeal := hQuantXRefIdeal)
-- ==== Pre_finite.lean ====
abbrev S2048x10240 : Shape := ⟨2, ![2048, 10240]⟩
abbrev S16 : Shape := ⟨1, ![16]⟩
abbrev S1 : Shape := ⟨1, ![1]⟩
abbrev S_ : Shape := ⟨0, ![]⟩

class Facts : Prop where
  bcast_S_S2048x10240 : S_.BroadcastsInDim S2048x10240 (![] : Fin 0 → Fin S2048x10240.rank)
  bcast_S_S16 : S_.BroadcastsInDim S16 (![] : Fin 0 → Fin S16.rank)

variable [Facts]

def fn {F : FTy → Type} [FloatOps F] (main_arg0 : FVec F S2048x10240 .bf16) (main_arg1 : FVec F S16 .f32) (main_arg2 : FVec F S1 .f32) (main_arg3 : IVec S2048x10240 8) : IVec S2048x10240 1 × IVec S16 1 :=
  let main_v0 : FVec F S2048x10240 .bf16 := Host.absf main_arg0
  let main_cst : FVec F S_ .bf16 := constant S_ .bf16 0x7F80#16
  let main_v1 : FVec F S2048x10240 .bf16 := broadcastInDim S2048x10240 ![] bcast_S_S2048x10240 main_cst
  let main_v2 : IVec S2048x10240 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  (main_v2, main_v5)
-- ==== Wgrad.lean ====
abbrev S10240x2048 : Shape := ⟨2, ![10240, 2048]⟩
abbrev S2048x8192 : Shape := ⟨2, ![2048, 8192]⟩
abbrev S8x128 : Shape := ⟨2, ![8, 128]⟩
abbrev S10240x8192 : Shape := ⟨2, ![10240, 8192]⟩
abbrev S1024x2048 : Shape := ⟨2, ![1024, 2048]⟩
abbrev S2048x1024 : Shape := ⟨2, ![2048, 1024]⟩
abbrev S1024x1024 : Shape := ⟨2, ![1024, 1024]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S10240x2048, .bf16⟩
  | .hbm, ⟨1, _⟩ => ⟨S2048x8192, .bf16⟩
  | .hbm, ⟨2, _⟩ => ⟨S8x128, .f32⟩
  | .hbm, ⟨3, _⟩ => ⟨S8x128, .f32⟩
  | .hbm, ⟨4, _⟩ => ⟨S10240x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S8x128, .f32⟩
  | .local _ .vmem, ⟨6, _⟩ => ⟨S1024x1024, .f32⟩
  | .local _ .vmem, ⟨7, _⟩ => ⟨S1024x1024, .f32⟩
  | _, _ => ⟨S10240x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WgradRef.lean ====
abbrev S10240x2048 : Shape := ⟨2, ![10240, 2048]⟩
abbrev S2048x8192 : Shape := ⟨2, ![2048, 8192]⟩
abbrev S8x128 : Shape := ⟨2, ![8, 128]⟩
abbrev S10240x8192 : Shape := ⟨2, ![10240, 8192]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10240x2048, .bf16⟩
  | .hbm, ⟨1, _⟩ => ⟨S2048x8192, .bf16⟩
  | .hbm, ⟨2, _⟩ => ⟨S8x128, .f32⟩
  | .hbm, ⟨3, _⟩ => ⟨S8x128, .f32⟩
  | .hbm, ⟨4, _⟩ => ⟨S10240x8192, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S10240x8192, .f32⟩
  | .hbm, ⟨11, _⟩ => ⟨S10240x8192, .f32⟩
  | _, _ => ⟨S10240x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== QuantDy.lean ====
abbrev S2048x10240 : Shape := ⟨2, ![2048, 10240]⟩
abbrev S16 : Shape := ⟨1, ![16]⟩
abbrev S1 : Shape := ⟨1, ![1]⟩
abbrev S10240x2048 : Shape := ⟨2, ![10240, 2048]⟩
abbrev S10240x1024 : Shape := ⟨2, ![10240, 1024]⟩
abbrev S10240x128 : Shape := ⟨2, ![10240, 128]⟩
abbrev S8x128 : Shape := ⟨2, ![8, 128]⟩
abbrev S2048x128 : Shape := ⟨2, ![2048, 128]⟩
abbrev S128x2048 : Shape := ⟨2, ![128, 2048]⟩
abbrev S128x1024 : Shape := ⟨2, ![128, 1024]⟩
abbrev S128x128 : Shape := ⟨2, ![128, 128]⟩
abbrev S256x128 : Shape := ⟨2, ![256, 128]⟩
abbrev S1024x128 : Shape := ⟨2, ![1024, 128]⟩
abbrev S64x128 : Shape := ⟨2, ![64, 128]⟩
abbrev S1024x2x128 : Shape := ⟨3, ![1024, 2, 128]⟩
abbrev S8x2x128 : Shape := ⟨3, ![8, 2, 128]⟩
abbrev S8x1x128 : Shape := ⟨3, ![8, 1, 128]⟩
abbrev S32x128 : Shape := ⟨2, ![32, 128]⟩
abbrev S8x4x128 : Shape := ⟨3, ![8, 4, 128]⟩
abbrev S16x128 : Shape := ⟨2, ![16, 128]⟩

abbrev nBuf : Space → Nat
  | .hbm => 8
  | .vmem => 14
  | .smem => 2
  | _ => 0

abbrev bufTy : (tb : Table) → Fin (tcTables nBuf tb) → BufTy
  | .hbm, ⟨0, _⟩ => ⟨S2048x10240, .bf16⟩
  | .hbm, ⟨1, _⟩ => ⟨S16, .f32⟩
  | .hbm, ⟨2, _⟩ => ⟨S1, .f32⟩
  | .hbm, ⟨3, _⟩ => ⟨S2048x10240, .i8⟩
  | .hbm, ⟨4, _⟩ => ⟨S10240x2048, .bf16⟩
  | .hbm, ⟨5, _⟩ => ⟨S10240x1024, .i8⟩
  | .hbm, ⟨6, _⟩ => ⟨S10240x128, .fp8e4m3⟩
  | .hbm, ⟨7, _⟩ => ⟨S8x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .i8⟩
  | .local _ .vmem, ⟨3, _⟩ => ⟨S2048x128, .i8⟩
  | .local _ .vmem, ⟨4, _⟩ => ⟨S128x2048, .bf16⟩
  | .local _ .vmem, ⟨5, _⟩ => ⟨S128x2048, .bf16⟩
  | .local _ .vmem, ⟨6, _⟩ => ⟨S128x1024, .i8⟩
  | .local _ .vmem, ⟨7, _⟩ => ⟨S128x1024, .i8⟩
  | .local _ .vmem, ⟨8, _⟩ => ⟨S128x128, .fp8e4m3⟩
  | .local _ .vmem, ⟨9, _⟩ => ⟨S128x128, .fp8e4m3⟩
  | .local _ .vmem, ⟨10, _⟩ => ⟨S8x128, .f32⟩
  | .local _ .vmem, ⟨11, _⟩ => ⟨S2048x128, .bf16⟩
  | .local _ .vmem, ⟨12, _⟩ => ⟨S256x128, .i32⟩
  | .local _ .vmem, ⟨13, _⟩ => ⟨S128x128, .f32⟩
  | .local _ .smem, ⟨0, _⟩ => ⟨S16, .f32⟩
  | .local _ .smem, ⟨1, _⟩ => ⟨S1, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [BitOps F]

abbrev grid0 : Pipeline.Grid := ⟨1, ![80], ![false]⟩

@[reducible] def k0_t1_loop : Scf.Loop 32 :=
  let c0_i32 : BitVec 32 := 0#32
  let c16_i32 : BitVec 32 := 16#32
  let v41 : BitVec 32 := Scalar.addi c0_i32 c16_i32
  let c1_i32 : BitVec 32 := 1#32
  ⟨c0_i32, v41, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  v164
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  let v165 : BitVec 32 := v164
  let c0_i32_116 : BitVec 32 := 0#32
  ![v165.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  let v165 : BitVec 32 := v164
  let c0_i32_120 : BitVec 32 := 0#32
  ![Nat.add v165.toNat 1, 0, 0]
def k0_off3 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  let v165 : BitVec 32 := v164
  let c0_i32_125 : BitVec 32 := 0#32
  ![Nat.add v165.toNat 2, 0, 0]
def k0_off4 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  let v165 : BitVec 32 := v164
  let c0_i32_130 : BitVec 32 := 0#32
  ![Nat.add v165.toNat 3, 0, 0]
def k0_off5 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  let v165 : BitVec 32 := v164
  let c0_i32_135 : BitVec 32 := 0#32
  ![Nat.add v165.toNat 4, 0, 0]
def k0_off6 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  let v165 : BitVec 32 := v164
  let c0_i32_140 : BitVec 32 := 0#32
  ![Nat.add v165.toNat 5, 0, 0]
def k0_off7 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  let v165 : BitVec 32 := v164
  let c0_i32_145 : BitVec 32 := 0#32
  ![Nat.add v165.toNat 6, 0, 0]
def k0_off8 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32_114 : BitVec 32 := 8#32
  let v163 : BitVec 32 := Scalar.muli arg12 c8_i32_114
  let c8_i32_115 : BitVec 32 := 8#32
  let v164 : BitVec 32 := Scalar.muli v163 c8_i32_115
  let v165 : BitVec 32 := v164
  let c0_i32_150 : BitVec 32 := 0#32
  ![Nat.add v165.toNat 7, 0, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_194 : BitVec 32 := 8#32
  let v446 : BitVec 32 := Scalar.muli arg12 c8_i32_194
  v446
def k0_off9 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32_194 : BitVec 32 := 8#32
  let v446 : BitVec 32 := Scalar.muli arg12 c8_i32_194
  let v447 : BitVec 32 := v446
  let v448 : Index := Scalar.indexCast v447
  let c0_195 : Index := 0#32
  ![v448.toNat, 0]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v452 : BitVec 32 := Scalar.muli arg12 c128_i32
  v452
def k0_off10 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v452 : BitVec 32 := Scalar.muli arg12 c128_i32
  let v453 : BitVec 32 := v452
  let v454 : Index := Scalar.indexCast v453
  let c0_196 : Index := 0#32
  ![v454.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_477 : BitVec 32 := 128#32
  let v1170 : BitVec 32 := Scalar.muli arg12 c128_i32_477
  v1170
def k0_off11 (k0_t1 : Fin k0_t1_loop.trips) (c0_i32_478 : BitVec 32) : Fin 2 → Nat :=
  let c0_i32 : BitVec 32 := 0#32
  let c1_i32 : BitVec 32 := 1#32
  let arg12 : BitVec 32 := Scf.iv c0_i32 c1_i32 k0_t1
  let c128_i32_477 : BitVec 32 := 128#32
  let v1170 : BitVec 32 := Scalar.muli arg12 c128_i32_477
  let v1171 : BitVec 32 := v1170
  let v1172 : BitVec 32 := Scalar.addi v1171 c0_i32_478
  let v1174 : Index := Scalar.indexCast v1172
  let c0_479 : Index := 0#32
  ![v1174.toNat, 0]
def k0_off12 (k0_t1 : Fin k0_t1_loop.trips) (c0_i32_516 : BitVec 32) : Fin 2 → Nat :=
  let c0_i32 : BitVec 32 := 0#32
  let c1_i32 : BitVec 32 := 1#32
  let arg12 : BitVec 32 := Scf.iv c0_i32 c1_i32 k0_t1
  let c0_i32_108 : BitVec 32 := 0#32
  let v147 : BitVec 1 := Scalar.cmpi .sgt arg12 c0_i32_108
  let v148 : BitVec 32 := Scalar.extui v147
  let c0_i32_109 : BitVec 32 := 0#32
  let v149 : BitVec 1 := Scalar.cmpi .slt arg12 c0_i32_109
  let v150 : BitVec 32 := Scalar.extui v149
  let v151 : BitVec 32 := Scalar.subi v148 v150
  let c2_i32 : BitVec 32 := 2#32
  let c0_i32_110 : BitVec 32 := 0#32
  let v152 : BitVec 1 := Scalar.cmpi .sgt c2_i32 c0_i32_110
  let v153 : BitVec 32 := Scalar.extui v152
  let c0_i32_111 : BitVec 32 := 0#32
  let v154 : BitVec 1 := Scalar.cmpi .slt c2_i32 c0_i32_111
  let v155 : BitVec 32 := Scalar.extui v154
  let v156 : BitVec 32 := Scalar.subi v153 v155
  let v157 : BitVec 1 := Scalar.cmpi .ne v151 v156
  let v158 : BitVec 32 := Scalar.remsi arg12 c2_i32
  let c0_i32_112 : BitVec 32 := 0#32
  let v159 : BitVec 1 := Scalar.cmpi .ne v158 c0_i32_112
  let v160 : BitVec 1 := Scalar.andi v157 v159
  let v146 : BitVec 32 := Scalar.divsi arg12 c2_i32
  let c1_i32_113 : BitVec 32 := 1#32
  let v161 : BitVec 32 := Scalar.subi v146 c1_i32_113
  let v162 : BitVec 32 := Scalar.select v160 v161 v146
  let c0_i32_470 : BitVec 32 := 0#32
  let v1150 : BitVec 1 := Scalar.cmpi .sgt v162 c0_i32_470
  let v1151 : BitVec 32 := Scalar.extui v1150
  let c0_i32_471 : BitVec 32 := 0#32
  let v1152 : BitVec 1 := Scalar.cmpi .slt v162 c0_i32_471
  let v1153 : BitVec 32 := Scalar.extui v1152
  let v1154 : BitVec 32 := Scalar.subi v1151 v1153
  let c4_i32 : BitVec 32 := 4#32
  let c0_i32_472 : BitVec 32 := 0#32
  let v1155 : BitVec 1 := Scalar.cmpi .sgt c4_i32 c0_i32_472
  let v1156 : BitVec 32 := Scalar.extui v1155
  let c0_i32_473 : BitVec 32 := 0#32
  let v1157 : BitVec 1 := Scalar.cmpi .slt c4_i32 c0_i32_473
  let v1158 : BitVec 32 := Scalar.extui v1157
  let v1159 : BitVec 32 := Scalar.subi v1156 v1158
  let v1160 : BitVec 1 := Scalar.cmpi .ne v1154 v1159
  let v1161 : BitVec 32 := Scalar.remsi v162 c4_i32
  let c0_i32_474 : BitVec 32 := 0#32
  let v1162 : BitVec 1 := Scalar.cmpi .ne v1161 c0_i32_474
  let v1163 : BitVec 1 := Scalar.andi v1160 v1162
  let v1149 : BitVec 32 := Scalar.divsi v162 c4_i32
  let c1_i32_475 : BitVec 32 := 1#32
  let v1164 : BitVec 32 := Scalar.subi v1149 c1_i32_475
  let v1165 : BitVec 32 := Scalar.select v1163 v1164 v1149
  let c128_i32_476 : BitVec 32 := 128#32
  let v1166 : BitVec 32 := Scalar.muli v1165 c128_i32_476
  let c2_i32_464 : BitVec 32 := 2#32
  let c0_i32_465 : BitVec 32 := 0#32
  let v1138 : BitVec 1 := Scalar.cmpi .eq c2_i32_464 c0_i32_465
  let c1_i32_466 : BitVec 32 := 1#32
  let v1139 : BitVec 32 := Scalar.select v1138 c1_i32_466 c2_i32_464
  let v1140 : BitVec 32 := Scalar.remsi arg12 v1139
  let c0_i32_468 : BitVec 32 := 0#32
  let v1142 : BitVec 1 := Scalar.cmpi .slt v1140 c0_i32_468
  let c0_i32_469 : BitVec 32 := 0#32
  let v1143 : BitVec 1 := Scalar.cmpi .slt v1139 c0_i32_469
  let v1144 : BitVec 1 := Scalar.xori v1142 v1143
  let c0_i32_467 : BitVec 32 := 0#32
  let v1141 : BitVec 1 := Scalar.cmpi .ne v1140 c0_i32_467
  let v1145 : BitVec 1 := Scalar.andi v1144 v1141
  let v1146 : BitVec 32 := Scalar.addi v1140 v1139
  let v1147 : BitVec 32 := Scalar.select v1145 v1146 v1140
  let c64_i32 : BitVec 32 := 64#32
  let v1148 : BitVec 32 := Scalar.muli v1147 c64_i32
  let v1280 : BitVec 32 := Scalar.addi v1166 v1148
  let v1281 : BitVec 32 := Scalar.addi v1280 c0_i32_516
  let v1282 : Index := Scalar.indexCast v1281
  let c0_517 : Index := 0#32
  ![v1282.toNat, 0]
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_526 : BitVec 32 := 128#32
  let v1304 : BitVec 32 := Scalar.muli arg12 c128_i32_526
  v1304
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_575 : BitVec 32 := 128#32
  let v1438 : BitVec 32 := Scalar.muli arg12 c128_i32_575
  v1438
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_623 : BitVec 32 := 128#32
  let v1572 : BitVec 32 := Scalar.muli arg12 c128_i32_623
  v1572
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_670 : BitVec 32 := 128#32
  let v1706 : BitVec 32 := Scalar.muli arg12 c128_i32_670
  v1706
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_719 : BitVec 32 := 128#32
  let v1840 : BitVec 32 := Scalar.muli arg12 c128_i32_719
  v1840
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_766 : BitVec 32 := 128#32
  let v1974 : BitVec 32 := Scalar.muli arg12 c128_i32_766
  v1974
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_813 : BitVec 32 := 128#32
  let v2108 : BitVec 32 := Scalar.muli arg12 c128_i32_813
  v2108
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QuantDyIdeal.lean ====
variable {F : FTy → Type} [FloatOps F]
-- ==== QuantDyRef.lean ====
abbrev S2048x10240 : Shape := ⟨2, ![2048, 10240]⟩
abbrev S16 : Shape := ⟨1, ![16]⟩
abbrev S1 : Shape := ⟨1, ![1]⟩
abbrev S16x16 : Shape := ⟨2, ![16, 16]⟩
abbrev S1x16 : Shape := ⟨2, ![1, 16]⟩
abbrev S_ : Shape := ⟨0, ![]⟩
abbrev S128x16x10240 : Shape := ⟨3, ![128, 16, 10240]⟩
abbrev S128x10240x16 : Shape := ⟨3, ![128, 10240, 16]⟩
abbrev S1x1 : Shape := ⟨2, ![1, 1]⟩
abbrev S10240x2048 : Shape := ⟨2, ![10240, 2048]⟩
abbrev S10240x1024 : Shape := ⟨2, ![10240, 1024]⟩
abbrev S10240x128 : Shape := ⟨2, ![10240, 128]⟩
abbrev S8x128 : Shape := ⟨2, ![8, 128]⟩
abbrev S128x10240 : Shape := ⟨2, ![128, 10240]⟩
abbrev S128x1x10240 : Shape := ⟨3, ![128, 1, 10240]⟩
abbrev S1024x2x10240 : Shape := ⟨3, ![1024, 2, 10240]⟩
abbrev S16x8x8x2x10240 : Shape := ⟨5, ![16, 8, 8, 2, 10240]⟩
abbrev S1024x1x10240 : Shape := ⟨3, ![1024, 1, 10240]⟩
abbrev S1024x10240 : Shape := ⟨2, ![1024, 10240]⟩

abbrev nBuf : Space → Nat
  | .hbm => 20
  | .vmem => 7
  | .smem => 0
  | _ => 0

abbrev bufTy : (tb : Table) → Fin (tcTables nBuf tb) → BufTy
  | .hbm, ⟨0, _⟩ => ⟨S2048x10240, .bf16⟩
  | .hbm, ⟨1, _⟩ => ⟨S16, .f32⟩
  | .hbm, ⟨2, _⟩ => ⟨S1, .f32⟩
  | .hbm, ⟨3, _⟩ => ⟨S2048x10240, .i8⟩
  | .hbm, ⟨4, _⟩ => ⟨S16x16, .f32⟩
  | .hbm, ⟨5, _⟩ => ⟨S1x16, .f32⟩
  | .hbm, ⟨6, _⟩ => ⟨S16x16, .f32⟩
  | .hbm, ⟨7, _⟩ => ⟨S16x16, .f32⟩
  | .hbm, ⟨8, _⟩ => ⟨S_, .f32⟩
  | .hbm, ⟨9, _⟩ => ⟨S16x16, .f32⟩
  | .hbm, ⟨10, _⟩ => ⟨S16x16, .f32⟩
  | .hbm, ⟨11, _⟩ => ⟨S2048x10240, .f32⟩
  | .hbm, ⟨12, _⟩ => ⟨S128x16x10240, .f32⟩
  | .hbm, ⟨13, _⟩ => ⟨S128x10240x16, .f32⟩
  | .hbm, ⟨14, _⟩ => ⟨S128x16x10240, .f32⟩
  | .hbm, ⟨15, _⟩ => ⟨S1x1, .f32⟩
  | .hbm, ⟨16, _⟩ => ⟨S10240x2048, .bf16⟩
  | .hbm, ⟨17, _⟩ => ⟨S10240x1024, .i8⟩
  | .hbm, ⟨18, _⟩ => ⟨S10240x128, .fp8e4m3⟩
  | .hbm, ⟨19, _⟩ => ⟨S8x128, .f32⟩
  | .local _ .vmem, ⟨0, _⟩ => ⟨S128x16x10240, .f32⟩
  | .local _ .vmem, ⟨1, _⟩ => ⟨S1x1, .f32⟩
  | .local _ .vmem, ⟨2, _⟩ => ⟨S2048x10240, .i8⟩
  | .local _ .vmem, ⟨3, _⟩ => ⟨S10240x2048, .bf16⟩
  | .local _ .vmem, ⟨4, _⟩ => ⟨S10240x1024, .i8⟩
  | .local _ .vmem, ⟨5, _⟩ => ⟨S10240x128, .fp8e4m3⟩
  | .local _ .vmem, ⟨6, _⟩ => ⟨S8x128, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x16x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x10240 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10240x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== QuantX.lean ====
abbrev S2048x8192 : Shape := ⟨2, ![2048, 8192]⟩
abbrev S16 : Shape := ⟨1, ![16]⟩
abbrev S1 : Shape := ⟨1, ![1]⟩
abbrev S8192x1024 : Shape := ⟨2, ![8192, 1024]⟩
abbrev S8192x128 : Shape := ⟨2, ![8192, 128]⟩
abbrev S8x128 : Shape := ⟨2, ![8, 128]⟩
abbrev S2048x128 : Shape := ⟨2, ![2048, 128]⟩
abbrev S128x1024 : Shape := ⟨2, ![128, 1024]⟩
abbrev S128x128 : Shape := ⟨2, ![128, 128]⟩
abbrev S256x128 : Shape := ⟨2, ![256, 128]⟩
abbrev S1024x128 : Shape := ⟨2, ![1024, 128]⟩
abbrev S64x128 : Shape := ⟨2, ![64, 128]⟩
abbrev S1024x2x128 : Shape := ⟨3, ![1024, 2, 128]⟩
abbrev S8x2x128 : Shape := ⟨3, ![8, 2, 128]⟩
abbrev S8x1x128 : Shape := ⟨3, ![8, 1, 128]⟩
abbrev S16x128 : Shape := ⟨2, ![16, 128]⟩

abbrev nBuf : Space → Nat
  | .hbm => 7
  | .vmem => 11
  | .smem => 2
  | _ => 0

abbrev bufTy : (tb : Table) → Fin (tcTables nBuf tb) → BufTy
  | .hbm, ⟨0, _⟩ => ⟨S2048x8192, .bf16⟩
  | .hbm, ⟨1, _⟩ => ⟨S16, .f32⟩
  | .hbm, ⟨2, _⟩ => ⟨S1, .f32⟩
  | .hbm, ⟨3, _⟩ => ⟨S2048x8192, .bf16⟩
  | .hbm, ⟨4, _⟩ => ⟨S8192x1024, .i8⟩
  | .hbm, ⟨5, _⟩ => ⟨S8192x128, .fp8e4m3⟩
  | .hbm, ⟨6, _⟩ => ⟨S8x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S128x1024, .i8⟩
  | .local _ .vmem, ⟨5, _⟩ => ⟨S128x1024, .i8⟩
  | .local _ .vmem, ⟨6, _⟩ => ⟨S128x128, .fp8e4m3⟩
  | .local _ .vmem, ⟨7, _⟩ => ⟨S128x128, .fp8e4m3⟩
  | .local _ .vmem, ⟨8, _⟩ => ⟨S8x128, .f32⟩
  | .local _ .vmem, ⟨9, _⟩ => ⟨S256x128, .i32⟩
  | .local _ .vmem, ⟨10, _⟩ => ⟨S128x128, .f32⟩
  | .local _ .smem, ⟨0, _⟩ => ⟨S16, .f32⟩
  | .local _ .smem, ⟨1, _⟩ => ⟨S1, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32 : BitVec 32 := 0#32
  let c16_i32 : BitVec 32 := 16#32
  let v41 : BitVec 32 := Scalar.addi c0_i32 c16_i32
  let c1_i32 : BitVec 32 := 1#32
  ⟨c0_i32, v41, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  v116
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  let v117 : BitVec 32 := v116
  let c0_i32_60 : BitVec 32 := 0#32
  ![v117.toNat, 0, 0]
def k0_off2 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  let v117 : BitVec 32 := v116
  let c0_i32_64 : BitVec 32 := 0#32
  ![Nat.add v117.toNat 1, 0, 0]
def k0_off3 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  let v117 : BitVec 32 := v116
  let c0_i32_69 : BitVec 32 := 0#32
  ![Nat.add v117.toNat 2, 0, 0]
def k0_off4 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  let v117 : BitVec 32 := v116
  let c0_i32_74 : BitVec 32 := 0#32
  ![Nat.add v117.toNat 3, 0, 0]
def k0_off5 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  let v117 : BitVec 32 := v116
  let c0_i32_79 : BitVec 32 := 0#32
  ![Nat.add v117.toNat 4, 0, 0]
def k0_off6 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  let v117 : BitVec 32 := v116
  let c0_i32_84 : BitVec 32 := 0#32
  ![Nat.add v117.toNat 5, 0, 0]
def k0_off7 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  let v117 : BitVec 32 := v116
  let c0_i32_89 : BitVec 32 := 0#32
  ![Nat.add v117.toNat 6, 0, 0]
def k0_off8 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32_58 : BitVec 32 := 8#32
  let v115 : BitVec 32 := Scalar.muli arg10 c8_i32_58
  let c8_i32_59 : BitVec 32 := 8#32
  let v116 : BitVec 32 := Scalar.muli v115 c8_i32_59
  let v117 : BitVec 32 := v116
  let c0_i32_94 : BitVec 32 := 0#32
  ![Nat.add v117.toNat 7, 0, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_138 : BitVec 32 := 8#32
  let v398 : BitVec 32 := Scalar.muli arg10 c8_i32_138
  v398
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_138 : BitVec 32 := 8#32
  let v398 : BitVec 32 := Scalar.muli arg10 c8_i32_138
  let v399 : BitVec 32 := v398
  let v400 : Index := Scalar.indexCast v399
  let c0_139 : Index := 0#32
  ![v400.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_328 : BitVec 32 := 128#32
  let v836 : BitVec 32 := Scalar.muli arg10 c128_i32_328
  v836
def k0_off10 (k0_t1 : Fin k0_t1_loop.trips) (c0_i32_329 : BitVec 32) : Fin 2 → Nat :=
  let c0_i32 : BitVec 32 := 0#32
  let c1_i32 : BitVec 32 := 1#32
  let arg10 : BitVec 32 := Scf.iv c0_i32 c1_i32 k0_t1
  let c128_i32_328 : BitVec 32 := 128#32
  let v836 : BitVec 32 := Scalar.muli arg10 c128_i32_328
  let v837 : BitVec 32 := v836
  let v838 : BitVec 32 := Scalar.addi v837 c0_i32_329
  let v840 : Index := Scalar.indexCast v838
  let c0_330 : Index := 0#32
  ![v840.toNat, 0]
def k0_off11 (k0_t1 : Fin k0_t1_loop.trips) (c0_i32_367 : BitVec 32) : Fin 2 → Nat :=
  let c0_i32 : BitVec 32 := 0#32
  let c1_i32 : BitVec 32 := 1#32
  let arg10 : BitVec 32 := Scf.iv c0_i32 c1_i32 k0_t1
  let c0_i32_52 : BitVec 32 := 0#32
  let v99 : BitVec 1 := Scalar.cmpi .sgt arg10 c0_i32_52
  let v100 : BitVec 32 := Scalar.extui v99
  let c0_i32_53 : BitVec 32 := 0#32
  let v101 : BitVec 1 := Scalar.cmpi .slt arg10 c0_i32_53
  let v102 : BitVec 32 := Scalar.extui v101
  let v103 : BitVec 32 := Scalar.subi v100 v102
  let c2_i32 : BitVec 32 := 2#32
  let c0_i32_54 : BitVec 32 := 0#32
  let v104 : BitVec 1 := Scalar.cmpi .sgt c2_i32 c0_i32_54
  let v105 : BitVec 32 := Scalar.extui v104
  let c0_i32_55 : BitVec 32 := 0#32
  let v106 : BitVec 1 := Scalar.cmpi .slt c2_i32 c0_i32_55
  let v107 : BitVec 32 := Scalar.extui v106
  let v108 : BitVec 32 := Scalar.subi v105 v107
  let v109 : BitVec 1 := Scalar.cmpi .ne v103 v108
  let v110 : BitVec 32 := Scalar.remsi arg10 c2_i32
  let c0_i32_56 : BitVec 32 := 0#32
  let v111 : BitVec 1 := Scalar.cmpi .ne v110 c0_i32_56
  let v112 : BitVec 1 := Scalar.andi v109 v111
  let v98 : BitVec 32 := Scalar.divsi arg10 c2_i32
  let c1_i32_57 : BitVec 32 := 1#32
  let v113 : BitVec 32 := Scalar.subi v98 c1_i32_57
  let v114 : BitVec 32 := Scalar.select v112 v113 v98
  let c0_i32_322 : BitVec 32 := 0#32
  let v816 : BitVec 1 := Scalar.cmpi .sgt v114 c0_i32_322
  let v817 : BitVec 32 := Scalar.extui v816
  let c0_i32_323 : BitVec 32 := 0#32
  let v818 : BitVec 1 := Scalar.cmpi .slt v114 c0_i32_323
  let v819 : BitVec 32 := Scalar.extui v818
  let v820 : BitVec 32 := Scalar.subi v817 v819
  let c4_i32 : BitVec 32 := 4#32
  let c0_i32_324 : BitVec 32 := 0#32
  let v821 : BitVec 1 := Scalar.cmpi .sgt c4_i32 c0_i32_324
  let v822 : BitVec 32 := Scalar.extui v821
  let c0_i32_325 : BitVec 32 := 0#32
  let v823 : BitVec 1 := Scalar.cmpi .slt c4_i32 c0_i32_325
  let v824 : BitVec 32 := Scalar.extui v823
  let v825 : BitVec 32 := Scalar.subi v822 v824
  let v826 : BitVec 1 := Scalar.cmpi .ne v820 v825
  let v827 : BitVec 32 := Scalar.remsi v114 c4_i32
  let c0_i32_326 : BitVec 32 := 0#32
  let v828 : BitVec 1 := Scalar.cmpi .ne v827 c0_i32_326
  let v829 : BitVec 1 := Scalar.andi v826 v828
  let v815 : BitVec 32 := Scalar.divsi v114 c4_i32
  let c1_i32_327 : BitVec 32 := 1#32
  let v830 : BitVec 32 := Scalar.subi v815 c1_i32_327
  let v831 : BitVec 32 := Scalar.select v829 v830 v815
  let c128_i32 : BitVec 32 := 128#32
  let v832 : BitVec 32 := Scalar.muli v831 c128_i32
  let c2_i32_316 : BitVec 32 := 2#32
  let c0_i32_317 : BitVec 32 := 0#32
  let v804 : BitVec 1 := Scalar.cmpi .eq c2_i32_316 c0_i32_317
  let c1_i32_318 : BitVec 32 := 1#32
  let v805 : BitVec 32 := Scalar.select v804 c1_i32_318 c2_i32_316
  let v806 : BitVec 32 := Scalar.remsi arg10 v805
  let c0_i32_320 : BitVec 32 := 0#32
  let v808 : BitVec 1 := Scalar.cmpi .slt v806 c0_i32_320
  let c0_i32_321 : BitVec 32 := 0#32
  let v809 : BitVec 1 := Scalar.cmpi .slt v805 c0_i32_321
  let v810 : BitVec 1 := Scalar.xori v808 v809
  let c0_i32_319 : BitVec 32 := 0#32
  let v807 : BitVec 1 := Scalar.cmpi .ne v806 c0_i32_319
  let v811 : BitVec 1 := Scalar.andi v810 v807
  let v812 : BitVec 32 := Scalar.addi v806 v805
  let v813 : BitVec 32 := Scalar.select v811 v812 v806
  let c64_i32 : BitVec 32 := 64#32
  let v814 : BitVec 32 := Scalar.muli v813 c64_i32
  let v944 : BitVec 32 := Scalar.addi v832 v814
  let v945 : BitVec 32 := Scalar.addi v944 c0_i32_367
  let v946 : Index := Scalar.indexCast v945
  let c0_368 : Index := 0#32
  ![v946.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_377 : BitVec 32 := 128#32
  let v968 : BitVec 32 := Scalar.muli arg10 c128_i32_377
  v968
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_426 : BitVec 32 := 128#32
  let v1100 : BitVec 32 := Scalar.muli arg10 c128_i32_426
  v1100
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_474 : BitVec 32 := 128#32
  let v1232 : BitVec 32 := Scalar.muli arg10 c128_i32_474
  v1232
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_521 : BitVec 32 := 128#32
  let v1364 : BitVec 32 := Scalar.muli arg10 c128_i32_521
  v1364
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_570 : BitVec 32 := 128#32
  let v1496 : BitVec 32 := Scalar.muli arg10 c128_i32_570
  v1496
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_617 : BitVec 32 := 128#32
  let v1628 : BitVec 32 := Scalar.muli arg10 c128_i32_617
  v1628
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_664 : BitVec 32 := 128#32
  let v1760 : BitVec 32 := Scalar.muli arg10 c128_i32_664
  v1760
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QuantXIdeal.lean ====
variable {F : FTy → Type} [FloatOps F]
-- ==== QuantXRef.lean ====
abbrev S2048x8192 : Shape := ⟨2, ![2048, 8192]⟩
abbrev S16 : Shape := ⟨1, ![16]⟩
abbrev S1 : Shape := ⟨1, ![1]⟩
abbrev S16x16 : Shape := ⟨2, ![16, 16]⟩
abbrev S1x16 : Shape := ⟨2, ![1, 16]⟩
abbrev S_ : Shape := ⟨0, ![]⟩
abbrev S128x16x8192 : Shape := ⟨3, ![128, 16, 8192]⟩
abbrev S128x8192x16 : Shape := ⟨3, ![128, 8192, 16]⟩
abbrev S1x1 : Shape := ⟨2, ![1, 1]⟩
abbrev S8192x128 : Shape := ⟨2, ![8192, 128]⟩
abbrev S8x128 : Shape := ⟨2, ![8, 128]⟩
abbrev S128x8192 : Shape := ⟨2, ![128, 8192]⟩

abbrev nBuf : Space → Nat
  | .hbm => 17
  | .vmem => 4
  | .smem => 0
  | _ => 0

abbrev bufTy : (tb : Table) → Fin (tcTables nBuf tb) → BufTy
  | .hbm, ⟨0, _⟩ => ⟨S2048x8192, .bf16⟩
  | .hbm, ⟨1, _⟩ => ⟨S16, .f32⟩
  | .hbm, ⟨2, _⟩ => ⟨S1, .f32⟩
  | .hbm, ⟨3, _⟩ => ⟨S16x16, .f32⟩
  | .hbm, ⟨4, _⟩ => ⟨S1x16, .f32⟩
  | .hbm, ⟨5, _⟩ => ⟨S16x16, .f32⟩
  | .hbm, ⟨6, _⟩ => ⟨S16x16, .f32⟩
  | .hbm, ⟨7, _⟩ => ⟨S_, .f32⟩
  | .hbm, ⟨8, _⟩ => ⟨S16x16, .f32⟩
  | .hbm, ⟨9, _⟩ => ⟨S16x16, .f32⟩
  | .hbm, ⟨10, _⟩ => ⟨S2048x8192, .f32⟩
  | .hbm, ⟨11, _⟩ => ⟨S128x16x8192, .f32⟩
  | .hbm, ⟨12, _⟩ => ⟨S128x8192x16, .f32⟩
  | .hbm, ⟨13, _⟩ => ⟨S128x16x8192, .f32⟩
  | .hbm, ⟨14, _⟩ => ⟨S1x1, .f32⟩
  | .hbm, ⟨15, _⟩ => ⟨S8192x128, .fp8e4m3⟩
  | .hbm, ⟨16, _⟩ => ⟨S8x128, .f32⟩
  | .local _ .vmem, ⟨0, _⟩ => ⟨S128x16x8192, .f32⟩
  | .local _ .vmem, ⟨1, _⟩ => ⟨S1x1, .f32⟩
  | .local _ .vmem, ⟨2, _⟩ => ⟨S8192x128, .fp8e4m3⟩
  | .local _ .vmem, ⟨3, _⟩ => ⟨S8x128, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.WgradValue.lean ====
/-
  THE WEIGHT-GRADIENT PRODUCT, idealized: what one grid point computes, what the result array holds after the run,
  and that it is the one whole-array product of the reference.
-/
module

public import proofs.«01_k».proof.Defs
public import proofs.«01_k».proof.Proof.Gen.WgradIdeal.Value
public import proofs.«01_k».proof.Proof.Gen.WgradRefIdeal.Run
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WgradIdeal.Product

open Cert.WgradIdeal Cert.WgradIdeal.Gen

variable (m : (ℓ : Loc nD τ sig) → Buf (Elt Ideal) ℓ) (ρ : Dev nD → PrngReg)

/-- The scaled product: entry `(n, k)` is `(Σ_t a (n, t) · b (t, k)) · (sy (0, 0) · sx (0, 0))`. -/
def prod (a : Vec Ideal S10240x2048 .bf16) (b : Vec Ideal S2048x8192 .bf16) (sy sx : Vec Ideal S8x128 .f32) :
    Vec Ideal S10240x8192 .f32 := fun i =>
  ((∑ t : Fin 2048, (a (ix2 (i 0) t) : EReal) * (b (ix2 t (i 1)) : EReal)) * ((sy (ix2 0 0) : EReal) * (sx (ix2 0 0) : EReal)) : EReal)

theorem hz : (![0, 0] : Fin 2 → Nat) = fun _ => 0 := funext fun a => by fin_cases a <;> rfl

/-- The windows' block indices at grid point `t`: row block `t / 8`, column block `t % 8`. -/
theorem idx_facts : ∀ t : Fin cfg0.N,
    win0_0.index t 0 = t.val / 8 ∧ win0_0.index t 1 = 0 ∧ win0_1.index t 0 = 0 ∧ win0_1.index t 1 = t.val % 8
    ∧ win0_2.index t 0 = 0 ∧ win0_2.index t 1 = 0 ∧ win0_3.index t 0 = 0 ∧ win0_3.index t 1 = 0
    ∧ win0_4.index t 0 = t.val / 8 ∧ win0_4.index t 1 = t.val % 8
    ∧ win0_4.xsize (grid0.coords t) 0 = 1024 ∧ win0_4.xsize (grid0.coords t) 1 = 1024 :=
  (by decide +kernel : ∀ t : Fin grid0.N, _)

/-- The product of device `c`'s argument arrays. -/
abbrev val (c : Dev nD) : Buf (Elt Ideal) ((c : Thread nD τ).loc main_v0) :=
  prod (m ((c : Thread nD τ).loc main_arg0)) (m ((c : Thread nD τ).loc main_arg1))
    (m ((c : Thread nD τ).loc main_arg2)) (m ((c : Thread nD τ).loc main_arg3))

/-- The payload of one grid point at an index, over any blocks. -/
theorem pay_apply (v0 v1 : Vec Ideal S1x1 .f32) (v3 : Vec Ideal S1024x2048 .bf16) (v4 : Vec Ideal S2048x1024 .bf16)
    (j0 j1 : Fin 1024) :
    k0_pay1 v0 v1 v3 v4 (ix2 j0 j1) =
      ((∑ t : Fin 2048, (v3 (ix2 j0 t) : EReal) * (v4 (ix2 t j1) : EReal)) * ((v0 (ix2 0 0) : EReal) * (v1 (ix2 0 0) : EReal)) : EReal) := by
  pointwise [k0_pay1]

theorem final (c : Dev nD) : (dats m 0 c).arrAt 4 cfg0.N = val m c := by
  refine (dats m 0 c).arrAt_eq_of_covers 4 _ (by decide +kernel) fun t hf y => ?_
  blk_simp
  rw [after0_4]
  unfold out0_4
  rw [View.canon_unit_zero hz, View.ld_unit_zero hz, View.ld_unit_zero hz]
  obtain ⟨h00, h01, h10, h11, h20, h21, h30, h31, h40, h41, -, -⟩ := idx_facts t
  idx_vars y
  rw [pay_apply]
  unfold val prod
  have hs2 : View.ld (iblk m c 2 t) r0_0 (ix2 0 0) = m ((c : Thread nD τ).loc main_arg2) (ix2 0 0) := by
    pointwise
    blk_ext [iblk, V, h20, h21]
  have hs3 : View.ld (iblk m c 3 t) r0_0 (ix2 0 0) = m ((c : Thread nD τ).loc main_arg3) (ix2 0 0) := by
    pointwise
    blk_ext [iblk, V, h30, h31]
  have ha : ∀ k : Fin 2048, iblk m c 0 t (ix2 y0 k) = m ((c : Thread nD τ).loc main_arg0) (ix2 (((View.whole main_v0).slice (win0_4.rect t)).emb (ix2 y0 y1) 0) k) := by
    intro k
    blk_ext [iblk, V, h00, h01, h40, h41]
  have hb : ∀ k : Fin 2048, iblk m c 1 t (ix2 k y1) = m ((c : Thread nD τ).loc main_arg1) (ix2 k (((View.whole main_v0).slice (win0_4.rect t)).emb (ix2 y0 y1) 1)) := by
    intro k
    blk_ext [iblk, V, h10, h11, h40, h41]
  simp only [hs2, hs3, ha, hb]

theorem run : θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.WgradIdeal.Product

namespace Cert.Proof.Wgrad

/-- The reference runs. -/
theorem frame_ref : Cert.quiescent_WgradRefIdeal := fun m ρ _ =>
  (θ_run Cert.WgradRefIdeal.defs _ _).mono (fun r h => ⟨fun c => (h c).2,
      Idealize.ShloMosaic.sem_eq_zero_of_no_sems (by decide) r.2⟩)
    (Cert.WgradRefIdeal.Value.run (F := Ideal) m ρ)

/-- The kernel and the reference compute the same scaled product over the extended reals. -/
theorem algebraic : Cert.algebraic_WgradIdeal_WgradRefIdeal := by
  intro m ρ m' ρ' _ hag
  refine ⟨fun c => Cert.WgradIdeal.Product.val m c, Cert.WgradIdeal.Product.run m ρ, ?_⟩
  refine (θ_run Cert.WgradRefIdeal.defs _ _).mono (fun _ h c => ⟨(h c).1.trans ?_, (h c).2⟩)
    (Cert.WgradRefIdeal.Value.run (F := Ideal) m' ρ')
  rw [(hag c).1, (hag c).2.1, (hag c).2.2.1, (hag c).2.2.2]
  funext j
  unfold Cert.WgradIdeal.Product.val
  idx_vars j
  pointwise [Cert.WgradIdeal.Product.prod]

end Cert.Proof.Wgrad

end
-- ==== Proof.QuantDyFrame.lean ====
/- The loop of the quantiser of the output gradient, at the bits: one trip of it runs and leaves each buffer
   it writes at some contents. -/
module

public import proofs.«01_k».proof.Defs
public import proofs.«01_k».proof.Proof.Gen.QuantDy
public import proofs.«01_k».proof.Proof.Gen.QuantDy.Skeleton
public import proofs.«01_k».proof.Proof.Gen.QuantDy.Loops
public import proofs.«01_k».proof.Proof.Gen.QuantDy.Launch
public import proofs.«01_k».proof.Proof.Gen.QuantDy.Points
public import proofs.«01_k».proof.Proof.Gen.QuantDy.Frame
public import Idealize.ShloMosaic.Lib.Pipeline.FrameBody
public import Idealize.ShloMosaic.Lib.Exec
public import Idealize.ShloMosaic.Lib.Tactic
public import Idealize.ShloMosaic.Lib.Claim

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantDy.Run
open Cert.QuantDy.Gen

variable {F : FTy → Type} [BitOps F]

/-- Where the pair `r` of a trip's code bytes goes: eight rows, eight apart, from this one. -/
theorem off12_eq : ∀ (r : Fin 8) (k : Fin k0_t1_loop.trips), k0_off12 k (BitVec.ofNat 32 r.val) = ![k.val / 8 * 128 + k.val % 2 * 64 + r.val, 0] := by
  decide +kernel

instance (k : Fin k0_t1_loop.trips) : ClosedOff (k0_off12 k 0#32) := ⟨![k.val / 8 * 128 + k.val % 2 * 64 + 0, 0], off12_eq 0 k⟩
instance (k : Fin k0_t1_loop.trips) : ClosedOff (k0_off12 k 1#32) := ⟨![k.val / 8 * 128 + k.val % 2 * 64 + 1, 0], off12_eq 1 k⟩
instance (k : Fin k0_t1_loop.trips) : ClosedOff (k0_off12 k 2#32) := ⟨![k.val / 8 * 128 + k.val % 2 * 64 + 2, 0], off12_eq 2 k⟩
instance (k : Fin k0_t1_loop.trips) : ClosedOff (k0_off12 k 3#32) := ⟨![k.val / 8 * 128 + k.val % 2 * 64 + 3, 0], off12_eq 3 k⟩
instance (k : Fin k0_t1_loop.trips) : ClosedOff (k0_off12 k 4#32) := ⟨![k.val / 8 * 128 + k.val % 2 * 64 + 4, 0], off12_eq 4 k⟩
instance (k : Fin k0_t1_loop.trips) : ClosedOff (k0_off12 k 5#32) := ⟨![k.val / 8 * 128 + k.val % 2 * 64 + 5, 0], off12_eq 5 k⟩
instance (k : Fin k0_t1_loop.trips) : ClosedOff (k0_off12 k 6#32) := ⟨![k.val / 8 * 128 + k.val % 2 * 64 + 6, 0], off12_eq 6 k⟩
instance (k : Fin k0_t1_loop.trips) : ClosedOff (k0_off12 k 7#32) := ⟨![k.val / 8 * 128 + k.val % 2 * 64 + 7, 0], off12_eq 7 k⟩

local notation "𝕄" => MT nD τ sig Unit (Elt F) ℕ (UR sig nD τ) ℕ

/-- What a trip of the loop holds: the two inputs it reads at their contents and the three scratch buffers at
    some contents. -/
def someInv (c : Dev nD) (arg3 : Memref sig .tc .vmem S2048x128 .bf16) (arg4 : Memref sig .tc .vmem S2048x128 .i8)
    (arg9 : Memref sig .tc .vmem S2048x128 .bf16) (arg10 : Memref sig .tc .vmem S256x128 .i32)
    (arg11 : Memref sig .tc .vmem S128x128 .f32) (X3 : BufTy.Contents (Elt F) arg3.view.ty)
    (X4 : BufTy.Contents (Elt F) arg4.view.ty) : sProp 𝕄 :=
  iprop((arg3.view.loc (c : Thread nD τ) ↦[arg3.view.set]{fullShare} X3)
    ∗ (arg4.view.loc (c : Thread nD τ) ↦[arg4.view.set]{fullShare} X4)
    ∗ (∃ f, (arg9.view.loc (c : Thread nD τ) ↦[arg9.view.set]{fullShare} f))
    ∗ (∃ f, (arg10.view.loc (c : Thread nD τ) ↦[arg10.view.set]{fullShare} f))
    ∗ (∃ f, (arg11.view.loc (c : Thread nD τ) ↦[arg11.view.set]{fullShare} f)))

theorem trip (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) (X4 : BufTy.Contents (Elt F) arg4.view.ty) (k : Fin k0_t1_loop.trips) :
    someInv (F := F) c arg3 arg4 arg9 arg10 arg11 X3 X4
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 k PUnit.unit)
        (fun _ => someInv (F := F) c arg3 arg4 arg9 arg10 arg11 X3 X4) := by
  have hk : k.val < 16 := Nat.lt_of_lt_of_le k.isLt k0_t1_abs.2.1
  unfold someInv k0_t1_body
  iintro ⟨H3, H4, ⟨%f9, H9⟩, ⟨%f10, H10⟩, ⟨%f11, H11⟩⟩
  sl_exec
  sl_step
  isplitl [H3]; · iexact H3
  isplitl [H4]; · iexact H4
  isplitl [H9]; · iexists _; iexact H9
  isplitl [H10]; · iexists _; iexact H10
  iexists _; iexact H11

set_option warn.classDefReducibility false in
/-- The loop by its invariant: before each trip the scratch buffers hold some contents. -/
@[sl_loop] def loopInv (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) (X4 : BufTy.Contents (Elt F) arg4.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 where
  inv _ _ := someInv (F := F) c arg3 arg4 arg9 arg10 arg11 X3 X4
  step k acc := trip (F := F) c E i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_QuantDy`, Defs.lean, at any `F`). -/
theorem forget_frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 2 rfl).trans ((hA c 2).trans (V_main_arg0 m c)),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 3 rfl).trans ((hA c 3).trans (V_main_arg3 m c))⟩) h

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2048x128 .bf16 := Memref.whole cc0_scratch0
abbrev scM0_1 : Memref sig .tc .vmem S256x128 .i32 := Memref.whole cc0_scratch1
abbrev scM0_2 : Memref sig .tc .vmem S128x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1000000 in
/-- The body's triple: on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole)
    (x0 : Vec F S16 .f32) (x1 : Vec F S1 .f32) (x2 : Vec F S2048x128 .bf16) (x3 : Vec F S2048x128 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_quant_dy i arg1 harg1 arg2 harg2 arg3 harg3 arg4 harg4 arg5 harg5 arg6 harg6 arg7 harg7 arg8 harg8 arg9 harg9 arg10 harg10 arg11 harg11) K := by
    intro E K
    simp only [cc0_quant_dy_eq_skeleton]; unfold cc0_quant_dy_skel
    simp only [k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  forget_frame_of m ρ (fun c => (dats m 0 c).toRForget forgets0) (A_eq m) (run_main m ρ)

/-- THE FRAME: `Cert.quiescent_QuantDy`'s statement (Defs.lean) at any `F` — Proof.lean cites it at `Bits`:
    `theorem Cert.Proof.claim : Cert.Claim := ⟨Cert.QuantDy.Gen.facts, fun m ρ _ => Cert.QuantDy.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.QuantDy.Run

end
-- ==== Proof.QuantDyIdealFrame.lean ====
/- The loop of the quantiser of the output gradient, idealized: one trip of it runs and leaves each buffer
   it writes at some contents. -/
module

public import proofs.«01_k».proof.Defs
public import proofs.«01_k».proof.Proof.Gen.QuantDyIdeal
public import proofs.«01_k».proof.Proof.Gen.QuantDyIdeal.Skeleton
public import proofs.«01_k».proof.Proof.Gen.QuantDyIdeal.Loops
public import proofs.«01_k».proof.Proof.Gen.QuantDyIdeal.Launch
public import proofs.«01_k».proof.Proof.Gen.QuantDyIdeal.Points
public import proofs.«01_k».proof.Proof.Gen.QuantDyIdeal.Frame
public import Idealize.ShloMosaic.Lib.Pipeline.FrameBody
public import Idealize.ShloMosaic.Lib.Exec
public import Idealize.ShloMosaic.Lib.Tactic
public import Idealize.ShloMosaic.Lib.Claim

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantDyIdeal.Forget
open Cert.QuantDyIdeal.Gen

variable {F : FTy → Type} [FloatOps F]

/-- Where the pair `r` of a trip's code bytes goes: eight rows, eight apart, from this one. -/
theorem off12_eq : ∀ (r : Fin 8) (k : Fin k0_t1_loop.trips), k0_off12 k (BitVec.ofNat 32 r.val) = ![k.val / 8 * 128 + k.val % 2 * 64 + r.val, 0] := by
  decide +kernel

instance (k : Fin k0_t1_loop.trips) : ClosedOff (k0_off12 k 0#32) := ⟨![k.val / 8 * 128 + k.val % 2 * 64 + 0, 0], off12_eq 0 k⟩
instance (k : Fin k0_t1_loop.trips) : ClosedOff (k0_off12 k 1#32) := ⟨![k.val / 8 * 128 + k.val % 2 * 64 + 1, 0], off12_eq 1 k⟩
instance (k : Fin k0_t1_loop.trips) : ClosedOff (k0_off12 k 2#32) := ⟨![k.val / 8 * 128 + k.val % 2 * 64 + 2, 0], off12_eq 2 k⟩
instance (k : Fin k0_t1_loop.trips) : ClosedOff (k0_off12 k 3#32) := ⟨![k.val / 8 * 128 + k.val % 2 * 64 + 3, 0], off12_eq 3 k⟩
instance (k : Fin k0_t1_loop.trips) : ClosedOff (k0_off12 k 4#32) := ⟨![k.val / 8 * 128 + k.val % 2 * 64 + 4, 0], off12_eq 4 k⟩
instance (k : Fin k0_t1_loop.trips) : ClosedOff (k0_off12 k 5#32) := ⟨![k.val / 8 * 128 + k.val % 2 * 64 + 5, 0], off12_eq 5 k⟩
instance (k : Fin k0_t1_loop.trips) : ClosedOff (k0_off12 k 6#32) := ⟨![k.val / 8 * 128 + k.val % 2 * 64 + 6, 0], off12_eq 6 k⟩
instance (k : Fin k0_t1_loop.trips) : ClosedOff (k0_off12 k 7#32) := ⟨![k.val / 8 * 128 + k.val % 2 * 64 + 7, 0], off12_eq 7 k⟩

local notation "𝕄" => MT nD τ sig Unit (Elt F) ℕ (UR sig nD τ) ℕ

/-- What a trip of the loop holds: the two inputs it reads at their contents and the three scratch buffers at
    some contents. -/
def someInv (c : Dev nD) (arg3 : Memref sig .tc .vmem S2048x128 .bf16) (arg4 : Memref sig .tc .vmem S2048x128 .i8)
    (arg9 : Memref sig .tc .vmem S2048x128 .bf16) (arg10 : Memref sig .tc .vmem S256x128 .i32)
    (arg11 : Memref sig .tc .vmem S128x128 .f32) (X3 : BufTy.Contents (Elt F) arg3.view.ty)
    (X4 : BufTy.Contents (Elt F) arg4.view.ty) : sProp 𝕄 :=
  iprop((arg3.view.loc (c : Thread nD τ) ↦[arg3.view.set]{fullShare} X3)
    ∗ (arg4.view.loc (c : Thread nD τ) ↦[arg4.view.set]{fullShare} X4)
    ∗ (∃ f, (arg9.view.loc (c : Thread nD τ) ↦[arg9.view.set]{fullShare} f))
    ∗ (∃ f, (arg10.view.loc (c : Thread nD τ) ↦[arg10.view.set]{fullShare} f))
    ∗ (∃ f, (arg11.view.loc (c : Thread nD τ) ↦[arg11.view.set]{fullShare} f)))

theorem trip (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) (X4 : BufTy.Contents (Elt F) arg4.view.ty) (k : Fin k0_t1_loop.trips) :
    someInv (F := F) c arg3 arg4 arg9 arg10 arg11 X3 X4
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 k PUnit.unit)
        (fun _ => someInv (F := F) c arg3 arg4 arg9 arg10 arg11 X3 X4) := by
  have hk : k.val < 16 := Nat.lt_of_lt_of_le k.isLt k0_t1_abs.2.1
  unfold someInv k0_t1_body
  iintro ⟨H3, H4, ⟨%f9, H9⟩, ⟨%f10, H10⟩, ⟨%f11, H11⟩⟩
  sl_exec
  sl_step
  isplitl [H3]; · iexact H3
  isplitl [H4]; · iexact H4
  isplitl [H9]; · iexists _; iexact H9
  isplitl [H10]; · iexists _; iexact H10
  iexists _; iexact H11

set_option warn.classDefReducibility false in
/-- The loop by its invariant: before each trip the scratch buffers hold some contents. -/
@[sl_loop] def loopInv (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) (X4 : BufTy.Contents (Elt F) arg4.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 where
  inv _ _ := someInv (F := F) c arg3 arg4 arg9 arg10 arg11 X3 X4
  step k acc := trip (F := F) c E i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_QuantDyIdeal`, Defs.lean, at any `F`). -/
theorem forget_frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 2 rfl).trans ((hA c 2).trans (V_main_arg0 m c)),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 3 rfl).trans ((hA c 3).trans (V_main_arg3 m c))⟩) h

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2048x128 .bf16 := Memref.whole cc0_scratch0
abbrev scM0_1 : Memref sig .tc .vmem S256x128 .i32 := Memref.whole cc0_scratch1
abbrev scM0_2 : Memref sig .tc .vmem S128x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1000000 in
/-- The body's triple: on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole)
    (x0 : Vec F S16 .f32) (x1 : Vec F S1 .f32) (x2 : Vec F S2048x128 .bf16) (x3 : Vec F S2048x128 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_quant_dy i arg1 harg1 arg2 harg2 arg3 harg3 arg4 harg4 arg5 harg5 arg6 harg6 arg7 harg7 arg8 harg8 arg9 harg9 arg10 harg10 arg11 harg11) K := by
    intro E K
    simp only [cc0_quant_dy_eq_skeleton]; unfold cc0_quant_dy_skel
    simp only [k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  forget_frame_of m ρ (fun c => (dats m 0 c).toRForget forgets0) (A_eq m) (run_main m ρ)

/-- THE FRAME: `Cert.quiescent_QuantDyIdeal`'s statement (Defs.lean) at any `F` — Proof.lean cites it at `Ideal`:
    `theorem Cert.Proof.claim : Cert.Claim := ⟨Cert.QuantDyIdeal.Gen.facts, fun m ρ _ => Cert.QuantDyIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.QuantDyIdeal.Forget

end
-- ==== Proof.QuantDyMath.lean ====
/-
  THE QUANTISER OF THE OUTPUT GRADIENT, the mathematics of one entry over the extended reals: the block scale, the
  quotient by it, the stochastic rounding to a four-bit float and its code, and the sixteen-point rotation. First what
  each is, then that the kernel's ways of computing them give the same.
-/
module

public import Idealize.ShloMosaic.PureOps.Ideal
public import Idealize.ShloMosaic.Lib.Pointwise

@[expose] public section

noncomputable section

open Idealize.ShloMosaic

namespace Cert.QuantDyMath

/-! ### What is computed -/

/-- The tensor scale of the largest magnitude `a`. -/
def tscale (a : EReal) : EReal := if 0 < a then Ideal.div a ((2688 : ℝ) : EReal) else 1

/-- The largest magnitude of a block. -/
def peak (z : Fin 16 → EReal) : EReal := Finset.univ.fold max ⊥ fun i => max (z i) (-z i)

/-- The scale of a block under the tensor scale `st`. -/
def bscale (st : EReal) (z : Fin 16 → EReal) : EReal :=
  min (Ideal.div (peak z) (((6 : ℝ) : EReal) * st)) ((448 : ℝ) : EReal)

/-- An entry divided by its step `q`. -/
def quot (q z : EReal) : EReal := if 0 < q then Ideal.div z q else 0

/-- The magnitude of a quotient, clipped at the largest four-bit float. -/
def mag (u : EReal) : ℝ := (min (max u (-u)) ((6 : ℝ) : EReal)).toReal

/-- The magnitudes of the four-bit floats. -/
def grid : Fin 8 → ℝ := ![0, 1 / 2, 1, 3 / 2, 2, 3, 4, 6]

/-- Stochastic rounding: the number of the grid value below `m`, and one more where `r` is less than the fraction of
    the way to the next. -/
def idx (m r : ℝ) : Fin 8 :=
  if m < 1 / 2 then (if r < 2 * m then 1 else 0)
  else if m < 1 then (if r < 2 * m - 1 then 2 else 1)
  else if m < 3 / 2 then (if r < 2 * m - 2 then 3 else 2)
  else if m < 2 then (if r < 2 * m - 3 then 4 else 3)
  else if m < 3 then (if r < m - 2 then 5 else 4)
  else if m < 4 then (if r < m - 3 then 6 else 5)
  else if m < 6 then (if r < (m - 4) / 2 then 7 else 6)
  else 7

/-- The number in (0, 1) that a random byte stands for. -/
def frac (b : BitVec 8) : ℝ := ((b.toNat : ℝ) + 1 / 2) / 256

/-- The grid number that a quotient is rounded to with a random byte. -/
def rnd (u : EReal) (b : BitVec 8) : Fin 8 := idx (mag u) (frac b)

/-- The rounded quotient. -/
def val (u : EReal) (b : BitVec 8) : EReal := if u < 0 then ((-grid (rnd u b) : ℝ) : EReal) else ((grid (rnd u b) : ℝ) : EReal)

/-- Its four-bit code: the sign bit, which a zero does not have, and the grid number. -/
def nib (u : EReal) (b : BitVec 8) : BitVec 32 :=
  (if u < 0 ∧ 0 < rnd u b then 8#32 else 0#32) ||| BitVec.ofNat 32 (rnd u b).val

/-- The signs of the rotation: whether `i` and `j` share an odd number of binary digits. -/
def odd (i j : Fin 16) : Bool :=
  ((i.val / 8 * (j.val / 8) + i.val / 4 % 2 * (j.val / 4 % 2) + i.val / 2 % 2 * (j.val / 2 % 2) + i.val % 2 * (j.val % 2)) % 2 == 1)

/-- The same as a number. -/
def sgn (i j : Fin 16) : ℝ := if odd i j then -1 else 1

/-- The rotation of a block `x` under the signs `s`. -/
def rot (s x : Fin 16 → EReal) (i : Fin 16) : EReal :=
  ∑ j : Fin 16, x j * (((sgn i j : ℝ) : EReal) * s j * ((1 / 4 : ℝ) : EReal))

/-! ### The constants -/

theorem c_half : Ideal.ofBits .f32 0x3F000000#32 = ((1 / 2 : ℝ) : EReal) := by simp [Ideal.ofBits, Ideal.ieee, -EReal.coe_mul]; try norm_num
theorem c_two : Ideal.ofBits .f32 0x40000000#32 = ((2 : ℝ) : EReal) := by simp [Ideal.ofBits, Ideal.ieee, -EReal.coe_mul]; try norm_num
theorem c_three : Ideal.ofBits .f32 0x40400000#32 = ((3 : ℝ) : EReal) := by simp [Ideal.ofBits, Ideal.ieee, -EReal.coe_mul]; try norm_num
theorem c_four : Ideal.ofBits .f32 0x40800000#32 = ((4 : ℝ) : EReal) := by simp [Ideal.ofBits, Ideal.ieee, -EReal.coe_mul]; try norm_num
theorem c_six : Ideal.ofBits .f32 0x40C00000#32 = ((6 : ℝ) : EReal) := by simp [Ideal.ofBits, Ideal.ieee, -EReal.coe_mul]; try norm_num
theorem c_eight : Ideal.ofBits .f32 0x41000000#32 = ((8 : ℝ) : EReal) := by simp [Ideal.ofBits, Ideal.ieee, -EReal.coe_mul]; try norm_num
theorem c_twelve : Ideal.ofBits .f32 0x41400000#32 = ((12 : ℝ) : EReal) := by simp [Ideal.ofBits, Ideal.ieee, -EReal.coe_mul]; try norm_num
theorem c_sixteen : Ideal.ofBits .f32 0x41800000#32 = ((16 : ℝ) : EReal) := by simp [Ideal.ofBits, Ideal.ieee, -EReal.coe_mul]; try norm_num
theorem c_twentyfour : Ideal.ofBits .f32 0x41C00000#32 = ((24 : ℝ) : EReal) := by simp [Ideal.ofBits, Ideal.ieee, -EReal.coe_mul]; try norm_num
theorem c_top : Ideal.ofBits .f32 0x43E00000#32 = ((448 : ℝ) : EReal) := by simp [Ideal.ofBits, Ideal.ieee, -EReal.coe_mul]; try norm_num
theorem c_div : Ideal.ofBits .f32 0x45280000#32 = ((2688 : ℝ) : EReal) := by simp [Ideal.ofBits, Ideal.ieee, -EReal.coe_mul]; try norm_num
theorem c_quarter : Ideal.ofBits .f32 0x3E800000#32 = ((1 / 4 : ℝ) : EReal) := by simp [Ideal.ofBits, Ideal.ieee, -EReal.coe_mul]; try norm_num
theorem c_byte : Ideal.ofBits .f32 0x3B800000#32 = ((1 / 256 : ℝ) : EReal) := by simp [Ideal.ofBits, Ideal.ieee, -EReal.coe_mul]; try norm_num
theorem c_onehalf : Ideal.ofBits .f32 0x3FC00000#32 = ((3 / 2 : ℝ) : EReal) := by simp [Ideal.ofBits, Ideal.ieee, -EReal.coe_mul]; try norm_num
theorem c_neg : Ideal.ofBits .f32 0xBF800000#32 = ((-1 : ℝ) : EReal) := by simp [Ideal.ofBits, Ideal.ieee, -EReal.coe_mul]; try norm_num
theorem c_bot : Ideal.ofBits .f32 0xFF800000#32 = ⊥ := by simp [Ideal.ofBits, Ideal.ieee]

/-- A float pattern whose exponent is not all ones denotes a real number. -/
theorem real_ofBits (b : BitVec 32) (h : (b.extractLsb' 23 8).toNat ≠ 255) : ∃ r : ℝ, Ideal.ofBits .f32 b = (r : EReal) := by
  simp only [Ideal.ofBits, Ideal.ieee]
  rw [if_neg (by simpa using h)]
  split_ifs <;> exact ⟨_, rfl⟩

/-- The random number as the kernel makes it: the byte under the exponent of one, with a half, less one. -/
theorem rand_eq (b : BitVec 8) :
    Ideal.ofBits .f32 (IntOp.ori (b.setWidth 32 <<< 15) 1065369600#32) - 1 = ((frac b : ℝ) : EReal) := by
  have h1 : ∀ b : BitVec 8, ((IntOp.ori (b.setWidth 32 <<< 15) 1065369600#32).extractLsb' 31 1 == 1#1) = false := by decide +kernel
  have h2 : ∀ b : BitVec 8, ((IntOp.ori (b.setWidth 32 <<< 15) 1065369600#32).extractLsb' 23 8).toNat = 127 := by decide +kernel
  have h3 : ∀ b : BitVec 8, ((IntOp.ori (b.setWidth 32 <<< 15) 1065369600#32).extractLsb' 0 23).toNat = b.toNat * 32768 + 16384 := by decide +kernel
  have : Ideal.ofBits .f32 (IntOp.ori (b.setWidth 32 <<< 15) 1065369600#32) = ((1 + frac b : ℝ) : EReal) := by
    simp only [Ideal.ofBits, Ideal.ieee]
    rw [h1 b, h2 b, h3 b]
    simp [-EReal.coe_mul, -EReal.coe_add, frac]
    norm_num
    norm_cast
    push_cast
    ring
  rw [this, ← EReal.coe_one, ← EReal.coe_sub]
  congr 1
  ring

/-- A random fraction is positive. -/
theorem frac_pos (b : BitVec 8) : 0 < frac b := by unfold frac; positivity
/-- A random fraction is below one. -/
theorem frac_lt (b : BitVec 8) : frac b < 1 := by
  have : (b.toNat : ℝ) ≤ 255 := by exact_mod_cast Nat.le_of_lt_succ b.isLt
  unfold frac
  linarith

/-- The clipped magnitude is a real number in [0, 6]. -/
theorem mag_eq (u : EReal) : min (max u (-u)) ((6 : ℝ) : EReal) = ((mag u : ℝ) : EReal) ∧ 0 ≤ mag u ∧ mag u ≤ 6 := by
  have h0 : (0 : EReal) ≤ min (max u (-u)) ((6 : ℝ) : EReal) := by
    refine le_min ?_ (by exact_mod_cast (by norm_num : (0:ℝ) ≤ 6))
    rcases le_total 0 u with h | h
    · exact le_max_of_le_left h
    · exact le_max_of_le_right (EReal.neg_nonneg.mpr h)
  have h6 : min (max u (-u)) ((6 : ℝ) : EReal) ≤ ((6 : ℝ) : EReal) := min_le_right _ _
  have he : min (max u (-u)) ((6 : ℝ) : EReal) = ((mag u : ℝ) : EReal) := by
    unfold mag
    rw [EReal.coe_toReal]
    · exact ne_top_of_le_ne_top (EReal.coe_ne_top _) h6
    · exact ne_bot_of_le_ne_bot (by simp) h0
  rw [he] at h0 h6
  exact ⟨he, by exact_mod_cast h0, by exact_mod_cast h6⟩

/-! ### The kernel's rounding -/

/-- The power of two below a magnitude, as the kernel picks it. -/
def pick (m : EReal) : EReal :=
  max (if ((4 : ℝ) : EReal) ≤ m then ((4 : ℝ) : EReal) else if ((2 : ℝ) : EReal) ≤ m then ((2 : ℝ) : EReal) else if 1 ≤ m then 1 else 0) 1

/-- The power of two that the chain of selects picks, for a real number. -/
theorem pick_eq (m : ℝ) : pick m = (((if 4 ≤ m then 4 else if 2 ≤ m then 2 else 1 : ℝ)) : EReal) := by
  unfold pick
  simp only [EReal.coe_le_coe_iff]
  split_ifs <;> first
    | rfl
    | (refine max_eq_left ?_; exact_mod_cast (by norm_num : (1:ℝ) ≤ 4))
    | (refine max_eq_left ?_; exact_mod_cast (by norm_num : (1:ℝ) ≤ 2))
    | simp

/-! The grid's values by number. -/

theorem grid_0 : grid 0 = 0 := rfl
theorem grid_1 : grid 1 = 1 / 2 := rfl
theorem grid_2 : grid 2 = 1 := rfl
theorem grid_3 : grid 3 = 3 / 2 := rfl
theorem grid_4 : grid 4 = 2 := rfl
theorem grid_5 : grid 5 = 3 := rfl
theorem grid_6 : grid 6 = 4 := rfl
theorem grid_7 : grid 7 = 6 := rfl

/-- Rounding up `m · (2 / e) − r` and scaling back by `e / 2`, with `e` the power of two below `m`, is the stochastic
    rounding to the grid. -/
theorem round_eq (m r : ℝ) (h0 : 0 ≤ m) (h6 : m ≤ 6) (hr0 : 0 < r) (hr1 : r < 1) :
    Ideal.liftRound Int.ceil ((m : EReal) * Ideal.div ((2 : ℝ) : EReal) (pick m) - (r : EReal)) * (pick m * ((1 / 2 : ℝ) : EReal))
      = ((grid (idx m r) : ℝ) : EReal) := by
  rw [pick_eq]
  have key : ∀ e : ℝ, e ≠ 0 → (⌈m * (2 * (1 / e)) - r⌉ : ℝ) * (e * (1 / 2)) = grid (idx m r) →
      Ideal.liftRound Int.ceil ((m : EReal) * Ideal.div ((2 : ℝ) : EReal) (e : EReal) - (r : EReal)) * ((e : EReal) * ((1 / 2 : ℝ) : EReal))
      = ((grid (idx m r) : ℝ) : EReal) := by
    intro e he h
    rw [Ideal.div_coe he, ← EReal.coe_mul, ← EReal.coe_mul, ← EReal.coe_sub, Ideal.liftRound_coe, ← EReal.coe_mul, ← EReal.coe_mul, h]
  have hc : ∀ (n : ℤ) (x : ℝ), (n : ℝ) - 1 < x → x ≤ n → (⌈x⌉ : ℝ) = n := fun n x h1 h2 => by
    rw [(Int.ceil_eq_iff (z := n)).mpr ⟨h1, h2⟩]
  split_ifs with h4 h2
  · apply key 4 (by norm_num)
    unfold idx
    split_ifs <;> first
      | linarith
      | (rw [hc 2 _ (by push_cast; linarith) (by push_cast; linarith)]; norm_num [grid_0, grid_1, grid_2, grid_3, grid_4, grid_5, grid_6, grid_7])
      | (rw [hc 3 _ (by push_cast; linarith) (by push_cast; linarith)]; norm_num [grid_0, grid_1, grid_2, grid_3, grid_4, grid_5, grid_6, grid_7])
  · apply key 2 (by norm_num)
    unfold idx
    split_ifs <;> first
      | linarith
      | (rw [hc 2 _ (by push_cast; linarith) (by push_cast; linarith)]; norm_num [grid_0, grid_1, grid_2, grid_3, grid_4, grid_5, grid_6, grid_7])
      | (rw [hc 3 _ (by push_cast; linarith) (by push_cast; linarith)]; norm_num [grid_0, grid_1, grid_2, grid_3, grid_4, grid_5, grid_6, grid_7])
      | (rw [hc 4 _ (by push_cast; linarith) (by push_cast; linarith)]; norm_num [grid_0, grid_1, grid_2, grid_3, grid_4, grid_5, grid_6, grid_7])
  · apply key 1 (by norm_num)
    unfold idx
    split_ifs <;> first
      | linarith
      | (rw [hc 0 _ (by push_cast; linarith) (by push_cast; linarith)]; norm_num [grid_0, grid_1, grid_2, grid_3, grid_4, grid_5, grid_6, grid_7])
      | (rw [hc 1 _ (by push_cast; linarith) (by push_cast; linarith)]; norm_num [grid_0, grid_1, grid_2, grid_3, grid_4, grid_5, grid_6, grid_7])
      | (rw [hc 2 _ (by push_cast; linarith) (by push_cast; linarith)]; norm_num [grid_0, grid_1, grid_2, grid_3, grid_4, grid_5, grid_6, grid_7])
      | (rw [hc 3 _ (by push_cast; linarith) (by push_cast; linarith)]; norm_num [grid_0, grid_1, grid_2, grid_3, grid_4, grid_5, grid_6, grid_7])
      | (rw [hc 4 _ (by push_cast; linarith) (by push_cast; linarith)]; norm_num [grid_0, grid_1, grid_2, grid_3, grid_4, grid_5, grid_6, grid_7])

/-- Grid values are not negative. -/
theorem grid_nonneg (i : Fin 8) : 0 ≤ grid i := by fin_cases i <;> norm_num [grid]

/-- The magnitude of a real number. -/
theorem abs_coe (x : ℝ) : max (x : EReal) (-(x : EReal)) = ((|x| : ℝ) : EReal) := by
  rw [← EReal.coe_neg, abs_eq_max_neg]
  exact (EReal.coe_strictMono.monotone.map_max).symm

/-- The kernel's rounded quotient, sign and all, is `val`. -/
theorem sto_eq (u : EReal) (b : BitVec 8) :
    (if u < 0 then
        0 - max (Ideal.liftRound Int.ceil (min (max u (-u)) ((6 : ℝ) : EReal) * Ideal.div ((2 : ℝ) : EReal) (pick (min (max u (-u)) ((6 : ℝ) : EReal)))
              - ((frac b : ℝ) : EReal)) * (pick (min (max u (-u)) ((6 : ℝ) : EReal)) * ((1 / 2 : ℝ) : EReal)))
            (-(Ideal.liftRound Int.ceil (min (max u (-u)) ((6 : ℝ) : EReal) * Ideal.div ((2 : ℝ) : EReal) (pick (min (max u (-u)) ((6 : ℝ) : EReal)))
              - ((frac b : ℝ) : EReal)) * (pick (min (max u (-u)) ((6 : ℝ) : EReal)) * ((1 / 2 : ℝ) : EReal))))
      else Ideal.liftRound Int.ceil (min (max u (-u)) ((6 : ℝ) : EReal) * Ideal.div ((2 : ℝ) : EReal) (pick (min (max u (-u)) ((6 : ℝ) : EReal)))
              - ((frac b : ℝ) : EReal)) * (pick (min (max u (-u)) ((6 : ℝ) : EReal)) * ((1 / 2 : ℝ) : EReal)))
      = val u b := by
  obtain ⟨hm, h0, h6⟩ := mag_eq u
  rw [hm, round_eq (mag u) (frac b) h0 h6 (frac_pos b) (frac_lt b), abs_coe, abs_of_nonneg (grid_nonneg _)]
  unfold val rnd
  split_ifs
  · rw [zero_sub, EReal.coe_neg]
  · rfl

/-! ### The kernel's codes -/

/-- The code of a rounded quotient, as the kernel counts it from its magnitude: `max (|v|, |v| / 2 + 1 / 2) · 4` against
    seven thresholds, and the sign bit. -/
def codeOf (v : EReal) : BitVec 32 :=
  let f : EReal := max (max v (-v)) (max v (-v) * ((1 / 2 : ℝ) : EReal) + ((1 / 2 : ℝ) : EReal)) * ((4 : ℝ) : EReal)
  let ge (t : ℝ) : BitVec 32 := BitVec.setWidth 32 (BitVec.ofBool (decide ((t : EReal) ≤ f)))
  IntOp.ori (IntOp.addi (IntOp.addi (IntOp.addi (IntOp.addi (IntOp.addi (IntOp.addi (IntOp.addi 0#32 (ge 3)) (ge 4)) (ge 6)) (ge 8)) (ge 12)) (ge 16)) (ge 24))
    (if v < 0 then 8#32 else 0#32)

theorem codeOf_coe (x : ℝ) (n : BitVec 32) (h : IntOp.ori (IntOp.addi (IntOp.addi (IntOp.addi (IntOp.addi (IntOp.addi (IntOp.addi (IntOp.addi 0#32
      (if (3 : ℝ) ≤ max |x| (|x| * (1 / 2) + 1 / 2) * 4 then 1#32 else 0#32)) (if (4 : ℝ) ≤ max |x| (|x| * (1 / 2) + 1 / 2) * 4 then 1#32 else 0#32))
      (if (6 : ℝ) ≤ max |x| (|x| * (1 / 2) + 1 / 2) * 4 then 1#32 else 0#32)) (if (8 : ℝ) ≤ max |x| (|x| * (1 / 2) + 1 / 2) * 4 then 1#32 else 0#32))
      (if (12 : ℝ) ≤ max |x| (|x| * (1 / 2) + 1 / 2) * 4 then 1#32 else 0#32)) (if (16 : ℝ) ≤ max |x| (|x| * (1 / 2) + 1 / 2) * 4 then 1#32 else 0#32))
      (if (24 : ℝ) ≤ max |x| (|x| * (1 / 2) + 1 / 2) * 4 then 1#32 else 0#32)) (if x < 0 then 8#32 else 0#32) = n) : codeOf x = n := by
  rw [← h]
  have hw : ∀ p : Prop, ∀ [Decidable p], BitVec.setWidth 32 (BitVec.ofBool (decide p)) = if p then 1#32 else 0#32 := by
    intro p _; by_cases hp : p <;> simp [hp]
  have hm : ∀ a b : ℝ, max (a : EReal) (b : EReal) = ((max a b : ℝ) : EReal) := fun a b =>
    (EReal.coe_strictMono.monotone.map_max).symm
  unfold codeOf
  simp only [abs_coe, ← EReal.coe_mul, ← EReal.coe_add, hm, EReal.coe_le_coe_iff, hw, EReal.coe_neg']

/-- The code of a rounded quotient, computed from its value, is its nibble. -/
theorem codeOf_val (u : EReal) (b : BitVec 8) : codeOf (val u b) = nib u b := by
  have h8 : ∀ i : Fin 8, i = 0 ∨ i = 1 ∨ i = 2 ∨ i = 3 ∨ i = 4 ∨ i = 5 ∨ i = 6 ∨ i = 7 := by decide
  have h32 : |(3 / 2 : ℝ)| = 3 / 2 := abs_of_pos (by norm_num)
  have h12 : |(1 / 2 : ℝ)| = 1 / 2 := abs_of_pos (by norm_num)
  unfold val nib
  generalize rnd u b = i
  by_cases hu : u < 0
  · simp only [hu, if_true, true_and]
    rcases h8 i with rfl | rfl | rfl | rfl | rfl | rfl | rfl | rfl <;>
      (apply codeOf_coe; norm_num [grid_0, grid_1, grid_2, grid_3, grid_4, grid_5, grid_6, grid_7, IntOp.addi, IntOp.ori, abs_neg, h32, h12]) <;> try decide
  · simp only [hu, if_false, false_and]
    rcases h8 i with rfl | rfl | rfl | rfl | rfl | rfl | rfl | rfl <;>
      (apply codeOf_coe; norm_num [grid_0, grid_1, grid_2, grid_3, grid_4, grid_5, grid_6, grid_7, IntOp.addi, IntOp.ori, abs_neg, h32, h12]) <;> try decide

end Cert.QuantDyMath

end
-- ==== Proof.QuantDyMathMore.lean ====
/-
  THE QUANTISER OF THE OUTPUT GRADIENT, the rest of one entry's mathematics: the scales are real numbers, a block's
  largest magnitude however it is nested, the two ways of dividing by a step, the reference's count of grid values and
  its fraction, and the rotation of real numbers.
-/
module

public import proofs.«01_k».proof.Proof.QuantDyMath

@[expose] public section

noncomputable section

open Idealize.ShloMosaic

namespace Cert.QuantDyMath

/-! ### Real numbers among the extended ones -/

/-- A real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.ite {p : Prop} [Decidable p] {x y : EReal} (hx : IsR x) (hy : IsR y) : IsR (if p then x else y) := by
  split_ifs <;> assumption
theorem IsR.max {x y : EReal} (hx : IsR x) (hy : IsR y) : IsR (max x y) := by
  rcases max_choice x y with h | h <;> rw [h] <;> assumption
theorem IsR.mul {x y : EReal} : IsR x → IsR y → IsR (x * y) := by
  rintro ⟨a, rfl⟩ ⟨b, rfl⟩; exact ⟨a * b, (EReal.coe_mul a b).symm⟩
theorem IsR.bits (b : BitVec 32) (h : (b.extractLsb' 23 8).toNat ≠ 255) : IsR (Ideal.ofBits .f32 b) := real_ofBits b h

/-- Adding a real number and taking it away again changes no real number. -/
theorem add_sub_self {t c : EReal} : IsR t → IsR c → t + c - c = t := by
  rintro ⟨a, rfl⟩ ⟨b, rfl⟩
  rw [← EReal.coe_add, ← EReal.coe_sub, add_sub_cancel_right]

/-! ### Scales and steps -/

/-- A number over a positive one is nonnegative when the number is. -/
theorem div_nonneg {x y : EReal} (hx : 0 ≤ x) (hy : 0 < y) : 0 ≤ Ideal.div x y := by
  unfold Ideal.div
  rw [if_neg hy.ne']
  exact mul_nonneg hx (EReal.inv_nonneg_of_nonneg hy.le)

/-- A positive extended real over 2688 is positive, and so is a tensor scale. -/
theorem tscale_pos (a : EReal) : 0 < tscale a := by
  unfold tscale
  split_ifs with h
  · rw [Ideal.div_coe (by norm_num)]
    exact EReal.mul_pos h (by exact_mod_cast (by norm_num : (0:ℝ) < 1 / 2688))
  · exact zero_lt_one

/-- A largest magnitude is not negative. -/
theorem peak_nonneg (z : Fin 16 → EReal) : 0 ≤ peak z := by
  unfold peak
  rw [Finset.le_fold_max]
  refine .inr ⟨0, Finset.mem_univ _, ?_⟩
  rcases le_total 0 (z 0) with h | h
  · exact le_max_of_le_left h
  · exact le_max_of_le_right (EReal.neg_nonneg.mpr h)

/-- A block scale is a real number. -/
theorem bscale_real (st : EReal) (z : Fin 16 → EReal) (h : 0 < st) : IsR (bscale st z) := by
  have h0 : 0 ≤ bscale st z := le_min (div_nonneg (peak_nonneg z) (EReal.mul_pos (by exact_mod_cast (by norm_num : (0:ℝ) < 6)) h))
    (by exact_mod_cast (by norm_num : (0:ℝ) ≤ 448))
  have h1 : bscale st z ≤ ((448 : ℝ) : EReal) := min_le_right _ _
  exact ⟨_, (EReal.coe_toReal (ne_top_of_le_ne_top (EReal.coe_ne_top _) h1) (ne_bot_of_le_ne_bot (by simp) h0)).symm⟩

/-- The kernel's division, by multiplying with the reciprocal of the guarded step. -/
theorem quot_mul (q z : EReal) : z * (if 0 < q then Ideal.div 1 (if 0 < q then q else 1) else 0) = quot q z := by
  unfold quot
  split_ifs with h
  · unfold Ideal.div
    rw [if_neg h.ne', if_neg h.ne', one_mul]
  · exact mul_zero _

/-- The reference's division by the guarded step. -/
theorem quot_div (q z : EReal) : (if 0 < q then Ideal.div z (if 0 < q then q else 1) else 0) = quot q z := by
  unfold quot
  split_ifs <;> rfl

/-- A block's largest magnitude, its sixteen written out. -/
theorem peak_eq (z : Fin 16 → EReal) (x : EReal) (h : ∀ i, max (z i) (-z i) ≤ x)
    (hx : x ≤ max (z 0) (-z 0) ⊔ max (z 1) (-z 1) ⊔ max (z 2) (-z 2) ⊔ max (z 3) (-z 3) ⊔ max (z 4) (-z 4) ⊔ max (z 5) (-z 5)
      ⊔ max (z 6) (-z 6) ⊔ max (z 7) (-z 7) ⊔ max (z 8) (-z 8) ⊔ max (z 9) (-z 9) ⊔ max (z 10) (-z 10) ⊔ max (z 11) (-z 11)
      ⊔ max (z 12) (-z 12) ⊔ max (z 13) (-z 13) ⊔ max (z 14) (-z 14) ⊔ max (z 15) (-z 15)) : x = peak z := by
  unfold peak
  refine le_antisymm (hx.trans ?_) (Finset.fold_max_le _ |>.mpr ⟨bot_le, fun i _ => h i⟩)
  have hp : ∀ i, max (z i) (-z i) ≤ Finset.univ.fold max ⊥ fun i => max (z i) (-z i) := fun i =>
    (Finset.le_fold_max _).mpr (.inr ⟨i, Finset.mem_univ _, le_rfl⟩)
  exact sup_le (sup_le (sup_le (sup_le (sup_le (sup_le (sup_le (sup_le (sup_le (sup_le (sup_le (sup_le (sup_le (sup_le (sup_le
    (hp 0) (hp 1)) (hp 2)) (hp 3)) (hp 4)) (hp 5)) (hp 6)) (hp 7)) (hp 8)) (hp 9)) (hp 10)) (hp 11)) (hp 12)) (hp 13)) (hp 14)) (hp 15)

/-! ### The reference's rounding -/

/-- The number of the largest grid value not above `m`. -/
def low (m : ℝ) : Fin 8 :=
  if m < 1 / 2 then 0 else if m < 1 then 1 else if m < 3 / 2 then 2 else if m < 2 then 3 else if m < 3 then 4
  else if m < 4 then 5 else if m < 6 then 6 else 7

theorem bit_ite (p : Prop) [Decidable p] : BitVec.setWidth 32 (BitVec.ofBool (decide p)) = if p then 1#32 else 0#32 := by
  by_cases hp : p <;> simp [hp]

/-- The reference counts the grid values not above `m`. -/
theorem low_eq (m : ℝ) :
    IntOp.addi (IntOp.addi (IntOp.addi (IntOp.addi (IntOp.addi (IntOp.addi (IntOp.addi 0#32
      (BitVec.setWidth 32 (BitVec.ofBool (decide (((1 / 2 : ℝ) : EReal) ≤ (m : EReal))))))
      (BitVec.setWidth 32 (BitVec.ofBool (decide (1 ≤ (m : EReal))))))
      (BitVec.setWidth 32 (BitVec.ofBool (decide (((3 / 2 : ℝ) : EReal) ≤ (m : EReal))))))
      (BitVec.setWidth 32 (BitVec.ofBool (decide (((2 : ℝ) : EReal) ≤ (m : EReal))))))
      (BitVec.setWidth 32 (BitVec.ofBool (decide (((3 : ℝ) : EReal) ≤ (m : EReal))))))
      (BitVec.setWidth 32 (BitVec.ofBool (decide (((4 : ℝ) : EReal) ≤ (m : EReal))))))
      (BitVec.setWidth 32 (BitVec.ofBool (decide (((6 : ℝ) : EReal) ≤ (m : EReal)))))
      = BitVec.ofNat 32 (low m).val := by
  have hl : ∀ t : ℝ, m < t ↔ ¬ t ≤ m := fun t => not_le.symm
  simp only [bit_ite, EReal.coe_le_coe_iff, ← EReal.coe_one, low, hl]
  by_cases p0 : (1 / 2 : ℝ) ≤ m
  swap
  · have p1 : ¬ (1 : ℝ) ≤ m := fun h => by linarith
    have p2 : ¬ (3 / 2 : ℝ) ≤ m := fun h => by linarith
    have p3 : ¬ (2 : ℝ) ≤ m := fun h => by linarith
    have p4 : ¬ (3 : ℝ) ≤ m := fun h => by linarith
    have p5 : ¬ (4 : ℝ) ≤ m := fun h => by linarith
    have p6 : ¬ (6 : ℝ) ≤ m := fun h => by linarith
    simp only [p0, p1, p2, p3, p4, p5, p6, if_true, if_false, not_true, not_false_iff]
    rfl
  by_cases p1 : (1 : ℝ) ≤ m
  swap
  · have p2 : ¬ (3 / 2 : ℝ) ≤ m := fun h => by linarith
    have p3 : ¬ (2 : ℝ) ≤ m := fun h => by linarith
    have p4 : ¬ (3 : ℝ) ≤ m := fun h => by linarith
    have p5 : ¬ (4 : ℝ) ≤ m := fun h => by linarith
    have p6 : ¬ (6 : ℝ) ≤ m := fun h => by linarith
    simp only [p0, p1, p2, p3, p4, p5, p6, if_true, if_false, not_true, not_false_iff]
    rfl
  by_cases p2 : (3 / 2 : ℝ) ≤ m
  swap
  · have p3 : ¬ (2 : ℝ) ≤ m := fun h => by linarith
    have p4 : ¬ (3 : ℝ) ≤ m := fun h => by linarith
    have p5 : ¬ (4 : ℝ) ≤ m := fun h => by linarith
    have p6 : ¬ (6 : ℝ) ≤ m := fun h => by linarith
    simp only [p0, p1, p2, p3, p4, p5, p6, if_true, if_false, not_true, not_false_iff]
    rfl
  by_cases p3 : (2 : ℝ) ≤ m
  swap
  · have p4 : ¬ (3 : ℝ) ≤ m := fun h => by linarith
    have p5 : ¬ (4 : ℝ) ≤ m := fun h => by linarith
    have p6 : ¬ (6 : ℝ) ≤ m := fun h => by linarith
    simp only [p0, p1, p2, p3, p4, p5, p6, if_true, if_false, not_true, not_false_iff]
    rfl
  by_cases p4 : (3 : ℝ) ≤ m
  swap
  · have p5 : ¬ (4 : ℝ) ≤ m := fun h => by linarith
    have p6 : ¬ (6 : ℝ) ≤ m := fun h => by linarith
    simp only [p0, p1, p2, p3, p4, p5, p6, if_true, if_false, not_true, not_false_iff]
    rfl
  by_cases p5 : (4 : ℝ) ≤ m
  swap
  · have p6 : ¬ (6 : ℝ) ≤ m := fun h => by linarith
    simp only [p0, p1, p2, p3, p4, p5, p6, if_true, if_false, not_true, not_false_iff]
    rfl
  by_cases p6 : (6 : ℝ) ≤ m
  swap
  · simp only [p0, p1, p2, p3, p4, p5, p6, if_true, if_false, not_true, not_false_iff]
    rfl
  simp only [p0, p1, p2, p3, p4, p5, p6, if_false, if_true, not_true]
  rfl

/-- A grid value as the reference looks it up: a sum of eight selects of which one is not zero. -/
theorem grid_eq (k : Fin 8) :
    Scalar.select (IntOp.cmpi .eq (BitVec.ofNat 32 k.val) 1#32) ((1 / 2 : ℝ) : EReal) (0 : EReal)
      + Scalar.select (IntOp.cmpi .eq (BitVec.ofNat 32 k.val) 2#32) (1 : EReal) 0
      + Scalar.select (IntOp.cmpi .eq (BitVec.ofNat 32 k.val) 3#32) ((3 / 2 : ℝ) : EReal) 0
      + Scalar.select (IntOp.cmpi .eq (BitVec.ofNat 32 k.val) 4#32) ((2 : ℝ) : EReal) 0
      + Scalar.select (IntOp.cmpi .eq (BitVec.ofNat 32 k.val) 5#32) ((3 : ℝ) : EReal) 0
      + Scalar.select (IntOp.cmpi .eq (BitVec.ofNat 32 k.val) 6#32) ((4 : ℝ) : EReal) 0
      + Scalar.select (IntOp.cmpi .eq (BitVec.ofNat 32 k.val) 7#32) ((6 : ℝ) : EReal) 0
      = ((grid k : ℝ) : EReal) := by
  have h8 : ∀ i : Fin 8, i = 0 ∨ i = 1 ∨ i = 2 ∨ i = 3 ∨ i = 4 ∨ i = 5 ∨ i = 6 ∨ i = 7 := by decide
  have hs : ∀ (a b : BitVec 32) (x : EReal), Scalar.select (IntOp.cmpi .eq a b) x (0 : EReal) = if a = b then x else 0 := by
    intro a b x
    by_cases h : a = b
    · simp [Scalar.select, IntOp.cmpi, h]
    · have hb : (a == b) = false := by simpa using h
      simp [Scalar.select, IntOp.cmpi, h, hb]
  simp only [hs]
  rcases h8 k with rfl | rfl | rfl | rfl | rfl | rfl | rfl | rfl <;>
    simp [grid_0, grid_1, grid_2, grid_3, grid_4, grid_5, grid_6, grid_7]

/-- The number of the next grid value, the last being its own. -/
def next (k : Fin 8) : Fin 8 := ⟨min (k.val + 1) 7, by omega⟩

theorem next_eq (k : Fin 8) : IntOp.minsi (IntOp.addi (BitVec.ofNat 32 k.val) 1#32) 7#32 = BitVec.ofNat 32 (next k).val := by
  revert k; decide

/-- The reference's random number. -/
theorem frac_eq (b : BitVec 8) :
    ((((BitVec.setWidth 32 b).toInt : ℝ) : EReal) + ((1 / 2 : ℝ) : EReal)) * ((1 / 256 : ℝ) : EReal) = ((frac b : ℝ) : EReal) := by
  have h : (BitVec.setWidth 32 b).toInt = (b.toNat : ℤ) := by
    revert b; decide +kernel
  rw [h, ← EReal.coe_add, ← EReal.coe_mul]
  congr 1
  unfold frac
  push_cast
  ring

/-- The reference's rounding: one more than the grid value below where the random number is less than the fraction. -/
theorem idx_eq (m r : ℝ) (h0 : 0 ≤ m) (h6 : m ≤ 6) (hr0 : 0 < r) :
    IntOp.addi (BitVec.ofNat 32 (low m).val) (BitVec.setWidth 32 (BitVec.ofBool (decide ((r : EReal) <
      if (0 : EReal) < ((grid (next (low m)) : ℝ) : EReal) - ((grid (low m) : ℝ) : EReal) then
        Ideal.div ((m : EReal) - ((grid (low m) : ℝ) : EReal))
          (if (0 : EReal) < ((grid (next (low m)) : ℝ) : EReal) - ((grid (low m) : ℝ) : EReal) then
            ((grid (next (low m)) : ℝ) : EReal) - ((grid (low m) : ℝ) : EReal) else 1)
      else 0)))) = BitVec.ofNat 32 (idx m r).val := by
  have key : ∀ (k k' k'' : Fin 8) (a b : ℝ), low m = k → grid k = a → grid (next k) = b → a < b →
      idx m r = (if r < (m - a) * (1 / (b - a)) then k' else k) → k'.val = k.val + 1 →
      IntOp.addi (BitVec.ofNat 32 (low m).val) (BitVec.setWidth 32 (BitVec.ofBool (decide ((r : EReal) <
      if (0 : EReal) < ((grid (next (low m)) : ℝ) : EReal) - ((grid (low m) : ℝ) : EReal) then
        Ideal.div ((m : EReal) - ((grid (low m) : ℝ) : EReal))
          (if (0 : EReal) < ((grid (next (low m)) : ℝ) : EReal) - ((grid (low m) : ℝ) : EReal) then
            ((grid (next (low m)) : ℝ) : EReal) - ((grid (low m) : ℝ) : EReal) else 1)
      else 0)))) = BitVec.ofNat 32 (idx m r).val := by
    intro k k' _ a b hk ha hb hab hi hk'
    rw [hk, ha, hb, hi, ← EReal.coe_sub, ← EReal.coe_sub, bit_ite]
    have hp : (0 : EReal) < ((b - a : ℝ) : EReal) := by exact_mod_cast sub_pos.mpr hab
    rw [if_pos hp, if_pos hp, Ideal.div_coe (sub_pos.mpr hab).ne', ← EReal.coe_mul]
    simp only [EReal.coe_lt_coe_iff]
    split_ifs with h
    · rw [hk']; simp [IntOp.addi, BitVec.ofNat_add]
    · simp [IntOp.addi]
  have n0 : grid (next 0) = 1 / 2 := rfl
  have n1 : grid (next 1) = 1 := rfl
  have n2 : grid (next 2) = 3 / 2 := rfl
  have n3 : grid (next 3) = 2 := rfl
  have n4 : grid (next 4) = 3 := rfl
  have n5 : grid (next 5) = 4 := rfl
  have n6 : grid (next 6) = 6 := rfl
  have n7 : grid (next 7) = 6 := rfl
  have hif : ∀ (p q : Prop) [Decidable p] [Decidable q] (x y : Fin 8), (p ↔ q) → (if p then x else y) = if q then x else y := by
    intro p q _ _ x y h; simp only [h]
  by_cases h1 : m < 1 / 2
  · exact key 0 1 0 _ _ (by simp only [low, h1, if_true]) grid_0 n0 (by norm_num)
      (by simp only [idx, h1, if_true]; exact hif _ _ _ _ (by constructor <;> intro h <;> norm_num at h ⊢ <;> linarith)) rfl
  by_cases h2 : m < 1
  · exact key 1 2 0 _ _ (by simp only [low, h1, h2, if_true, if_false]) grid_1 n1 (by norm_num)
      (by simp only [idx, h1, h2, if_true, if_false]; exact hif _ _ _ _ (by constructor <;> intro h <;> norm_num at h ⊢ <;> linarith)) rfl
  by_cases h3 : m < 3 / 2
  · exact key 2 3 0 _ _ (by simp only [low, h1, h2, h3, if_true, if_false]) grid_2 n2 (by norm_num)
      (by simp only [idx, h1, h2, h3, if_true, if_false]; exact hif _ _ _ _ (by constructor <;> intro h <;> norm_num at h ⊢ <;> linarith)) rfl
  by_cases h4 : m < 2
  · exact key 3 4 0 _ _ (by simp only [low, h1, h2, h3, h4, if_true, if_false]) grid_3 n3 (by norm_num)
      (by simp only [idx, h1, h2, h3, h4, if_true, if_false]; exact hif _ _ _ _ (by constructor <;> intro h <;> norm_num at h ⊢ <;> linarith)) rfl
  by_cases h5 : m < 3
  · exact key 4 5 0 _ _ (by simp only [low, h1, h2, h3, h4, h5, if_true, if_false]) grid_4 n4 (by norm_num)
      (by simp only [idx, h1, h2, h3, h4, h5, if_true, if_false]; exact hif _ _ _ _ (by constructor <;> intro h <;> norm_num at h ⊢ <;> linarith)) rfl
  by_cases h7 : m < 4
  · exact key 5 6 0 _ _ (by simp only [low, h1, h2, h3, h4, h5, h7, if_true, if_false]) grid_5 n5 (by norm_num)
      (by simp only [idx, h1, h2, h3, h4, h5, h7, if_true, if_false]; exact hif _ _ _ _ (by constructor <;> intro h <;> norm_num at h ⊢ <;> linarith)) rfl
  by_cases h8 : m < 6
  · exact key 6 7 0 _ _ (by simp only [low, h1, h2, h3, h4, h5, h7, h8, if_true, if_false]) grid_6 n6 (by norm_num)
      (by simp only [idx, h1, h2, h3, h4, h5, h7, h8, if_true, if_false]; exact hif _ _ _ _ (by constructor <;> intro h <;> norm_num at h ⊢ <;> linarith)) rfl
  have e1 : low m = 7 := by simp only [low, h1, h2, h3, h4, h5, h7, h8, if_false]
  have e2 : idx m r = 7 := by simp only [idx, h1, h2, h3, h4, h5, h7, h8, if_false]
  rw [e1, e2, n7, grid_7, bit_ite, if_neg]
  · rfl
  · rw [← EReal.coe_sub, if_neg (by norm_num), not_lt]
    exact_mod_cast hr0.le

/-- The reference's sign bit and grid number make the code. -/
theorem nib_eq (u : EReal) (b : BitVec 8) :
    IntOp.ori (IntOp.shli .vector (BitVec.setWidth 32 (IntOp.andi (BitVec.ofBool (decide (u < 0)))
      (IntOp.cmpi .sgt (BitVec.ofNat 32 (rnd u b).val) 0#32))) 3#32) (BitVec.ofNat 32 (rnd u b).val) = nib u b := by
  unfold nib
  generalize rnd u b = k
  by_cases hu : u < 0
  · simp only [hu, true_and]
    revert k; decide
  · simp only [hu, false_and]
    revert k; decide

/-- The reference's signed grid value is `val`: a zero's sign makes no difference. -/
theorem val_eq (u : EReal) (b : BitVec 8) :
    Scalar.select (IntOp.andi (BitVec.ofBool (decide (u < 0))) (IntOp.cmpi .sgt (BitVec.ofNat 32 (rnd u b).val) 0#32))
      (0 - ((grid (rnd u b) : ℝ) : EReal)) ((grid (rnd u b) : ℝ) : EReal) = val u b := by
  unfold val
  generalize rnd u b = k
  have h0 : ∀ k : Fin 8, IntOp.andi (BitVec.ofBool true) (IntOp.cmpi .sgt (BitVec.ofNat 32 k.val) 0#32) = if k = 0 then 0#1 else 1#1 := by decide
  have h1 : ∀ k : Fin 8, IntOp.andi (BitVec.ofBool false) (IntOp.cmpi .sgt (BitVec.ofNat 32 k.val) 0#32) = 0#1 := by decide
  by_cases hu : u < 0
  · simp only [hu, decide_true, h0, if_true]
    by_cases hk : k = 0
    · subst hk; simp [Scalar.select, grid_0]
    · simp [Scalar.select, hk]
  · simp only [hu, decide_false, h1, if_false]
    simp [Scalar.select]

/-! ### The rotation of real numbers -/

/-- The rotation of real entries under real signs, as a real sum. -/
theorem rot_coe (s x : Fin 16 → ℝ) (i : Fin 16) :
    rot (fun j => (s j : EReal)) (fun j => (x j : EReal)) i = ((∑ j : Fin 16, x j * (sgn i j * s j * (1 / 4)) : ℝ) : EReal) := by
  unfold rot
  simp only [← EReal.coe_mul]
  simp only [Fin.sum_univ_succ, Fin.sum_univ_zero, ← EReal.coe_add, ← EReal.coe_zero]

end Cert.QuantDyMath

end
-- ==== Proof.QuantDySpec.lean ====
/-
  WHAT THE QUANTISER OF THE OUTPUT GRADIENT GIVES, column by column: from a column's entries and random bytes, the signs
  and the tensor scale, the rotated entries, the block scales, the rounded quotients, their codes two to a byte and the
  values they stand for. Then the words in which the kernel collects the code bytes, four to a word.
-/
module

public import proofs.«01_k».proof.Proof.QuantDyMathMore

@[expose] public section

noncomputable section

open Idealize.ShloMosaic

namespace Cert.QuantDySpec
open Cert.QuantDyMath

variable (sg : Fin 16 → EReal) (st : EReal) (x : ℕ → EReal) (r : ℕ → BitVec 8)

/-- Entry `i` of block `g`, rotated. -/
def Z (g : ℕ) (i : Fin 16) : EReal := rot sg (fun j => x (16 * g + j.val)) i

/-- The scale of block `g`. -/
def S (g : ℕ) : EReal := bscale st (Z sg x g)

/-- The quotient of entry `i` of block `g` by the block's step. -/
def U (g : ℕ) (i : Fin 16) : EReal := quot (S sg st x g * st) (Z sg x g i)

/-- The rounded quotient. -/
def V (g : ℕ) (i : Fin 16) : EReal := val (U sg st x g i) (r (16 * g + i.val))

/-- Its code. -/
def N (g : ℕ) (i : Fin 16) : BitVec 32 := nib (U sg st x g i) (r (16 * g + i.val))

/-- The byte of the pair `q` of codes. -/
def B (q : ℕ) : BitVec 32 :=
  IntOp.ori (N sg st x r (q / 8) ⟨q % 8 * 2, by omega⟩) (IntOp.shli .vector (N sg st x r (q / 8) ⟨q % 8 * 2 + 1, by omega⟩) 4#32)

/-- The value at place `p` of the column, in the order the values are stored in. -/
def E (p : ℕ) : EReal :=
  V sg st x r (p / 128 * 8 + p / 2 % 8) ⟨p / 16 % 8 * 2 + p % 2, by omega⟩ * S sg st x (p / 128 * 8 + p / 2 % 8)

/-! ### Random bytes in their words -/

/-- The mask of the eight bits a random byte is put at. -/
theorem mask_bit (i : ℕ) (hi : i < 32) : (8355840#32 : BitVec 32).getLsbD i = decide (15 ≤ i ∧ i < 23) := by
  interval_cases i <;> rfl

/-- The lowest byte of a word, brought to the mask. -/
theorem word_0 (W : BitVec 32) (b : BitVec 8) (h : ∀ q < 8, W.getLsbD (0 + q) = b.getLsbD q) :
    IntOp.andi (IntOp.shli .vector W 15#32) 8355840#32 = b.setWidth 32 <<< 15 := by
  apply BitVec.eq_of_getLsbD_eq
  intro i hi
  simp only [IntOp.andi, IntOp.shli, show (15#32 : BitVec 32).toNat = 15 from rfl, show (15 : ℕ) < 32 from by decide, if_true,
    BitVec.getLsbD_and, mask_bit i hi, BitVec.shiftLeft_eq', BitVec.getLsbD_shiftLeft, BitVec.getLsbD_setWidth]
  by_cases h1 : 15 ≤ i ∧ i < 23
  · have := h (i - 15) (by omega)
    rw [show 0 + (i - 15) = i - 15 by omega] at this
    simp [h1, hi, this, show i - 15 < 32 by omega, -BitVec.getLsbD_eq_getElem]
  · by_cases h2 : i < 15
    · simp [h2, h1]
    · simp [h1, h2, BitVec.getLsbD_of_ge b (i - 15) (by omega)]

/-- The second byte. -/
theorem word_1 (W : BitVec 32) (b : BitVec 8) (h : ∀ q < 8, W.getLsbD (8 + q) = b.getLsbD q) :
    IntOp.andi (IntOp.shli .vector W 7#32) 8355840#32 = b.setWidth 32 <<< 15 := by
  apply BitVec.eq_of_getLsbD_eq
  intro i hi
  simp only [IntOp.andi, IntOp.shli, show (7#32 : BitVec 32).toNat = 7 from rfl, show (7 : ℕ) < 32 from by decide, if_true,
    BitVec.getLsbD_and, mask_bit i hi, BitVec.shiftLeft_eq', BitVec.getLsbD_shiftLeft, BitVec.getLsbD_setWidth]
  by_cases h1 : 15 ≤ i ∧ i < 23
  · have := h (i - 15) (by omega)
    rw [show 8 + (i - 15) = i - 7 by omega] at this
    simp [h1, hi, this, show i - 15 < 32 by omega, show ¬ i < 7 by omega, -BitVec.getLsbD_eq_getElem]
  · by_cases h2 : i < 15
    · simp [h2, h1]
    · simp [h1, h2, BitVec.getLsbD_of_ge b (i - 15) (by omega)]

/-- The third byte. -/
theorem word_2 (W : BitVec 32) (b : BitVec 8) (h : ∀ q < 8, W.getLsbD (16 + q) = b.getLsbD q) :
    IntOp.andi (IntOp.shrui .vector W 1#32) 8355840#32 = b.setWidth 32 <<< 15 := by
  apply BitVec.eq_of_getLsbD_eq
  intro i hi
  simp only [IntOp.andi, IntOp.shrui, show (1#32 : BitVec 32).toNat = 1 from rfl, show (1 : ℕ) < 32 from by decide, if_true,
    BitVec.getLsbD_and, mask_bit i hi, BitVec.ushiftRight_eq', BitVec.getLsbD_ushiftRight, BitVec.getLsbD_shiftLeft, BitVec.getLsbD_setWidth]
  by_cases h1 : 15 ≤ i ∧ i < 23
  · have := h (i - 15) (by omega)
    rw [show 16 + (i - 15) = 1 + i by omega] at this
    simp [h1, hi, this, show i - 15 < 32 by omega, -BitVec.getLsbD_eq_getElem]
  · by_cases h2 : i < 15
    · simp [h2, h1]
    · simp [h1, h2, BitVec.getLsbD_of_ge b (i - 15) (by omega)]

/-- The highest byte. -/
theorem word_3 (W : BitVec 32) (b : BitVec 8) (h : ∀ q < 8, W.getLsbD (24 + q) = b.getLsbD q) :
    IntOp.andi (IntOp.shrui .vector W 9#32) 8355840#32 = b.setWidth 32 <<< 15 := by
  apply BitVec.eq_of_getLsbD_eq
  intro i hi
  simp only [IntOp.andi, IntOp.shrui, show (9#32 : BitVec 32).toNat = 9 from rfl, show (9 : ℕ) < 32 from by decide, if_true,
    BitVec.getLsbD_and, mask_bit i hi, BitVec.ushiftRight_eq', BitVec.getLsbD_ushiftRight, BitVec.getLsbD_shiftLeft, BitVec.getLsbD_setWidth]
  by_cases h1 : 15 ≤ i ∧ i < 23
  · have := h (i - 15) (by omega)
    rw [show 24 + (i - 15) = 9 + i by omega] at this
    simp [h1, hi, this, show i - 15 < 32 by omega, -BitVec.getLsbD_eq_getElem]
  · by_cases h2 : i < 15
    · simp [h2, h1]
    · simp [h1, h2, BitVec.getLsbD_of_ge b (i - 15) (by omega)]

/-! ### Code bytes in their words -/

/-- Byte `b` of a word. -/
def bt (w : BitVec 32) (b : ℕ) : BitVec 8 := (w >>> (8 * b)).setWidth 8

/-- A word after byte `b` of it is stored: the first byte starts the word, the others join it. -/
def cell (b : ℕ) (c old : BitVec 32) : BitVec 32 :=
  if b = 0 then c else IntOp.ori old (IntOp.shli .vector c (BitVec.ofNat 32 (8 * b)))

/-- A pair of codes fits in a byte. -/
theorem B_lt (q i : ℕ) (hi : 8 ≤ i) : (B sg st x r q).getLsbD i = false := by
  have h : ∀ (u : EReal) (b : BitVec 8), ∃ k : Fin 16, nib u b = BitVec.ofNat 32 k.val := by
    intro u b
    unfold nib
    generalize rnd u b = k
    split_ifs
    · exact ⟨⟨8 + k.val, by omega⟩, (by decide : ∀ k : Fin 8, 8#32 ||| BitVec.ofNat 32 k.val = BitVec.ofNat 32 (8 + k.val)) k⟩
    · exact ⟨⟨k.val, by omega⟩, (by decide : ∀ k : Fin 8, 0#32 ||| BitVec.ofNat 32 k.val = BitVec.ofNat 32 k.val) k⟩
  unfold B N
  obtain ⟨a, ha⟩ := h (U sg st x (q / 8) ⟨q % 8 * 2, by omega⟩) (r (16 * (q / 8) + q % 8 * 2))
  obtain ⟨b, hb⟩ := h (U sg st x (q / 8) ⟨q % 8 * 2 + 1, by omega⟩) (r (16 * (q / 8) + (q % 8 * 2 + 1)))
  rw [ha, hb]
  have hd : ∀ a b : Fin 16, (IntOp.ori (BitVec.ofNat 32 a.val) (IntOp.shli .vector (BitVec.ofNat 32 b.val) 4#32)).toNat < 256 := by
    decide +kernel
  exact Nat.testBit_lt_two_pow (lt_of_lt_of_le (hd a b) (by
    calc 256 = 2 ^ 8 := rfl
      _ ≤ 2 ^ i := Nat.pow_le_pow_right (by decide) hi))

/-- What a store of byte `b` does to the bytes of a word whose byte `b` was zero unless it is the first. -/
theorem bt_cell (c old : BitVec 32) (hc : ∀ i, 8 ≤ i → c.getLsbD i = false) (b : ℕ) (hb : b < 4) (ho : b ≠ 0 → bt old b = 0) (b' : ℕ) (hb' : b' < 4) :
    bt (cell b c old) b' = if b' = b then c.setWidth 8 else if b = 0 then 0 else bt old b' := by
  have hn : (BitVec.ofNat 32 (8 * b)).toNat = 8 * b := by simp only [BitVec.toNat_ofNat]; omega
  by_cases h0 : b = 0
  · subst h0
    simp only [cell, if_true]
    by_cases h1 : b' = 0
    · subst h1; simp [bt]
    · rw [if_neg h1]
      apply BitVec.eq_of_getLsbD_eq
      intro i hi
      simp [bt, hi, hc (8 * b' + i) (by omega)]
  · have hbt : ∀ (i : ℕ), i < 8 → old.getLsbD (8 * b + i) = false := fun i hi => by
      have := congrArg (fun w => w.getLsbD i) (ho h0)
      simpa [bt, hi] using this
    simp only [cell, if_neg h0]
    apply BitVec.eq_of_getLsbD_eq
    intro i hi
    have hk : i < 8 := hi
    simp only [bt, IntOp.ori, IntOp.shli, hn, show 8 * b < 32 by omega, if_true, BitVec.getLsbD_setWidth, BitVec.getLsbD_ushiftRight,
      BitVec.getLsbD_or, BitVec.shiftLeft_eq', BitVec.getLsbD_shiftLeft, hk, decide_true, Bool.true_and]
    by_cases h1 : b' = b
    · subst h1
      simp [hk, hbt i hk, show 8 * b' + i < 32 by omega, -BitVec.getLsbD_eq_getElem]
    · rw [if_neg h1]
      simp only [BitVec.getLsbD_setWidth, BitVec.getLsbD_ushiftRight, hk, decide_true, Bool.true_and]
      by_cases h2 : b' < b
      · simp [show 8 * b' + i < 8 * b by omega]
      · simp [hc (8 * b' + i - 8 * b) (by omega)]

end Cert.QuantDySpec

end
-- ==== Proof.QuantDyRefPays.lean ====
/-
  THE REFERENCE QUANTISER of the output gradient: its scales, its rounding, its codes and its values, entry by entry.
-/
module

public import proofs.«01_k».proof.Proof.Gen.QuantDyRefIdeal
public import proofs.«01_k».proof.Proof.Gen.QuantDyRefIdeal.Frame
public import proofs.«01_k».proof.Proof.QuantDySpec
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic
open Idealize.ShloMosaic.Pipeline (Dat Cfg Window)

namespace Cert.QuantDyRefIdeal.Pays
open Cert.QuantDyRefIdeal Cert.QuantDyRefIdeal.Gen Cert.QuantDyMath

variable (z : Vec Ideal S128x16x10240 .f32) (am : Vec Ideal S1x1 .f32) (rd : Vec Ideal S2048x10240 .i8)

/-- A block of rotated entries, its step's quotient and its random byte. -/
def zf (g : Fin 128) (c : Fin 10240) : Fin 16 → EReal := fun i => z (ix3 g i c)
/-- The tensor's scale. -/
def stf : EReal := tscale (am (ix2 0 0))
/-- A block's scale. -/
def sf (g : Fin 128) (c : Fin 10240) : EReal := bscale (stf am) (zf z g c)
/-- The quotients of a block. -/
def uf (g : Fin 128) (i : Fin 16) (c : Fin 10240) : EReal := quot (sf z am g c * stf am) (z (ix3 g i c))
/-- The random bytes of a block. -/
def rf (g : Fin 128) (i : Fin 16) (c : Fin 10240) : BitVec 8 := rd (ix2 ⟨g.val * 16 + i.val, by omega⟩ c)

theorem zero_bits : Ideal.ofBits .f32 0#32 = 0 := by simp [Ideal.ofBits, Ideal.ieee]
theorem one_bits : Ideal.ofBits .f32 0x3F800000#32 = 1 := by simp [Ideal.ofBits, Ideal.ieee, -EReal.coe_mul]; norm_num

theorem ld0 : View.ld z r0_0 = z := View.ld_unit_zero (funext fun a => by fin_cases a <;> rfl) _ _
theorem ld1 : View.ld am r0_1 = am := View.ld_unit_zero (funext fun a => by fin_cases a <;> rfl) _ _
theorem ld2 : View.ld rd r0_3 = rd := View.ld_unit_zero (funext fun a => by fin_cases a <;> rfl) _ _

/-- The block scales. -/
theorem pay4_at (g : Fin 128) (c : Fin 10240) : k0_pay4 z am (ix2 g c) = sf z am g c := by
  pointwise [k0_pay4, k0_pay1, k0_pay2]
  simp only [c_six, c_div, c_top, c_bot]
  rfl

/-- The quotients. -/
theorem pay5_at (g : Fin 128) (i : Fin 16) (c : Fin 10240) : k0_pay5 z am (ix3 g i c) = uf z am g i c := by
  pointwise [k0_pay5, k0_pay1, k0_pay2]
  rw [pay4_at, c_div]
  exact quot_div (sf z am g c * stf am) (z (ix3 g i c))

/-- The clipped magnitudes. -/
theorem mag_at (g : Fin 128) (i : Fin 16) (c : Fin 10240) : min (k0_pay6 z am (ix3 g i c)) (k0_pay7 (F := Ideal) (ix3 g i c)) = ((mag (uf z am g i c) : ℝ) : EReal) := by
  pointwise [k0_pay6, k0_pay7]
  rw [pay5_at, c_six, Ideal.absf_def]
  exact (mag_eq _).1

/-- How many grid values are not above. -/
theorem pay9_at (g : Fin 128) (i : Fin 16) (c : Fin 10240) : k0_pay9 (k0_pay6 z am) k0_pay7 (ix3 g i c) = BitVec.ofNat 32 (low (mag (uf z am g i c))).val := by
  pointwise [k0_pay9, k0_pay8]
  rw [mag_at, c_half, c_onehalf, c_two, c_three, c_four, c_six]
  exact low_eq _

/-- The grid value below. -/
theorem lo_at (g : Fin 128) (i : Fin 16) (c : Fin 10240) :
    k0_pay12 (k0_pay9 (k0_pay6 z am) k0_pay7) (k0_pay10 (k0_pay6 z am) k0_pay7) k0_pay11 (ix3 g i c) = ((grid (low (mag (uf z am g i c))) : ℝ) : EReal) := by
  pointwise [k0_pay12, k0_pay10, k0_pay11]
  rw [pay9_at, c_half, c_onehalf, c_two, c_three, c_four, c_six]
  exact grid_eq _

/-- The number of the grid value above. -/
theorem pay13_at (g : Fin 128) (i : Fin 16) (c : Fin 10240) :
    k0_pay13 (k0_pay9 (k0_pay6 z am) k0_pay7) (ix3 g i c) = BitVec.ofNat 32 (next (low (mag (uf z am g i c)))).val := by
  pointwise [k0_pay13]
  rw [pay9_at]
  exact next_eq _

/-- The number each quotient is rounded to. -/
theorem pay39_at (g : Fin 128) (i : Fin 16) (c : Fin 10240) : k0_pay39 z am rd (ix3 g i c) = BitVec.ofNat 32 (rnd (uf z am g i c) (rf rd g i c)).val := by
  unfold k0_pay39 k0_pay38 k0_pay37 k0_pay36 k0_pay34 k0_pay35 k0_pay32 k0_pay33 k0_pay30 k0_pay31
  rw [ld0, ld1, ld2]
  pointwise [k0_pay18, k0_pay15, k0_pay16, k0_pay17, k0_pay14]
  pointwise [k0_pay8]
  rw [mag_at, pay9_at, pay13_at, lo_at]
  rw [c_half, c_onehalf, c_two, c_three, c_four, c_six, c_byte]
  rw [grid_eq]
  obtain ⟨-, h0, h6⟩ := mag_eq (uf z am g i c)
  exact (congrArg (fun q : EReal => IntOp.addi (BitVec.ofNat 32 (low (mag (uf z am g i c))).val) (BitVec.setWidth 32 (BitVec.ofBool (decide (q < _)))))
    (frac_eq (rf rd g i c))).trans (idx_eq (mag (uf z am g i c)) (frac (rf rd g i c)) h0 h6 (frac_pos _))

/-- The quotients, as the later stages read them. -/
theorem pay29_at (g : Fin 128) (i : Fin 16) (c : Fin 10240) : k0_pay29 z am rd (ix3 g i c) = uf z am g i c := by
  unfold k0_pay29
  rw [ld0, ld1]
  exact pay5_at z am g i c

theorem rnd_z : k0_pay18 (k0_pay32 z am rd) (k0_pay33 z am rd) (k0_pay34 z am rd) (k0_pay35 z am rd) (k0_pay36 z am rd) (k0_pay37 z am rd) (0 : EReal) (k0_pay38 z am rd) (View.ld rd r0_3) = k0_pay39 z am rd := by
  rw [← zero_bits]
  rfl

/-- The signs that are kept. -/
def neg : IVec S128x16x10240 1 := k0_pay19 (k0_pay29 z am rd) (k0_pay32 z am rd) (k0_pay33 z am rd) (k0_pay34 z am rd) (k0_pay35 z am rd) (k0_pay36 z am rd) (k0_pay37 z am rd) (Scalar.ofBits (F := Ideal) .f32 0x00000000#32) (k0_pay38 z am rd) (View.ld rd r0_3)

theorem neg_at (g : Fin 128) (i : Fin 16) (c : Fin 10240) :
    neg z am rd (ix3 g i c) = IntOp.andi (BitVec.ofBool (decide (uf z am g i c < 0))) (IntOp.cmpi .sgt (BitVec.ofNat 32 (rnd (uf z am g i c) (rf rd g i c)).val) 0#32) := by
  unfold neg
  pointwise [k0_pay19]
  rw [pay29_at]
  rw [rnd_z, pay39_at]

theorem neg_z : k0_pay19 (k0_pay29 z am rd) (k0_pay32 z am rd) (k0_pay33 z am rd) (k0_pay34 z am rd) (k0_pay35 z am rd) (k0_pay36 z am rd) (k0_pay37 z am rd) (0 : EReal) (k0_pay38 z am rd) (View.ld rd r0_3) = neg z am rd := by
  rw [← zero_bits]
  rfl

/-- The codes, two by two. -/
def nibs : IVec S1024x2x10240 32 := k0_pay20 (k0_pay29 z am rd) (k0_pay32 z am rd) (k0_pay33 z am rd) (k0_pay34 z am rd) (k0_pay35 z am rd) (k0_pay36 z am rd) (k0_pay37 z am rd) (Scalar.ofBits (F := Ideal) .f32 0x00000000#32) (k0_pay38 z am rd) (View.ld rd r0_3)

theorem nibs_at (p : Fin 1024) (r : Fin 2) (c : Fin 10240) (g : Fin 128) (i : Fin 16) (hg : g.val = p.val / 8) (hi : i.val = p.val % 8 * 2 + r.val) :
    nibs z am rd (ix3 p r c) = nib (uf z am g i c) (rf rd g i c) := by
  obtain ⟨g, hg'⟩ := g
  obtain ⟨i, hi'⟩ := i
  simp only at hg hi
  subst hg hi
  unfold nibs
  pointwise [k0_pay20]
  rw [neg_z, rnd_z, neg_at, pay39_at]
  exact nib_eq _ _

/-- The grid values, looked up twice: under the kept signs, and without. -/
def gridA : FVec Ideal S128x16x10240 .f32 := k0_pay23 (k0_pay39 z am rd) (k0_pay22 (k0_pay39 z am rd) (k0_pay21 (k0_pay32 z am rd) (k0_pay33 z am rd) (k0_pay34 z am rd) (k0_pay35 z am rd) (k0_pay36 z am rd) (k0_pay37 z am rd) (Scalar.ofBits .f32 0x00000000#32) (k0_pay38 z am rd) (View.ld rd r0_3)) (Scalar.ofBits .f32 0x00000000#32) (Scalar.ofBits .f32 0x00000000#32))

theorem gridA_at (g : Fin 128) (i : Fin 16) (c : Fin 10240) : gridA z am rd (ix3 g i c) = 0 - ((grid (rnd (uf z am g i c) (rf rd g i c)) : ℝ) : EReal) := by
  unfold gridA
  pointwise [k0_pay23, k0_pay22, k0_pay21]
  rw [pay39_at, c_half, c_onehalf, c_two, c_three, c_four, c_six, grid_eq]

set_option maxHeartbeats 2000000 in
theorem out3_eq (y : S10240x2048.Idx) : out0_3 z am rd y = k0_pay25 (k0_pay28 z am rd) (k0_pay39 z am rd) (neg z am rd) (gridA z am rd) (k0_pay24 (F := Ideal) (k0_pay39 z am rd)) 5#32 y := by
  unfold out0_3 neg gridA
  rw [View.canon_unit_zero (funext fun a => by fin_cases a <;> rfl)]

set_option maxHeartbeats 2000000 in
/-- The values. -/
theorem out3_at (c : Fin 10240) (p : Fin 2048) (g : Fin 128) (i : Fin 16) (hg : g.val = p.val / 128 * 8 + p.val / 2 % 8) (hi : i.val = p.val / 16 % 8 * 2 + p.val % 2) :
    out0_3 z am rd (ix2 c p) = val (uf z am g i c) (rf rd g i c) * sf z am g c := by
  obtain ⟨g, hg'⟩ := g
  obtain ⟨i, hi'⟩ := i
  simp only at hg hi
  subst hg hi
  rw [out3_eq]
  pointwise [k0_pay25, k0_pay24]
  have hs : k0_pay28 z am rd = k0_pay4 z am := by unfold k0_pay28; rw [ld0, ld1]
  rw [neg_at, gridA_at, hs, pay4_at, pay39_at, c_half, c_onehalf, c_two, c_three, c_four, c_six]
  rw [grid_eq, val_eq]

/-- The codes. -/
theorem out4_at (c : Fin 10240) (q : Fin 1024) :
    out0_4 z am rd (ix2 c q) = (IntOp.ori (nib (uf z am ⟨q.val / 8, by omega⟩ ⟨q.val % 8 * 2, by omega⟩ c) (rf rd ⟨q.val / 8, by omega⟩ ⟨q.val % 8 * 2, by omega⟩ c))
      (IntOp.shli .vector (nib (uf z am ⟨q.val / 8, by omega⟩ ⟨q.val % 8 * 2 + 1, by omega⟩ c) (rf rd ⟨q.val / 8, by omega⟩ ⟨q.val % 8 * 2 + 1, by omega⟩ c)) 4#32)).setWidth 8 := by
  have hc : out0_4 z am rd (ix2 c q) = k0_pay26 (nibs z am rd) (ix2 c q) :=
    congrFun (View.canon_unit_zero (funext fun a => by fin_cases a <;> rfl) _ _) _
  rw [hc]
  pointwise [k0_pay26]
  rw [nibs_at z am rd q 0 c ⟨q.val / 8, by omega⟩ ⟨q.val % 8 * 2, by omega⟩ rfl rfl, nibs_at z am rd q 1 c ⟨q.val / 8, by omega⟩ ⟨q.val % 8 * 2 + 1, by omega⟩ rfl rfl]

/-- The block scales. -/
theorem out5_at (c : Fin 10240) (g : Fin 128) : out0_5 z am rd (ix2 c g) = sf z am g c := by
  have hc : out0_5 z am rd (ix2 c g) = k0_pay27 (k0_pay28 z am rd) (ix2 c g) :=
    congrFun (View.canon_unit_zero (funext fun a => by fin_cases a <;> rfl) _ _) _
  have hs : k0_pay28 z am rd = k0_pay4 z am := by unfold k0_pay28; rw [ld0, ld1]
  rw [hc, hs]
  pointwise [k0_pay27]
  rw [pay4_at]

/-- The tensor's scale. -/
theorem out6_at (a : Fin 8) (b : Fin 128) : out0_6 z am rd (ix2 a b) = stf am := by
  have hc : out0_6 z am rd (ix2 a b) = k0_pay3 (View.ld am r0_1) (ix2 a b) :=
    congrFun (View.canon_unit_zero (funext fun a => by fin_cases a <;> rfl) _ _) _
  rw [hc, ld1]
  pointwise [k0_pay3, k0_pay2]
  rw [c_div]
  rfl

end Cert.QuantDyRefIdeal.Pays

end
-- ==== Proof.QuantDyIdealTrip.lean ====
/- One trip of the loop of the quantiser of the output gradient, run once at a symbolic trip number. -/
module

public import proofs.«01_k».proof.Defs
public import proofs.«01_k».proof.Proof.Gen.QuantDyIdeal
public import proofs.«01_k».proof.Proof.Gen.QuantDyIdeal.Skeleton
public import proofs.«01_k».proof.Proof.Gen.QuantDyIdeal.Loops
public import proofs.«01_k».proof.Proof.Gen.QuantDyIdeal.Launch
public import proofs.«01_k».proof.Proof.Gen.QuantDyIdeal.Points
public import proofs.«01_k».proof.Proof.Gen.QuantDyIdeal.Frame
public import Idealize.ShloMosaic.Lib.Pipeline.FrameBody
public import Idealize.ShloMosaic.Lib.Exec
public import Idealize.ShloMosaic.Lib.Tactic
public import Idealize.ShloMosaic.Lib.Claim

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantDyIdeal.Run
open Cert.QuantDyIdeal.Gen

variable {F : FTy → Type} [FloatOps F]

/-- Where the pair `r` of a trip's code bytes goes: eight rows, eight apart, from this one. -/
theorem off12_eq : ∀ (r : Fin 8) (k : Fin k0_t1_loop.trips), k0_off12 k (BitVec.ofNat 32 r.val) = ![k.val / 8 * 128 + k.val % 2 * 64 + r.val, 0] := by
  decide +kernel

instance (k : Fin k0_t1_loop.trips) : ClosedOff (k0_off12 k 0#32) := ⟨![k.val / 8 * 128 + k.val % 2 * 64 + 0, 0], off12_eq 0 k⟩
instance (k : Fin k0_t1_loop.trips) : ClosedOff (k0_off12 k 1#32) := ⟨![k.val / 8 * 128 + k.val % 2 * 64 + 1, 0], off12_eq 1 k⟩
instance (k : Fin k0_t1_loop.trips) : ClosedOff (k0_off12 k 2#32) := ⟨![k.val / 8 * 128 + k.val % 2 * 64 + 2, 0], off12_eq 2 k⟩
instance (k : Fin k0_t1_loop.trips) : ClosedOff (k0_off12 k 3#32) := ⟨![k.val / 8 * 128 + k.val % 2 * 64 + 3, 0], off12_eq 3 k⟩
instance (k : Fin k0_t1_loop.trips) : ClosedOff (k0_off12 k 4#32) := ⟨![k.val / 8 * 128 + k.val % 2 * 64 + 4, 0], off12_eq 4 k⟩
instance (k : Fin k0_t1_loop.trips) : ClosedOff (k0_off12 k 5#32) := ⟨![k.val / 8 * 128 + k.val % 2 * 64 + 5, 0], off12_eq 5 k⟩
instance (k : Fin k0_t1_loop.trips) : ClosedOff (k0_off12 k 6#32) := ⟨![k.val / 8 * 128 + k.val % 2 * 64 + 6, 0], off12_eq 6 k⟩
instance (k : Fin k0_t1_loop.trips) : ClosedOff (k0_off12 k 7#32) := ⟨![k.val / 8 * 128 + k.val % 2 * 64 + 7, 0], off12_eq 7 k⟩

local notation "𝕄" => MT nD τ sig Unit (Elt F) ℕ (UR sig nD τ) ℕ

/-- What a trip of the loop holds: the two inputs it reads and the three scratch buffers, each at its contents. -/
abbrev Held (c : Dev nD) (arg3 : Memref sig .tc .vmem S2048x128 .bf16) (arg4 : Memref sig .tc .vmem S2048x128 .i8)
    (arg9 : Memref sig .tc .vmem S2048x128 .bf16) (arg10 : Memref sig .tc .vmem S256x128 .i32)
    (arg11 : Memref sig .tc .vmem S128x128 .f32) (X3 : BufTy.Contents (Elt F) arg3.view.ty)
    (X4 : BufTy.Contents (Elt F) arg4.view.ty) (f9 : BufTy.Contents (Elt F) arg9.view.ty)
    (f10 : BufTy.Contents (Elt F) arg10.view.ty) (f11 : BufTy.Contents (Elt F) arg11.view.ty) : sProp 𝕄 :=
  iprop((arg3.view.loc (c : Thread nD τ) ↦[arg3.view.set]{fullShare} X3)
    ∗ (arg4.view.loc (c : Thread nD τ) ↦[arg4.view.set]{fullShare} X4)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11))

/-- One trip, run: the pieces it writes into the buffer of dequantised values, into the words of code bytes (which
    depend on what these held) and into the block scales. -/
def trip (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) (X4 : BufTy.Contents (Elt F) arg4.view.ty) (k : Fin k0_t1_loop.trips) (f10 : BufTy.Contents (Elt F) arg10.view.ty) :
    Σ' (L9 : List (View.Piece (Elt F) S2048x128 .bf16)) (L10 : List (View.Piece (Elt F) S256x128 .i32)),
      { L11 : List (View.Piece (Elt F) S128x128 .f32) // ∀ (E : Set ℕ) (f9 : BufTy.Contents (Elt F) arg9.view.ty) (f11 : BufTy.Contents (Elt F) arg11.view.ty),
    Held (F := F) c arg3 arg4 arg9 arg10 arg11 X3 X4 f9 f10 f11
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 k PUnit.unit)
        (fun _ => Held (F := F) c arg3 arg4 arg9 arg10 arg11 X3 X4 (arg9.view.writes (Elt F) f9 L9)
          (arg10.view.writes (Elt F) f10 L10) (arg11.view.writes (Elt F) f11 L11)) } := by
  have hk : k.val < 16 := Nat.lt_of_lt_of_le k.isLt k0_t1_abs.2.1
  refine ⟨?_, ?_, ?_, fun E f9 f11 => ?run⟩
  case run =>
    unfold k0_t1_body
    iintro ⟨H3, H4, H9, H10, H11⟩
    sl_exec
    sl_step
    sl_close

end Cert.QuantDyIdeal.Run

end
-- ==== Proof.QuantDyIdealRot.lean ====
/-
  ONE TRIP OF THE LOOP, its values: every vector that a trip of the quantiser's loop computes, read at a row and a lane, is
  the block scale, the rounded quotient or the code of the column (`QuantDySpec`).
-/
module

public import proofs.«01_k».proof.Proof.QuantDyIdealTrip
public import Idealize.ShloMosaic.Lib.Pointwise
public import Idealize.ShloMosaic.Lib.BitcastFour
public import Idealize.ShloMosaic.Lib.WholeRead
public import proofs.«01_k».proof.Proof.QuantDySpec

@[expose] public section

set_option maxRecDepth 16384
set_option maxHeartbeats 1000000

noncomputable section

open Idealize.ShloMosaic Idealize.ShloMosaic.TcCoe Idealize.ShloMosaic.Tactic

namespace Cert.QuantDyIdeal.Run
open Cert.QuantDyIdeal.Gen

open Cert.QuantDyMath

/-- Where the trips' loads and stores are. -/
theorem off_closed : ∀ k : Fin k0_t1_loop.trips, k0_off1 k = ![64 * k.val + 0, 0, 0] ∧ k0_off2 k = ![64 * k.val + 1, 0, 0] ∧ k0_off3 k = ![64 * k.val + 2, 0, 0]
    ∧ k0_off4 k = ![64 * k.val + 3, 0, 0] ∧ k0_off5 k = ![64 * k.val + 4, 0, 0] ∧ k0_off6 k = ![64 * k.val + 5, 0, 0] ∧ k0_off7 k = ![64 * k.val + 6, 0, 0]
    ∧ k0_off8 k = ![64 * k.val + 7, 0, 0] := by decide +kernel
theorem off9_closed : ∀ k : Fin k0_t1_loop.trips, k0_off9 k = ![8 * k.val, 0] := by decide +kernel
theorem off10_closed : ∀ k : Fin k0_t1_loop.trips, k0_off10 k = ![128 * k.val, 0] := by decide +kernel
theorem off11_closed : ∀ (a : Fin 8) (k : Fin k0_t1_loop.trips), k0_off11 k (BitVec.ofNat 32 (16 * a.val)) = ![128 * k.val + 16 * a.val, 0] := by decide +kernel
/-- The loop has sixteen trips. -/
theorem trips_lt (k : Fin k0_t1_loop.trips) : k.val < 16 := Nat.lt_of_lt_of_le k.isLt k0_t1_abs.2.1

/-- A strided load of the entries, eight blocks at a time, read back in the array. -/
theorem raw_at (arg3 : Memref sig .tc .vmem S2048x128 .bf16) (h1) (h2) (h3) (X3 : BufTy.Contents (Elt Ideal) arg3.view.ty)
    (off : Fin 3 → ℕ) (inb) (o : ℕ) (ho : off = ![o, 0, 0]) (s : Fin 8) (p : Fin 2) (l : Fin 128) (t : Fin 2048) (ht : t.val = 2 * (o + 8 * s.val) + p.val) :
    View.readAt (Elt Ideal) (arg3.reshape S1024x2x128 h1 h2 h3).view
      ({ off := off, size := S8x2x128.size, stride := ![8, 1, 1], inb := inb } : LoadRect S1024x2x128) X3 (ix3 s p l) = arg3.view.read (Elt Ideal) X3 (ix2 t l) := by
  subst ho
  have h : S2048x128.ShapeCasts S1024x2x128 := by decide
  have hi : (({ off := ![o, 0, 0], size := S8x2x128.size, stride := ![8, 1, 1], inb := inb } : LoadRect S1024x2x128).idx (ix3 s p l) : S1024x2x128.Idx)
      = ix3 ⟨o + 8 * s.val, by have := t.isLt; omega⟩ p l := by
    funext a
    match a with
    | ⟨0, _⟩ => exact Fin.ext (LoadRect.idx_apply _ _ _)
    | ⟨1, _⟩ => exact Fin.ext ((LoadRect.idx_apply _ _ _).trans (by show 0 + 1 * p.val = p.val; omega))
    | ⟨2, _⟩ => exact Fin.ext ((LoadRect.idx_apply _ _ _).trans (by show 0 + 1 * l.val = l.val; omega))
  have : shapeCast S1024x2x128 (arg3.view.read (Elt Ideal) X3) h (ix3 ⟨o + 8 * s.val, by have := t.isLt; omega⟩ p l)
      = arg3.view.read (Elt Ideal) X3 (ix2 t l) := by
    pointwise []
    congr 2
    apply Fin.ext
    simp only [ht]
    omega
  rw [← this, ← hi]
  rfl

/-- A load of the random bytes, read back in the array. -/
theorem rnd_at (arg4 : Memref sig .tc .vmem S2048x128 .i8) (X4 : BufTy.Contents (Elt Ideal) arg4.view.ty) (off : Fin 2 → ℕ) (inb) (o : ℕ)
    (ho : off = ![o, 0]) (p : Fin 128) (l : Fin 128) (t : Fin 2048) (ht : t.val = o + p.val) :
    View.readAt (Elt Ideal) arg4.view (Rect.unit (s := S2048x128) off S128x128.size inb).toLoadRect X4 (ix2 p l) = arg4.view.read (Elt Ideal) X4 (ix2 t l) := by
  subst ho
  have hi : ((Rect.unit (s := S2048x128) ![o, 0] S128x128.size inb).toLoadRect.idx (ix2 p l) : S2048x128.Idx) = ix2 t l := by
    funext a
    match a with
    | ⟨0, _⟩ => exact Fin.ext ((LoadRect.idx_apply _ _ _).trans (by show o + 1 * p.val = t.val; omega))
    | ⟨1, _⟩ => exact Fin.ext ((LoadRect.idx_apply _ _ _).trans (by show 0 + 1 * l.val = l.val; omega))
  rw [← hi]
  rfl

/-- The bits of a word of four random bytes. -/
theorem bits_at (x : IVec S128x128 8) (h) (a : Fin 32) (l : Fin 128) (b : ℕ) (hb : b < 4) (p : Fin 128) (hp : p.val = 4 * a.val + b) :
    ∀ q < 8, (bitcast S32x128 32 x h (ix2 a l)).getLsbD (8 * b + q) = (x (ix2 p l)).getLsbD q := by
  intro q hq
  rw [ix2_eq_valueIdx, ix2_eq_valueIdx]
  refine (bitcast_8_32_getLsbD_ix2 x h a l (8 * b + q) (by omega) p (by rw [hp]; omega)).trans ?_
  rw [show (8 * b + q) % 8 = q by omega]

/-- What a trip reads: the entries of the columns, real numbers, and their random bytes; the tensor scale, positive; and
    the sixteen signs, real numbers, most of them multiplied by a quarter already. -/
structure Inp (arg3 : Memref sig .tc .vmem S2048x128 .bf16) (harg3 : arg3.IsWhole) (arg4 : Memref sig .tc .vmem S2048x128 .i8) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (X4 : BufTy.Contents (Elt Ideal) arg4.view.ty)  (sg : Fin 16 → EReal) (st : EReal) (x : ℕ → ℕ → EReal) (r : ℕ → ℕ → BitVec 8) : Prop where
  hx : ∀ (t : Fin 2048) (l : Fin 128), arg3.view.read (Elt Ideal) X3 (ix2 t l) = x l.val t.val
  hr : ∀ (t : Fin 2048) (l : Fin 128), arg4.view.read (Elt Ideal) X4 (ix2 t l) = r l.val t.val
  hst : ∀ (s : Fin 8) (l : Fin 128), v7 (ix2 s l) = st
  pos : 0 < st
  rx : ∀ (t : Fin 2048) (l : Fin 128), IsR (x l.val t.val)
  rs : ∀ i, IsR (sg i)
  s0 : v10 = sg 0 * ((1 / 4 : ℝ) : EReal)
  s1 : v12 = sg 1 * ((1 / 4 : ℝ) : EReal)
  s2 : v14 = sg 2 * ((1 / 4 : ℝ) : EReal)
  s3 : v16 = sg 3 * ((1 / 4 : ℝ) : EReal)
  s4 : v18 = sg 4 * ((1 / 4 : ℝ) : EReal)
  s5 : v20 = sg 5 * ((1 / 4 : ℝ) : EReal)
  s6 : v22 = sg 6 * ((1 / 4 : ℝ) : EReal)
  s7 : v24 = sg 7 * ((1 / 4 : ℝ) : EReal)
  s8 : v26 = sg 8 * ((1 / 4 : ℝ) : EReal)
  s9 : v28 = sg 9 * ((1 / 4 : ℝ) : EReal)
  s10 : v29 * cst_15 = sg 10 * ((1 / 4 : ℝ) : EReal)
  s11 : v31 = sg 11
  s12 : v33 = sg 12
  s13 : v35 = sg 13
  s14 : v37 = sg 14
  s15 : v39 = sg 15

variable {arg3 : Memref sig .tc .vmem S2048x128 .bf16} {harg3 : arg3.IsWhole} {arg4 : Memref sig .tc .vmem S2048x128 .i8} {v7 : FVec Ideal S8x128 .f32}
  {v10 v12 v14 v16 v18 v20 v22 v24 v26 v28 v29 cst_15 v31 v33 v35 v37 v39 : EReal} {X3 : BufTy.Contents (Elt Ideal) arg3.view.ty} {X4 : BufTy.Contents (Elt Ideal) arg4.view.ty}
  {sg : Fin 16 → EReal} {st : EReal} {x : ℕ → ℕ → EReal} {r : ℕ → ℕ → BitVec 8}
  (I : Inp arg3 harg3 arg4 v7 v10 v12 v14 v16 v18 v20 v22 v24 v26 v28 v29 cst_15 v31 v33 v35 v37 v39 X3 X4 sg st x r) (k : Fin k0_t1_loop.trips) (s : Fin 8) (l : Fin 128)
include I

/-! ### The loads -/

theorem x0_at : (trip.sl.v168_raw (F := Ideal) arg3 harg3 X3 k) (ix3 s 0 l) = x l.val (16 * (8 * k.val + s.val) + 0) :=
  (raw_at arg3 _ _ _ X3 _ _ (64 * k.val + 0) (off_closed k).1 s 0 l ⟨16 * (8 * k.val + s.val) + 0, by have := trips_lt k; omega⟩
    (by show 16 * (8 * k.val + s.val) + 0 = 2 * (64 * k.val + 0 + 8 * s.val) + 0; omega)).trans (I.hx _ l)

theorem x1_at : (trip.sl.v168_raw (F := Ideal) arg3 harg3 X3 k) (ix3 s 1 l) = x l.val (16 * (8 * k.val + s.val) + 1) :=
  (raw_at arg3 _ _ _ X3 _ _ (64 * k.val + 0) (off_closed k).1 s 1 l ⟨16 * (8 * k.val + s.val) + 1, by have := trips_lt k; omega⟩
    (by show 16 * (8 * k.val + s.val) + 1 = 2 * (64 * k.val + 0 + 8 * s.val) + 1; omega)).trans (I.hx _ l)

theorem x2_at : (trip.sl.v181_raw (F := Ideal) arg3 harg3 X3 k) (ix3 s 0 l) = x l.val (16 * (8 * k.val + s.val) + 2) :=
  (raw_at arg3 _ _ _ X3 _ _ (64 * k.val + 1) (off_closed k).2.1 s 0 l ⟨16 * (8 * k.val + s.val) + 2, by have := trips_lt k; omega⟩
    (by show 16 * (8 * k.val + s.val) + 2 = 2 * (64 * k.val + 1 + 8 * s.val) + 0; omega)).trans (I.hx _ l)

theorem x3_at : (trip.sl.v181_raw (F := Ideal) arg3 harg3 X3 k) (ix3 s 1 l) = x l.val (16 * (8 * k.val + s.val) + 3) :=
  (raw_at arg3 _ _ _ X3 _ _ (64 * k.val + 1) (off_closed k).2.1 s 1 l ⟨16 * (8 * k.val + s.val) + 3, by have := trips_lt k; omega⟩
    (by show 16 * (8 * k.val + s.val) + 3 = 2 * (64 * k.val + 1 + 8 * s.val) + 1; omega)).trans (I.hx _ l)

theorem x4_at : (trip.sl.v194_raw (F := Ideal) arg3 harg3 X3 k) (ix3 s 0 l) = x l.val (16 * (8 * k.val + s.val) + 4) :=
  (raw_at arg3 _ _ _ X3 _ _ (64 * k.val + 2) (off_closed k).2.2.1 s 0 l ⟨16 * (8 * k.val + s.val) + 4, by have := trips_lt k; omega⟩
    (by show 16 * (8 * k.val + s.val) + 4 = 2 * (64 * k.val + 2 + 8 * s.val) + 0; omega)).trans (I.hx _ l)

theorem x5_at : (trip.sl.v194_raw (F := Ideal) arg3 harg3 X3 k) (ix3 s 1 l) = x l.val (16 * (8 * k.val + s.val) + 5) :=
  (raw_at arg3 _ _ _ X3 _ _ (64 * k.val + 2) (off_closed k).2.2.1 s 1 l ⟨16 * (8 * k.val + s.val) + 5, by have := trips_lt k; omega⟩
    (by show 16 * (8 * k.val + s.val) + 5 = 2 * (64 * k.val + 2 + 8 * s.val) + 1; omega)).trans (I.hx _ l)

theorem x6_at : (trip.sl.v207_raw (F := Ideal) arg3 harg3 X3 k) (ix3 s 0 l) = x l.val (16 * (8 * k.val + s.val) + 6) :=
  (raw_at arg3 _ _ _ X3 _ _ (64 * k.val + 3) (off_closed k).2.2.2.1 s 0 l ⟨16 * (8 * k.val + s.val) + 6, by have := trips_lt k; omega⟩
    (by show 16 * (8 * k.val + s.val) + 6 = 2 * (64 * k.val + 3 + 8 * s.val) + 0; omega)).trans (I.hx _ l)

theorem x7_at : (trip.sl.v207_raw (F := Ideal) arg3 harg3 X3 k) (ix3 s 1 l) = x l.val (16 * (8 * k.val + s.val) + 7) :=
  (raw_at arg3 _ _ _ X3 _ _ (64 * k.val + 3) (off_closed k).2.2.2.1 s 1 l ⟨16 * (8 * k.val + s.val) + 7, by have := trips_lt k; omega⟩
    (by show 16 * (8 * k.val + s.val) + 7 = 2 * (64 * k.val + 3 + 8 * s.val) + 1; omega)).trans (I.hx _ l)

theorem x8_at : (trip.sl.v220_raw (F := Ideal) arg3 harg3 X3 k) (ix3 s 0 l) = x l.val (16 * (8 * k.val + s.val) + 8) :=
  (raw_at arg3 _ _ _ X3 _ _ (64 * k.val + 4) (off_closed k).2.2.2.2.1 s 0 l ⟨16 * (8 * k.val + s.val) + 8, by have := trips_lt k; omega⟩
    (by show 16 * (8 * k.val + s.val) + 8 = 2 * (64 * k.val + 4 + 8 * s.val) + 0; omega)).trans (I.hx _ l)

theorem x9_at : (trip.sl.v220_raw (F := Ideal) arg3 harg3 X3 k) (ix3 s 1 l) = x l.val (16 * (8 * k.val + s.val) + 9) :=
  (raw_at arg3 _ _ _ X3 _ _ (64 * k.val + 4) (off_closed k).2.2.2.2.1 s 1 l ⟨16 * (8 * k.val + s.val) + 9, by have := trips_lt k; omega⟩
    (by show 16 * (8 * k.val + s.val) + 9 = 2 * (64 * k.val + 4 + 8 * s.val) + 1; omega)).trans (I.hx _ l)

theorem x10_at : (trip.sl.v233_raw (F := Ideal) arg3 harg3 X3 k) (ix3 s 0 l) = x l.val (16 * (8 * k.val + s.val) + 10) :=
  (raw_at arg3 _ _ _ X3 _ _ (64 * k.val + 5) (off_closed k).2.2.2.2.2.1 s 0 l ⟨16 * (8 * k.val + s.val) + 10, by have := trips_lt k; omega⟩
    (by show 16 * (8 * k.val + s.val) + 10 = 2 * (64 * k.val + 5 + 8 * s.val) + 0; omega)).trans (I.hx _ l)

theorem x11_at : (trip.sl.v233_raw (F := Ideal) arg3 harg3 X3 k) (ix3 s 1 l) = x l.val (16 * (8 * k.val + s.val) + 11) :=
  (raw_at arg3 _ _ _ X3 _ _ (64 * k.val + 5) (off_closed k).2.2.2.2.2.1 s 1 l ⟨16 * (8 * k.val + s.val) + 11, by have := trips_lt k; omega⟩
    (by show 16 * (8 * k.val + s.val) + 11 = 2 * (64 * k.val + 5 + 8 * s.val) + 1; omega)).trans (I.hx _ l)

theorem x12_at : (trip.sl.v246_raw (F := Ideal) arg3 harg3 X3 k) (ix3 s 0 l) = x l.val (16 * (8 * k.val + s.val) + 12) :=
  (raw_at arg3 _ _ _ X3 _ _ (64 * k.val + 6) (off_closed k).2.2.2.2.2.2.1 s 0 l ⟨16 * (8 * k.val + s.val) + 12, by have := trips_lt k; omega⟩
    (by show 16 * (8 * k.val + s.val) + 12 = 2 * (64 * k.val + 6 + 8 * s.val) + 0; omega)).trans (I.hx _ l)

theorem x13_at : (trip.sl.v246_raw (F := Ideal) arg3 harg3 X3 k) (ix3 s 1 l) = x l.val (16 * (8 * k.val + s.val) + 13) :=
  (raw_at arg3 _ _ _ X3 _ _ (64 * k.val + 6) (off_closed k).2.2.2.2.2.2.1 s 1 l ⟨16 * (8 * k.val + s.val) + 13, by have := trips_lt k; omega⟩
    (by show 16 * (8 * k.val + s.val) + 13 = 2 * (64 * k.val + 6 + 8 * s.val) + 1; omega)).trans (I.hx _ l)

theorem x14_at : (trip.sl.v259_raw (F := Ideal) arg3 harg3 X3 k) (ix3 s 0 l) = x l.val (16 * (8 * k.val + s.val) + 14) :=
  (raw_at arg3 _ _ _ X3 _ _ (64 * k.val + 7) (off_closed k).2.2.2.2.2.2.2 s 0 l ⟨16 * (8 * k.val + s.val) + 14, by have := trips_lt k; omega⟩
    (by show 16 * (8 * k.val + s.val) + 14 = 2 * (64 * k.val + 7 + 8 * s.val) + 0; omega)).trans (I.hx _ l)

theorem x15_at : (trip.sl.v259_raw (F := Ideal) arg3 harg3 X3 k) (ix3 s 1 l) = x l.val (16 * (8 * k.val + s.val) + 15) :=
  (raw_at arg3 _ _ _ X3 _ _ (64 * k.val + 7) (off_closed k).2.2.2.2.2.2.2 s 1 l ⟨16 * (8 * k.val + s.val) + 15, by have := trips_lt k; omega⟩
    (by show 16 * (8 * k.val + s.val) + 15 = 2 * (64 * k.val + 7 + 8 * s.val) + 1; omega)).trans (I.hx _ l)

/-! ### The rotated entries -/

omit I in
/-- A sum over the sixteen places, written out. -/
theorem sum16 (f : Fin 16 → ℝ) : ∑ j, f j = f 0 + f 1 + f 2 + f 3 + f 4 + f 5 + f 6 + f 7 + f 8 + f 9 + f 10 + f 11 + f 12 + f 13 + f 14 + f 15 := by
  simp only [Fin.sum_univ_succ, Fin.sum_univ_zero, add_zero, ← add_assoc]
  rfl

/-- The entries of a block and the signs, as real numbers. -/
theorem reals : ∃ (y q : Fin 16 → ℝ), (∀ j : Fin 16, x l.val (16 * (8 * k.val + s.val) + j.val) = (y j : EReal)) ∧ ∀ j, sg j = (q j : EReal) := by
  have h := fun j : Fin 16 => I.rx ⟨16 * (8 * k.val + s.val) + j.val, by have := trips_lt k; omega⟩ l
  choose y hy using h
  choose q hq using I.rs
  exact ⟨y, q, hy, hq⟩

set_option maxHeartbeats 2000000 in
theorem z0_at : (trip.sl.r_30 (F := Ideal) arg3 harg3 v10 v12 v14 v16 v18 v20 v22 v24 v26 v28 v29 cst_15 v31 v33 v35 v37 v39 X3 k) (ix2 s l) = QuantDySpec.Z sg (x l.val) (8 * k.val + s.val) 0 := by
  obtain ⟨y, q, hy, hq⟩ := reals I k s l
  have e : QuantDySpec.Z sg (x l.val) (8 * k.val + s.val) 0 = rot (fun j => (q j : EReal)) (fun j => (y j : EReal)) 0 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_30, trip.sl.r_16, trip.sl.r_9, trip.sl.r_10, trip.sl.r_18, trip.sl.r_11, trip.sl.r_12, trip.sl.r_13, trip.sl.r_20, trip.sl.r_22, trip.sl.r_24, trip.sl.r, trip.sl.r_1, trip.sl.r_2, trip.sl.r_4, trip.sl.r_3, trip.sl.r_28, trip.sl.r_5, trip.sl.r_6, trip.sl.r_7, trip.sl.r_8, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25, k0_pay27, k0_pay29, k0_pay31, k0_pay33, k0_pay35, k0_pay37, k0_pay39, k0_pay43, k0_pay47, k0_pay51, k0_pay55, k0_pay63, k0_pay71, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 0 0 = false from rfl, show odd 0 1 = false from rfl, show odd 0 2 = false from rfl, show odd 0 3 = false from rfl, show odd 0 4 = false from rfl, show odd 0 5 = false from rfl, show odd 0 6 = false from rfl, show odd 0 7 = false from rfl, show odd 0 8 = false from rfl, show odd 0 9 = false from rfl, show odd 0 10 = false from rfl, show odd 0 11 = false from rfl, show odd 0 12 = false from rfl, show odd 0 13 = false from rfl, show odd 0 14 = false from rfl, show odd 0 15 = false from rfl, if_true, Bool.false_eq_true, if_false]
  ring

set_option maxHeartbeats 2000000 in
theorem z1_at : (trip.sl.r_32 (F := Ideal) arg3 harg3 v10 v12 v14 v16 v18 v20 v22 v24 v26 v28 v29 cst_15 v31 v33 v35 v37 v39 X3 k) (ix2 s l) = QuantDySpec.Z sg (x l.val) (8 * k.val + s.val) 1 := by
  obtain ⟨y, q, hy, hq⟩ := reals I k s l
  have e : QuantDySpec.Z sg (x l.val) (8 * k.val + s.val) 1 = rot (fun j => (q j : EReal)) (fun j => (y j : EReal)) 1 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_32, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_26, trip.sl.r, trip.sl.r_1, trip.sl.r_2, trip.sl.r_4, trip.sl.r_3, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay41, k0_pay45, k0_pay49, k0_pay53, k0_pay57, k0_pay65, k0_pay73, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 1 0 = false from rfl, show odd 1 1 = true from rfl, show odd 1 2 = false from rfl, show odd 1 3 = true from rfl, show odd 1 4 = false from rfl, show odd 1 5 = true from rfl, show odd 1 6 = false from rfl, show odd 1 7 = true from rfl, show odd 1 8 = false from rfl, show odd 1 9 = true from rfl, show odd 1 10 = false from rfl, show odd 1 11 = true from rfl, show odd 1 12 = false from rfl, show odd 1 13 = true from rfl, show odd 1 14 = false from rfl, show odd 1 15 = true from rfl, if_true, Bool.false_eq_true, if_false]
  ring

set_option maxHeartbeats 2000000 in
theorem z2_at : (trip.sl.r_34 (F := Ideal) arg3 harg3 v10 v12 v14 v16 v18 v20 v22 v24 v26 v28 v29 cst_15 v31 v33 v35 v37 v39 X3 k) (ix2 s l) = QuantDySpec.Z sg (x l.val) (8 * k.val + s.val) 2 := by
  obtain ⟨y, q, hy, hq⟩ := reals I k s l
  have e : QuantDySpec.Z sg (x l.val) (8 * k.val + s.val) 2 = rot (fun j => (q j : EReal)) (fun j => (y j : EReal)) 2 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_34, trip.sl.r_16, trip.sl.r_9, trip.sl.r_10, trip.sl.r_18, trip.sl.r_11, trip.sl.r_12, trip.sl.r_13, trip.sl.r_20, trip.sl.r_22, trip.sl.r_25, trip.sl.r, trip.sl.r_1, trip.sl.r_2, trip.sl.r_4, trip.sl.r_3, trip.sl.r_29, trip.sl.r_5, trip.sl.r_6, trip.sl.r_7, trip.sl.r_8, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25, k0_pay27, k0_pay29, k0_pay31, k0_pay33, k0_pay35, k0_pay37, k0_pay40, k0_pay44, k0_pay48, k0_pay52, k0_pay59, k0_pay67, k0_pay75, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 2 0 = false from rfl, show odd 2 1 = false from rfl, show odd 2 2 = true from rfl, show odd 2 3 = true from rfl, show odd 2 4 = false from rfl, show odd 2 5 = false from rfl, show odd 2 6 = true from rfl, show odd 2 7 = true from rfl, show odd 2 8 = false from rfl, show odd 2 9 = false from rfl, show odd 2 10 = true from rfl, show odd 2 11 = true from rfl, show odd 2 12 = false from rfl, show odd 2 13 = false from rfl, show odd 2 14 = true from rfl, show odd 2 15 = true from rfl, if_true, Bool.false_eq_true, if_false]
  ring

set_option maxHeartbeats 2000000 in
theorem z3_at : (trip.sl.r_36 (F := Ideal) arg3 harg3 v10 v12 v14 v16 v18 v20 v22 v24 v26 v28 v29 cst_15 v31 v33 v35 v37 v39 X3 k) (ix2 s l) = QuantDySpec.Z sg (x l.val) (8 * k.val + s.val) 3 := by
  obtain ⟨y, q, hy, hq⟩ := reals I k s l
  have e : QuantDySpec.Z sg (x l.val) (8 * k.val + s.val) 3 = rot (fun j => (q j : EReal)) (fun j => (y j : EReal)) 3 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_36, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_27, trip.sl.r, trip.sl.r_1, trip.sl.r_2, trip.sl.r_4, trip.sl.r_3, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay42, k0_pay46, k0_pay50, k0_pay54, k0_pay61, k0_pay69, k0_pay77, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 3 0 = false from rfl, show odd 3 1 = true from rfl, show odd 3 2 = true from rfl, show odd 3 3 = false from rfl, show odd 3 4 = false from rfl, show odd 3 5 = true from rfl, show odd 3 6 = true from rfl, show odd 3 7 = false from rfl, show odd 3 8 = false from rfl, show odd 3 9 = true from rfl, show odd 3 10 = true from rfl, show odd 3 11 = false from rfl, show odd 3 12 = false from rfl, show odd 3 13 = true from rfl, show odd 3 14 = true from rfl, show odd 3 15 = false from rfl, if_true, Bool.false_eq_true, if_false]
  ring

set_option maxHeartbeats 2000000 in
theorem z4_at : (trip.sl.r_38 (F := Ideal) arg3 harg3 v10 v12 v14 v16 v18 v20 v22 v24 v26 v28 v29 cst_15 v31 v33 v35 v37 v39 X3 k) (ix2 s l) = QuantDySpec.Z sg (x l.val) (8 * k.val + s.val) 4 := by
  obtain ⟨y, q, hy, hq⟩ := reals I k s l
  have e : QuantDySpec.Z sg (x l.val) (8 * k.val + s.val) 4 = rot (fun j => (q j : EReal)) (fun j => (y j : EReal)) 4 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_38, trip.sl.r_16, trip.sl.r_9, trip.sl.r_10, trip.sl.r_18, trip.sl.r_11, trip.sl.r_12, trip.sl.r_13, trip.sl.r_20, trip.sl.r_22, trip.sl.r_24, trip.sl.r, trip.sl.r_1, trip.sl.r_2, trip.sl.r_4, trip.sl.r_3, trip.sl.r_28, trip.sl.r_5, trip.sl.r_6, trip.sl.r_7, trip.sl.r_8, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25, k0_pay27, k0_pay29, k0_pay31, k0_pay33, k0_pay35, k0_pay37, k0_pay39, k0_pay43, k0_pay47, k0_pay51, k0_pay56, k0_pay64, k0_pay79, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 4 0 = false from rfl, show odd 4 1 = false from rfl, show odd 4 2 = false from rfl, show odd 4 3 = false from rfl, show odd 4 4 = true from rfl, show odd 4 5 = true from rfl, show odd 4 6 = true from rfl, show odd 4 7 = true from rfl, show odd 4 8 = false from rfl, show odd 4 9 = false from rfl, show odd 4 10 = false from rfl, show odd 4 11 = false from rfl, show odd 4 12 = true from rfl, show odd 4 13 = true from rfl, show odd 4 14 = true from rfl, show odd 4 15 = true from rfl, if_true, Bool.false_eq_true, if_false]
  ring

set_option maxHeartbeats 2000000 in
theorem z5_at : (trip.sl.r_40 (F := Ideal) arg3 harg3 v10 v12 v14 v16 v18 v20 v22 v24 v26 v28 v29 cst_15 v31 v33 v35 v37 v39 X3 k) (ix2 s l) = QuantDySpec.Z sg (x l.val) (8 * k.val + s.val) 5 := by
  obtain ⟨y, q, hy, hq⟩ := reals I k s l
  have e : QuantDySpec.Z sg (x l.val) (8 * k.val + s.val) 5 = rot (fun j => (q j : EReal)) (fun j => (y j : EReal)) 5 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_40, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_26, trip.sl.r, trip.sl.r_1, trip.sl.r_2, trip.sl.r_4, trip.sl.r_3, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay41, k0_pay45, k0_pay49, k0_pay53, k0_pay58, k0_pay66, k0_pay81, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 5 0 = false from rfl, show odd 5 1 = true from rfl, show odd 5 2 = false from rfl, show odd 5 3 = true from rfl, show odd 5 4 = true from rfl, show odd 5 5 = false from rfl, show odd 5 6 = true from rfl, show odd 5 7 = false from rfl, show odd 5 8 = false from rfl, show odd 5 9 = true from rfl, show odd 5 10 = false from rfl, show odd 5 11 = true from rfl, show odd 5 12 = true from rfl, show odd 5 13 = false from rfl, show odd 5 14 = true from rfl, show odd 5 15 = false from rfl, if_true, Bool.false_eq_true, if_false]
  ring

set_option maxHeartbeats 2000000 in
theorem z6_at : (trip.sl.r_42 (F := Ideal) arg3 harg3 v10 v12 v14 v16 v18 v20 v22 v24 v26 v28 v29 cst_15 v31 v33 v35 v37 v39 X3 k) (ix2 s l) = QuantDySpec.Z sg (x l.val) (8 * k.val + s.val) 6 := by
  obtain ⟨y, q, hy, hq⟩ := reals I k s l
  have e : QuantDySpec.Z sg (x l.val) (8 * k.val + s.val) 6 = rot (fun j => (q j : EReal)) (fun j => (y j : EReal)) 6 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_42, trip.sl.r_16, trip.sl.r_9, trip.sl.r_10, trip.sl.r_18, trip.sl.r_11, trip.sl.r_12, trip.sl.r_13, trip.sl.r_20, trip.sl.r_22, trip.sl.r_25, trip.sl.r, trip.sl.r_1, trip.sl.r_2, trip.sl.r_4, trip.sl.r_3, trip.sl.r_29, trip.sl.r_5, trip.sl.r_6, trip.sl.r_7, trip.sl.r_8, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25, k0_pay27, k0_pay29, k0_pay31, k0_pay33, k0_pay35, k0_pay37, k0_pay40, k0_pay44, k0_pay48, k0_pay52, k0_pay60, k0_pay68, k0_pay83, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 6 0 = false from rfl, show odd 6 1 = false from rfl, show odd 6 2 = true from rfl, show odd 6 3 = true from rfl, show odd 6 4 = true from rfl, show odd 6 5 = true from rfl, show odd 6 6 = false from rfl, show odd 6 7 = false from rfl, show odd 6 8 = false from rfl, show odd 6 9 = false from rfl, show odd 6 10 = true from rfl, show odd 6 11 = true from rfl, show odd 6 12 = true from rfl, show odd 6 13 = true from rfl, show odd 6 14 = false from rfl, show odd 6 15 = false from rfl, if_true, Bool.false_eq_true, if_false]
  ring

set_option maxHeartbeats 2000000 in
theorem z7_at : (trip.sl.r_44 (F := Ideal) arg3 harg3 v10 v12 v14 v16 v18 v20 v22 v24 v26 v28 v29 cst_15 v31 v33 v35 v37 v39 X3 k) (ix2 s l) = QuantDySpec.Z sg (x l.val) (8 * k.val + s.val) 7 := by
  obtain ⟨y, q, hy, hq⟩ := reals I k s l
  have e : QuantDySpec.Z sg (x l.val) (8 * k.val + s.val) 7 = rot (fun j => (q j : EReal)) (fun j => (y j : EReal)) 7 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_44, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_27, trip.sl.r, trip.sl.r_1, trip.sl.r_2, trip.sl.r_4, trip.sl.r_3, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay42, k0_pay46, k0_pay50, k0_pay54, k0_pay62, k0_pay70, k0_pay85, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 7 0 = false from rfl, show odd 7 1 = true from rfl, show odd 7 2 = true from rfl, show odd 7 3 = false from rfl, show odd 7 4 = true from rfl, show odd 7 5 = false from rfl, show odd 7 6 = false from rfl, show odd 7 7 = true from rfl, show odd 7 8 = false from rfl, show odd 7 9 = true from rfl, show odd 7 10 = true from rfl, show odd 7 11 = false from rfl, show odd 7 12 = true from rfl, show odd 7 13 = false from rfl, show odd 7 14 = false from rfl, show odd 7 15 = true from rfl, if_true, Bool.false_eq_true, if_false]
  ring

set_option maxHeartbeats 2000000 in
theorem z8_at : (trip.sl.r_31 (F := Ideal) arg3 harg3 v10 v12 v14 v16 v18 v20 v22 v24 v26 v28 v29 cst_15 v31 v33 v35 v37 v39 X3 k) (ix2 s l) = QuantDySpec.Z sg (x l.val) (8 * k.val + s.val) 8 := by
  obtain ⟨y, q, hy, hq⟩ := reals I k s l
  have e : QuantDySpec.Z sg (x l.val) (8 * k.val + s.val) 8 = rot (fun j => (q j : EReal)) (fun j => (y j : EReal)) 8 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_31, trip.sl.r_16, trip.sl.r_9, trip.sl.r_10, trip.sl.r_18, trip.sl.r_11, trip.sl.r_12, trip.sl.r_13, trip.sl.r_20, trip.sl.r_22, trip.sl.r_24, trip.sl.r, trip.sl.r_1, trip.sl.r_2, trip.sl.r_4, trip.sl.r_3, trip.sl.r_28, trip.sl.r_5, trip.sl.r_6, trip.sl.r_7, trip.sl.r_8, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25, k0_pay27, k0_pay29, k0_pay31, k0_pay33, k0_pay35, k0_pay37, k0_pay39, k0_pay43, k0_pay47, k0_pay51, k0_pay55, k0_pay63, k0_pay72, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 8 0 = false from rfl, show odd 8 1 = false from rfl, show odd 8 2 = false from rfl, show odd 8 3 = false from rfl, show odd 8 4 = false from rfl, show odd 8 5 = false from rfl, show odd 8 6 = false from rfl, show odd 8 7 = false from rfl, show odd 8 8 = true from rfl, show odd 8 9 = true from rfl, show odd 8 10 = true from rfl, show odd 8 11 = true from rfl, show odd 8 12 = true from rfl, show odd 8 13 = true from rfl, show odd 8 14 = true from rfl, show odd 8 15 = true from rfl, if_true, Bool.false_eq_true, if_false]
  ring

set_option maxHeartbeats 2000000 in
theorem z9_at : (trip.sl.r_33 (F := Ideal) arg3 harg3 v10 v12 v14 v16 v18 v20 v22 v24 v26 v28 v29 cst_15 v31 v33 v35 v37 v39 X3 k) (ix2 s l) = QuantDySpec.Z sg (x l.val) (8 * k.val + s.val) 9 := by
  obtain ⟨y, q, hy, hq⟩ := reals I k s l
  have e : QuantDySpec.Z sg (x l.val) (8 * k.val + s.val) 9 = rot (fun j => (q j : EReal)) (fun j => (y j : EReal)) 9 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_33, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_26, trip.sl.r, trip.sl.r_1, trip.sl.r_2, trip.sl.r_4, trip.sl.r_3, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay41, k0_pay45, k0_pay49, k0_pay53, k0_pay57, k0_pay65, k0_pay74, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 9 0 = false from rfl, show odd 9 1 = true from rfl, show odd 9 2 = false from rfl, show odd 9 3 = true from rfl, show odd 9 4 = false from rfl, show odd 9 5 = true from rfl, show odd 9 6 = false from rfl, show odd 9 7 = true from rfl, show odd 9 8 = true from rfl, show odd 9 9 = false from rfl, show odd 9 10 = true from rfl, show odd 9 11 = false from rfl, show odd 9 12 = true from rfl, show odd 9 13 = false from rfl, show odd 9 14 = true from rfl, show odd 9 15 = false from rfl, if_true, Bool.false_eq_true, if_false]
  ring

set_option maxHeartbeats 2000000 in
theorem z10_at : (trip.sl.r_35 (F := Ideal) arg3 harg3 v10 v12 v14 v16 v18 v20 v22 v24 v26 v28 v29 cst_15 v31 v33 v35 v37 v39 X3 k) (ix2 s l) = QuantDySpec.Z sg (x l.val) (8 * k.val + s.val) 10 := by
  obtain ⟨y, q, hy, hq⟩ := reals I k s l
  have e : QuantDySpec.Z sg (x l.val) (8 * k.val + s.val) 10 = rot (fun j => (q j : EReal)) (fun j => (y j : EReal)) 10 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_35, trip.sl.r_16, trip.sl.r_9, trip.sl.r_10, trip.sl.r_18, trip.sl.r_11, trip.sl.r_12, trip.sl.r_13, trip.sl.r_20, trip.sl.r_22, trip.sl.r_25, trip.sl.r, trip.sl.r_1, trip.sl.r_2, trip.sl.r_4, trip.sl.r_3, trip.sl.r_29, trip.sl.r_5, trip.sl.r_6, trip.sl.r_7, trip.sl.r_8, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25, k0_pay27, k0_pay29, k0_pay31, k0_pay33, k0_pay35, k0_pay37, k0_pay40, k0_pay44, k0_pay48, k0_pay52, k0_pay59, k0_pay67, k0_pay76, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 10 0 = false from rfl, show odd 10 1 = false from rfl, show odd 10 2 = true from rfl, show odd 10 3 = true from rfl, show odd 10 4 = false from rfl, show odd 10 5 = false from rfl, show odd 10 6 = true from rfl, show odd 10 7 = true from rfl, show odd 10 8 = true from rfl, show odd 10 9 = true from rfl, show odd 10 10 = false from rfl, show odd 10 11 = false from rfl, show odd 10 12 = true from rfl, show odd 10 13 = true from rfl, show odd 10 14 = false from rfl, show odd 10 15 = false from rfl, if_true, Bool.false_eq_true, if_false]
  ring

set_option maxHeartbeats 2000000 in
theorem z11_at : (trip.sl.r_37 (F := Ideal) arg3 harg3 v10 v12 v14 v16 v18 v20 v22 v24 v26 v28 v29 cst_15 v31 v33 v35 v37 v39 X3 k) (ix2 s l) = QuantDySpec.Z sg (x l.val) (8 * k.val + s.val) 11 := by
  obtain ⟨y, q, hy, hq⟩ := reals I k s l
  have e : QuantDySpec.Z sg (x l.val) (8 * k.val + s.val) 11 = rot (fun j => (q j : EReal)) (fun j => (y j : EReal)) 11 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_37, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_27, trip.sl.r, trip.sl.r_1, trip.sl.r_2, trip.sl.r_4, trip.sl.r_3, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay42, k0_pay46, k0_pay50, k0_pay54, k0_pay61, k0_pay69, k0_pay78, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 11 0 = false from rfl, show odd 11 1 = true from rfl, show odd 11 2 = true from rfl, show odd 11 3 = false from rfl, show odd 11 4 = false from rfl, show odd 11 5 = true from rfl, show odd 11 6 = true from rfl, show odd 11 7 = false from rfl, show odd 11 8 = true from rfl, show odd 11 9 = false from rfl, show odd 11 10 = false from rfl, show odd 11 11 = true from rfl, show odd 11 12 = true from rfl, show odd 11 13 = false from rfl, show odd 11 14 = false from rfl, show odd 11 15 = true from rfl, if_true, Bool.false_eq_true, if_false]
  ring

set_option maxHeartbeats 2000000 in
theorem z12_at : (trip.sl.r_39 (F := Ideal) arg3 harg3 v10 v12 v14 v16 v18 v20 v22 v24 v26 v28 v29 cst_15 v31 v33 v35 v37 v39 X3 k) (ix2 s l) = QuantDySpec.Z sg (x l.val) (8 * k.val + s.val) 12 := by
  obtain ⟨y, q, hy, hq⟩ := reals I k s l
  have e : QuantDySpec.Z sg (x l.val) (8 * k.val + s.val) 12 = rot (fun j => (q j : EReal)) (fun j => (y j : EReal)) 12 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_39, trip.sl.r_16, trip.sl.r_9, trip.sl.r_10, trip.sl.r_18, trip.sl.r_11, trip.sl.r_12, trip.sl.r_13, trip.sl.r_20, trip.sl.r_22, trip.sl.r_24, trip.sl.r, trip.sl.r_1, trip.sl.r_2, trip.sl.r_4, trip.sl.r_3, trip.sl.r_28, trip.sl.r_5, trip.sl.r_6, trip.sl.r_7, trip.sl.r_8, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25, k0_pay27, k0_pay29, k0_pay31, k0_pay33, k0_pay35, k0_pay37, k0_pay39, k0_pay43, k0_pay47, k0_pay51, k0_pay56, k0_pay64, k0_pay80, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 12 0 = false from rfl, show odd 12 1 = false from rfl, show odd 12 2 = false from rfl, show odd 12 3 = false from rfl, show odd 12 4 = true from rfl, show odd 12 5 = true from rfl, show odd 12 6 = true from rfl, show odd 12 7 = true from rfl, show odd 12 8 = true from rfl, show odd 12 9 = true from rfl, show odd 12 10 = true from rfl, show odd 12 11 = true from rfl, show odd 12 12 = false from rfl, show odd 12 13 = false from rfl, show odd 12 14 = false from rfl, show odd 12 15 = false from rfl, if_true, Bool.false_eq_true, if_false]
  ring

set_option maxHeartbeats 2000000 in
theorem z13_at : (trip.sl.r_41 (F := Ideal) arg3 harg3 v10 v12 v14 v16 v18 v20 v22 v24 v26 v28 v29 cst_15 v31 v33 v35 v37 v39 X3 k) (ix2 s l) = QuantDySpec.Z sg (x l.val) (8 * k.val + s.val) 13 := by
  obtain ⟨y, q, hy, hq⟩ := reals I k s l
  have e : QuantDySpec.Z sg (x l.val) (8 * k.val + s.val) 13 = rot (fun j => (q j : EReal)) (fun j => (y j : EReal)) 13 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_41, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_26, trip.sl.r, trip.sl.r_1, trip.sl.r_2, trip.sl.r_4, trip.sl.r_3, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay41, k0_pay45, k0_pay49, k0_pay53, k0_pay58, k0_pay66, k0_pay82, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 13 0 = false from rfl, show odd 13 1 = true from rfl, show odd 13 2 = false from rfl, show odd 13 3 = true from rfl, show odd 13 4 = true from rfl, show odd 13 5 = false from rfl, show odd 13 6 = true from rfl, show odd 13 7 = false from rfl, show odd 13 8 = true from rfl, show odd 13 9 = false from rfl, show odd 13 10 = true from rfl, show odd 13 11 = false from rfl, show odd 13 12 = false from rfl, show odd 13 13 = true from rfl, show odd 13 14 = false from rfl, show odd 13 15 = true from rfl, if_true, Bool.false_eq_true, if_false]
  ring

set_option maxHeartbeats 2000000 in
theorem z14_at : (trip.sl.r_43 (F := Ideal) arg3 harg3 v10 v12 v14 v16 v18 v20 v22 v24 v26 v28 v29 cst_15 v31 v33 v35 v37 v39 X3 k) (ix2 s l) = QuantDySpec.Z sg (x l.val) (8 * k.val + s.val) 14 := by
  obtain ⟨y, q, hy, hq⟩ := reals I k s l
  have e : QuantDySpec.Z sg (x l.val) (8 * k.val + s.val) 14 = rot (fun j => (q j : EReal)) (fun j => (y j : EReal)) 14 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_43, trip.sl.r_16, trip.sl.r_9, trip.sl.r_10, trip.sl.r_18, trip.sl.r_11, trip.sl.r_12, trip.sl.r_13, trip.sl.r_20, trip.sl.r_22, trip.sl.r_25, trip.sl.r, trip.sl.r_1, trip.sl.r_2, trip.sl.r_4, trip.sl.r_3, trip.sl.r_29, trip.sl.r_5, trip.sl.r_6, trip.sl.r_7, trip.sl.r_8, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25, k0_pay27, k0_pay29, k0_pay31, k0_pay33, k0_pay35, k0_pay37, k0_pay40, k0_pay44, k0_pay48, k0_pay52, k0_pay60, k0_pay68, k0_pay84, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 14 0 = false from rfl, show odd 14 1 = false from rfl, show odd 14 2 = true from rfl, show odd 14 3 = true from rfl, show odd 14 4 = true from rfl, show odd 14 5 = true from rfl, show odd 14 6 = false from rfl, show odd 14 7 = false from rfl, show odd 14 8 = true from rfl, show odd 14 9 = true from rfl, show odd 14 10 = false from rfl, show odd 14 11 = false from rfl, show odd 14 12 = false from rfl, show odd 14 13 = false from rfl, show odd 14 14 = true from rfl, show odd 14 15 = true from rfl, if_true, Bool.false_eq_true, if_false]
  ring

set_option maxHeartbeats 2000000 in
theorem z15_at : (trip.sl.r_45 (F := Ideal) arg3 harg3 v10 v12 v14 v16 v18 v20 v22 v24 v26 v28 v29 cst_15 v31 v33 v35 v37 v39 X3 k) (ix2 s l) = QuantDySpec.Z sg (x l.val) (8 * k.val + s.val) 15 := by
  obtain ⟨y, q, hy, hq⟩ := reals I k s l
  have e : QuantDySpec.Z sg (x l.val) (8 * k.val + s.val) 15 = rot (fun j => (q j : EReal)) (fun j => (y j : EReal)) 15 := by
    unfold QuantDySpec.Z
    rw [funext hy, funext hq]
  rw [e, rot_coe, sum16]
  have H : ∀ (j : Fin 16) (n : ℕ), n = j.val → x l.val (16 * (8 * k.val + s.val) + n) = (y j : EReal) := fun j n h => h ▸ hy j
  pointwise [trip.sl.r_45, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_27, trip.sl.r, trip.sl.r_1, trip.sl.r_2, trip.sl.r_4, trip.sl.r_3, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay42, k0_pay46, k0_pay50, k0_pay54, k0_pay62, k0_pay70, k0_pay86, k0_pay268, k0_pay269, k0_pay270, k0_pay271, k0_pay272, k0_pay273]
  simp only [x0_at I, H 0 0 rfl, x1_at I, H 1 1 rfl, x2_at I, H 2 2 rfl, x3_at I, H 3 3 rfl, x4_at I, H 4 4 rfl, x5_at I, H 5 5 rfl, x6_at I, H 6 6 rfl, x7_at I, H 7 7 rfl, x8_at I, H 8 8 rfl, x9_at I, H 9 9 rfl, x10_at I, H 10 10 rfl, x11_at I, H 11 11 rfl, x12_at I, H 12 12 rfl, x13_at I, H 13 13 rfl, x14_at I, H 14 14 rfl, x15_at I, H 15 15 rfl, I.s0, I.s1, I.s2, I.s3, I.s4, I.s5, I.s6, I.s7, I.s8, I.s9, I.s10, I.s11, I.s12, I.s13, I.s14, I.s15, hq, c_quarter, ← EReal.coe_mul, ← EReal.coe_add, ← EReal.coe_sub, EReal.coe_eq_coe_iff]
  simp only [sgn, show odd 15 0 = false from rfl, show odd 15 1 = true from rfl, show odd 15 2 = true from rfl, show odd 15 3 = false from rfl, show odd 15 4 = true from rfl, show odd 15 5 = false from rfl, show odd 15 6 = false from rfl, show odd 15 7 = true from rfl, show odd 15 8 = true from rfl, show odd 15 9 = false from rfl, show odd 15 10 = false from rfl, show odd 15 11 = true from rfl, show odd 15 12 = false from rfl, show odd 15 13 = true from rfl, show odd 15 14 = true from rfl, show odd 15 15 = false from rfl, if_true, Bool.false_eq_true, if_false]
  ring

end Cert.QuantDyIdeal.Run

end
-- ==== Proof.QuantDyIdealStep.lean ====
/-
  ONE TRIP OF THE LOOP, its results: what a trip of the quantiser's loop stores is the block scales, the values and the
  words of codes of its blocks (`QuantDySpec`).
-/
module

public import proofs.«01_k».proof.Proof.QuantDyIdealRot
public import Idealize.ShloMosaic.Lib.Pointwise
public import Idealize.ShloMosaic.Lib.BitcastFour

@[expose] public section

set_option maxRecDepth 16384
set_option maxHeartbeats 1000000

noncomputable section

open Idealize.ShloMosaic Idealize.ShloMosaic.TcCoe Idealize.ShloMosaic.Tactic

namespace Cert.QuantDyIdeal.Run
open Cert.QuantDyIdeal.Gen

open Cert.QuantDyMath

/-- The largest magnitudes of the first nine rotated entries, as the kernel nests them. -/
def maxV (a b c d e f g h i : FVec Ideal S8x128 .f32) : FVec Ideal S8x128 .f32 :=
  maximumf (maximumf (maximumf (maximumf (maximumf (maximumf (maximumf (maximumf (absf a) (absf b)) (absf c)) (absf d)) (absf e)) (absf f)) (absf g)) (absf h)) (absf i)

/-- Stochastic rounding of the quotients `z · rq` with the random bits `w`, as the kernel writes it. -/
def stoV (z rq : FVec Ideal S8x128 .f32) (w : IVec S8x128 32) : FVec Ideal S8x128 .f32 :=
  k0_pay108 w (k0_pay104 z rq) (k0_pay105 z rq) (k0_pay106 z rq) (k0_pay107 z rq) trip.sl.cst_219

/-- The four-bit codes of the rounded quotients, as the kernel writes them. -/
def codeV (v : FVec Ideal S8x128 .f32) : IVec S8x128 32 := k0_pay193 v (k0_pay191 v) (k0_pay192 v)

/-- The bytes of pairs of codes. -/
def byteV (a b : FVec Ideal S8x128 .f32) : IVec S8x128 32 := ori (codeV a) (shli (codeV b) (broadcast S8x128 4#32))

/-- The words after a byte joined them. -/
def cellV (sh : BitVec 32) (first : BitVec 1) (c old : IVec S8x128 32) : IVec S8x128 32 :=
  shapeCast S8x128 (Scalar.select first (shli c (broadcast S8x128 sh)) (ori old (shli c (broadcast S8x128 sh)))) shapeCasts_S8x128_S8x128

/-! ### Read at one place -/

/-- The kernel's nested maximum is over all sixteen. -/
theorem nest_le (a : Fin 16 → EReal) (i : Fin 16) : a i ≤ max (max (max (max (max (max (max (max (max (max (max (max (max (max (max (a 0) (a 1)) (a 2)) (a 3)) (a 4)) (a 5)) (a 6)) (a 7)) (a 8)) (a 9)) (a 10)) (a 11)) (a 12)) (a 13)) (a 14)) (a 15) := by
  fin_cases i <;> simp

/-- The block scale. -/
theorem scale_at (v7 z0 z1 z2 z3 z4 z5 z6 z7 z8 z9 z10 z11 z12 z13 z14 z15 : FVec Ideal S8x128 .f32) (s : Fin 8) (l : Fin 128) (st : EReal) (z : Fin 16 → EReal)
    (hst : v7 (ix2 s l) = st) (pos : 0 < st) (h0 : z0 (ix2 s l) = z 0) (h1 : z1 (ix2 s l) = z 1) (h2 : z2 (ix2 s l) = z 2) (h3 : z3 (ix2 s l) = z 3) (h4 : z4 (ix2 s l) = z 4) (h5 : z5 (ix2 s l) = z 5) (h6 : z6 (ix2 s l) = z 6) (h7 : z7 (ix2 s l) = z 7) (h8 : z8 (ix2 s l) = z 8) (h9 : z9 (ix2 s l) = z 9) (h10 : z10 (ix2 s l) = z 10) (h11 : z11 (ix2 s l) = z 11) (h12 : z12 (ix2 s l) = z 12) (h13 : z13 (ix2 s l) = z 13) (h14 : z14 (ix2 s l) = z 14) (h15 : z15 (ix2 s l) = z 15) :
    k0_pay92 (k0_pay89 v7 z10 z11 z12 z13 z14 z15 (maxV z0 z1 z2 z3 z4 z5 z6 z7 z8) (absf z9))
      (k0_pay90 v7 z10 z11 z12 z13 z14 z15 (maxV z0 z1 z2 z3 z4 z5 z6 z7 z8) (absf z9)) k0_pay91 (ix2 s l) = bscale st z := by
  have t : k0_pay89 v7 z10 z11 z12 z13 z14 z15 (maxV z0 z1 z2 z3 z4 z5 z6 z7 z8) (absf z9) (ix2 s l) = bscale st z := by
    pointwise [k0_pay89, maxV]
    rw [hst, c_six, c_top, h0, h1, h2, h3, h4, h5, h6, h7, h8, h9, h10, h11, h12, h13, h14, h15]
    unfold bscale
    congr 2
    simp only [Ideal.absf_def]
    apply peak_eq
    · exact nest_le fun i => max (z i) (-z i)
    · exact le_rfl
  have e : IsR (k0_pay90 v7 z10 z11 z12 z13 z14 z15 (maxV z0 z1 z2 z3 z4 z5 z6 z7 z8) (absf z9) (ix2 s l)) := by
    pointwise [k0_pay90]
    repeat' first | apply IsR.ite | apply IsR.zero | exact IsR.bits _ (by decide)
  generalize k0_pay89 v7 z10 z11 z12 z13 z14 z15 (maxV z0 z1 z2 z3 z4 z5 z6 z7 z8) (absf z9) = T at t
  generalize k0_pay90 v7 z10 z11 z12 z13 z14 z15 (maxV z0 z1 z2 z3 z4 z5 z6 z7 z8) (absf z9) = E at e
  pointwise [k0_pay92, k0_pay91]
  rw [add_sub_self]
  · exact t
  · rw [t]; exact bscale_real st z pos
  · refine IsR.mul (IsR.max ?_ (IsR.bits _ (by decide))) (IsR.bits _ (by decide))
    repeat' first | apply IsR.ite | apply IsR.one | exact e | exact IsR.bits _ (by decide)

/-- The rounded quotient. -/
theorem sto_at (v7 sb z : FVec Ideal S8x128 .f32) (w : IVec S8x128 32) (s : Fin 8) (l : Fin 128) (b : BitVec 8) (hw : w (ix2 s l) = b.setWidth 32 <<< 15) :
    stoV z (k0_pay93 v7 sb) w (ix2 s l) = val (quot (sb (ix2 s l) * v7 (ix2 s l)) (z (ix2 s l))) b := by
  have hq : k0_pay93 v7 sb (ix2 s l) = (if 0 < sb (ix2 s l) * v7 (ix2 s l) then Ideal.div 1 (if 0 < sb (ix2 s l) * v7 (ix2 s l) then sb (ix2 s l) * v7 (ix2 s l) else 1) else 0) := by
    pointwise [k0_pay93]
  rw [← sto_eq, ← quot_mul, ← hq]
  generalize k0_pay93 v7 sb = rq
  pointwise [stoV, k0_pay108, k0_pay104, k0_pay105, k0_pay106, k0_pay107, trip.sl.cst_219]
  simp only [hw, rand_eq, c_two, c_four, c_six, c_half, Ideal.absf_def, pick]

/-- The code. -/
theorem code_at (v : FVec Ideal S8x128 .f32) (s : Fin 8) (l : Fin 128) (u : EReal) (b : BitVec 8) (hv : v (ix2 s l) = val u b) : codeV v (ix2 s l) = nib u b := by
  rw [← codeOf_val, ← hv]
  pointwise [codeV, k0_pay193, k0_pay191, k0_pay192]
  simp only [c_two, c_three, c_four, c_six, c_eight, c_twelve, c_sixteen, c_twentyfour, c_half, Ideal.absf_def, codeOf]

/-- The byte of two codes. -/
theorem byte_at (a b : FVec Ideal S8x128 .f32) (s : Fin 8) (l : Fin 128) (m n : BitVec 32) (ha : codeV a (ix2 s l) = m) (hb : codeV b (ix2 s l) = n) :
    byteV a b (ix2 s l) = IntOp.ori m (IntOp.shli .vector n 4#32) := by
  pointwise [byteV]
  rw [ha, hb]

/-- The words with a byte, at one place. -/
theorem cell_at (sh : BitVec 32) (first : BitVec 1) (c old : IVec S8x128 32) (s : Fin 8) (l : Fin 128) (b : ℕ) (hb : b < 4)
    (hs : sh = BitVec.ofNat 32 (8 * b)) (hf : first = BitVec.ofBool (decide (b = 0))) :
    cellV sh first c old (ix2 s l) = QuantDySpec.cell b (c (ix2 s l)) (old (ix2 s l)) := by
  pointwise [cellV]
  subst hs hf
  unfold QuantDySpec.cell
  by_cases h : b = 0
  · subst h; simp [Scalar.select, IntOp.shli]
  · simp [Scalar.select, h]

/-- The magnitudes' nested maximum, and one magnitude, in the kernel's own values. -/
theorem pay87_eq (v275 v277 v278 v279 v280 v281 v282 v283 v284 v285 v286 v287 v288 v289 v290 v291 : FVec Ideal S8x128 .f32) : k0_pay87 v275 v277 v278 v279 v280 v281 v282 v283 v284 v285 v286 v287 v288 v289 v290 v291 = maxV (k0_pay71 v278 v280 v282 v284 v286 v290) (k0_pay73 v275 v277 v279 v281 v283 v285 v288) (k0_pay75 v278 v280 v282 v284 v287 v291) (k0_pay77 v275 v277 v279 v281 v283 v285 v289) (k0_pay79 v278 v280 v282 v284 v286 v290) (k0_pay81 v275 v277 v279 v281 v283 v285 v288) (k0_pay83 v278 v280 v282 v284 v287 v291) (k0_pay85 v275 v277 v279 v281 v283 v285 v289) (k0_pay72 v278 v280 v282 v284 v286 v290) := rfl

theorem pay88_eq (v275 v277 v279 v281 v283 v285 v288 : FVec Ideal S8x128 .f32) : k0_pay88 v275 v277 v279 v281 v283 v285 v288 = absf (k0_pay74 v275 v277 v279 v281 v283 v285 v288) := rfl

/-- The byte of a word that a trip writes, as the kernel computes it in two ways. -/
def plane3 (k : Fin k0_t1_loop.trips) : BitVec 32 := (Scalar.select (Scalar.andi (Scalar.xori 0#1 (Scalar.cmpi .slt 4#32 0#32)) (trip.sl.v1162 k)) (Scalar.addi (trip.sl.v1161 k) 4#32) (trip.sl.v1161 k))
theorem plane3_eq : ∀ k : Fin k0_t1_loop.trips, plane3 k = BitVec.ofNat 32 (k.val / 2 % 4) := by decide +kernel
/-- The same byte, by another way of the kernel. -/
def plane (k : Fin k0_t1_loop.trips) : BitVec 32 := (Scalar.select (Scalar.andi (Scalar.xori (Scalar.cmpi .slt (trip.sl.v1161 k) 0#32) (Scalar.cmpi .slt 4#32 0#32)) (Scalar.cmpi .ne (trip.sl.v1161 k) 0#32)) (Scalar.addi (trip.sl.v1161 k) 4#32) (trip.sl.v1161 k))

theorem plane_eq : ∀ k : Fin k0_t1_loop.trips, plane k = BitVec.ofNat 32 (k.val / 2 % 4) := by decide +kernel
theorem plane_eq' : ∀ k : Fin k0_t1_loop.trips, trip.sl.v1161 k = BitVec.ofNat 32 (k.val / 2 % 4) := by decide +kernel
theorem shift_eq : ∀ b : Fin 4, Scalar.muli (BitVec.ofNat 32 b.val) 8#32 = BitVec.ofNat 32 (8 * b.val) := by decide +kernel
theorem first_eq : ∀ b : Fin 4, Scalar.cmpi .eq (BitVec.ofNat 32 b.val) 0#32 = BitVec.ofBool (decide (b.val = 0)) := by decide +kernel
theorem trips_lt' (k : Fin k0_t1_loop.trips) : k.val / 2 % 4 < 4 := Nat.mod_lt _ (by decide)
theorem sh1 (k : Fin k0_t1_loop.trips) : Scalar.muli (plane k) 8#32 = BitVec.ofNat 32 (8 * (k.val / 2 % 4)) := by rw [plane_eq]; exact shift_eq ⟨_, trips_lt' k⟩
theorem sh3 (k : Fin k0_t1_loop.trips) : Scalar.muli (plane3 k) 8#32 = BitVec.ofNat 32 (8 * (k.val / 2 % 4)) := by rw [plane3_eq]; exact shift_eq ⟨_, trips_lt' k⟩
theorem sh2 (k : Fin k0_t1_loop.trips) : Scalar.muli (trip.sl.v1161 k) 8#32 = BitVec.ofNat 32 (8 * (k.val / 2 % 4)) := by rw [plane_eq']; exact shift_eq ⟨_, trips_lt' k⟩
theorem fi1 (k : Fin k0_t1_loop.trips) : Scalar.cmpi .eq (plane k) 0#32 = BitVec.ofBool (decide (k.val / 2 % 4 = 0)) := by rw [plane_eq]; exact first_eq ⟨_, trips_lt' k⟩
theorem fi2 (k : Fin k0_t1_loop.trips) : Scalar.cmpi .eq (trip.sl.v1161 k) 0#32 = BitVec.ofBool (decide (k.val / 2 % 4 = 0)) := by rw [plane_eq']; exact first_eq ⟨_, trips_lt' k⟩

/-- The first nine magnitudes' largest, and the block scales, over the trip's rotated entries. -/
theorem r46_eq (arg3 : Memref sig .tc .vmem S2048x128 .bf16) (harg3 : arg3.IsWhole) (arg4 : Memref sig .tc .vmem S2048x128 .i8) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (X4 : BufTy.Contents (Elt Ideal) arg4.view.ty) (k : Fin k0_t1_loop.trips) : (trip.sl.r_46 (F := Ideal) arg3 harg3 v10 v12 v14 v16 v18 v20 v22 v24 v26 v28 v29 cst_15 v31 v33 v35 v37 v39 X3 k) = maxV (trip.sl.r_30 (F := Ideal) arg3 harg3 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k) := by
  unfold trip.sl.r_46 trip.sl.r_30 trip.sl.r_32 trip.sl.r_34 trip.sl.r_36 trip.sl.r_38 trip.sl.r_40 trip.sl.r_42 trip.sl.r_44 trip.sl.r_31
  rw [pay87_eq]

theorem r47_eq (arg3 : Memref sig .tc .vmem S2048x128 .bf16) (harg3 : arg3.IsWhole) (arg4 : Memref sig .tc .vmem S2048x128 .i8) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (X4 : BufTy.Contents (Elt Ideal) arg4.view.ty) (k : Fin k0_t1_loop.trips) : (trip.sl.r_47 (F := Ideal) arg3 harg3 v10 v12 v14 v16 v18 v20 v22 v24 v26 v28 v29 cst_15 v31 v33 v35 v37 v39 X3 k) = absf (trip.sl.r_33 (F := Ideal) arg3 harg3 v10 v12 v14 v16 v18 v20 v22 v24 v26 v28 v29 cst_15 v31 v33 v35 v37 v39 X3 k) := by
  unfold trip.sl.r_47 trip.sl.r_33
  rw [pay88_eq]

theorem r50_eq (arg3 : Memref sig .tc .vmem S2048x128 .bf16) (harg3 : arg3.IsWhole) (arg4 : Memref sig .tc .vmem S2048x128 .i8) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (X4 : BufTy.Contents (Elt Ideal) arg4.view.ty) (k : Fin k0_t1_loop.trips) : (trip.sl.r_50 (F := Ideal) arg3 harg3 v7 v10 v12 v14 v16 v18 v20 v22 v24 v26 v28 v29 cst_15 v31 v33 v35 v37 v39 X3 k)
    = k0_pay92 (k0_pay89 v7 (trip.sl.r_35 (F := Ideal) arg3 harg3 v10 v12 v14 v16 v18 v20 v22 v24 v26 v28 v29 cst_15 v31 v33 v35 v37 v39 X3 k) (trip.sl.r_37 (F := Ideal) arg3 harg3 v10 v12 v14 v16 v18 v20 v22 v24 v26 v28 v29 cst_15 v31 v33 v35 v37 v39 X3 k) (trip.sl.r_39 (F := Ideal) arg3 harg3 v10 v12 v14 v16 v18 v20 v22 v24 v26 v28 v29 cst_15 v31 v33 v35 v37 v39 X3 k) (trip.sl.r_41 (F := Ideal) arg3 harg3 v10 v12 v14 v16 v18 v20 v22 v24 v26 v28 v29 cst_15 v31 v33 v35 v37 v39 X3 k) (trip.sl.r_43 (F := Ideal) arg3 harg3 v10 v12 v14 v16 v18 v20 v22 v24 v26 v28 v29 cst_15 v31 v33 v35 v37 v39 X3 k) (trip.sl.r_45 (F := Ideal) arg3 harg3 v10 v12 v14 v16 v18 v20 v22 v24 v26 v28 v29 cst_15 v31 v33 v35 v37 v39 X3 k) (maxV (trip.sl.r_30 (F := Ideal) arg3 harg3 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k)) (absf (trip.sl.r_33 (F := Ideal) arg3 harg3 v10 v12 v14 v16 v18 v20 v22 v24 v26 v28 v29 cst_15 v31 v33 v35 v37 v39 X3 k)))
      (k0_pay90 v7 (trip.sl.r_35 (F := Ideal) arg3 harg3 v10 v12 v14 v16 v18 v20 v22 v24 v26 v28 v29 cst_15 v31 v33 v35 v37 v39 X3 k) (trip.sl.r_37 (F := Ideal) arg3 harg3 v10 v12 v14 v16 v18 v20 v22 v24 v26 v28 v29 cst_15 v31 v33 v35 v37 v39 X3 k) (trip.sl.r_39 (F := Ideal) arg3 harg3 v10 v12 v14 v16 v18 v20 v22 v24 v26 v28 v29 cst_15 v31 v33 v35 v37 v39 X3 k) (trip.sl.r_41 (F := Ideal) arg3 harg3 v10 v12 v14 v16 v18 v20 v22 v24 v26 v28 v29 cst_15 v31 v33 v35 v37 v39 X3 k) (trip.sl.r_43 (F := Ideal) arg3 harg3 v10 v12 v14 v16 v18 v20 v22 v24 v26 v28 v29 cst_15 v31 v33 v35 v37 v39 X3 k) (trip.sl.r_45 (F := Ideal) arg3 harg3 v10 v12 v14 v16 v18 v20 v22 v24 v26 v28 v29 cst_15 v31 v33 v35 v37 v39 X3 k) (maxV (trip.sl.r_30 (F := Ideal) arg3 harg3 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k)) (absf (trip.sl.r_33 (F := Ideal) arg3 harg3 v10 v12 v14 v16 v18 v20 v22 v24 v26 v28 v29 cst_15 v31 v33 v35 v37 v39 X3 k))) k0_pay91 := by
  rw [← r46_eq arg3 harg3 arg4 v7 v10 v12 v14 v16 v18 v20 v22 v24 v26 v28 v29 cst_15 v31 v33 v35 v37 v39 X3 X4 k, ← r47_eq arg3 harg3 arg4 v7 v10 v12 v14 v16 v18 v20 v22 v24 v26 v28 v29 cst_15 v31 v33 v35 v37 v39 X3 X4 k]
  unfold trip.sl.r_50 trip.sl.r_48 trip.sl.r_49
  with_reducible rfl

variable {arg3 : Memref sig .tc .vmem S2048x128 .bf16} {harg3 : arg3.IsWhole} {arg4 : Memref sig .tc .vmem S2048x128 .i8} {v7 : FVec Ideal S8x128 .f32}
  {v10 v12 v14 v16 v18 v20 v22 v24 v26 v28 v29 cst_15 v31 v33 v35 v37 v39 : EReal} {X3 : BufTy.Contents (Elt Ideal) arg3.view.ty} {X4 : BufTy.Contents (Elt Ideal) arg4.view.ty}
  {sg : Fin 16 → EReal} {st : EReal} {x : ℕ → ℕ → EReal} {r : ℕ → ℕ → BitVec 8}
  (I : Inp arg3 harg3 arg4 v7 v10 v12 v14 v16 v18 v20 v22 v24 v26 v28 v29 cst_15 v31 v33 v35 v37 v39 X3 X4 sg st x r) (k : Fin k0_t1_loop.trips) (s : Fin 8) (l : Fin 128)
include I

/-! ### The trip's vectors -/

/-- The trip's block scales. -/
theorem sb_at : (trip.sl.r_50 (F := Ideal) arg3 harg3 v7 v10 v12 v14 v16 v18 v20 v22 v24 v26 v28 v29 cst_15 v31 v33 v35 v37 v39 X3 k) (ix2 s l) = QuantDySpec.S sg st (x l.val) (8 * k.val + s.val) := by
  rw [r50_eq arg3 harg3 arg4 v7 v10 v12 v14 v16 v18 v20 v22 v24 v26 v28 v29 cst_15 v31 v33 v35 v37 v39 X3 X4 k]
  exact scale_at v7 (trip.sl.r_30 (F := Ideal) arg3 harg3 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k) (trip.sl.r_33 (F := Ideal) arg3 harg3 v10 v12 v14 v16 v18 v20 v22 v24 v26 v28 v29 cst_15 v31 v33 v35 v37 v39 X3 k) (trip.sl.r_35 (F := Ideal) arg3 harg3 v10 v12 v14 v16 v18 v20 v22 v24 v26 v28 v29 cst_15 v31 v33 v35 v37 v39 X3 k) (trip.sl.r_37 (F := Ideal) arg3 harg3 v10 v12 v14 v16 v18 v20 v22 v24 v26 v28 v29 cst_15 v31 v33 v35 v37 v39 X3 k) (trip.sl.r_39 (F := Ideal) arg3 harg3 v10 v12 v14 v16 v18 v20 v22 v24 v26 v28 v29 cst_15 v31 v33 v35 v37 v39 X3 k) (trip.sl.r_41 (F := Ideal) arg3 harg3 v10 v12 v14 v16 v18 v20 v22 v24 v26 v28 v29 cst_15 v31 v33 v35 v37 v39 X3 k) (trip.sl.r_43 (F := Ideal) arg3 harg3 v10 v12 v14 v16 v18 v20 v22 v24 v26 v28 v29 cst_15 v31 v33 v35 v37 v39 X3 k) (trip.sl.r_45 (F := Ideal) arg3 harg3 v10 v12 v14 v16 v18 v20 v22 v24 v26 v28 v29 cst_15 v31 v33 v35 v37 v39 X3 k) s l st (QuantDySpec.Z sg (x l.val) (8 * k.val + s.val)) (I.hst s l) I.pos (z0_at I k s l) (z1_at I k s l) (z2_at I k s l) (z3_at I k s l) (z4_at I k s l) (z5_at I k s l) (z6_at I k s l) (z7_at I k s l) (z8_at I k s l) (z9_at I k s l) (z10_at I k s l) (z11_at I k s l) (z12_at I k s l) (z13_at I k s l) (z14_at I k s l) (z15_at I k s l)

/-- The random bits of entries 0. -/
theorem w0_at : (trip.sl.r_54 (F := Ideal) arg4 X4 k) (ix2 s l) = (r l.val (16 * (8 * k.val + s.val) + 0)).setWidth 32 <<< 15 := by
  rw [← I.hr ⟨16 * (8 * k.val + s.val) + 0, by have := trips_lt k; omega⟩ l,
    ← rnd_at arg4 X4 _ (k0_off10_inb k) (128 * k.val) (off10_closed k) ⟨16 * s.val + 0, by omega⟩ l ⟨16 * (8 * k.val + s.val) + 0, by have := trips_lt k; omega⟩ (by show 16 * (8 * k.val + s.val) + 0 = 128 * k.val + (16 * s.val + 0); omega)]
  pointwise [trip.sl.r_54, k0_pay95, k0_pay96, k0_pay97]
  exact QuantDySpec.word_0 _ _ (bits_at _ _ _ l 0 (by decide) _ (by simp only []; omega))

/-- The rounded quotients of entries 0. -/
theorem v0_at : (trip.sl.r_59 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 0 := by
  refine (sto_at v7 (trip.sl.r_50 (F := Ideal) arg3 harg3 v7 v10 v12 v14 v16 v18 v20 v22 v24 v26 v28 v29 cst_15 v31 v33 v35 v37 v39 X3 k) (trip.sl.r_30 (F := Ideal) arg3 harg3 v10 v12 v14 v16 v18 v20 v22 v24 v26 v28 v29 cst_15 v31 v33 v35 v37 v39 X3 k) (trip.sl.r_54 (F := Ideal) arg4 X4 k) s l _ (w0_at I k s l)).trans ?_
  rw [sb_at I, I.hst, z0_at I]
  rfl

/-- Their codes. -/
theorem n0_at : codeV (trip.sl.r_59 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 0 :=
  code_at _ s l _ _ (v0_at I k s l)

/-- The random bits of entries 1. -/
theorem w1_at : (trip.sl.r_60 (F := Ideal) arg4 X4 k) (ix2 s l) = (r l.val (16 * (8 * k.val + s.val) + 1)).setWidth 32 <<< 15 := by
  rw [← I.hr ⟨16 * (8 * k.val + s.val) + 1, by have := trips_lt k; omega⟩ l,
    ← rnd_at arg4 X4 _ (k0_off10_inb k) (128 * k.val) (off10_closed k) ⟨16 * s.val + 1, by omega⟩ l ⟨16 * (8 * k.val + s.val) + 1, by have := trips_lt k; omega⟩ (by show 16 * (8 * k.val + s.val) + 1 = 128 * k.val + (16 * s.val + 1); omega)]
  pointwise [trip.sl.r_60, trip.sl.r_53, k0_pay95, k0_pay96, k0_pay103]
  exact QuantDySpec.word_1 _ _ (bits_at _ _ _ l 1 (by decide) _ (by simp only []; omega))

/-- The rounded quotients of entries 1. -/
theorem v1_at : (trip.sl.r_65 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 1 := by
  refine (sto_at v7 (trip.sl.r_50 (F := Ideal) arg3 harg3 v7 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_60 (F := Ideal) arg4 X4 k) s l _ (w1_at I k s l)).trans ?_
  rw [sb_at I, I.hst, z1_at I]
  rfl

/-- Their codes. -/
theorem n1_at : codeV (trip.sl.r_65 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 1 :=
  code_at _ s l _ _ (v1_at I k s l)

/-- The random bits of entries 2. -/
theorem w2_at : (trip.sl.r_66 (F := Ideal) arg4 X4 k) (ix2 s l) = (r l.val (16 * (8 * k.val + s.val) + 2)).setWidth 32 <<< 15 := by
  rw [← I.hr ⟨16 * (8 * k.val + s.val) + 2, by have := trips_lt k; omega⟩ l,
    ← rnd_at arg4 X4 _ (k0_off10_inb k) (128 * k.val) (off10_closed k) ⟨16 * s.val + 2, by omega⟩ l ⟨16 * (8 * k.val + s.val) + 2, by have := trips_lt k; omega⟩ (by show 16 * (8 * k.val + s.val) + 2 = 128 * k.val + (16 * s.val + 2); omega)]
  pointwise [trip.sl.r_66, trip.sl.r_53, k0_pay95, k0_pay96, k0_pay109]
  exact QuantDySpec.word_2 _ _ (bits_at _ _ _ l 2 (by decide) _ (by simp only []; omega))

/-- The rounded quotients of entries 2. -/
theorem v2_at : (trip.sl.r_71 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 2 := by
  refine (sto_at v7 (trip.sl.r_50 (F := Ideal) arg3 harg3 v7 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_66 (F := Ideal) arg4 X4 k) s l _ (w2_at I k s l)).trans ?_
  rw [sb_at I, I.hst, z2_at I]
  rfl

/-- Their codes. -/
theorem n2_at : codeV (trip.sl.r_71 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 2 :=
  code_at _ s l _ _ (v2_at I k s l)

/-- The random bits of entries 3. -/
theorem w3_at : (trip.sl.r_72 (F := Ideal) arg4 X4 k) (ix2 s l) = (r l.val (16 * (8 * k.val + s.val) + 3)).setWidth 32 <<< 15 := by
  rw [← I.hr ⟨16 * (8 * k.val + s.val) + 3, by have := trips_lt k; omega⟩ l,
    ← rnd_at arg4 X4 _ (k0_off10_inb k) (128 * k.val) (off10_closed k) ⟨16 * s.val + 3, by omega⟩ l ⟨16 * (8 * k.val + s.val) + 3, by have := trips_lt k; omega⟩ (by show 16 * (8 * k.val + s.val) + 3 = 128 * k.val + (16 * s.val + 3); omega)]
  pointwise [trip.sl.r_72, trip.sl.r_53, k0_pay95, k0_pay96, k0_pay116]
  exact QuantDySpec.word_3 _ _ (bits_at _ _ _ l 3 (by decide) _ (by simp only []; omega))

/-- The rounded quotients of entries 3. -/
theorem v3_at : (trip.sl.r_76 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 3 := by
  refine (sto_at v7 (trip.sl.r_50 (F := Ideal) arg3 harg3 v7 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_72 (F := Ideal) arg4 X4 k) s l _ (w3_at I k s l)).trans ?_
  rw [sb_at I, I.hst, z3_at I]
  rfl

/-- Their codes. -/
theorem n3_at : codeV (trip.sl.r_76 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 3 :=
  code_at _ s l _ _ (v3_at I k s l)

/-- The random bits of entries 4. -/
theorem w4_at : (trip.sl.r_78 (F := Ideal) arg4 X4 k) (ix2 s l) = (r l.val (16 * (8 * k.val + s.val) + 4)).setWidth 32 <<< 15 := by
  rw [← I.hr ⟨16 * (8 * k.val + s.val) + 4, by have := trips_lt k; omega⟩ l,
    ← rnd_at arg4 X4 _ (k0_off10_inb k) (128 * k.val) (off10_closed k) ⟨16 * s.val + 4, by omega⟩ l ⟨16 * (8 * k.val + s.val) + 4, by have := trips_lt k; omega⟩ (by show 16 * (8 * k.val + s.val) + 4 = 128 * k.val + (16 * s.val + 4); omega)]
  pointwise [trip.sl.r_78, trip.sl.r_52, k0_pay95, k0_pay121, k0_pay122]
  exact QuantDySpec.word_0 _ _ (bits_at _ _ _ l 0 (by decide) _ (by simp only []; omega))

/-- The rounded quotients of entries 4. -/
theorem v4_at : (trip.sl.r_83 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 4 := by
  refine (sto_at v7 (trip.sl.r_50 (F := Ideal) arg3 harg3 v7 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_78 (F := Ideal) arg4 X4 k) s l _ (w4_at I k s l)).trans ?_
  rw [sb_at I, I.hst, z4_at I]
  rfl

/-- Their codes. -/
theorem n4_at : codeV (trip.sl.r_83 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 4 :=
  code_at _ s l _ _ (v4_at I k s l)

/-- The random bits of entries 5. -/
theorem w5_at : (trip.sl.r_84 (F := Ideal) arg4 X4 k) (ix2 s l) = (r l.val (16 * (8 * k.val + s.val) + 5)).setWidth 32 <<< 15 := by
  rw [← I.hr ⟨16 * (8 * k.val + s.val) + 5, by have := trips_lt k; omega⟩ l,
    ← rnd_at arg4 X4 _ (k0_off10_inb k) (128 * k.val) (off10_closed k) ⟨16 * s.val + 5, by omega⟩ l ⟨16 * (8 * k.val + s.val) + 5, by have := trips_lt k; omega⟩ (by show 16 * (8 * k.val + s.val) + 5 = 128 * k.val + (16 * s.val + 5); omega)]
  pointwise [trip.sl.r_84, trip.sl.r_77, trip.sl.r_52, k0_pay95, k0_pay121, k0_pay129]
  exact QuantDySpec.word_1 _ _ (bits_at _ _ _ l 1 (by decide) _ (by simp only []; omega))

/-- The rounded quotients of entries 5. -/
theorem v5_at : (trip.sl.r_88 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 5 := by
  refine (sto_at v7 (trip.sl.r_50 (F := Ideal) arg3 harg3 v7 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_84 (F := Ideal) arg4 X4 k) s l _ (w5_at I k s l)).trans ?_
  rw [sb_at I, I.hst, z5_at I]
  rfl

/-- Their codes. -/
theorem n5_at : codeV (trip.sl.r_88 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 5 :=
  code_at _ s l _ _ (v5_at I k s l)

/-- The random bits of entries 6. -/
theorem w6_at : (trip.sl.r_89 (F := Ideal) arg4 X4 k) (ix2 s l) = (r l.val (16 * (8 * k.val + s.val) + 6)).setWidth 32 <<< 15 := by
  rw [← I.hr ⟨16 * (8 * k.val + s.val) + 6, by have := trips_lt k; omega⟩ l,
    ← rnd_at arg4 X4 _ (k0_off10_inb k) (128 * k.val) (off10_closed k) ⟨16 * s.val + 6, by omega⟩ l ⟨16 * (8 * k.val + s.val) + 6, by have := trips_lt k; omega⟩ (by show 16 * (8 * k.val + s.val) + 6 = 128 * k.val + (16 * s.val + 6); omega)]
  pointwise [trip.sl.r_89, trip.sl.r_77, trip.sl.r_52, k0_pay95, k0_pay121, k0_pay134]
  exact QuantDySpec.word_2 _ _ (bits_at _ _ _ l 2 (by decide) _ (by simp only []; omega))

/-- The rounded quotients of entries 6. -/
theorem v6_at : (trip.sl.r_93 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 6 := by
  refine (sto_at v7 (trip.sl.r_50 (F := Ideal) arg3 harg3 v7 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_89 (F := Ideal) arg4 X4 k) s l _ (w6_at I k s l)).trans ?_
  rw [sb_at I, I.hst, z6_at I]
  rfl

/-- Their codes. -/
theorem n6_at : codeV (trip.sl.r_93 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 6 :=
  code_at _ s l _ _ (v6_at I k s l)

/-- The random bits of entries 7. -/
theorem w7_at : (trip.sl.r_94 (F := Ideal) arg4 X4 k) (ix2 s l) = (r l.val (16 * (8 * k.val + s.val) + 7)).setWidth 32 <<< 15 := by
  rw [← I.hr ⟨16 * (8 * k.val + s.val) + 7, by have := trips_lt k; omega⟩ l,
    ← rnd_at arg4 X4 _ (k0_off10_inb k) (128 * k.val) (off10_closed k) ⟨16 * s.val + 7, by omega⟩ l ⟨16 * (8 * k.val + s.val) + 7, by have := trips_lt k; omega⟩ (by show 16 * (8 * k.val + s.val) + 7 = 128 * k.val + (16 * s.val + 7); omega)]
  pointwise [trip.sl.r_94, trip.sl.r_77, trip.sl.r_52, k0_pay95, k0_pay121, k0_pay139]
  exact QuantDySpec.word_3 _ _ (bits_at _ _ _ l 3 (by decide) _ (by simp only []; omega))

/-- The rounded quotients of entries 7. -/
theorem v7_at : (trip.sl.r_98 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 7 := by
  refine (sto_at v7 (trip.sl.r_50 (F := Ideal) arg3 harg3 v7 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_94 (F := Ideal) arg4 X4 k) s l _ (w7_at I k s l)).trans ?_
  rw [sb_at I, I.hst, z7_at I]
  rfl

/-- Their codes. -/
theorem n7_at : codeV (trip.sl.r_98 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 7 :=
  code_at _ s l _ _ (v7_at I k s l)

/-- The random bits of entries 8. -/
theorem w8_at : (trip.sl.r_100 (F := Ideal) arg4 X4 k) (ix2 s l) = (r l.val (16 * (8 * k.val + s.val) + 8)).setWidth 32 <<< 15 := by
  rw [← I.hr ⟨16 * (8 * k.val + s.val) + 8, by have := trips_lt k; omega⟩ l,
    ← rnd_at arg4 X4 _ (k0_off10_inb k) (128 * k.val) (off10_closed k) ⟨16 * s.val + 8, by omega⟩ l ⟨16 * (8 * k.val + s.val) + 8, by have := trips_lt k; omega⟩ (by show 16 * (8 * k.val + s.val) + 8 = 128 * k.val + (16 * s.val + 8); omega)]
  pointwise [trip.sl.r_100, trip.sl.r_52, k0_pay95, k0_pay145, k0_pay146]
  exact QuantDySpec.word_0 _ _ (bits_at _ _ _ l 0 (by decide) _ (by simp only []; omega))

/-- The rounded quotients of entries 8. -/
theorem v8_at : (trip.sl.r_104 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 8 := by
  refine (sto_at v7 (trip.sl.r_50 (F := Ideal) arg3 harg3 v7 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k) (trip.sl.r_100 (F := Ideal) arg4 X4 k) s l _ (w8_at I k s l)).trans ?_
  rw [sb_at I, I.hst, z8_at I]
  rfl

/-- Their codes. -/
theorem n8_at : codeV (trip.sl.r_104 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 8 :=
  code_at _ s l _ _ (v8_at I k s l)

/-- The random bits of entries 9. -/
theorem w9_at : (trip.sl.r_105 (F := Ideal) arg4 X4 k) (ix2 s l) = (r l.val (16 * (8 * k.val + s.val) + 9)).setWidth 32 <<< 15 := by
  rw [← I.hr ⟨16 * (8 * k.val + s.val) + 9, by have := trips_lt k; omega⟩ l,
    ← rnd_at arg4 X4 _ (k0_off10_inb k) (128 * k.val) (off10_closed k) ⟨16 * s.val + 9, by omega⟩ l ⟨16 * (8 * k.val + s.val) + 9, by have := trips_lt k; omega⟩ (by show 16 * (8 * k.val + s.val) + 9 = 128 * k.val + (16 * s.val + 9); omega)]
  pointwise [trip.sl.r_105, trip.sl.r_99, trip.sl.r_52, k0_pay95, k0_pay145, k0_pay151]
  exact QuantDySpec.word_1 _ _ (bits_at _ _ _ l 1 (by decide) _ (by simp only []; omega))

/-- The rounded quotients of entries 9. -/
theorem v9_at : (trip.sl.r_109 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 9 := by
  refine (sto_at v7 (trip.sl.r_50 (F := Ideal) arg3 harg3 v7 v10 v12 v14 v16 v18 v20 v22 v24 v26 v28 v29 cst_15 v31 v33 v35 v37 v39 X3 k) (trip.sl.r_33 (F := Ideal) arg3 harg3 v10 v12 v14 v16 v18 v20 v22 v24 v26 v28 v29 cst_15 v31 v33 v35 v37 v39 X3 k) (trip.sl.r_105 (F := Ideal) arg4 X4 k) s l _ (w9_at I k s l)).trans ?_
  rw [sb_at I, I.hst, z9_at I]
  rfl

/-- Their codes. -/
theorem n9_at : codeV (trip.sl.r_109 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 9 :=
  code_at _ s l _ _ (v9_at I k s l)

/-- The random bits of entries 10. -/
theorem w10_at : (trip.sl.r_110 (F := Ideal) arg4 X4 k) (ix2 s l) = (r l.val (16 * (8 * k.val + s.val) + 10)).setWidth 32 <<< 15 := by
  rw [← I.hr ⟨16 * (8 * k.val + s.val) + 10, by have := trips_lt k; omega⟩ l,
    ← rnd_at arg4 X4 _ (k0_off10_inb k) (128 * k.val) (off10_closed k) ⟨16 * s.val + 10, by omega⟩ l ⟨16 * (8 * k.val + s.val) + 10, by have := trips_lt k; omega⟩ (by show 16 * (8 * k.val + s.val) + 10 = 128 * k.val + (16 * s.val + 10); omega)]
  pointwise [trip.sl.r_110, trip.sl.r_99, trip.sl.r_52, k0_pay95, k0_pay145, k0_pay157]
  exact QuantDySpec.word_2 _ _ (bits_at _ _ _ l 2 (by decide) _ (by simp only []; omega))

/-- The rounded quotients of entries 10. -/
theorem v10_at : (trip.sl.r_114 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 10 := by
  refine (sto_at v7 (trip.sl.r_50 (F := Ideal) arg3 harg3 v7 v10 v12 v14 v16 v18 v20 v22 v24 v26 v28 v29 cst_15 v31 v33 v35 v37 v39 X3 k) (trip.sl.r_35 (F := Ideal) arg3 harg3 v10 v12 v14 v16 v18 v20 v22 v24 v26 v28 v29 cst_15 v31 v33 v35 v37 v39 X3 k) (trip.sl.r_110 (F := Ideal) arg4 X4 k) s l _ (w10_at I k s l)).trans ?_
  rw [sb_at I, I.hst, z10_at I]
  rfl

/-- Their codes. -/
theorem n10_at : codeV (trip.sl.r_114 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 10 :=
  code_at _ s l _ _ (v10_at I k s l)

/-- The random bits of entries 11. -/
theorem w11_at : (trip.sl.r_115 (F := Ideal) arg4 X4 k) (ix2 s l) = (r l.val (16 * (8 * k.val + s.val) + 11)).setWidth 32 <<< 15 := by
  rw [← I.hr ⟨16 * (8 * k.val + s.val) + 11, by have := trips_lt k; omega⟩ l,
    ← rnd_at arg4 X4 _ (k0_off10_inb k) (128 * k.val) (off10_closed k) ⟨16 * s.val + 11, by omega⟩ l ⟨16 * (8 * k.val + s.val) + 11, by have := trips_lt k; omega⟩ (by show 16 * (8 * k.val + s.val) + 11 = 128 * k.val + (16 * s.val + 11); omega)]
  pointwise [trip.sl.r_115, trip.sl.r_99, trip.sl.r_52, k0_pay95, k0_pay145, k0_pay162]
  exact QuantDySpec.word_3 _ _ (bits_at _ _ _ l 3 (by decide) _ (by simp only []; omega))

/-- The rounded quotients of entries 11. -/
theorem v11_at : (trip.sl.r_119 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 11 := by
  refine (sto_at v7 (trip.sl.r_50 (F := Ideal) arg3 harg3 v7 v10 v12 v14 v16 v18 v20 v22 v24 v26 v28 v29 cst_15 v31 v33 v35 v37 v39 X3 k) (trip.sl.r_37 (F := Ideal) arg3 harg3 v10 v12 v14 v16 v18 v20 v22 v24 v26 v28 v29 cst_15 v31 v33 v35 v37 v39 X3 k) (trip.sl.r_115 (F := Ideal) arg4 X4 k) s l _ (w11_at I k s l)).trans ?_
  rw [sb_at I, I.hst, z11_at I]
  rfl

/-- Their codes. -/
theorem n11_at : codeV (trip.sl.r_119 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 11 :=
  code_at _ s l _ _ (v11_at I k s l)

/-- The random bits of entries 12. -/
theorem w12_at : (trip.sl.r_121 (F := Ideal) arg4 X4 k) (ix2 s l) = (r l.val (16 * (8 * k.val + s.val) + 12)).setWidth 32 <<< 15 := by
  rw [← I.hr ⟨16 * (8 * k.val + s.val) + 12, by have := trips_lt k; omega⟩ l,
    ← rnd_at arg4 X4 _ (k0_off10_inb k) (128 * k.val) (off10_closed k) ⟨16 * s.val + 12, by omega⟩ l ⟨16 * (8 * k.val + s.val) + 12, by have := trips_lt k; omega⟩ (by show 16 * (8 * k.val + s.val) + 12 = 128 * k.val + (16 * s.val + 12); omega)]
  pointwise [trip.sl.r_121, trip.sl.r_52, k0_pay95, k0_pay167, k0_pay168]
  exact QuantDySpec.word_0 _ _ (bits_at _ _ _ l 0 (by decide) _ (by simp only []; omega))

/-- The rounded quotients of entries 12. -/
theorem v12_at : (trip.sl.r_125 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 12 := by
  refine (sto_at v7 (trip.sl.r_50 (F := Ideal) arg3 harg3 v7 v10 v12 v14 v16 v18 v20 v22 v24 v26 v28 v29 cst_15 v31 v33 v35 v37 v39 X3 k) (trip.sl.r_39 (F := Ideal) arg3 harg3 v10 v12 v14 v16 v18 v20 v22 v24 v26 v28 v29 cst_15 v31 v33 v35 v37 v39 X3 k) (trip.sl.r_121 (F := Ideal) arg4 X4 k) s l _ (w12_at I k s l)).trans ?_
  rw [sb_at I, I.hst, z12_at I]
  rfl

/-- Their codes. -/
theorem n12_at : codeV (trip.sl.r_125 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 12 :=
  code_at _ s l _ _ (v12_at I k s l)

/-- The random bits of entries 13. -/
theorem w13_at : (trip.sl.r_126 (F := Ideal) arg4 X4 k) (ix2 s l) = (r l.val (16 * (8 * k.val + s.val) + 13)).setWidth 32 <<< 15 := by
  rw [← I.hr ⟨16 * (8 * k.val + s.val) + 13, by have := trips_lt k; omega⟩ l,
    ← rnd_at arg4 X4 _ (k0_off10_inb k) (128 * k.val) (off10_closed k) ⟨16 * s.val + 13, by omega⟩ l ⟨16 * (8 * k.val + s.val) + 13, by have := trips_lt k; omega⟩ (by show 16 * (8 * k.val + s.val) + 13 = 128 * k.val + (16 * s.val + 13); omega)]
  pointwise [trip.sl.r_126, trip.sl.r_120, trip.sl.r_52, k0_pay95, k0_pay167, k0_pay173]
  exact QuantDySpec.word_1 _ _ (bits_at _ _ _ l 1 (by decide) _ (by simp only []; omega))

/-- The rounded quotients of entries 13. -/
theorem v13_at : (trip.sl.r_130 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 13 := by
  refine (sto_at v7 (trip.sl.r_50 (F := Ideal) arg3 harg3 v7 v10 v12 v14 v16 v18 v20 v22 v24 v26 v28 v29 cst_15 v31 v33 v35 v37 v39 X3 k) (trip.sl.r_41 (F := Ideal) arg3 harg3 v10 v12 v14 v16 v18 v20 v22 v24 v26 v28 v29 cst_15 v31 v33 v35 v37 v39 X3 k) (trip.sl.r_126 (F := Ideal) arg4 X4 k) s l _ (w13_at I k s l)).trans ?_
  rw [sb_at I, I.hst, z13_at I]
  rfl

/-- Their codes. -/
theorem n13_at : codeV (trip.sl.r_130 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 13 :=
  code_at _ s l _ _ (v13_at I k s l)

/-- The random bits of entries 14. -/
theorem w14_at : (trip.sl.r_131 (F := Ideal) arg4 X4 k) (ix2 s l) = (r l.val (16 * (8 * k.val + s.val) + 14)).setWidth 32 <<< 15 := by
  rw [← I.hr ⟨16 * (8 * k.val + s.val) + 14, by have := trips_lt k; omega⟩ l,
    ← rnd_at arg4 X4 _ (k0_off10_inb k) (128 * k.val) (off10_closed k) ⟨16 * s.val + 14, by omega⟩ l ⟨16 * (8 * k.val + s.val) + 14, by have := trips_lt k; omega⟩ (by show 16 * (8 * k.val + s.val) + 14 = 128 * k.val + (16 * s.val + 14); omega)]
  pointwise [trip.sl.r_131, trip.sl.r_120, trip.sl.r_52, k0_pay95, k0_pay167, k0_pay178]
  exact QuantDySpec.word_2 _ _ (bits_at _ _ _ l 2 (by decide) _ (by simp only []; omega))

/-- The rounded quotients of entries 14. -/
theorem v14_at : (trip.sl.r_135 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 14 := by
  refine (sto_at v7 (trip.sl.r_50 (F := Ideal) arg3 harg3 v7 v10 v12 v14 v16 v18 v20 v22 v24 v26 v28 v29 cst_15 v31 v33 v35 v37 v39 X3 k) (trip.sl.r_43 (F := Ideal) arg3 harg3 v10 v12 v14 v16 v18 v20 v22 v24 v26 v28 v29 cst_15 v31 v33 v35 v37 v39 X3 k) (trip.sl.r_131 (F := Ideal) arg4 X4 k) s l _ (w14_at I k s l)).trans ?_
  rw [sb_at I, I.hst, z14_at I]
  rfl

/-- Their codes. -/
theorem n14_at : codeV (trip.sl.r_135 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 14 :=
  code_at _ s l _ _ (v14_at I k s l)

/-- The random bits of entries 15. -/
theorem w15_at : (trip.sl.r_136 (F := Ideal) arg4 X4 k) (ix2 s l) = (r l.val (16 * (8 * k.val + s.val) + 15)).setWidth 32 <<< 15 := by
  rw [← I.hr ⟨16 * (8 * k.val + s.val) + 15, by have := trips_lt k; omega⟩ l,
    ← rnd_at arg4 X4 _ (k0_off10_inb k) (128 * k.val) (off10_closed k) ⟨16 * s.val + 15, by omega⟩ l ⟨16 * (8 * k.val + s.val) + 15, by have := trips_lt k; omega⟩ (by show 16 * (8 * k.val + s.val) + 15 = 128 * k.val + (16 * s.val + 15); omega)]
  pointwise [trip.sl.r_136, trip.sl.r_120, trip.sl.r_52, k0_pay95, k0_pay167, k0_pay184]
  exact QuantDySpec.word_3 _ _ (bits_at _ _ _ l 3 (by decide) _ (by simp only []; omega))

/-- The rounded quotients of entries 15. -/
theorem v15_at : (trip.sl.r_141 (F := Ideal) arg3 harg3 arg4 v7 v10 v12 v14 v16 v18 v20 v22 v24 v26 v28 v29 cst_15 v31 v33 v35 v37 v39 X3 X4 k) (ix2 s l) = QuantDySpec.V sg st (x l.val) (r l.val) (8 * k.val + s.val) 15 := by
  refine (sto_at v7 (trip.sl.r_50 (F := Ideal) arg3 harg3 v7 v10 v12 v14 v16 v18 v20 v22 v24 v26 v28 v29 cst_15 v31 v33 v35 v37 v39 X3 k) (trip.sl.r_45 (F := Ideal) arg3 harg3 v10 v12 v14 v16 v18 v20 v22 v24 v26 v28 v29 cst_15 v31 v33 v35 v37 v39 X3 k) (trip.sl.r_136 (F := Ideal) arg4 X4 k) s l _ (w15_at I k s l)).trans ?_
  rw [sb_at I, I.hst, z15_at I]
  rfl

/-- Their codes. -/
theorem n15_at : codeV (trip.sl.r_141 (F := Ideal) arg3 harg3 arg4 v7 v10 v12 v14 v16 v18 v20 v22 v24 v26 v28 v29 cst_15 v31 v33 v35 v37 v39 X3 X4 k) (ix2 s l) = QuantDySpec.N sg st (x l.val) (r l.val) (8 * k.val + s.val) 15 :=
  code_at _ s l _ _ (v15_at I k s l)

/-- The values of entries 0 and 1. -/
theorem e0_at (q : Fin 16) : k0_pay190 (trip.sl.r_50 (F := Ideal) arg3 harg3 v7 v10 v12 v14 v16 v18 v20 v22 v24 v26 v28 v29 cst_15 v31 v33 v35 v37 v39 X3 k) (trip.sl.r_59 (F := Ideal) arg3 harg3 arg4 v7 v10 v12 v14 v16 v18 v20 v22 v24 v26 v28 v29 cst_15 v31 v33 v35 v37 v39 X3 X4 k) (trip.sl.r_65 (F := Ideal) arg3 harg3 arg4 v7 v10 v12 v14 v16 v18 v20 v22 v24 v26 v28 v29 cst_15 v31 v33 v35 v37 v39 X3 X4 k) (ix2 q l) = QuantDySpec.E sg st (x l.val) (r l.val) (128 * k.val + q.val) := by
  pointwise [k0_pay190, k0_pay199, k0_pay209, k0_pay218, k0_pay227, k0_pay236, k0_pay242, k0_pay250, k0_pay249]
  have h1 : (128 * k.val + q.val) / 128 * 8 + (128 * k.val + q.val) / 2 % 8 = 8 * k.val + q.val / 2 := by omega
  unfold QuantDySpec.E
  by_cases h : q.val % 2 = 0
  · rw [if_pos h, v0_at I, sb_at I]
    have h2 : (⟨(128 * k.val + q.val) / 16 % 8 * 2 + (128 * k.val + q.val) % 2, by omega⟩ : Fin 16) = 0 := Fin.ext (show (128 * k.val + q.val) / 16 % 8 * 2 + (128 * k.val + q.val) % 2 = 0 by omega)
    simp only [h1, h2]
  · rw [if_neg h, v1_at I, sb_at I]
    have h2 : (⟨(128 * k.val + q.val) / 16 % 8 * 2 + (128 * k.val + q.val) % 2, by omega⟩ : Fin 16) = 1 := Fin.ext (show (128 * k.val + q.val) / 16 % 8 * 2 + (128 * k.val + q.val) % 2 = 1 by omega)
    simp only [h1, h2]

/-- The bytes of entries 0 and 1. -/
theorem b0_at : byteV (trip.sl.r_59 (F := Ideal) arg3 harg3 arg4 v7 v10 v12 v14 v16 v18 v20 v22 v24 v26 v28 v29 cst_15 v31 v33 v35 v37 v39 X3 X4 k) (trip.sl.r_65 (F := Ideal) arg3 harg3 arg4 v7 v10 v12 v14 v16 v18 v20 v22 v24 v26 v28 v29 cst_15 v31 v33 v35 v37 v39 X3 X4 k) (ix2 s l) = QuantDySpec.B sg st (x l.val) (r l.val) (64 * k.val + 8 * s.val) := by
  have h1 : (64 * k.val + 8 * s.val) / 8 = 8 * k.val + s.val := by omega
  have h2 : (⟨(64 * k.val + 8 * s.val) % 8 * 2, by omega⟩ : Fin 16) = 0 := Fin.ext (show (64 * k.val + 8 * s.val) % 8 * 2 = 0 by omega)
  have h3 : (⟨(64 * k.val + 8 * s.val) % 8 * 2 + 1, by omega⟩ : Fin 16) = 1 := Fin.ext (show (64 * k.val + 8 * s.val) % 8 * 2 + 1 = 1 by omega)
  rw [byte_at _ _ s l _ _ (n0_at I k s l) (n1_at I k s l)]
  unfold QuantDySpec.B
  simp only [h1, h2, h3]

/-- The values of entries 2 and 3. -/
theorem e1_at (q : Fin 16) : k0_pay199 (trip.sl.r_50 (F := Ideal) arg3 harg3 v7 v10 v12 v14 v16 v18 v20 v22 v24 v26 v28 v29 cst_15 v31 v33 v35 v37 v39 X3 k) (trip.sl.r_71 (F := Ideal) arg3 harg3 arg4 v7 v10 v12 v14 v16 v18 v20 v22 v24 v26 v28 v29 cst_15 v31 v33 v35 v37 v39 X3 X4 k) (trip.sl.r_76 (F := Ideal) arg3 harg3 arg4 v7 v10 v12 v14 v16 v18 v20 v22 v24 v26 v28 v29 cst_15 v31 v33 v35 v37 v39 X3 X4 k) (ix2 q l) = QuantDySpec.E sg st (x l.val) (r l.val) (128 * k.val + 16 + q.val) := by
  pointwise [k0_pay190, k0_pay199, k0_pay209, k0_pay218, k0_pay227, k0_pay236, k0_pay242, k0_pay250, k0_pay249]
  have h1 : (128 * k.val + 16 + q.val) / 128 * 8 + (128 * k.val + 16 + q.val) / 2 % 8 = 8 * k.val + q.val / 2 := by omega
  unfold QuantDySpec.E
  by_cases h : q.val % 2 = 0
  · rw [if_pos h, v2_at I, sb_at I]
    have h2 : (⟨(128 * k.val + 16 + q.val) / 16 % 8 * 2 + (128 * k.val + 16 + q.val) % 2, by omega⟩ : Fin 16) = 2 := Fin.ext (show (128 * k.val + 16 + q.val) / 16 % 8 * 2 + (128 * k.val + 16 + q.val) % 2 = 2 by omega)
    simp only [h1, h2]
  · rw [if_neg h, v3_at I, sb_at I]
    have h2 : (⟨(128 * k.val + 16 + q.val) / 16 % 8 * 2 + (128 * k.val + 16 + q.val) % 2, by omega⟩ : Fin 16) = 3 := Fin.ext (show (128 * k.val + 16 + q.val) / 16 % 8 * 2 + (128 * k.val + 16 + q.val) % 2 = 3 by omega)
    simp only [h1, h2]

/-- The bytes of entries 2 and 3. -/
theorem b1_at : byteV (trip.sl.r_71 (F := Ideal) arg3 harg3 arg4 v7 v10 v12 v14 v16 v18 v20 v22 v24 v26 v28 v29 cst_15 v31 v33 v35 v37 v39 X3 X4 k) (trip.sl.r_76 (F := Ideal) arg3 harg3 arg4 v7 v10 v12 v14 v16 v18 v20 v22 v24 v26 v28 v29 cst_15 v31 v33 v35 v37 v39 X3 X4 k) (ix2 s l) = QuantDySpec.B sg st (x l.val) (r l.val) (64 * k.val + 8 * s.val + 1) := by
  have h1 : (64 * k.val + 8 * s.val + 1) / 8 = 8 * k.val + s.val := by omega
  have h2 : (⟨(64 * k.val + 8 * s.val + 1) % 8 * 2, by omega⟩ : Fin 16) = 2 := Fin.ext (show (64 * k.val + 8 * s.val + 1) % 8 * 2 = 2 by omega)
  have h3 : (⟨(64 * k.val + 8 * s.val + 1) % 8 * 2 + 1, by omega⟩ : Fin 16) = 3 := Fin.ext (show (64 * k.val + 8 * s.val + 1) % 8 * 2 + 1 = 3 by omega)
  rw [byte_at _ _ s l _ _ (n2_at I k s l) (n3_at I k s l)]
  unfold QuantDySpec.B
  simp only [h1, h2, h3]

/-- The values of entries 4 and 5. -/
theorem e2_at (q : Fin 16) : k0_pay209 (trip.sl.r_50 (F := Ideal) arg3 harg3 v7 v10 v12 v14 v16 v18 v20 v22 v24 v26 v28 v29 cst_15 v31 v33 v35 v37 v39 X3 k) (trip.sl.r_83 (F := Ideal) arg3 harg3 arg4 v7 v10 v12 v14 v16 v18 v20 v22 v24 v26 v28 v29 cst_15 v31 v33 v35 v37 v39 X3 X4 k) (trip.sl.r_88 (F := Ideal) arg3 harg3 arg4 v7 v10 v12 v14 v16 v18 v20 v22 v24 v26 v28 v29 cst_15 v31 v33 v35 v37 v39 X3 X4 k) (ix2 q l) = QuantDySpec.E sg st (x l.val) (r l.val) (128 * k.val + 32 + q.val) := by
  pointwise [k0_pay190, k0_pay199, k0_pay209, k0_pay218, k0_pay227, k0_pay236, k0_pay242, k0_pay250, k0_pay249]
  have h1 : (128 * k.val + 32 + q.val) / 128 * 8 + (128 * k.val + 32 + q.val) / 2 % 8 = 8 * k.val + q.val / 2 := by omega
  unfold QuantDySpec.E
  by_cases h : q.val % 2 = 0
  · rw [if_pos h, v4_at I, sb_at I]
    have h2 : (⟨(128 * k.val + 32 + q.val) / 16 % 8 * 2 + (128 * k.val + 32 + q.val) % 2, by omega⟩ : Fin 16) = 4 := Fin.ext (show (128 * k.val + 32 + q.val) / 16 % 8 * 2 + (128 * k.val + 32 + q.val) % 2 = 4 by omega)
    simp only [h1, h2]
  · rw [if_neg h, v5_at I, sb_at I]
    have h2 : (⟨(128 * k.val + 32 + q.val) / 16 % 8 * 2 + (128 * k.val + 32 + q.val) % 2, by omega⟩ : Fin 16) = 5 := Fin.ext (show (128 * k.val + 32 + q.val) / 16 % 8 * 2 + (128 * k.val + 32 + q.val) % 2 = 5 by omega)
    simp only [h1, h2]

/-- The bytes of entries 4 and 5. -/
theorem b2_at : byteV (trip.sl.r_83 (F := Ideal) arg3 harg3 arg4 v7 v10 v12 v14 v16 v18 v20 v22 v24 v26 v28 v29 cst_15 v31 v33 v35 v37 v39 X3 X4 k) (trip.sl.r_88 (F := Ideal) arg3 harg3 arg4 v7 v10 v12 v14 v16 v18 v20 v22 v24 v26 v28 v29 cst_15 v31 v33 v35 v37 v39 X3 X4 k) (ix2 s l) = QuantDySpec.B sg st (x l.val) (r l.val) (64 * k.val + 8 * s.val + 2) := by
  have h1 : (64 * k.val + 8 * s.val + 2) / 8 = 8 * k.val + s.val := by omega
  have h2 : (⟨(64 * k.val + 8 * s.val + 2) % 8 * 2, by omega⟩ : Fin 16) = 4 := Fin.ext (show (64 * k.val + 8 * s.val + 2) % 8 * 2 = 4 by omega)
  have h3 : (⟨(64 * k.val + 8 * s.val + 2) % 8 * 2 + 1, by omega⟩ : Fin 16) = 5 := Fin.ext (show (64 * k.val + 8 * s.val + 2) % 8 * 2 + 1 = 5 by omega)
  rw [byte_at _ _ s l _ _ (n4_at I k s l) (n5_at I k s l)]
  unfold QuantDySpec.B
  simp only [h1, h2, h3]

/-- The values of entries 6 and 7. -/
theorem e3_at (q : Fin 16) : k0_pay218 (trip.sl.r_50 (F := Ideal) arg3 harg3 v7 v10 v12 v14 v16 v18 v20 v22 v24 v26 v28 v29 cst_15 v31 v33 v35 v37 v39 X3 k) (trip.sl.r_93 (F := Ideal) arg3 harg3 arg4 v7 v10 v12 v14 v16 v18 v20 v22 v24 v26 v28 v29 cst_15 v31 v33 v35 v37 v39 X3 X4 k) (trip.sl.r_98 (F := Ideal) arg3 harg3 arg4 v7 v10 v12 v14 v16 v18 v20 v22 v24 v26 v28 v29 cst_15 v31 v33 v35 v37 v39 X3 X4 k) (ix2 q l) = QuantDySpec.E sg st (x l.val) (r l.val) (128 * k.val + 48 + q.val) := by
  pointwise [k0_pay190, k0_pay199, k0_pay209, k0_pay218, k0_pay227, k0_pay236, k0_pay242, k0_pay250, k0_pay249]
  have h1 : (128 * k.val + 48 + q.val) / 128 * 8 + (128 * k.val + 48 + q.val) / 2 % 8 = 8 * k.val + q.val / 2 := by omega
  unfold QuantDySpec.E
  by_cases h : q.val % 2 = 0
  · rw [if_pos h, v6_at I, sb_at I]
    have h2 : (⟨(128 * k.val + 48 + q.val) / 16 % 8 * 2 + (128 * k.val + 48 + q.val) % 2, by omega⟩ : Fin 16) = 6 := Fin.ext (show (128 * k.val + 48 + q.val) / 16 % 8 * 2 + (128 * k.val + 48 + q.val) % 2 = 6 by omega)
    simp only [h1, h2]
  · rw [if_neg h, v7_at I, sb_at I]
    have h2 : (⟨(128 * k.val + 48 + q.val) / 16 % 8 * 2 + (128 * k.val + 48 + q.val) % 2, by omega⟩ : Fin 16) = 7 := Fin.ext (show (128 * k.val + 48 + q.val) / 16 % 8 * 2 + (128 * k.val + 48 + q.val) % 2 = 7 by omega)
    simp only [h1, h2]

/-- The bytes of entries 6 and 7. -/
theorem b3_at : byteV (trip.sl.r_93 (F := Ideal) arg3 harg3 arg4 v7 v10 v12 v14 v16 v18 v20 v22 v24 v26 v28 v29 cst_15 v31 v33 v35 v37 v39 X3 X4 k) (trip.sl.r_98 (F := Ideal) arg3 harg3 arg4 v7 v10 v12 v14 v16 v18 v20 v22 v24 v26 v28 v29 cst_15 v31 v33 v35 v37 v39 X3 X4 k) (ix2 s l) = QuantDySpec.B sg st (x l.val) (r l.val) (64 * k.val + 8 * s.val + 3) := by
  have h1 : (64 * k.val + 8 * s.val + 3) / 8 = 8 * k.val + s.val := by omega
  have h2 : (⟨(64 * k.val + 8 * s.val + 3) % 8 * 2, by omega⟩ : Fin 16) = 6 := Fin.ext (show (64 * k.val + 8 * s.val + 3) % 8 * 2 = 6 by omega)
  have h3 : (⟨(64 * k.val + 8 * s.val + 3) % 8 * 2 + 1, by omega⟩ : Fin 16) = 7 := Fin.ext (show (64 * k.val + 8 * s.val + 3) % 8 * 2 + 1 = 7 by omega)
  rw [byte_at _ _ s l _ _ (n6_at I k s l) (n7_at I k s l)]
  unfold QuantDySpec.B
  simp only [h1, h2, h3]

/-- The values of entries 8 and 9. -/
theorem e4_at (q : Fin 16) : k0_pay227 (trip.sl.r_50 (F := Ideal) arg3 harg3 v7 v10 v12 v14 v16 v18 v20 v22 v24 v26 v28 v29 cst_15 v31 v33 v35 v37 v39 X3 k) (trip.sl.r_104 (F := Ideal) arg3 harg3 arg4 v7 v10 v12 v14 v16 v18 v20 v22 v24 v26 v28 v29 cst_15 v31 v33 v35 v37 v39 X3 X4 k) (trip.sl.r_109 (F := Ideal) arg3 harg3 arg4 v7 v10 v12 v14 v16 v18 v20 v22 v24 v26 v28 v29 cst_15 v31 v33 v35 v37 v39 X3 X4 k) (ix2 q l) = QuantDySpec.E sg st (x l.val) (r l.val) (128 * k.val + 64 + q.val) := by
  pointwise [k0_pay190, k0_pay199, k0_pay209, k0_pay218, k0_pay227, k0_pay236, k0_pay242, k0_pay250, k0_pay249]
  have h1 : (128 * k.val + 64 + q.val) / 128 * 8 + (128 * k.val + 64 + q.val) / 2 % 8 = 8 * k.val + q.val / 2 := by omega
  unfold QuantDySpec.E
  by_cases h : q.val % 2 = 0
  · rw [if_pos h, v8_at I, sb_at I]
    have h2 : (⟨(128 * k.val + 64 + q.val) / 16 % 8 * 2 + (128 * k.val + 64 + q.val) % 2, by omega⟩ : Fin 16) = 8 := Fin.ext (show (128 * k.val + 64 + q.val) / 16 % 8 * 2 + (128 * k.val + 64 + q.val) % 2 = 8 by omega)
    simp only [h1, h2]
  · rw [if_neg h, v9_at I, sb_at I]
    have h2 : (⟨(128 * k.val + 64 + q.val) / 16 % 8 * 2 + (128 * k.val + 64 + q.val) % 2, by omega⟩ : Fin 16) = 9 := Fin.ext (show (128 * k.val + 64 + q.val) / 16 % 8 * 2 + (128 * k.val + 64 + q.val) % 2 = 9 by omega)
    simp only [h1, h2]

/-- The bytes of entries 8 and 9. -/
theorem b4_at : byteV (trip.sl.r_104 (F := Ideal) arg3 harg3 arg4 v7 v10 v12 v14 v16 v18 v20 v22 v24 v26 v28 v29 cst_15 v31 v33 v35 v37 v39 X3 X4 k) (trip.sl.r_109 (F := Ideal) arg3 harg3 arg4 v7 v10 v12 v14 v16 v18 v20 v22 v24 v26 v28 v29 cst_15 v31 v33 v35 v37 v39 X3 X4 k) (ix2 s l) = QuantDySpec.B sg st (x l.val) (r l.val) (64 * k.val + 8 * s.val + 4) := by
  have h1 : (64 * k.val + 8 * s.val + 4) / 8 = 8 * k.val + s.val := by omega
  have h2 : (⟨(64 * k.val + 8 * s.val + 4) % 8 * 2, by omega⟩ : Fin 16) = 8 := Fin.ext (show (64 * k.val + 8 * s.val + 4) % 8 * 2 = 8 by omega)
  have h3 : (⟨(64 * k.val + 8 * s.val + 4) % 8 * 2 + 1, by omega⟩ : Fin 16) = 9 := Fin.ext (show (64 * k.val + 8 * s.val + 4) % 8 * 2 + 1 = 9 by omega)
  rw [byte_at _ _ s l _ _ (n8_at I k s l) (n9_at I k s l)]
  unfold QuantDySpec.B
  simp only [h1, h2, h3]

/-- The values of entries 10 and 11. -/
theorem e5_at (q : Fin 16) : k0_pay236 (trip.sl.r_50 (F := Ideal) arg3 harg3 v7 v10 v12 v14 v16 v18 v20 v22 v24 v26 v28 v29 cst_15 v31 v33 v35 v37 v39 X3 k) (trip.sl.r_114 (F := Ideal) arg3 harg3 arg4 v7 v10 v12 v14 v16 v18 v20 v22 v24 v26 v28 v29 cst_15 v31 v33 v35 v37 v39 X3 X4 k) (trip.sl.r_119 (F := Ideal) arg3 harg3 arg4 v7 v10 v12 v14 v16 v18 v20 v22 v24 v26 v28 v29 cst_15 v31 v33 v35 v37 v39 X3 X4 k) (ix2 q l) = QuantDySpec.E sg st (x l.val) (r l.val) (128 * k.val + 80 + q.val) := by
  pointwise [k0_pay190, k0_pay199, k0_pay209, k0_pay218, k0_pay227, k0_pay236, k0_pay242, k0_pay250, k0_pay249]
  have h1 : (128 * k.val + 80 + q.val) / 128 * 8 + (128 * k.val + 80 + q.val) / 2 % 8 = 8 * k.val + q.val / 2 := by omega
  unfold QuantDySpec.E
  by_cases h : q.val % 2 = 0
  · rw [if_pos h, v10_at I, sb_at I]
    have h2 : (⟨(128 * k.val + 80 + q.val) / 16 % 8 * 2 + (128 * k.val + 80 + q.val) % 2, by omega⟩ : Fin 16) = 10 := Fin.ext (show (128 * k.val + 80 + q.val) / 16 % 8 * 2 + (128 * k.val + 80 + q.val) % 2 = 10 by omega)
    simp only [h1, h2]
  · rw [if_neg h, v11_at I, sb_at I]
    have h2 : (⟨(128 * k.val + 80 + q.val) / 16 % 8 * 2 + (128 * k.val + 80 + q.val) % 2, by omega⟩ : Fin 16) = 11 := Fin.ext (show (128 * k.val + 80 + q.val) / 16 % 8 * 2 + (128 * k.val + 80 + q.val) % 2 = 11 by omega)
    simp only [h1, h2]

/-- The bytes of entries 10 and 11. -/
theorem b5_at : byteV (trip.sl.r_114 (F := Ideal) arg3 harg3 arg4 v7 v10 v12 v14 v16 v18 v20 v22 v24 v26 v28 v29 cst_15 v31 v33 v35 v37 v39 X3 X4 k) (trip.sl.r_119 (F := Ideal) arg3 harg3 arg4 v7 v10 v12 v14 v16 v18 v20 v22 v24 v26 v28 v29 cst_15 v31 v33 v35 v37 v39 X3 X4 k) (ix2 s l) = QuantDySpec.B sg st (x l.val) (r l.val) (64 * k.val + 8 * s.val + 5) := by
  have h1 : (64 * k.val + 8 * s.val + 5) / 8 = 8 * k.val + s.val := by omega
  have h2 : (⟨(64 * k.val + 8 * s.val + 5) % 8 * 2, by omega⟩ : Fin 16) = 10 := Fin.ext (show (64 * k.val + 8 * s.val + 5) % 8 * 2 = 10 by omega)
  have h3 : (⟨(64 * k.val + 8 * s.val + 5) % 8 * 2 + 1, by omega⟩ : Fin 16) = 11 := Fin.ext (show (64 * k.val + 8 * s.val + 5) % 8 * 2 + 1 = 11 by omega)
  rw [byte_at _ _ s l _ _ (n10_at I k s l) (n11_at I k s l)]
  unfold QuantDySpec.B
  simp only [h1, h2, h3]

/-- The values of entries 12 and 13. -/
theorem e6_at (q : Fin 16) : k0_pay242 (trip.sl.r_50 (F := Ideal) arg3 harg3 v7 v10 v12 v14 v16 v18 v20 v22 v24 v26 v28 v29 cst_15 v31 v33 v35 v37 v39 X3 k) (trip.sl.r_125 (F := Ideal) arg3 harg3 arg4 v7 v10 v12 v14 v16 v18 v20 v22 v24 v26 v28 v29 cst_15 v31 v33 v35 v37 v39 X3 X4 k) (trip.sl.r_130 (F := Ideal) arg3 harg3 arg4 v7 v10 v12 v14 v16 v18 v20 v22 v24 v26 v28 v29 cst_15 v31 v33 v35 v37 v39 X3 X4 k) (ix2 q l) = QuantDySpec.E sg st (x l.val) (r l.val) (128 * k.val + 96 + q.val) := by
  pointwise [k0_pay190, k0_pay199, k0_pay209, k0_pay218, k0_pay227, k0_pay236, k0_pay242, k0_pay250, k0_pay249]
  have h1 : (128 * k.val + 96 + q.val) / 128 * 8 + (128 * k.val + 96 + q.val) / 2 % 8 = 8 * k.val + q.val / 2 := by omega
  unfold QuantDySpec.E
  by_cases h : q.val % 2 = 0
  · rw [if_pos h, v12_at I, sb_at I]
    have h2 : (⟨(128 * k.val + 96 + q.val) / 16 % 8 * 2 + (128 * k.val + 96 + q.val) % 2, by omega⟩ : Fin 16) = 12 := Fin.ext (show (128 * k.val + 96 + q.val) / 16 % 8 * 2 + (128 * k.val + 96 + q.val) % 2 = 12 by omega)
    simp only [h1, h2]
  · rw [if_neg h, v13_at I, sb_at I]
    have h2 : (⟨(128 * k.val + 96 + q.val) / 16 % 8 * 2 + (128 * k.val + 96 + q.val) % 2, by omega⟩ : Fin 16) = 13 := Fin.ext (show (128 * k.val + 96 + q.val) / 16 % 8 * 2 + (128 * k.val + 96 + q.val) % 2 = 13 by omega)
    simp only [h1, h2]

/-- The bytes of entries 12 and 13. -/
theorem b6_at : byteV (trip.sl.r_125 (F := Ideal) arg3 harg3 arg4 v7 v10 v12 v14 v16 v18 v20 v22 v24 v26 v28 v29 cst_15 v31 v33 v35 v37 v39 X3 X4 k) (trip.sl.r_130 (F := Ideal) arg3 harg3 arg4 v7 v10 v12 v14 v16 v18 v20 v22 v24 v26 v28 v29 cst_15 v31 v33 v35 v37 v39 X3 X4 k) (ix2 s l) = QuantDySpec.B sg st (x l.val) (r l.val) (64 * k.val + 8 * s.val + 6) := by
  have h1 : (64 * k.val + 8 * s.val + 6) / 8 = 8 * k.val + s.val := by omega
  have h2 : (⟨(64 * k.val + 8 * s.val + 6) % 8 * 2, by omega⟩ : Fin 16) = 12 := Fin.ext (show (64 * k.val + 8 * s.val + 6) % 8 * 2 = 12 by omega)
  have h3 : (⟨(64 * k.val + 8 * s.val + 6) % 8 * 2 + 1, by omega⟩ : Fin 16) = 13 := Fin.ext (show (64 * k.val + 8 * s.val + 6) % 8 * 2 + 1 = 13 by omega)
  rw [byte_at _ _ s l _ _ (n12_at I k s l) (n13_at I k s l)]
  unfold QuantDySpec.B
  simp only [h1, h2, h3]

/-- The values of entries 14 and 15. -/
theorem e7_at (q : Fin 16) : k0_pay250 (k0_pay249 (trip.sl.r_50 (F := Ideal) arg3 harg3 v7 v10 v12 v14 v16 v18 v20 v22 v24 v26 v28 v29 cst_15 v31 v33 v35 v37 v39 X3 k) (trip.sl.r_135 (F := Ideal) arg3 harg3 arg4 v7 v10 v12 v14 v16 v18 v20 v22 v24 v26 v28 v29 cst_15 v31 v33 v35 v37 v39 X3 X4 k) (trip.sl.r_141 (F := Ideal) arg3 harg3 arg4 v7 v10 v12 v14 v16 v18 v20 v22 v24 v26 v28 v29 cst_15 v31 v33 v35 v37 v39 X3 X4 k)) (ix2 q l) = QuantDySpec.E sg st (x l.val) (r l.val) (128 * k.val + 112 + q.val) := by
  pointwise [k0_pay190, k0_pay199, k0_pay209, k0_pay218, k0_pay227, k0_pay236, k0_pay242, k0_pay250, k0_pay249]
  have h1 : (128 * k.val + 112 + q.val) / 128 * 8 + (128 * k.val + 112 + q.val) / 2 % 8 = 8 * k.val + q.val / 2 := by omega
  unfold QuantDySpec.E
  by_cases h : q.val % 2 = 0
  · rw [if_pos h, v14_at I, sb_at I]
    have h2 : (⟨(128 * k.val + 112 + q.val) / 16 % 8 * 2 + (128 * k.val + 112 + q.val) % 2, by omega⟩ : Fin 16) = 14 := Fin.ext (show (128 * k.val + 112 + q.val) / 16 % 8 * 2 + (128 * k.val + 112 + q.val) % 2 = 14 by omega)
    simp only [h1, h2]
  · rw [if_neg h, v15_at I, sb_at I]
    have h2 : (⟨(128 * k.val + 112 + q.val) / 16 % 8 * 2 + (128 * k.val + 112 + q.val) % 2, by omega⟩ : Fin 16) = 15 := Fin.ext (show (128 * k.val + 112 + q.val) / 16 % 8 * 2 + (128 * k.val + 112 + q.val) % 2 = 15 by omega)
    simp only [h1, h2]

/-- The bytes of entries 14 and 15. -/
theorem b7_at : byteV (trip.sl.r_135 (F := Ideal) arg3 harg3 arg4 v7 v10 v12 v14 v16 v18 v20 v22 v24 v26 v28 v29 cst_15 v31 v33 v35 v37 v39 X3 X4 k) (trip.sl.r_141 (F := Ideal) arg3 harg3 arg4 v7 v10 v12 v14 v16 v18 v20 v22 v24 v26 v28 v29 cst_15 v31 v33 v35 v37 v39 X3 X4 k) (ix2 s l) = QuantDySpec.B sg st (x l.val) (r l.val) (64 * k.val + 8 * s.val + 7) := by
  have h1 : (64 * k.val + 8 * s.val + 7) / 8 = 8 * k.val + s.val := by omega
  have h2 : (⟨(64 * k.val + 8 * s.val + 7) % 8 * 2, by omega⟩ : Fin 16) = 14 := Fin.ext (show (64 * k.val + 8 * s.val + 7) % 8 * 2 = 14 by omega)
  have h3 : (⟨(64 * k.val + 8 * s.val + 7) % 8 * 2 + 1, by omega⟩ : Fin 16) = 15 := Fin.ext (show (64 * k.val + 8 * s.val + 7) % 8 * 2 + 1 = 15 by omega)
  rw [byte_at _ _ s l _ _ (n14_at I k s l) (n15_at I k s l)]
  unfold QuantDySpec.B
  simp only [h1, h2, h3]

/-- The words with the bytes of entries 0 and 1. -/
theorem c0_at (old : IVec S8x128 32) : (k0_pay198 (F := Ideal) (trip.sl.r_148 (F := Ideal) arg3 harg3 arg4 v7 v10 v12 v14 v16 v18 v20 v22 v24 v26 v28 v29 cst_15 v31 v33 v35 v37 v39 X3 X4 k) old 4#32 (trip.sl.v1161 k) 0#1 : IVec S8x128 32) (ix2 s l)
    = QuantDySpec.cell (k.val / 2 % 4) (QuantDySpec.B sg st (x l.val) (r l.val) (64 * k.val + 8 * s.val)) (old (ix2 s l)) := by
  have e : (k0_pay198 (F := Ideal) (trip.sl.r_148 (F := Ideal) arg3 harg3 arg4 v7 v10 v12 v14 v16 v18 v20 v22 v24 v26 v28 v29 cst_15 v31 v33 v35 v37 v39 X3 X4 k) old 4#32 (trip.sl.v1161 k) 0#1 : IVec S8x128 32)
      = cellV (Scalar.muli (plane k) 8#32) (Scalar.cmpi .eq (trip.sl.v1161 k) 0#32) (byteV (trip.sl.r_59 (F := Ideal) arg3 harg3 arg4 v7 v10 v12 v14 v16 v18 v20 v22 v24 v26 v28 v29 cst_15 v31 v33 v35 v37 v39 X3 X4 k) (trip.sl.r_65 (F := Ideal) arg3 harg3 arg4 v7 v10 v12 v14 v16 v18 v20 v22 v24 v26 v28 v29 cst_15 v31 v33 v35 v37 v39 X3 X4 k)) old := rfl
  rw [e, cell_at _ _ _ _ s l (k.val / 2 % 4) (trips_lt' k) (sh1 k) (fi2 k), b0_at I]

/-- The words with the bytes of entries 2 and 3. -/
theorem c1_at (old : IVec S8x128 32) : (k0_pay208 (F := Ideal) (trip.sl.r_156 (F := Ideal) arg3 harg3 arg4 v7 v10 v12 v14 v16 v18 v20 v22 v24 v26 v28 v29 cst_15 v31 v33 v35 v37 v39 X3 X4 k) old 4#32 (trip.sl.v1161 k) (trip.sl.v1162 k) : IVec S8x128 32) (ix2 s l)
    = QuantDySpec.cell (k.val / 2 % 4) (QuantDySpec.B sg st (x l.val) (r l.val) (64 * k.val + 8 * s.val + 1)) (old (ix2 s l)) := by
  have e : (k0_pay208 (F := Ideal) (trip.sl.r_156 (F := Ideal) arg3 harg3 arg4 v7 v10 v12 v14 v16 v18 v20 v22 v24 v26 v28 v29 cst_15 v31 v33 v35 v37 v39 X3 X4 k) old 4#32 (trip.sl.v1161 k) (trip.sl.v1162 k) : IVec S8x128 32)
      = cellV (Scalar.muli (plane k) 8#32) (Scalar.cmpi .eq (plane k) 0#32) (byteV (trip.sl.r_71 (F := Ideal) arg3 harg3 arg4 v7 v10 v12 v14 v16 v18 v20 v22 v24 v26 v28 v29 cst_15 v31 v33 v35 v37 v39 X3 X4 k) (trip.sl.r_76 (F := Ideal) arg3 harg3 arg4 v7 v10 v12 v14 v16 v18 v20 v22 v24 v26 v28 v29 cst_15 v31 v33 v35 v37 v39 X3 X4 k)) old := rfl
  rw [e, cell_at _ _ _ _ s l (k.val / 2 % 4) (trips_lt' k) (sh1 k) (fi1 k), b1_at I]

/-- The words with the bytes of entries 4 and 5. -/
theorem c2_at (old : IVec S8x128 32) : (k0_pay217 (F := Ideal) (trip.sl.v162 k) (trip.sl.r_164 (F := Ideal) arg3 harg3 arg4 v7 v10 v12 v14 v16 v18 v20 v22 v24 v26 v28 v29 cst_15 v31 v33 v35 v37 v39 X3 X4 k) old 4#32 0#32 : IVec S8x128 32) (ix2 s l)
    = QuantDySpec.cell (k.val / 2 % 4) (QuantDySpec.B sg st (x l.val) (r l.val) (64 * k.val + 8 * s.val + 2)) (old (ix2 s l)) := by
  have e : (k0_pay217 (F := Ideal) (trip.sl.v162 k) (trip.sl.r_164 (F := Ideal) arg3 harg3 arg4 v7 v10 v12 v14 v16 v18 v20 v22 v24 v26 v28 v29 cst_15 v31 v33 v35 v37 v39 X3 X4 k) old 4#32 0#32 : IVec S8x128 32)
      = cellV (Scalar.muli (plane k) 8#32) (Scalar.cmpi .eq (plane k) 0#32) (byteV (trip.sl.r_83 (F := Ideal) arg3 harg3 arg4 v7 v10 v12 v14 v16 v18 v20 v22 v24 v26 v28 v29 cst_15 v31 v33 v35 v37 v39 X3 X4 k) (trip.sl.r_88 (F := Ideal) arg3 harg3 arg4 v7 v10 v12 v14 v16 v18 v20 v22 v24 v26 v28 v29 cst_15 v31 v33 v35 v37 v39 X3 X4 k)) old := rfl
  rw [e, cell_at _ _ _ _ s l (k.val / 2 % 4) (trips_lt' k) (sh1 k) (fi1 k), b2_at I]

/-- The words with the bytes of entries 6 and 7. -/
theorem c3_at (old : IVec S8x128 32) : (k0_pay226 (F := Ideal) (trip.sl.v162 k) (trip.sl.r_171 (F := Ideal) arg3 harg3 arg4 v7 v10 v12 v14 v16 v18 v20 v22 v24 v26 v28 v29 cst_15 v31 v33 v35 v37 v39 X3 X4 k) old : IVec S8x128 32) (ix2 s l)
    = QuantDySpec.cell (k.val / 2 % 4) (QuantDySpec.B sg st (x l.val) (r l.val) (64 * k.val + 8 * s.val + 3)) (old (ix2 s l)) := by
  have e : (k0_pay226 (F := Ideal) (trip.sl.v162 k) (trip.sl.r_171 (F := Ideal) arg3 harg3 arg4 v7 v10 v12 v14 v16 v18 v20 v22 v24 v26 v28 v29 cst_15 v31 v33 v35 v37 v39 X3 X4 k) old : IVec S8x128 32)
      = cellV (Scalar.muli (plane k) 8#32) (Scalar.cmpi .eq (plane k) 0#32) (byteV (trip.sl.r_93 (F := Ideal) arg3 harg3 arg4 v7 v10 v12 v14 v16 v18 v20 v22 v24 v26 v28 v29 cst_15 v31 v33 v35 v37 v39 X3 X4 k) (trip.sl.r_98 (F := Ideal) arg3 harg3 arg4 v7 v10 v12 v14 v16 v18 v20 v22 v24 v26 v28 v29 cst_15 v31 v33 v35 v37 v39 X3 X4 k)) old := rfl
  rw [e, cell_at _ _ _ _ s l (k.val / 2 % 4) (trips_lt' k) (sh1 k) (fi1 k), b3_at I]

/-- The words with the bytes of entries 8 and 9. -/
theorem c4_at (old : IVec S8x128 32) : (k0_pay235 (F := Ideal) (trip.sl.v162 k) (trip.sl.r_177 (F := Ideal) arg3 harg3 arg4 v7 v10 v12 v14 v16 v18 v20 v22 v24 v26 v28 v29 cst_15 v31 v33 v35 v37 v39 X3 X4 k) (trip.sl.v1812 k) old : IVec S8x128 32) (ix2 s l)
    = QuantDySpec.cell (k.val / 2 % 4) (QuantDySpec.B sg st (x l.val) (r l.val) (64 * k.val + 8 * s.val + 4)) (old (ix2 s l)) := by
  have e : (k0_pay235 (F := Ideal) (trip.sl.v162 k) (trip.sl.r_177 (F := Ideal) arg3 harg3 arg4 v7 v10 v12 v14 v16 v18 v20 v22 v24 v26 v28 v29 cst_15 v31 v33 v35 v37 v39 X3 X4 k) (trip.sl.v1812 k) old : IVec S8x128 32)
      = cellV (Scalar.muli (trip.sl.v1161 k) 8#32) (Scalar.cmpi .eq (plane k) 0#32) (byteV (trip.sl.r_104 (F := Ideal) arg3 harg3 arg4 v7 v10 v12 v14 v16 v18 v20 v22 v24 v26 v28 v29 cst_15 v31 v33 v35 v37 v39 X3 X4 k) (trip.sl.r_109 (F := Ideal) arg3 harg3 arg4 v7 v10 v12 v14 v16 v18 v20 v22 v24 v26 v28 v29 cst_15 v31 v33 v35 v37 v39 X3 X4 k)) old := rfl
  rw [e, cell_at _ _ _ _ s l (k.val / 2 % 4) (trips_lt' k) (sh2 k) (fi1 k), b4_at I]

/-- The words with the bytes of entries 10 and 11. -/
theorem c5_at (old : IVec S8x128 32) : (k0_pay241 (F := Ideal) (trip.sl.v162 k) (trip.sl.r_181 (F := Ideal) arg3 harg3 arg4 v7 v10 v12 v14 v16 v18 v20 v22 v24 v26 v28 v29 cst_15 v31 v33 v35 v37 v39 X3 X4 k) 4#32 (trip.sl.v1161 k) (trip.sl.v1162 k) 0#1 old : IVec S8x128 32) (ix2 s l)
    = QuantDySpec.cell (k.val / 2 % 4) (QuantDySpec.B sg st (x l.val) (r l.val) (64 * k.val + 8 * s.val + 5)) (old (ix2 s l)) := by
  have e : (k0_pay241 (F := Ideal) (trip.sl.v162 k) (trip.sl.r_181 (F := Ideal) arg3 harg3 arg4 v7 v10 v12 v14 v16 v18 v20 v22 v24 v26 v28 v29 cst_15 v31 v33 v35 v37 v39 X3 X4 k) 4#32 (trip.sl.v1161 k) (trip.sl.v1162 k) 0#1 old : IVec S8x128 32)
      = cellV (Scalar.muli (plane3 k) 8#32) (Scalar.cmpi .eq (plane k) 0#32) (byteV (trip.sl.r_114 (F := Ideal) arg3 harg3 arg4 v7 v10 v12 v14 v16 v18 v20 v22 v24 v26 v28 v29 cst_15 v31 v33 v35 v37 v39 X3 X4 k) (trip.sl.r_119 (F := Ideal) arg3 harg3 arg4 v7 v10 v12 v14 v16 v18 v20 v22 v24 v26 v28 v29 cst_15 v31 v33 v35 v37 v39 X3 X4 k)) old := rfl
  rw [e, cell_at _ _ _ _ s l (k.val / 2 % 4) (trips_lt' k) (sh3 k) (fi1 k), b5_at I]

/-- The words with the bytes of entries 12 and 13. -/
theorem c6_at (old : IVec S8x128 32) : (k0_pay248 (F := Ideal) (trip.sl.v162 k) (trip.sl.r_186 (F := Ideal) arg3 harg3 arg4 v7 v10 v12 v14 v16 v18 v20 v22 v24 v26 v28 v29 cst_15 v31 v33 v35 v37 v39 X3 X4 k) 4#32 0#1 1#32 old : IVec S8x128 32) (ix2 s l)
    = QuantDySpec.cell (k.val / 2 % 4) (QuantDySpec.B sg st (x l.val) (r l.val) (64 * k.val + 8 * s.val + 6)) (old (ix2 s l)) := by
  have e : (k0_pay248 (F := Ideal) (trip.sl.v162 k) (trip.sl.r_186 (F := Ideal) arg3 harg3 arg4 v7 v10 v12 v14 v16 v18 v20 v22 v24 v26 v28 v29 cst_15 v31 v33 v35 v37 v39 X3 X4 k) 4#32 0#1 1#32 old : IVec S8x128 32)
      = cellV (Scalar.muli (plane k) 8#32) (Scalar.cmpi .eq (plane k) 0#32) (byteV (trip.sl.r_125 (F := Ideal) arg3 harg3 arg4 v7 v10 v12 v14 v16 v18 v20 v22 v24 v26 v28 v29 cst_15 v31 v33 v35 v37 v39 X3 X4 k) (trip.sl.r_130 (F := Ideal) arg3 harg3 arg4 v7 v10 v12 v14 v16 v18 v20 v22 v24 v26 v28 v29 cst_15 v31 v33 v35 v37 v39 X3 X4 k)) old := rfl
  rw [e, cell_at _ _ _ _ s l (k.val / 2 % 4) (trips_lt' k) (sh1 k) (fi1 k), b6_at I]

/-- The words with the bytes of entries 14 and 15. -/
theorem c7_at (old : IVec S8x128 32) : (k0_pay274 (F := Ideal) (trip.sl.v162 k) (trip.sl.r_192 (F := Ideal) arg3 harg3 arg4 v7 v10 v12 v14 v16 v18 v20 v22 v24 v26 v28 v29 cst_15 v31 v33 v35 v37 v39 X3 X4 k) 4#32 (trip.sl.v1161 k) (trip.sl.v1162 k) 0#1 0#32 old : IVec S8x128 32) (ix2 s l)
    = QuantDySpec.cell (k.val / 2 % 4) (QuantDySpec.B sg st (x l.val) (r l.val) (64 * k.val + 8 * s.val + 7)) (old (ix2 s l)) := by
  have e : (k0_pay274 (F := Ideal) (trip.sl.v162 k) (trip.sl.r_192 (F := Ideal) arg3 harg3 arg4 v7 v10 v12 v14 v16 v18 v20 v22 v24 v26 v28 v29 cst_15 v31 v33 v35 v37 v39 X3 X4 k) 4#32 (trip.sl.v1161 k) (trip.sl.v1162 k) 0#1 0#32 old : IVec S8x128 32)
      = cellV (Scalar.muli (plane3 k) 8#32) (Scalar.cmpi .eq (plane k) 0#32) (byteV (trip.sl.r_135 (F := Ideal) arg3 harg3 arg4 v7 v10 v12 v14 v16 v18 v20 v22 v24 v26 v28 v29 cst_15 v31 v33 v35 v37 v39 X3 X4 k) (trip.sl.r_141 (F := Ideal) arg3 harg3 arg4 v7 v10 v12 v14 v16 v18 v20 v22 v24 v26 v28 v29 cst_15 v31 v33 v35 v37 v39 X3 X4 k)) old := rfl
  rw [e, cell_at _ _ _ _ s l (k.val / 2 % 4) (trips_lt' k) (sh3 k) (fi1 k), b7_at I]

end Cert.QuantDyIdeal.Run

end
-- ==== Proof.QuantDyIdealLoop.lean ====
/-
  THE LOOP of the quantiser of the output gradient, by what its scratch buffers hold before each trip: the block scales,
  the values and the code bytes of the blocks of the trips before it.
-/
module

public import proofs.«01_k».proof.Proof.QuantDyIdealStep
public import Idealize.ShloMosaic.Lib.Pointwise
public import Idealize.ShloMosaic.Lib.BitcastFour

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.QuantDyIdeal.Run
open Cert.QuantDyIdeal.Gen

open QuantDySpec (cell bt)

/-- Sixteen rows more: a buffer that reads `G` on the first `n` rows from row `o` on reads it on sixteen more after a store of
    `G` there. -/
theorem cons9 {sig : RefSig} {κ : Kind} {sp : Space} (v : View sig κ sp S2048x128 .bf16) (f : v.ty.Contents (Elt Ideal)) (L : List (View.Piece (Elt Ideal) S2048x128 .bf16)) (o n : ℕ) (G : ℕ → ℕ → EReal)
    (off : Fin 2 → ℕ) (inb) (hoff : off = ![o + n, 0]) (w : S16x128.Idx → EReal)
    (hw : ∀ (q : Fin 16) (l : Fin 128), w (ix2 q l) = G (o + n + q.val) l.val)
    (ih : ∀ (ρ : Fin 2048) (l : Fin 128), v.read (Elt Ideal) (v.writes (Elt Ideal) f L) (ix2 ρ l)
      = if o ≤ ρ.val ∧ ρ.val < o + n then G ρ.val l.val else v.read (Elt Ideal) f (ix2 ρ l))
    (ρ : Fin 2048) (l : Fin 128) :
    v.read (Elt Ideal) (v.writes (Elt Ideal) f (⟨Rect.unit (s := S2048x128) off S16x128.size inb, w⟩ :: L)) (ix2 ρ l)
      = if o ≤ ρ.val ∧ ρ.val < o + (n + 16) then G ρ.val l.val else v.read (Elt Ideal) f (ix2 ρ l) := by
  subst hoff
  by_cases h : o + n ≤ ρ.val ∧ ρ.val < o + n + 16
  · rw [View.read_writes_cons_hit_of_coords v f (Rect.unit (s := S2048x128) ![o + n, 0] S16x128.size inb) w L (ix2 (⟨ρ.val - (o + n), by omega⟩ : Fin 16) l) (ix2 ρ l) ?_, if_pos (by omega), hw]
    · congr 1
      show o + n + (ρ.val - (o + n)) = ρ.val
      omega
    · intro a
      match a with
      | ⟨0, _⟩ => show ρ.val = o + n + 1 * (ρ.val - (o + n)); omega
      | ⟨1, _⟩ => show l.val = 0 + 1 * l.val; omega
  · rw [View.read_writes_cons_miss, ih]
    · by_cases h1 : o ≤ ρ.val ∧ ρ.val < o + n
      · rw [if_pos h1, if_pos (by omega)]
      · rw [if_neg h1, if_neg (by omega)]
    · rw [LoadRect.mem_set]
      intro hm
      obtain ⟨j, hj, e⟩ := hm 0
      have hj' : j < 16 := hj
      have e' : ρ.val = o + n + 1 * j := e
      omega

/-- One byte more: the words of which bytes joined those of the rows `o + 8 s + t`, `t < i`, after a store of the next. -/
theorem cons10 {sig : RefSig} {κ : Kind} {sp : Space} (v : View sig κ sp S256x128 .i32) (f : v.ty.Contents (Elt Ideal)) (L : List (View.Piece (Elt Ideal) S256x128 .i32)) (o i b : ℕ) (hi : i < 8) (ho : o + 64 ≤ 256)
    (Bf : ℕ → ℕ → BitVec 32) (off : Fin 2 → ℕ) (inb) (inb') (sp') (hoff : off = ![o + i, 0]) (w : S8x128.Idx → BitVec 32)
    (hw : ∀ (s : Fin 8) (l : Fin 128), w (ix2 s l) = cell b (Bf (8 * s.val + i) l.val)
      (View.readAt (Elt Ideal) v ⟨off, S8x128.size, ![8, 1], inb⟩ (v.writes (Elt Ideal) f L) (ix2 s l)))
    (ih : ∀ (ρ : Fin 256) (l : Fin 128), v.read (Elt Ideal) (v.writes (Elt Ideal) f L) (ix2 ρ l)
      = if o ≤ ρ.val ∧ ρ.val < o + 64 ∧ (ρ.val - o) % 8 < i then cell b (Bf (ρ.val - o) l.val) (v.read (Elt Ideal) f (ix2 ρ l)) else v.read (Elt Ideal) f (ix2 ρ l))
    (ρ : Fin 256) (l : Fin 128) :
    v.read (Elt Ideal) (v.writes (Elt Ideal) f (⟨⟨⟨off, S8x128.size, ![8, 1], inb'⟩, sp'⟩, w⟩ :: L)) (ix2 ρ l)
      = if o ≤ ρ.val ∧ ρ.val < o + 64 ∧ (ρ.val - o) % 8 < i + 1 then cell b (Bf (ρ.val - o) l.val) (v.read (Elt Ideal) f (ix2 ρ l)) else v.read (Elt Ideal) f (ix2 ρ l) := by
  subst hoff
  by_cases h : o ≤ ρ.val ∧ ρ.val < o + 64 ∧ (ρ.val - o) % 8 = i
  · obtain ⟨h1, h2, h3⟩ := h
    rw [View.read_writes_cons_hit_of_coords v f (⟨⟨![o + i, 0], S8x128.size, ![8, 1], inb'⟩, sp'⟩ : Rect S256x128) w L (ix2 (⟨(ρ.val - o) / 8, by omega⟩ : Fin 8) l) (ix2 ρ l) ?_, if_pos (by omega), hw]
    · have e : View.readAt (Elt Ideal) v ⟨![o + i, 0], S8x128.size, ![8, 1], inb⟩ (v.writes (Elt Ideal) f L) (ix2 (⟨(ρ.val - o) / 8, by omega⟩ : Fin 8) l)
          = v.read (Elt Ideal) (v.writes (Elt Ideal) f L) (ix2 ρ l) := by
        show v.read (Elt Ideal) (v.writes (Elt Ideal) f L) _ = _
        congr 1
        funext a
        apply Fin.ext
        match a with
        | ⟨0, _⟩ => show o + i + 8 * ((ρ.val - o) / 8) = ρ.val; omega
        | ⟨1, _⟩ => show 0 + 1 * l.val = l.val; omega
      rw [e, ih, if_neg (by omega)]
      have e2 : 8 * ((ρ.val - o) / 8) + i = ρ.val - o := by omega
      simp only [e2]
    · intro a
      match a with
      | ⟨0, _⟩ => show ρ.val = o + i + 8 * ((ρ.val - o) / 8); omega
      | ⟨1, _⟩ => show l.val = 0 + 1 * l.val; omega
  · rw [View.read_writes_cons_miss, ih]
    · by_cases h1 : o ≤ ρ.val ∧ ρ.val < o + 64 ∧ (ρ.val - o) % 8 < i
      · rw [if_pos h1, if_pos (by omega)]
      · rw [if_neg h1, if_neg (by omega)]
    · rw [LoadRect.mem_set]
      intro hm
      obtain ⟨j, hj, e⟩ := hm 0
      have hj' : j < 8 := hj
      have e' : ρ.val = o + i + 8 * j := e
      omega

/-- What the scratch buffers hold before trip `K`, for the signs, the tensor's scale, the entries and the random bits that the
    kernel's values are. -/
def Facts (arg9 : Memref sig .tc .vmem S2048x128 .bf16) (arg10 : Memref sig .tc .vmem S256x128 .i32) (arg11 : Memref sig .tc .vmem S128x128 .f32)
    (sg : Fin 16 → EReal) (st : EReal) (x : ℕ → ℕ → EReal) (r : ℕ → ℕ → BitVec 8) (K : ℕ)
    (f9 : BufTy.Contents (Elt Ideal) arg9.view.ty) (f10 : BufTy.Contents (Elt Ideal) arg10.view.ty) (f11 : BufTy.Contents (Elt Ideal) arg11.view.ty) : Prop :=
  (∀ (ρ : Fin 2048) (l : Fin 128), ρ.val < 128 * K → arg9.view.read (Elt Ideal) f9 (ix2 ρ l) = QuantDySpec.E sg st (x l.val) (r l.val) ρ.val)
  ∧ (∀ (ρ : Fin 256) (l : Fin 128) (b : ℕ), b < 4 → 8 * (ρ.val / 128) + ρ.val % 128 / 64 < K →
      bt (arg10.view.read (Elt Ideal) f10 (ix2 ρ l)) b
        = if 8 * (ρ.val / 128) + 2 * b + ρ.val % 128 / 64 < K then (QuantDySpec.B sg st (x l.val) (r l.val) (128 * (4 * (ρ.val / 128) + b) + ρ.val % 128)).setWidth 8 else 0)
  ∧ (∀ (g : Fin 128) (l : Fin 128), g.val < 8 * K → arg11.view.read (Elt Ideal) f11 (ix2 g l) = QuantDySpec.S sg st (x l.val) g.val)

/-- Before trip 0 nothing is claimed of the buffers. -/
theorem facts_zero (arg9 : Memref sig .tc .vmem S2048x128 .bf16) (arg10 : Memref sig .tc .vmem S256x128 .i32) (arg11 : Memref sig .tc .vmem S128x128 .f32)
    (sg : Fin 16 → EReal) (st : EReal) (x : ℕ → ℕ → EReal) (r : ℕ → ℕ → BitVec 8)
    (f9 : BufTy.Contents (Elt Ideal) arg9.view.ty) (f10 : BufTy.Contents (Elt Ideal) arg10.view.ty) (f11 : BufTy.Contents (Elt Ideal) arg11.view.ty) :
    Facts arg9 arg10 arg11 sg st x r 0 f9 f10 f11 :=
  ⟨fun ρ l h => absurd h (by omega), fun ρ l b hb h => absurd h (by omega), fun g l h => absurd h (by omega)⟩

/-- A fact of each trip that says nothing before trip 0, as an equation that is there by computation. -/
def Now (P : ℕ → Prop) (K : ℕ) : Prop := (match K with | 0 => True | n + 1 => P (n + 1)) = True

theorem Now.mk (P : ℕ → Prop) (n : ℕ) (h : P (n + 1)) : Now P (n + 1) := eq_true h

theorem Now.get {P : ℕ → Prop} {K : ℕ} (h : Now P K) (h0 : P 0) : P K := by
  match K with
  | 0 => exact h0
  | n + 1 => exact of_eq_true h

/-- The bytes of the words, a trip on. -/
theorem bytes_next (w w' : BitVec 32) (B : ℕ → BitVec 32) (hB : ∀ q i, 8 ≤ i → (B q).getLsbD i = false) (k : ℕ) (hk : k < 16) (ρ : ℕ) (hρ : ρ < 256)
    (hw : w' = if k / 8 * 128 + k % 2 * 64 ≤ ρ ∧ ρ < k / 8 * 128 + k % 2 * 64 + 64 ∧ (ρ - (k / 8 * 128 + k % 2 * 64)) % 8 < 8
      then cell (k / 2 % 4) (B (64 * k + (ρ - (k / 8 * 128 + k % 2 * 64)))) w else w)
    (ih : ∀ b, b < 4 → 8 * (ρ / 128) + ρ % 128 / 64 < k → bt w b = if 8 * (ρ / 128) + 2 * b + ρ % 128 / 64 < k then (B (128 * (4 * (ρ / 128) + b) + ρ % 128)).setWidth 8 else 0)
    (b : ℕ) (hb : b < 4) (h : 8 * (ρ / 128) + ρ % 128 / 64 < k + 1) :
    bt w' b = if 8 * (ρ / 128) + 2 * b + ρ % 128 / 64 < k + 1 then (B (128 * (4 * (ρ / 128) + b) + ρ % 128)).setWidth 8 else 0 := by
  by_cases ht : k / 8 * 128 + k % 2 * 64 ≤ ρ ∧ ρ < k / 8 * 128 + k % 2 * 64 + 64
  · rw [hw, if_pos (by omega)]
    rw [QuantDySpec.bt_cell _ _ (hB _) (k / 2 % 4) (by omega) _ b hb]
    · by_cases e : b = k / 2 % 4
      · rw [if_pos e, if_pos (by omega)]
        congr 2
        omega
      · rw [if_neg e]
        by_cases e0 : k / 2 % 4 = 0
        · rw [if_pos e0, if_neg (by omega)]
        · rw [if_neg e0, ih b hb (by omega)]
          by_cases e1 : 8 * (ρ / 128) + 2 * b + ρ % 128 / 64 < k
          · rw [if_pos e1, if_pos (by omega)]
          · rw [if_neg e1, if_neg (by omega)]
    · intro e0
      rw [ih _ (by omega) (by omega), if_neg (by omega)]
  · rw [hw, if_neg (by omega), ih b hb (by omega)]
    by_cases e1 : 8 * (ρ / 128) + 2 * b + ρ % 128 / 64 < k
    · rw [if_pos e1, if_pos (by omega)]
    · rw [if_neg e1, if_neg (by omega)]

section
variable (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal)
  (X3 : BufTy.Contents (Elt Ideal) arg3.view.ty) (X4 : BufTy.Contents (Elt Ideal) arg4.view.ty)
  {sg : Fin 16 → EReal} {st : EReal} {x : ℕ → ℕ → EReal} {r : ℕ → ℕ → BitVec 8}
  (I : Inp arg3 harg3 arg4 v7 v10 v12 v14 v16 v18 v20 v22 v24 v26 v28 v29 cst_15 v31 v33 v35 v37 v39 X3 X4 sg st x r) (k : Fin k0_t1_loop.trips)
  (f9 : BufTy.Contents (Elt Ideal) arg9.view.ty) (f10 : BufTy.Contents (Elt Ideal) arg10.view.ty) (f11 : BufTy.Contents (Elt Ideal) arg11.view.ty)
include I

/-- A trip's values. -/
theorem vals_at (ρ : Fin 2048) (l : Fin 128) :
    arg9.view.read (Elt Ideal) (arg9.view.writes (Elt Ideal) f9 (trip (F := Ideal) c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k f10).1) (ix2 ρ l)
      = if 128 * k.val ≤ ρ.val ∧ ρ.val < 128 * k.val + 128 then QuantDySpec.E sg st (x l.val) (r l.val) ρ.val else arg9.view.read (Elt Ideal) f9 (ix2 ρ l) := by
  have h0 := cons9 arg9.view f9 [] (128 * k.val) 0 (fun ρ l => QuantDySpec.E sg st (x l) (r l) ρ) (k0_off11 k 0#32) (k0_off11_inb k 0) (off11_closed 0 k) _ (fun q l => e0_at I k l q) (fun ρ l => (if_neg (by omega)).symm)
  have h1 := cons9 arg9.view f9 _ (128 * k.val) 16 (fun ρ l => QuantDySpec.E sg st (x l) (r l) ρ) (k0_off11 k 16#32) (k0_off11_inb k 1) (off11_closed 1 k) _ (fun q l => e1_at I k l q) h0
  have h2 := cons9 arg9.view f9 _ (128 * k.val) 32 (fun ρ l => QuantDySpec.E sg st (x l) (r l) ρ) (k0_off11 k 32#32) (k0_off11_inb k 2) (off11_closed 2 k) _ (fun q l => e2_at I k l q) h1
  have h3 := cons9 arg9.view f9 _ (128 * k.val) 48 (fun ρ l => QuantDySpec.E sg st (x l) (r l) ρ) (k0_off11 k 48#32) (k0_off11_inb k 3) (off11_closed 3 k) _ (fun q l => e3_at I k l q) h2
  have h4 := cons9 arg9.view f9 _ (128 * k.val) 64 (fun ρ l => QuantDySpec.E sg st (x l) (r l) ρ) (k0_off11 k 64#32) (k0_off11_inb k 4) (off11_closed 4 k) _ (fun q l => e4_at I k l q) h3
  have h5 := cons9 arg9.view f9 _ (128 * k.val) 80 (fun ρ l => QuantDySpec.E sg st (x l) (r l) ρ) (k0_off11 k 80#32) (k0_off11_inb k 5) (off11_closed 5 k) _ (fun q l => e5_at I k l q) h4
  have h6 := cons9 arg9.view f9 _ (128 * k.val) 96 (fun ρ l => QuantDySpec.E sg st (x l) (r l) ρ) (k0_off11 k 96#32) (k0_off11_inb k 6) (off11_closed 6 k) _ (fun q l => e6_at I k l q) h5
  have h7 := cons9 arg9.view f9 _ (128 * k.val) 112 (fun ρ l => QuantDySpec.E sg st (x l) (r l) ρ) (k0_off11 k 112#32) (k0_off11_inb k 7) (off11_closed 7 k) _ (fun q l => e7_at I k l q) h6
  exact h7 ρ l

/-- A trip's words. -/
theorem words_at (ρ : Fin 256) (l : Fin 128) :
    arg10.view.read (Elt Ideal) (arg10.view.writes (Elt Ideal) f10 (trip (F := Ideal) c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k f10).2.1) (ix2 ρ l)
      = if k.val / 8 * 128 + k.val % 2 * 64 ≤ ρ.val ∧ ρ.val < k.val / 8 * 128 + k.val % 2 * 64 + 64 ∧ (ρ.val - (k.val / 8 * 128 + k.val % 2 * 64)) % 8 < 8
        then cell (k.val / 2 % 4) (QuantDySpec.B sg st (x l.val) (r l.val) (64 * k.val + (ρ.val - (k.val / 8 * 128 + k.val % 2 * 64)))) (arg10.view.read (Elt Ideal) f10 (ix2 ρ l))
        else arg10.view.read (Elt Ideal) f10 (ix2 ρ l) := by
  have ho : k.val / 8 * 128 + k.val % 2 * 64 + 64 ≤ 256 := by have := trips_lt k; omega
  have h0 := cons10 arg10.view f10 [] (k.val / 8 * 128 + k.val % 2 * 64) 0 (k.val / 2 % 4) (by decide) ho (fun t l => QuantDySpec.B sg st (x l) (r l) (64 * k.val + t)) (k0_off12 k 0#32) (k0_off12_inb k 0) (k0_off12_inb k 0) spos_8_1 (off12_eq 0 k) _ (fun s l => (c0_at I k s l _)) (fun ρ l => (if_neg (by omega)).symm)
  have h1 := cons10 arg10.view f10 _ (k.val / 8 * 128 + k.val % 2 * 64) 1 (k.val / 2 % 4) (by decide) ho (fun t l => QuantDySpec.B sg st (x l) (r l) (64 * k.val + t)) (k0_off12 k 1#32) (k0_off12_inb k 1) (k0_off12_inb k 1) spos_8_1 (off12_eq 1 k) _ (fun s l => (c1_at I k s l _).trans (by rw [Nat.add_assoc])) h0
  have h2 := cons10 arg10.view f10 _ (k.val / 8 * 128 + k.val % 2 * 64) 2 (k.val / 2 % 4) (by decide) ho (fun t l => QuantDySpec.B sg st (x l) (r l) (64 * k.val + t)) (k0_off12 k 2#32) (k0_off12_inb k 2) (k0_off12_inb k 2) spos_8_1 (off12_eq 2 k) _ (fun s l => (c2_at I k s l _).trans (by rw [Nat.add_assoc])) h1
  have h3 := cons10 arg10.view f10 _ (k.val / 8 * 128 + k.val % 2 * 64) 3 (k.val / 2 % 4) (by decide) ho (fun t l => QuantDySpec.B sg st (x l) (r l) (64 * k.val + t)) (k0_off12 k 3#32) (k0_off12_inb k 3) (k0_off12_inb k 3) spos_8_1 (off12_eq 3 k) _ (fun s l => (c3_at I k s l _).trans (by rw [Nat.add_assoc])) h2
  have h4 := cons10 arg10.view f10 _ (k.val / 8 * 128 + k.val % 2 * 64) 4 (k.val / 2 % 4) (by decide) ho (fun t l => QuantDySpec.B sg st (x l) (r l) (64 * k.val + t)) (k0_off12 k 4#32) (k0_off12_inb k 4) (k0_off12_inb k 4) spos_8_1 (off12_eq 4 k) _ (fun s l => (c4_at I k s l _).trans (by rw [Nat.add_assoc])) h3
  have h5 := cons10 arg10.view f10 _ (k.val / 8 * 128 + k.val % 2 * 64) 5 (k.val / 2 % 4) (by decide) ho (fun t l => QuantDySpec.B sg st (x l) (r l) (64 * k.val + t)) (k0_off12 k 5#32) (k0_off12_inb k 5) (k0_off12_inb k 5) spos_8_1 (off12_eq 5 k) _ (fun s l => (c5_at I k s l _).trans (by rw [Nat.add_assoc])) h4
  have h6 := cons10 arg10.view f10 _ (k.val / 8 * 128 + k.val % 2 * 64) 6 (k.val / 2 % 4) (by decide) ho (fun t l => QuantDySpec.B sg st (x l) (r l) (64 * k.val + t)) (k0_off12 k 6#32) (k0_off12_inb k 6) (k0_off12_inb k 6) spos_8_1 (off12_eq 6 k) _ (fun s l => (c6_at I k s l _).trans (by rw [Nat.add_assoc])) h5
  have h7 := cons10 arg10.view f10 _ (k.val / 8 * 128 + k.val % 2 * 64) 7 (k.val / 2 % 4) (by decide) ho (fun t l => QuantDySpec.B sg st (x l) (r l) (64 * k.val + t)) (k0_off12 k 7#32) (k0_off12_inb k 7) (k0_off12_inb k 7) spos_8_1 (off12_eq 7 k) _ (fun s l => (c7_at I k s l _).trans (by rw [Nat.add_assoc])) h6
  exact h7 ρ l

/-- A trip's block scales. -/
theorem scales_at (g : Fin 128) (l : Fin 128) :
    arg11.view.read (Elt Ideal) (arg11.view.writes (Elt Ideal) f11 (trip (F := Ideal) c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k f10).2.2.1) (ix2 g l)
      = if 8 * k.val ≤ g.val ∧ g.val < 8 * k.val + 8 then QuantDySpec.S sg st (x l.val) g.val else arg11.view.read (Elt Ideal) f11 (ix2 g l) := by
  by_cases h : 8 * k.val ≤ g.val ∧ g.val < 8 * k.val + 8
  · rw [if_pos h]
    refine (View.read_writes_cons_hit_of_coords arg11.view f11 (Rect.unit (s := S128x128) (k0_off9 k) S8x128.size (k0_off9_inb k)) (k0_pay94 (trip.sl.r_50 (F := Ideal) arg3 harg3 v7 v10 v12 v14 v16 v18 v20 v22 v24 v26 v28 v29 cst_15 v31 v33 v35 v37 v39 X3 k)) [] (ix2 (⟨g.val - 8 * k.val, by omega⟩ : Fin 8) l) (ix2 g l) ?_).trans ?_
    · intro a
      rw [show (Rect.unit (s := S128x128) (k0_off9 k) S8x128.size (k0_off9_inb k)).off = ![8 * k.val, 0] from off9_closed k]
      match a with
      | ⟨0, _⟩ => show g.val = 8 * k.val + 1 * (g.val - 8 * k.val); omega
      | ⟨1, _⟩ => show l.val = 0 + 1 * l.val; omega
    · pointwise [k0_pay94]
      rw [sb_at I]
      congr 1
      show 8 * k.val + (g.val - 8 * k.val) = g.val
      omega
  · rw [if_neg h]
    refine (View.read_writes_cons_miss arg11.view f11 ⟨Rect.unit (s := S128x128) (k0_off9 k) S8x128.size (k0_off9_inb k), k0_pay94 (trip.sl.r_50 (F := Ideal) arg3 harg3 v7 v10 v12 v14 v16 v18 v20 v22 v24 v26 v28 v29 cst_15 v31 v33 v35 v37 v39 X3 k)⟩ [] (ix2 g l) ?_).trans rfl
    rw [LoadRect.mem_set]
    intro hm
    obtain ⟨j, hj, e⟩ := hm 0
    have hj' : j < 8 := hj
    rw [show (Rect.unit (s := S128x128) (k0_off9 k) S8x128.size (k0_off9_inb k)).off = ![8 * k.val, 0] from off9_closed k] at e
    have e' : g.val = 8 * k.val + 1 * j := e
    omega

/-- A TRIP on: what the scratch buffers hold before the next one. -/
theorem facts_next (h : Facts arg9 arg10 arg11 sg st x r k.val f9 f10 f11) :
    Facts arg9 arg10 arg11 sg st x r (k.val + 1) (arg9.view.writes (Elt Ideal) f9 (trip (F := Ideal) c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k f10).1)
      (arg10.view.writes (Elt Ideal) f10 (trip (F := Ideal) c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k f10).2.1)
      (arg11.view.writes (Elt Ideal) f11 (trip (F := Ideal) c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k f10).2.2.1) := by
  refine ⟨fun ρ l hρ => ?_, fun ρ l b hb hρ => ?_, fun g l hg => ?_⟩
  · rw [vals_at c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 I k f9 f10]
    by_cases h1 : 128 * k.val ≤ ρ.val ∧ ρ.val < 128 * k.val + 128
    · rw [if_pos h1]
    · rw [if_neg h1]; exact h.1 ρ l (by omega)
  · exact bytes_next _ _ (fun q => QuantDySpec.B sg st (x l.val) (r l.val) q) (fun q i hi => QuantDySpec.B_lt _ _ _ _ q i hi) k.val (trips_lt k) ρ.val ρ.isLt
      (words_at c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 I k f10 ρ l) (h.2.1 ρ l) b hb hρ
  · rw [scales_at c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 I k f10 f11]
    by_cases h1 : 8 * k.val ≤ g.val ∧ g.val < 8 * k.val + 8
    · rw [if_pos h1]
    · rw [if_neg h1]; exact h.2.2 g l (by omega)

end

local notation "𝕄" => MT nD τ sig Unit (Elt Ideal) ℕ (UR sig nD τ) ℕ

/-- What the loop holds before trip `K`: the two inputs it reads at their contents, and the three scratch buffers at contents of
    which `Facts` says what they are for all signs, scale, entries and random bits that the kernel's values are. -/
def LoopHeld (c : Dev nD) (arg3 : Memref sig .tc .vmem S2048x128 .bf16) (harg3 : arg3.IsWhole) (arg4 : Memref sig .tc .vmem S2048x128 .i8) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (X4 : BufTy.Contents (Elt Ideal) arg4.view.ty) (arg9 : Memref sig .tc .vmem S2048x128 .bf16) (arg10 : Memref sig .tc .vmem S256x128 .i32) (arg11 : Memref sig .tc .vmem S128x128 .f32) (K : ℕ) : sProp 𝕄 :=
  iprop((arg3.view.loc (c : Thread nD τ) ↦[arg3.view.set]{fullShare} X3)
    ∗ (arg4.view.loc (c : Thread nD τ) ↦[arg4.view.set]{fullShare} X4)
    ∗ (∃ f9 f10 f11, iprop((arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ ⌜Now (fun K => ∀ sg st x r, Inp arg3 harg3 arg4 v7 v10 v12 v14 v16 v18 v20 v22 v24 v26 v28 v29 cst_15 v31 v33 v35 v37 v39 X3 X4 sg st x r → Facts arg9 arg10 arg11 sg st x r K f9 f10 f11) K⌝)))

/-- One trip, by the invariant. -/
theorem loopTrip (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal)
    (X3 : BufTy.Contents (Elt Ideal) arg3.view.ty) (X4 : BufTy.Contents (Elt Ideal) arg4.view.ty) (k : Fin k0_t1_loop.trips) :
    LoopHeld c arg3 harg3 arg4 v7 v10 v12 v14 v16 v18 v20 v22 v24 v26 v28 v29 cst_15 v31 v33 v35 v37 v39 X3 X4 arg9 arg10 arg11 k.val
      ⊢ wp frame (wpE (defs₀ (F := Ideal)) Variants.none (c : Thread nD τ) none) E (k0_t1_body (F := Ideal) i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 k PUnit.unit)
        (fun _ => LoopHeld c arg3 harg3 arg4 v7 v10 v12 v14 v16 v18 v20 v22 v24 v26 v28 v29 cst_15 v31 v33 v35 v37 v39 X3 X4 arg9 arg10 arg11 (k.val + 1)) := by
  unfold LoopHeld
  iintro ⟨H3, H4, ⟨%f9, %f10, %f11, H9, H10, H11, %hf⟩⟩
  iapply (((trip (F := Ideal) c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k f10).2.2.2 E f9 f11).trans (wp_mono _ _ _ fun _ => ?_))
  swap
  · isplitl [H3]; · iexact H3
    isplitl [H4]; · iexact H4
    isplitl [H9]; · iexact H9
    isplitl [H10]; · iexact H10
    iexact H11
  iintro ⟨H3, H4, H9, H10, H11⟩
  isplitl [H3]; · iexact H3
  isplitl [H4]; · iexact H4
  iexists _, _, _
  isplitl [H9]; · iexact H9
  isplitl [H10]; · iexact H10
  isplitl [H11]; · iexact H11
  ipureintro
  exact Now.mk _ _ fun sg st x r I => facts_next c i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 I k f9 f10 f11 (hf.get (fun sg st x r I => facts_zero ..) sg st x r I)

set_option warn.classDefReducibility false in
/-- The loop by its invariant. -/
@[sl_loop] def loopInv (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal)
    (X3 : BufTy.Contents (Elt Ideal) arg3.view.ty) (X4 : BufTy.Contents (Elt Ideal) arg4.view.ty) :
    LoopInvTy_k0_t1 (F := Ideal) Unit ℕ (UR sig nD τ) ℕ Variants.none c none E i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 where
  inv K _ := LoopHeld c arg3 harg3 arg4 v7 v10 v12 v14 v16 v18 v20 v22 v24 v26 v28 v29 cst_15 v31 v33 v35 v37 v39 X3 X4 arg9 arg10 arg11 K
  step k acc := loopTrip c E i arg1 harg1 arg2 harg2 arg3 harg3 arg4 harg4 arg5 harg5 arg6 harg6 arg7 harg7 arg8 harg8 arg9 harg9 arg10 harg10 arg11 harg11 v7 v10 v12 v14 v16 v18 v20 v22 v24 v26 v28 v29 cst_15 v31 v33 v35 v37 v39 X3 X4 k

end Cert.QuantDyIdeal.Run

end
-- ==== Proof.QuantDyIdealBody.lean ====
/-
  THE BODY OF THE QUANTISER of the output gradient at Ideal: what one grid point leaves in its four outputs, said by
  `QuantDySpec` of the point's columns.
-/
module

public import proofs.«01_k».proof.Defs
public import proofs.«01_k».proof.Proof.Gen.QuantDyIdeal
public import proofs.«01_k».proof.Proof.Gen.QuantDyIdeal.Skeleton
public import proofs.«01_k».proof.Proof.Gen.QuantDyIdeal.Loops
public import proofs.«01_k».proof.Proof.Gen.QuantDyIdeal.Launch
public import proofs.«01_k».proof.Proof.Gen.QuantDyIdeal.Points
public import proofs.«01_k».proof.Proof.Gen.QuantDyIdeal.Frame
public import Idealize.ShloMosaic.Lib.Pipeline.FrameBody
public import Idealize.ShloMosaic.Lib.Exec
public import Idealize.ShloMosaic.Lib.Tactic
public import Idealize.ShloMosaic.Lib.Claim
public import Idealize.ShloMosaic.Lib.Pointwise
public import proofs.«01_k».proof.Proof.QuantDyIdealLoop

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantDyIdeal.Run
open Cert.QuantDyIdeal.Gen

local notation "𝕄" => MT nD τ sig Unit (Elt Ideal) ℕ (UR sig nD τ) ℕ

/-- The signs, the tensor's scale, and a column's entries and random bits, of what a point of the kernel is given. -/
def sgOf (x0 : Vec Ideal S16 .f32) : Fin 16 → EReal := fun i => x0 (ix1 i)
/-- The tensor's scale, of the largest magnitude. -/
def stOf (x1 : Vec Ideal S1 .f32) : EReal := QuantDyMath.tscale (x1 (ix1 0))
/-- A column of the block of entries. -/
def xOf (x2 : Vec Ideal S2048x128 .bf16) (l t : ℕ) : EReal := if h : t < 2048 ∧ l < 128 then x2 (ix2 ⟨t, h.1⟩ ⟨l, h.2⟩) else 0
/-- A column of the block of random bytes. -/
def rOf (x3 : Vec Ideal S2048x128 .i8) (l t : ℕ) : BitVec 8 := if h : t < 2048 ∧ l < 128 then x3 (ix2 ⟨t, h.1⟩ ⟨l, h.2⟩) else 0

/-- What a point leaves: the values, the codes, the block scales and the tensor's scale. -/
def outV (x0 : Vec Ideal S16 .f32) (x1 : Vec Ideal S1 .f32) (x2 : Vec Ideal S2048x128 .bf16) (x3 : Vec Ideal S2048x128 .i8) : Vec Ideal S128x2048 .bf16 :=
  fun y => QuantDySpec.E (sgOf x0) (stOf x1) (xOf x2 (y 0).val) (rOf x3 (y 0).val) (y 1).val
/-- What a point leaves as codes. -/
def outC (x0 : Vec Ideal S16 .f32) (x1 : Vec Ideal S1 .f32) (x2 : Vec Ideal S2048x128 .bf16) (x3 : Vec Ideal S2048x128 .i8) : Vec Ideal S128x1024 .i8 :=
  fun y => (QuantDySpec.B (sgOf x0) (stOf x1) (xOf x2 (y 0).val) (rOf x3 (y 0).val) (y 1).val).setWidth 8
/-- What a point leaves as block scales. -/
def outS (x0 : Vec Ideal S16 .f32) (x1 : Vec Ideal S1 .f32) (x2 : Vec Ideal S2048x128 .bf16) : Vec Ideal S128x128 .fp8e4m3 :=
  fun y => QuantDySpec.S (sgOf x0) (stOf x1) (xOf x2 (y 0).val) (y 1).val
/-- What a point leaves as the tensor's scale. -/
def outT (x1 : Vec Ideal S1 .f32) : Vec Ideal S8x128 .f32 := fun _ => stOf x1

open Cert.QuantDyMath Cert.QuantDySpec

/-! ### What the stored values are -/

theorem pay286_at (v : Vec Ideal S128x128 .bf16) (a b : Fin 128) : k0_pay286 v (ix2 a b) = v (ix2 b a) := by pointwise [k0_pay286]
theorem pay287_at (v : Vec Ideal S128x128 .bf16) (a b : Fin 128) : k0_pay287 v (ix2 a b) = v (ix2 b a) := by pointwise [k0_pay287]
theorem pay288_at (v : Vec Ideal S128x128 .bf16) (a b : Fin 128) : k0_pay288 v (ix2 a b) = v (ix2 b a) := by pointwise [k0_pay288]
theorem pay289_at (v : Vec Ideal S128x128 .bf16) (a b : Fin 128) : k0_pay289 v (ix2 a b) = v (ix2 b a) := by pointwise [k0_pay289]
theorem pay290_at (v : Vec Ideal S128x128 .bf16) (a b : Fin 128) : k0_pay290 v (ix2 a b) = v (ix2 b a) := by pointwise [k0_pay290]
theorem pay291_at (v : Vec Ideal S128x128 .bf16) (a b : Fin 128) : k0_pay291 v (ix2 a b) = v (ix2 b a) := by pointwise [k0_pay291]
theorem pay292_at (v : Vec Ideal S128x128 .bf16) (a b : Fin 128) : k0_pay292 v (ix2 a b) = v (ix2 b a) := by pointwise [k0_pay292]
theorem pay293_at (v : Vec Ideal S128x128 .bf16) (a b : Fin 128) : k0_pay293 v (ix2 a b) = v (ix2 b a) := by pointwise [k0_pay293]
theorem pay294_at (v : Vec Ideal S128x128 .bf16) (a b : Fin 128) : k0_pay294 v (ix2 a b) = v (ix2 b a) := by pointwise [k0_pay294]
theorem pay295_at (v : Vec Ideal S128x128 .bf16) (a b : Fin 128) : k0_pay295 v (ix2 a b) = v (ix2 b a) := by pointwise [k0_pay295]
theorem pay296_at (v : Vec Ideal S128x128 .bf16) (a b : Fin 128) : k0_pay296 v (ix2 a b) = v (ix2 b a) := by pointwise [k0_pay296]
theorem pay297_at (v : Vec Ideal S128x128 .bf16) (a b : Fin 128) : k0_pay297 v (ix2 a b) = v (ix2 b a) := by pointwise [k0_pay297]
theorem pay298_at (v : Vec Ideal S128x128 .bf16) (a b : Fin 128) : k0_pay298 v (ix2 a b) = v (ix2 b a) := by pointwise [k0_pay298]
theorem pay299_at (v : Vec Ideal S128x128 .bf16) (a b : Fin 128) : k0_pay299 v (ix2 a b) = v (ix2 b a) := by pointwise [k0_pay299]
theorem pay1_at (v : Vec Ideal S128x128 .bf16) (a b : Fin 128) : k0_pay1 v (ix2 a b) = v (ix2 b a) := by pointwise [k0_pay1]
theorem pay2_at (v : Vec Ideal S128x128 .bf16) (a b : Fin 128) : k0_pay2 v (ix2 a b) = v (ix2 b a) := by pointwise [k0_pay2]
theorem pay285_at (v : Vec Ideal S128x128 .f32) (a b : Fin 128) : k0_pay285 v (ix2 a b) = v (ix2 b a) := by pointwise [k0_pay285]

/-- A byte taken out of a word by a shift and a mask. -/
theorem byte_of (w s : BitVec 32) (b : ℕ) (hb : b < 4) (hs : s = BitVec.ofNat 32 (8 * b)) :
    (IntOp.andi (IntOp.shrui .vector w s) 255#32).setWidth 8 = bt w b := by
  subst hs
  have hm : ∀ i < 8, (255#32 : BitVec 32).getLsbD i = true := by decide
  have hn : (BitVec.ofNat 32 (8 * b)).toNat = 8 * b := by simp only [BitVec.toNat_ofNat]; omega
  apply BitVec.eq_of_getLsbD_eq
  intro i hi
  simp only [bt, IntOp.andi, IntOp.shrui, hn, show 8 * b < 32 by omega, if_true, BitVec.getLsbD_setWidth, BitVec.getLsbD_and, BitVec.ushiftRight_eq',
    BitVec.getLsbD_ushiftRight, hm i hi, Bool.and_true]

theorem pay276_at (v : Vec Ideal S128x128 .i32) (a b : Fin 128) : k0_pay276 (F := Ideal) v (ix2 a b) = bt (v (ix2 b a)) 0 :=
  (show _ = (IntOp.andi (IntOp.shrui .vector (v (ix2 b a)) 0#32) 255#32).setWidth 8 by pointwise [k0_pay276, k0_pay275]).trans (byte_of _ _ 0 (by omega) rfl)
theorem pay277_at (v : Vec Ideal S128x128 .i32) (a b : Fin 128) : k0_pay277 (F := Ideal) v (ix2 a b) = bt (v (ix2 b a)) 1 :=
  (show _ = (IntOp.andi (IntOp.shrui .vector (v (ix2 b a)) 8#32) 255#32).setWidth 8 by pointwise [k0_pay277, k0_pay275]).trans (byte_of _ _ 1 (by omega) rfl)
theorem pay278_at (v : Vec Ideal S128x128 .i32) (a b : Fin 128) : k0_pay278 (F := Ideal) v (ix2 a b) = bt (v (ix2 b a)) 2 :=
  (show _ = (IntOp.andi (IntOp.shrui .vector (v (ix2 b a)) 16#32) 255#32).setWidth 8 by pointwise [k0_pay278, k0_pay275]).trans (byte_of _ _ 2 (by omega) rfl)
theorem pay279_at (v : Vec Ideal S128x128 .i32) (a b : Fin 128) : k0_pay279 (k0_pay275 (F := Ideal) v) (ix2 a b) = bt (v (ix2 b a)) 3 :=
  (show _ = (IntOp.andi (IntOp.shrui .vector (v (ix2 b a)) 24#32) 255#32).setWidth 8 by pointwise [k0_pay279, k0_pay275]).trans (byte_of _ _ 3 (by omega) rfl)
theorem pay281_at (v : Vec Ideal S128x128 .i32) (a b : Fin 128) : k0_pay281 (F := Ideal) v (ix2 a b) = bt (v (ix2 b a)) 0 :=
  (show _ = (IntOp.andi (IntOp.shrui .vector (v (ix2 b a)) 0#32) 255#32).setWidth 8 by pointwise [k0_pay281, k0_pay280]).trans (byte_of _ _ 0 (by omega) rfl)
theorem pay282_at (v : Vec Ideal S128x128 .i32) (a b : Fin 128) : k0_pay282 (F := Ideal) v (ix2 a b) = bt (v (ix2 b a)) 1 :=
  (show _ = (IntOp.andi (IntOp.shrui .vector (v (ix2 b a)) 8#32) 255#32).setWidth 8 by pointwise [k0_pay282, k0_pay280]).trans (byte_of _ _ 1 (by omega) rfl)
theorem pay283_at (v : Vec Ideal S128x128 .i32) (a b : Fin 128) : k0_pay283 (F := Ideal) v (ix2 a b) = bt (v (ix2 b a)) 2 :=
  (show _ = (IntOp.andi (IntOp.shrui .vector (v (ix2 b a)) 16#32) 255#32).setWidth 8 by pointwise [k0_pay283, k0_pay280]).trans (byte_of _ _ 2 (by omega) rfl)
theorem pay284_at (v : Vec Ideal S128x128 .i32) (a b : Fin 128) : k0_pay284 (F := Ideal) v (ix2 a b) = bt (v (ix2 b a)) 3 :=
  (show _ = (IntOp.andi (IntOp.shrui .vector (v (ix2 b a)) 24#32) 255#32).setWidth 8 by pointwise [k0_pay284, k0_pay280]).trans (byte_of _ _ 3 (by omega) rfl)

theorem pay257_at (v : Elt Ideal .f32) (s : Fin 8) (l : Fin 128) : k0_pay257 (F := Ideal) v (ix2 s l) = QuantDyMath.tscale v := by
  have h : k0_pay257 (F := Ideal) v (ix2 s l) = if Ideal.ofBits .f32 0#32 < v then Ideal.div v (Ideal.ofBits .f32 0x45280000#32) else Ideal.ofBits .f32 0x3F800000#32 := by
    pointwise [k0_pay257]
  rw [h, c_div, QuantDyMath.tscale, show Ideal.ofBits .f32 0#32 = (0 : EReal) by simp [Ideal.ofBits, Ideal.ieee],
    show Ideal.ofBits .f32 0x3F800000#32 = (1 : EReal) by simp [Ideal.ofBits, Ideal.ieee, -EReal.coe_mul]; norm_num]

theorem pay258_at (v : Elt Ideal .f32) : k0_pay258 (F := Ideal) v = v * ((1 / 4 : ℝ) : EReal) := congrArg (v * ·) c_quarter
theorem pay259_at (v : Elt Ideal .f32) : k0_pay259 (F := Ideal) v = v * ((1 / 4 : ℝ) : EReal) := congrArg (v * ·) c_quarter
theorem pay260_at (v : Elt Ideal .f32) : k0_pay260 (F := Ideal) v = v * ((1 / 4 : ℝ) : EReal) := congrArg (v * ·) c_quarter
theorem pay261_at (v : Elt Ideal .f32) : k0_pay261 (F := Ideal) v = v * ((1 / 4 : ℝ) : EReal) := congrArg (v * ·) c_quarter
theorem pay262_at (v : Elt Ideal .f32) : k0_pay262 (F := Ideal) v = v * ((1 / 4 : ℝ) : EReal) := congrArg (v * ·) c_quarter
theorem pay263_at (v : Elt Ideal .f32) : k0_pay263 (F := Ideal) v = v * ((1 / 4 : ℝ) : EReal) := congrArg (v * ·) c_quarter
theorem pay264_at (v : Elt Ideal .f32) : k0_pay264 (F := Ideal) v = v * ((1 / 4 : ℝ) : EReal) := congrArg (v * ·) c_quarter
theorem pay265_at (v : Elt Ideal .f32) : k0_pay265 (F := Ideal) v = v * ((1 / 4 : ℝ) : EReal) := congrArg (v * ·) c_quarter
theorem pay266_at (v : Elt Ideal .f32) : k0_pay266 (F := Ideal) v = v * ((1 / 4 : ℝ) : EReal) := congrArg (v * ·) c_quarter
theorem pay267_at (v : Elt Ideal .f32) : k0_pay267 (F := Ideal) v = v * ((1 / 4 : ℝ) : EReal) := congrArg (v * ·) c_quarter

/-- An entry of the signs. -/
theorem sign_at (arg1 : Memref sig .tc .smem S16 .f32) (harg1 : arg1.IsWhole) (x0 : Vec Ideal S16 .f32) (o : Fin 16)
    (inb : ∀ a, ![o.val] a + S1.size a ≤ S16.size a) (h : 0 < S1.numel) :
    View.readAt (Elt Ideal) arg1.view (Rect.unit (s := S16) ![o.val] S1.size inb).toLoadRect (harg1.unread x0) (Shape.Idx.first h) = sgOf x0 o := by
  rw [harg1.readAt_unread]
  refine congrArg x0 (funext fun a => ?_)
  match a with
  | ⟨0, _⟩ => exact Fin.ext ((LoadRect.idx_apply _ _ _).trans (by show o.val + 1 * 0 = o.val; omega))

/-- The amax. -/
theorem amax_at (arg2 : Memref sig .tc .smem S1 .f32) (harg2 : arg2.IsWhole) (x1 : Vec Ideal S1 .f32)
    (inb : ∀ a, ![0] a + S1.size a ≤ S1.size a) (h : 0 < S1.numel) :
    View.readAt (Elt Ideal) arg2.view (Rect.unit (s := S1) ![0] S1.size inb).toLoadRect (harg2.unread x1) (Shape.Idx.first h) = x1 (ix1 0) := by
  rw [harg2.readAt_unread]
  refine congrArg x1 (funext fun a => ?_)
  match a with
  | ⟨0, _⟩ => exact Fin.ext ((LoadRect.idx_apply _ _ _).trans (by show 0 + 1 * 0 = 0; omega))

/-- A tile of 128 rows, loaded. -/
theorem load_at {e : EltTy} {N : ℕ} (arg : Memref sig .tc .vmem (⟨2, ![N, 128]⟩ : Shape) e) (f : BufTy.Contents (Elt Ideal) arg.view.ty) (o : ℕ)
    (inb : ∀ a, ![o, 0] a + ![128, 128] a ≤ (⟨2, ![N, 128]⟩ : Shape).size a) (a b : Fin 128) (h : o + a.val < N) :
    View.readAt (Elt Ideal) arg.view (Rect.unit (s := (⟨2, ![N, 128]⟩ : Shape)) ![o, 0] ![128, 128] inb).toLoadRect f (ix2 a b) = arg.view.read (Elt Ideal) f (ix2 ⟨o + a.val, h⟩ b) := by
  refine congrArg (arg.view.read (Elt Ideal) f) (funext fun q => ?_)
  match q with
  | ⟨0, _⟩ => exact Fin.ext ((LoadRect.idx_apply _ _ _).trans (by show o + 1 * a.val = o + a.val; omega))
  | ⟨1, _⟩ => exact Fin.ext ((LoadRect.idx_apply _ _ _).trans (by show 0 + 1 * b.val = b.val; omega))

/-- A tile of 128 columns: where it puts what is stored, -/
theorem emb_at {N : ℕ} (o : ℕ) (inb : ∀ a, ![0, o] a + ![128, 128] a ≤ (⟨2, ![128, N]⟩ : Shape).size a) (a b : Fin 128) (h : o + b.val < N) :
    (Rect.unit (s := (⟨2, ![128, N]⟩ : Shape)) ![0, o] ![128, 128] inb).emb (ix2 a b) = ix2 a ⟨o + b.val, h⟩ := by
  funext q
  match q with
  | ⟨0, _⟩ => exact Fin.ext ((LoadRect.idx_apply _ _ _).trans (by show 0 + 1 * a.val = a.val; omega))
  | ⟨1, _⟩ => exact Fin.ext ((LoadRect.idx_apply _ _ _).trans (by show o + 1 * b.val = o + b.val; omega))

/-- and the columns it has. -/
theorem mem_tile {N : ℕ} (o : ℕ) (inb : ∀ a, ![0, o] a + ![128, 128] a ≤ (⟨2, ![128, N]⟩ : Shape).size a) (y : (⟨2, ![128, N]⟩ : Shape).Idx)
    (h : o ≤ (y 1).val ∧ (y 1).val < o + 128) : y ∈ (Rect.unit (s := (⟨2, ![128, N]⟩ : Shape)) ![0, o] ![128, 128] inb).set := by
  rw [LoadRect.mem_set]
  intro a
  match a with
  | ⟨0, _⟩ => exact ⟨(y 0).val, (y 0).isLt, by show (y 0).val = 0 + 1 * (y 0).val; omega⟩
  | ⟨1, _⟩ => exact ⟨(y 1).val - o, by show (y 1).val - o < 128; omega, by show (y 1).val = o + 1 * ((y 1).val - o); omega⟩

/-- The body's triple: on whole staging memrefs, the inputs' at their contents, the body leaves the outputs' at what `QuantDySpec`
    says of them, when the signs and the entries are real numbers. -/
theorem kernelRun0 (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .i8) (harg4 : arg4.IsWhole) (arg5 : Memref sig .tc .vmem S128x2048 .bf16) (harg5 : arg5.IsWhole) (arg6 : Memref sig .tc .vmem S128x1024 .i8) (harg6 : arg6.IsWhole) (arg7 : Memref sig .tc .vmem S128x128 .fp8e4m3) (harg7 : arg7.IsWhole) (arg8 : Memref sig .tc .vmem S8x128 .f32) (harg8 : arg8.IsWhole) (arg9 : Memref sig .tc .vmem S2048x128 .bf16) (harg9 : arg9.IsWhole) (arg10 : Memref sig .tc .vmem S256x128 .i32) (harg10 : arg10.IsWhole) (arg11 : Memref sig .tc .vmem S128x128 .f32) (harg11 : arg11.IsWhole)
    (x0 : Vec Ideal S16 .f32) (x1 : Vec Ideal S1 .f32) (x2 : Vec Ideal S2048x128 .bf16) (x3 : Vec Ideal S2048x128 .i8)
    (hx0 : ∀ i, ∃ z : ℝ, x0 i = z) (hx2 : ∀ i, ∃ z : ℝ, x2 i = z) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outV x0 x1 x2 x3) ∗ owns (c : Thread nD τ) arg6 fullShare (outC x0 x1 x2 x3) ∗ owns (c : Thread nD τ) arg7 fullShare (outS x0 x1 x2) ∗ owns (c : Thread nD τ) arg8 fullShare (outT x1) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_quant_dy i arg1 harg1 arg2 harg2 arg3 harg3 arg4 harg4 arg5 harg5 arg6 harg6 arg7 harg7 arg8 harg8 arg9 harg9 arg10 harg10 arg11 harg11) K := by
    intro E K
    simp only [cc0_quant_dy_eq_skeleton]; unfold cc0_quant_dy_skel
    simp only [k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec
    have ht : Scf.trips k0_t1_loop.lb k0_t1_loop.ub k0_t1_loop.st = 16 := by decide +kernel
    have I : Inp arg3 harg3 arg4 (kernelRun0.sl.r_12 c arg2 harg2 x1) (kernelRun0.sl.r_13 c arg1 harg1 x0) (kernelRun0.sl.r_14 c arg1 harg1 x0) (kernelRun0.sl.r_15 c arg1 harg1 x0) (kernelRun0.sl.r_16 c arg1 harg1 x0) (kernelRun0.sl.r_17 c arg1 harg1 x0) (kernelRun0.sl.r_18 c arg1 harg1 x0) (kernelRun0.sl.r_19 c arg1 harg1 x0) (kernelRun0.sl.r_20 c arg1 harg1 x0) (kernelRun0.sl.r_21 c arg1 harg1 x0) (kernelRun0.sl.r_22 c arg1 harg1 x0) (kernelRun0.sl.r_11 c arg1 harg1 x0) kernelRun0.sl.cst_15 (kernelRun0.sl.r_23 c arg1 harg1 x0) (kernelRun0.sl.r_24 c arg1 harg1 x0) (kernelRun0.sl.r_25 c arg1 harg1 x0) (kernelRun0.sl.r_26 c arg1 harg1 x0) (kernelRun0.sl.r_27 c arg1 harg1 x0) (harg3.unread x2) (harg4.unread x3) (sgOf x0) (stOf x1) (xOf x2) (rOf x3) :=
      { hx := fun t l => by rw [hf2, xOf, dif_pos ⟨t.isLt, l.isLt⟩]
        hr := fun t l => by rw [hf3, rOf, dif_pos ⟨t.isLt, l.isLt⟩]
        hst := fun s l => (pay257_at _ s l).trans (congrArg QuantDyMath.tscale (amax_at arg2 harg2 x1 _ _))
        pos := tscale_pos _
        rx := fun t l => by rw [xOf, dif_pos ⟨t.isLt, l.isLt⟩]; exact hx2 _
        rs := fun i => hx0 _
        s0 := (pay258_at _).trans (congrArg (· * _) (sign_at arg1 harg1 x0 0 _ _))
        s1 := (pay259_at _).trans (congrArg (· * _) (sign_at arg1 harg1 x0 1 _ _))
        s2 := (pay260_at _).trans (congrArg (· * _) (sign_at arg1 harg1 x0 2 _ _))
        s3 := (pay261_at _).trans (congrArg (· * _) (sign_at arg1 harg1 x0 3 _ _))
        s4 := (pay262_at _).trans (congrArg (· * _) (sign_at arg1 harg1 x0 4 _ _))
        s5 := (pay263_at _).trans (congrArg (· * _) (sign_at arg1 harg1 x0 5 _ _))
        s6 := (pay264_at _).trans (congrArg (· * _) (sign_at arg1 harg1 x0 6 _ _))
        s7 := (pay265_at _).trans (congrArg (· * _) (sign_at arg1 harg1 x0 7 _ _))
        s8 := (pay266_at _).trans (congrArg (· * _) (sign_at arg1 harg1 x0 8 _ _))
        s9 := (pay267_at _).trans (congrArg (· * _) (sign_at arg1 harg1 x0 9 _ _))
        s10 := (congrArg (_ * ·) c_quarter).trans (congrArg (· * _) (sign_at arg1 harg1 x0 10 _ _))
        s11 := sign_at arg1 harg1 x0 11 _ _
        s12 := sign_at arg1 harg1 x0 12 _ _
        s13 := sign_at arg1 harg1 x0 13 _ _
        s14 := sign_at arg1 harg1 x0 14 _ _
        s15 := sign_at arg1 harg1 x0 15 _ _ }
    have F : Facts arg9 arg10 arg11 (sgOf x0) (stOf x1) (xOf x2) (rOf x3) (Scf.trips k0_t1_loop.lb k0_t1_loop.ub k0_t1_loop.st) f9L0 f10L1 f11L2 :=
      (hL5.get fun sg st x r _ => facts_zero arg9 arg10 arg11 sg st x r f9L0 f10L1 f11L2) _ _ _ _ I
    rw [ht] at F
    obtain ⟨F9, F10, F11⟩ := F
    have G9 : ∀ (w : S128x128.Idx → EReal) (o : ℕ) (inb : ∀ a, ![o, 0] a + ![128, 128] a ≤ S2048x128.size a) (inb' : ∀ a, ![0, o] a + ![128, 128] a ≤ S128x2048.size a),
        (∀ a b : Fin 128, w (ix2 a b) = View.readAt (Elt Ideal) arg9.view (Rect.unit (s := S2048x128) ![o, 0] ![128, 128] inb).toLoadRect f9L0 (ix2 b a)) →
        ∀ q : S128x128.Idx, w q = outV x0 x1 x2 x3 ((Rect.unit (s := S128x2048) ![0, o] ![128, 128] inb').emb q) := by
      intro w o inb inb' hw q
      obtain ⟨a, b, rfl⟩ : ∃ a b : Fin 128, q = ix2 a b := ⟨q 0, q 1, by funext z; match z with | ⟨0, _⟩ => rfl | ⟨1, _⟩ => rfl⟩
      have ho : o + 128 ≤ 2048 := inb 0
      rw [hw, load_at arg9 f9L0 o inb b a (by omega), F9 _ _ (by show o + b.val < 128 * 16; omega), emb_at o inb' a b (by omega)]
      rfl
    have G10 : ∀ (w : S128x128.Idx → BitVec 8) (h β : ℕ) (hβ : β < 4) (hh : h < 2) (inb : ∀ a, ![128 * h, 0] a + ![128, 128] a ≤ S256x128.size a) (o : ℕ) (ho : o = 512 * h + 128 * β)
        (inb' : ∀ a, ![0, o] a + ![128, 128] a ≤ S128x1024.size a),
        (∀ a b : Fin 128, w (ix2 a b) = bt (View.readAt (Elt Ideal) arg10.view (Rect.unit (s := S256x128) ![128 * h, 0] ![128, 128] inb).toLoadRect f10L1 (ix2 b a)) β) →
        ∀ q : S128x128.Idx, w q = outC x0 x1 x2 x3 ((Rect.unit (s := S128x1024) ![0, o] ![128, 128] inb').emb q) := by
      intro w h β hβ hh inb o ho inb' hw q
      obtain ⟨a, b, rfl⟩ : ∃ a b : Fin 128, q = ix2 a b := ⟨q 0, q 1, by funext z; match z with | ⟨0, _⟩ => rfl | ⟨1, _⟩ => rfl⟩
      subst ho
      have hb := b.isLt
      rw [hw, load_at arg10 f10L1 (128 * h) inb b a (by omega), F10 _ _ β hβ (by show 8 * ((128 * h + b.val) / 128) + (128 * h + b.val) % 128 / 64 < 16; omega),
        if_pos (by show 8 * ((128 * h + b.val) / 128) + 2 * β + (128 * h + b.val) % 128 / 64 < 16; omega), emb_at _ inb' a b (by omega)]
      show (QuantDySpec.B _ _ _ _ (128 * (4 * ((128 * h + b.val) / 128) + β) + (128 * h + b.val) % 128)).setWidth 8 = (QuantDySpec.B _ _ _ _ (512 * h + 128 * β + b.val)).setWidth 8
      rw [show 128 * (4 * ((128 * h + b.val) / 128) + β) + (128 * h + b.val) % 128 = 512 * h + 128 * β + b.val by omega]
      rfl
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      funext y
      refine View.read_writes_apply_of_pieces arg5.view f4 (outV x0 x1 x2 x3) _ (List.forall_mem_cons.2 ⟨G9 _ 1920 inb_S2048x128_S128x128_1920_0 inb_S128x2048_S128x128_0_1920 (fun a b => pay2_at _ a b),
            List.forall_mem_cons.2 ⟨G9 _ 1792 inb_S2048x128_S128x128_1792_0 inb_S128x2048_S128x128_0_1792 (fun a b => pay1_at _ a b),
            List.forall_mem_cons.2 ⟨G9 _ 1664 inb_S2048x128_S128x128_1664_0 inb_S128x2048_S128x128_0_1664 (fun a b => pay299_at _ a b),
            List.forall_mem_cons.2 ⟨G9 _ 1536 inb_S2048x128_S128x128_1536_0 inb_S128x2048_S128x128_0_1536 (fun a b => pay298_at _ a b),
            List.forall_mem_cons.2 ⟨G9 _ 1408 inb_S2048x128_S128x128_1408_0 inb_S128x2048_S128x128_0_1408 (fun a b => pay297_at _ a b),
            List.forall_mem_cons.2 ⟨G9 _ 1280 inb_S2048x128_S128x128_1280_0 inb_S128x2048_S128x128_0_1280 (fun a b => pay296_at _ a b),
            List.forall_mem_cons.2 ⟨G9 _ 1152 inb_S2048x128_S128x128_1152_0 inb_S128x2048_S128x128_0_1152 (fun a b => pay295_at _ a b),
            List.forall_mem_cons.2 ⟨G9 _ 1024 inb_S2048x128_S128x128_1024_0 inb_S128x2048_S128x128_0_1024 (fun a b => pay294_at _ a b),
            List.forall_mem_cons.2 ⟨G9 _ 896 inb_S2048x128_S128x128_896_0 inb_S128x2048_S128x128_0_896 (fun a b => pay293_at _ a b),
            List.forall_mem_cons.2 ⟨G9 _ 768 inb_S2048x128_S128x128_768_0 inb_S128x2048_S128x128_0_768 (fun a b => pay292_at _ a b),
            List.forall_mem_cons.2 ⟨G9 _ 640 inb_S2048x128_S128x128_640_0 inb_S128x2048_S128x128_0_640 (fun a b => pay291_at _ a b),
            List.forall_mem_cons.2 ⟨G9 _ 512 inb_S2048x128_S128x128_512_0 inb_S128x2048_S128x128_0_512 (fun a b => pay290_at _ a b),
            List.forall_mem_cons.2 ⟨G9 _ 384 inb_S2048x128_S128x128_384_0 inb_S128x2048_S128x128_0_384 (fun a b => pay289_at _ a b),
            List.forall_mem_cons.2 ⟨G9 _ 256 inb_S2048x128_S128x128_256_0 inb_S128x2048_S128x128_0_256 (fun a b => pay288_at _ a b),
            List.forall_mem_cons.2 ⟨G9 _ 128 inb_S2048x128_S128x128_128_0 inb_S128x2048_S128x128_0_128 (fun a b => pay287_at _ a b),
            List.forall_mem_cons.2 ⟨G9 _ 0 inb_S2048x128_S128x128_0_0 inb_S128x2048_S128x128_0_0 (fun a b => pay286_at _ a b),
            List.forall_mem_nil _⟩⟩⟩⟩⟩⟩⟩⟩⟩⟩⟩⟩⟩⟩⟩⟩) y ?_
      have hy : (y 1).val < 2048 := (y 1).isLt
      have hq : (y 1).val / 128 < 16 := by omega
      generalize hj : (y 1).val / 128 = j at hq
      match j, hq with
      | 0, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_tile 0 inb_S128x2048_S128x128_0_0 y (by omega)⟩
      | 1, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_tile 128 inb_S128x2048_S128x128_0_128 y (by omega)⟩
      | 2, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_tile 256 inb_S128x2048_S128x128_0_256 y (by omega)⟩
      | 3, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_tile 384 inb_S128x2048_S128x128_0_384 y (by omega)⟩
      | 4, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_tile 512 inb_S128x2048_S128x128_0_512 y (by omega)⟩
      | 5, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_tile 640 inb_S128x2048_S128x128_0_640 y (by omega)⟩
      | 6, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_tile 768 inb_S128x2048_S128x128_0_768 y (by omega)⟩
      | 7, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_tile 896 inb_S128x2048_S128x128_0_896 y (by omega)⟩
      | 8, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_tile 1024 inb_S128x2048_S128x128_0_1024 y (by omega)⟩
      | 9, _ => exact ⟨_, List.mem_cons_of_mem _ (List.mem_cons_of_mem _ (List.mem_cons_of_mem _ (List.mem_cons_of_mem _ (List.mem_cons_of_mem _ (List.mem_cons_of_mem _ (List.mem_cons_self)))))), mem_tile 1152 inb_S128x2048_S128x128_0_1152 y (by omega)⟩
      | 10, _ => exact ⟨_, List.mem_cons_of_mem _ (List.mem_cons_of_mem _ (List.mem_cons_of_mem _ (List.mem_cons_of_mem _ (List.mem_cons_of_mem _ (List.mem_cons_self))))), mem_tile 1280 inb_S128x2048_S128x128_0_1280 y (by omega)⟩
      | 11, _ => exact ⟨_, List.mem_cons_of_mem _ (List.mem_cons_of_mem _ (List.mem_cons_of_mem _ (List.mem_cons_of_mem _ (List.mem_cons_self)))), mem_tile 1408 inb_S128x2048_S128x128_0_1408 y (by omega)⟩
      | 12, _ => exact ⟨_, List.mem_cons_of_mem _ (List.mem_cons_of_mem _ (List.mem_cons_of_mem _ (List.mem_cons_self))), mem_tile 1536 inb_S128x2048_S128x128_0_1536 y (by omega)⟩
      | 13, _ => exact ⟨_, List.mem_cons_of_mem _ (List.mem_cons_of_mem _ (List.mem_cons_self)), mem_tile 1664 inb_S128x2048_S128x128_0_1664 y (by omega)⟩
      | 14, _ => exact ⟨_, List.mem_cons_of_mem _ (List.mem_cons_self), mem_tile 1792 inb_S128x2048_S128x128_0_1792 y (by omega)⟩
      | 15, _ => exact ⟨_, List.mem_cons_self, mem_tile 1920 inb_S128x2048_S128x128_0_1920 y (by omega)⟩
      | n + 16, h => exact absurd h (by omega)
    isplitl [H5]
    · iexists _; isplitr; swap; · iexact H5
      ipureintro
      funext y
      refine View.read_writes_apply_of_pieces arg6.view f5 (outC x0 x1 x2 x3) _ (List.forall_mem_cons.2 ⟨G10 _ 1 3 (by omega) (by omega) inb_S256x128_S128x128_128_0 896 rfl inb_S128x1024_S128x128_0_896 (fun a b => pay284_at _ a b),
            List.forall_mem_cons.2 ⟨G10 _ 1 2 (by omega) (by omega) inb_S256x128_S128x128_128_0 768 rfl inb_S128x1024_S128x128_0_768 (fun a b => pay283_at _ a b),
            List.forall_mem_cons.2 ⟨G10 _ 1 1 (by omega) (by omega) inb_S256x128_S128x128_128_0 640 rfl inb_S128x1024_S128x128_0_640 (fun a b => pay282_at _ a b),
            List.forall_mem_cons.2 ⟨G10 _ 1 0 (by omega) (by omega) inb_S256x128_S128x128_128_0 512 rfl inb_S128x1024_S128x128_0_512 (fun a b => pay281_at _ a b),
            List.forall_mem_cons.2 ⟨G10 _ 0 3 (by omega) (by omega) inb_S256x128_S128x128_0_0 384 rfl inb_S128x1024_S128x128_0_384 (fun a b => pay279_at _ a b),
            List.forall_mem_cons.2 ⟨G10 _ 0 2 (by omega) (by omega) inb_S256x128_S128x128_0_0 256 rfl inb_S128x1024_S128x128_0_256 (fun a b => pay278_at _ a b),
            List.forall_mem_cons.2 ⟨G10 _ 0 1 (by omega) (by omega) inb_S256x128_S128x128_0_0 128 rfl inb_S128x1024_S128x128_0_128 (fun a b => pay277_at _ a b),
            List.forall_mem_cons.2 ⟨G10 _ 0 0 (by omega) (by omega) inb_S256x128_S128x128_0_0 0 rfl inb_S128x1024_S128x128_0_0 (fun a b => pay276_at _ a b),
            List.forall_mem_nil _⟩⟩⟩⟩⟩⟩⟩⟩) y ?_
      have hy : (y 1).val < 1024 := (y 1).isLt
      have hq : (y 1).val / 128 < 8 := by omega
      generalize hj : (y 1).val / 128 = j at hq
      match j, hq with
      | 0, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_tile 0 inb_S128x1024_S128x128_0_0 y (by omega)⟩
      | 1, _ => exact ⟨_, List.mem_cons_of_mem _ (List.mem_cons_of_mem _ (List.mem_cons_of_mem _ (List.mem_cons_of_mem _ (List.mem_cons_of_mem _ (List.mem_cons_of_mem _ (List.mem_cons_self)))))), mem_tile 128 inb_S128x1024_S128x128_0_128 y (by omega)⟩
      | 2, _ => exact ⟨_, List.mem_cons_of_mem _ (List.mem_cons_of_mem _ (List.mem_cons_of_mem _ (List.mem_cons_of_mem _ (List.mem_cons_of_mem _ (List.mem_cons_self))))), mem_tile 256 inb_S128x1024_S128x128_0_256 y (by omega)⟩
      | 3, _ => exact ⟨_, List.mem_cons_of_mem _ (List.mem_cons_of_mem _ (List.mem_cons_of_mem _ (List.mem_cons_of_mem _ (List.mem_cons_self)))), mem_tile 384 inb_S128x1024_S128x128_0_384 y (by omega)⟩
      | 4, _ => exact ⟨_, List.mem_cons_of_mem _ (List.mem_cons_of_mem _ (List.mem_cons_of_mem _ (List.mem_cons_self))), mem_tile 512 inb_S128x1024_S128x128_0_512 y (by omega)⟩
      | 5, _ => exact ⟨_, List.mem_cons_of_mem _ (List.mem_cons_of_mem _ (List.mem_cons_self)), mem_tile 640 inb_S128x1024_S128x128_0_640 y (by omega)⟩
      | 6, _ => exact ⟨_, List.mem_cons_of_mem _ (List.mem_cons_self), mem_tile 768 inb_S128x1024_S128x128_0_768 y (by omega)⟩
      | 7, _ => exact ⟨_, List.mem_cons_self, mem_tile 896 inb_S128x1024_S128x128_0_896 y (by omega)⟩
      | n + 8, h => exact absurd h (by omega)
    isplitl [H6]
    · iexists _; isplitr; swap; · iexact H6
      ipureintro
      funext y
      refine View.read_writes_apply_of_pieces arg7.view f6 (outS x0 x1 x2) _ (List.forall_mem_cons.2 ⟨fun q => ?_, List.forall_mem_nil _⟩) y
        ⟨_, List.mem_cons_self, mem_tile 0 inb_S128x128_S128x128_0_0 y ⟨Nat.zero_le _, (y 1).isLt⟩⟩
      obtain ⟨a, b, rfl⟩ : ∃ a b : Fin 128, q = ix2 a b := ⟨q 0, q 1, by funext z; match z with | ⟨0, _⟩ => rfl | ⟨1, _⟩ => rfl⟩
      refine (pay285_at _ a b).trans ?_
      rw [load_at arg11 f11L2 0 inb_S128x128_S128x128_0_0 b a (by omega), F11 _ _ (by show 0 + b.val < 8 * 16; omega)]
      refine Eq.trans ?_ (congrArg (outS x0 x1 x2) (emb_at 0 inb_S128x128_S128x128_0_0 a b (by omega)).symm)
      rfl
    isplitl [H7]
    · iexists _; isplitr; swap; · iexact H7
      ipureintro
      funext y
      refine View.read_writes_apply_of_pieces arg8.view _ (outT x1) _ (List.forall_mem_cons.2 ⟨fun q => ?_, List.forall_mem_nil _⟩) y
        ⟨_, List.mem_cons_self, ?_⟩
      · obtain ⟨a, b, rfl⟩ : ∃ (a : Fin 8) (b : Fin 128), q = ix2 a b := ⟨q 0, q 1, by funext z; match z with | ⟨0, _⟩ => rfl | ⟨1, _⟩ => rfl⟩
        exact (pay257_at _ a b).trans (congrArg QuantDyMath.tscale (amax_at arg2 harg2 x1 _ _))
      · rw [LoadRect.mem_set]
        intro a
        match a with
        | ⟨0, _⟩ => exact ⟨(y 0).val, (y 0).isLt, by show (y 0).val = 0 + 1 * (y 0).val; omega⟩
        | ⟨1, _⟩ => exact ⟨(y 1).val, (y 1).isLt, by show (y 1).val = 0 + 1 * (y 1).val; omega⟩
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.QuantDyIdeal.Run

end
-- ==== Proof.QuantDyIdealValue.lean ====
/-
  THE QUANTISER of the output gradient, idealized: what its four result arrays hold after the run, when the entries and the
  signs are real numbers.
-/
module

public import proofs.«01_k».proof.Defs
public import proofs.«01_k».proof.Proof.Gen.QuantDyIdeal
public import proofs.«01_k».proof.Proof.Gen.QuantDyIdeal.Skeleton
public import proofs.«01_k».proof.Proof.Gen.QuantDyIdeal.Loops
public import proofs.«01_k».proof.Proof.Gen.QuantDyIdeal.Launch
public import proofs.«01_k».proof.Proof.Gen.QuantDyIdeal.Points
public import proofs.«01_k».proof.Proof.Gen.QuantDyIdeal.Frame
public import Idealize.ShloMosaic.Lib.Pipeline.FrameBody
public import Idealize.ShloMosaic.Lib.Exec
public import Idealize.ShloMosaic.Lib.Tactic
public import Idealize.ShloMosaic.Lib.Claim
public import Idealize.ShloMosaic.Lib.Pointwise
public import Idealize.ShloMosaic.Lib.Pipeline.ValueKit
public import Idealize.ShloMosaic.Lib.Pipeline.Value
public import proofs.«01_k».proof.Proof.QuantDyIdealBody
public import proofs.«01_k».proof.Proof.QuantDyIdealFrame

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantDyIdeal.Value
open Cert.QuantDyIdeal.Gen Cert.QuantDyIdeal.Forget

local notation "𝕄" => MT nD τ sig Unit (Elt Ideal) ℕ (UR sig nD τ) ℕ

variable (m : (ℓ : Loc nD τ sig) → Buf (Elt Ideal) ℓ) (ρ : Dev nD → PrngReg)

/-- The entries and the signs are real numbers. -/
def Real : Prop := ∀ c : Dev nD, (∀ i, ∃ z : ℝ, m ((c : Thread nD τ).loc main_arg0) i = (z : EReal)) ∧ (∀ i, ∃ z : ℝ, m ((c : Thread nD τ).loc main_arg1) i = (z : EReal))

/-- The proof data of the one pipeline on core `c`: the arrays as the region finds them (`V`); after the body at
    point `t` each input's buffer at its block and the outputs at what `QuantDySpec` says of the blocks; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Run.outV (iblk m c 0 t) (iblk m c 1 t) (iblk m c 2 t) (iblk m c 3 t)
    | ⟨5, _⟩ => Run.outC (iblk m c 0 t) (iblk m c 1 t) (iblk m c 2 t) (iblk m c 3 t)
    | ⟨6, _⟩ => Run.outS (iblk m c 0 t) (iblk m c 1 t) (iblk m c 2 t)
    | ⟨7, _⟩ => Run.outT (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = Run.outV (iblk m c 0 t) (iblk m c 1 t) (iblk m c 2 t) (iblk m c 3 t) := by dsimp only [dats]
theorem after0_5 (c : Dev nD) (t : Fin cfg0.N) : (dats m 0 c).after 5 t = Run.outC (iblk m c 0 t) (iblk m c 1 t) (iblk m c 2 t) (iblk m c 3 t) := by dsimp only [dats]
theorem after0_6 (c : Dev nD) (t : Fin cfg0.N) : (dats m 0 c).after 6 t = Run.outS (iblk m c 0 t) (iblk m c 1 t) (iblk m c 2 t) := by dsimp only [dats]
theorem after0_7 (c : Dev nD) (t : Fin cfg0.N) : (dats m 0 c).after 7 t = Run.outT (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hm : Real m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((Run.kernelRun0 c (grid0.coords t) _ _ _ _ _ _ _ _ _ _ _ _ _ _ _ _ _ _ _ _ _ _ (iblk m c 0 t) (iblk m c 1 t) (iblk m c 2 t) (iblk m c 3 t) (fun i => (hm c).2 _) (fun i => (hm c).1 _)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (hm : Real m) (c : Dev nD) : BodyObligation (dats m 0 c) (defs₀ (F := Ideal)) Variants.none () Set.univ := fun t => by
  rw [bigSep_W0, bigSep_W0, defs₀_row]
  exact triple_restated (sound_body m hm c t) rfl .rfl fun _ => .rfl

set_option backward.isDefEq.respectTransparency.types false in
set_option maxHeartbeats 800000 in
/-- The run: every array of the pipeline ends at what the proof data says. -/
theorem run_main (hm : Real m) : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

/-! ## The arrays after the run -/

/-- A column of the gradient, and its random bytes. -/
def colX (x : Vec Ideal S2048x10240 .bf16) (n t : ℕ) : EReal := if h : t < 2048 ∧ n < 10240 then x (ix2 ⟨t, h.1⟩ ⟨n, h.2⟩) else 0
/-- A column of the random bytes. -/
def colR (x : Vec Ideal S2048x10240 .i8) (n t : ℕ) : BitVec 8 := if h : t < 2048 ∧ n < 10240 then x (ix2 ⟨t, h.1⟩ ⟨n, h.2⟩) else 0

/-- The four results, of whole arrays: the values, the codes, the block scales and the tensor's scale. -/
def resV (dy : Vec Ideal S2048x10240 .bf16) (sg : Vec Ideal S16 .f32) (am : Vec Ideal S1 .f32) (rd : Vec Ideal S2048x10240 .i8) : Vec Ideal S10240x2048 .bf16 :=
  fun y => QuantDySpec.E (Run.sgOf sg) (Run.stOf am) (colX dy (y 0).val) (colR rd (y 0).val) (y 1).val
/-- The codes, of whole arrays. -/
def resC (dy : Vec Ideal S2048x10240 .bf16) (sg : Vec Ideal S16 .f32) (am : Vec Ideal S1 .f32) (rd : Vec Ideal S2048x10240 .i8) : Vec Ideal S10240x1024 .i8 :=
  fun y => (QuantDySpec.B (Run.sgOf sg) (Run.stOf am) (colX dy (y 0).val) (colR rd (y 0).val) (y 1).val).setWidth 8
/-- The block scales, of whole arrays. -/
def resS (dy : Vec Ideal S2048x10240 .bf16) (sg : Vec Ideal S16 .f32) (am : Vec Ideal S1 .f32) : Vec Ideal S10240x128 .fp8e4m3 :=
  fun y => QuantDySpec.S (Run.sgOf sg) (Run.stOf am) (colX dy (y 0).val) (y 1).val
/-- The tensor's scale, of whole arrays. -/
def resT (am : Vec Ideal S1 .f32) : Vec Ideal S8x128 .f32 := fun _ => Run.stOf am

/-- The windows' block indices: columns `128 t …` at point `t`. -/
theorem idx_facts : ∀ t : Fin cfg0.N,
    win0_0.index t 0 = 0 ∧ win0_1.index t 0 = 0 ∧ win0_2.index t 0 = 0 ∧ win0_2.index t 1 = t.val ∧ win0_3.index t 0 = 0 ∧ win0_3.index t 1 = t.val
    ∧ win0_4.index t 0 = t.val ∧ win0_4.index t 1 = 0 ∧ win0_5.index t 0 = t.val ∧ win0_5.index t 1 = 0 ∧ win0_6.index t 0 = t.val ∧ win0_6.index t 1 = 0 :=
  (by decide +kernel : ∀ t : Fin grid0.N, _)

theorem sg_blk (c : Dev nD) (t : Fin cfg0.N) : Run.sgOf (iblk m c 0 t) = Run.sgOf (m ((c : Thread nD τ).loc main_arg1)) := by
  obtain ⟨h, -⟩ := idx_facts t
  funext i
  show iblk m c 0 t (ix1 i) = m ((c : Thread nD τ).loc main_arg1) (ix1 i)
  blk_ext [iblk, V, h]

/-- Every point reads the tensor's one largest magnitude. -/
theorem st_blk (c : Dev nD) (t : Fin cfg0.N) : Run.stOf (iblk m c 1 t) = Run.stOf (m ((c : Thread nD τ).loc main_arg2)) := by
  obtain ⟨-, h, -⟩ := idx_facts t
  refine congrArg QuantDyMath.tscale ?_
  show iblk m c 1 t (ix1 0) = m ((c : Thread nD τ).loc main_arg2) (ix1 0)
  blk_ext [iblk, V, h]

/-- Every point reads its 128 columns of entries. -/
theorem x_blk (c : Dev nD) (t : Fin cfg0.N) (l : ℕ) (hl : l < 128) (n : ℕ) (hn : n = 128 * t.val + l) :
    Run.xOf (iblk m c 2 t) l = colX (m ((c : Thread nD τ).loc main_arg0)) n := by
  obtain ⟨-, -, h0, h1, -⟩ := idx_facts t
  have ht : t.val < 80 := t.isLt
  funext u
  unfold Run.xOf colX
  by_cases hu : u < 2048
  · rw [dif_pos ⟨hu, hl⟩, dif_pos ⟨hu, by omega⟩]
    blk_ext [iblk, V, h0, h1, hn]
  · rw [dif_neg (by omega), dif_neg (by omega)]

/-- Every point reads its 128 columns of random bytes. -/
theorem r_blk (c : Dev nD) (t : Fin cfg0.N) (l : ℕ) (hl : l < 128) (n : ℕ) (hn : n = 128 * t.val + l) :
    Run.rOf (iblk m c 3 t) l = colR (m ((c : Thread nD τ).loc main_arg3)) n := by
  obtain ⟨-, -, -, -, h0, h1, -⟩ := idx_facts t
  have ht : t.val < 80 := t.isLt
  funext u
  unfold Run.rOf colR
  by_cases hu : u < 2048
  · rw [dif_pos ⟨hu, hl⟩, dif_pos ⟨hu, by omega⟩]
    blk_ext [iblk, V, h0, h1, hn]
  · rw [dif_neg (by omega), dif_neg (by omega)]

/-- The array of window 4 after the run. -/
theorem final4 (c : Dev nD) : (dats m 0 c).arrAt 4 cfg0.N = resV (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨-, -, -, -, -, -, h40, h41, h50, h51, h60, h61⟩ := idx_facts t
  idx_vars y
  have ht : t.val < 80 := t.isLt
  have hn : 128 * t.val + y0.val < 10240 := by omega
  have e : (((View.whole main_v0_0).slice (win0_4.rect t)).emb (ix2 y0 y1)) = ix2 ⟨128 * t.val + y0.val, hn⟩ y1 := by
    blk_ext [h40, h41]
  rw [e]
  unfold Run.outV resV
  rw [sg_blk m c t, st_blk m c t]
  exact congrArg₂ (fun a b => QuantDySpec.E (Run.sgOf (m ((c : Thread nD τ).loc main_arg1))) (Run.stOf (m ((c : Thread nD τ).loc main_arg2))) a b y1.val) (x_blk m c t y0.val y0.isLt _ rfl) (r_blk m c t y0.val y0.isLt _ rfl)

/-- The array of window 5 after the run. -/
theorem final5 (c : Dev nD) : (dats m 0 c).arrAt 5 cfg0.N = resC (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨-, -, -, -, -, -, h40, h41, h50, h51, h60, h61⟩ := idx_facts t
  idx_vars y
  have ht : t.val < 80 := t.isLt
  have hn : 128 * t.val + y0.val < 10240 := by omega
  have e : (((View.whole main_v0_1).slice (win0_5.rect t)).emb (ix2 y0 y1)) = ix2 ⟨128 * t.val + y0.val, hn⟩ y1 := by
    blk_ext [h50, h51]
  rw [e]
  unfold Run.outC resC
  rw [sg_blk m c t, st_blk m c t]
  exact congrArg₂ (fun a b => (QuantDySpec.B (Run.sgOf (m ((c : Thread nD τ).loc main_arg1))) (Run.stOf (m ((c : Thread nD τ).loc main_arg2))) a b y1.val).setWidth 8) (x_blk m c t y0.val y0.isLt _ rfl) (r_blk m c t y0.val y0.isLt _ rfl)

/-- The array of window 6 after the run. -/
theorem final6 (c : Dev nD) : (dats m 0 c).arrAt 6 cfg0.N = resS (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  obtain ⟨-, -, -, -, -, -, h40, h41, h50, h51, h60, h61⟩ := idx_facts t
  idx_vars y
  have ht : t.val < 80 := t.isLt
  have hn : 128 * t.val + y0.val < 10240 := by omega
  have e : (((View.whole main_v0_2).slice (win0_6.rect t)).emb (ix2 y0 y1)) = ix2 ⟨128 * t.val + y0.val, hn⟩ y1 := by
    blk_ext [h60, h61]
  rw [e]
  unfold Run.outS resS
  rw [sg_blk m c t, st_blk m c t]
  exact congrArg (fun a => QuantDySpec.S (Run.sgOf (m ((c : Thread nD τ).loc main_arg1))) (Run.stOf (m ((c : Thread nD τ).loc main_arg2))) a y1.val) (x_blk m c t y0.val y0.isLt _ rfl)

/-- The array of window 7 after the run. -/
theorem final7 (c : Dev nD) : (dats m 0 c).arrAt 7 cfg0.N = resT (m ((c : Thread nD τ).loc main_arg2)) := by
  refine (dats m 0 c).arrAt_eq_of_covers 7 _ (by decide +kernel) fun t hf y => ?_
  blk_simp
  rw [after0_7]
  exact st_blk m c t

/-- THE RUN of the kernel: the four results hold what the specification says, and the arguments are unchanged. -/
theorem run_blocks (hm : Real m) : θ_run defs (onTc (τ := τ) (main (F := Ideal))) (s₀ m ρ) fun r => ∀ c : Dev nD,
    (r.2.mem ((c : Thread nD τ).loc main_v0_0) = resV (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = resC (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = resS (m ((c : Thread nD τ).loc main_arg0)) (m ((c : Thread nD τ).loc main_arg1)) (m ((c : Thread nD τ).loc main_arg2))
      ∧ r.2.mem ((c : Thread nD τ).loc main_v0_3) = resT (m ((c : Thread nD τ).loc main_arg2)))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3)) := by
  refine (θ_run defs _ _).mono (fun r h c => ?_) (run_main m ρ hm)
  replace h := h.1 c
  exact ⟨⟨(h.1 4).trans (final4 m c), (h.1 5).trans (final5 m c), (h.1 6).trans (final6 m c), (h.1 7).trans (final7 m c)⟩,
    (h.1 2).trans (((dats m 0 c).arrAt_in 2 rfl _).trans ((A_eq m c 2).trans (V_main_arg0 m c))),
    (h.1 0).trans (((dats m 0 c).arrAt_in 0 rfl _).trans ((A_eq m c 0).trans (V_main_arg1 m c))),
    (h.1 1).trans (((dats m 0 c).arrAt_in 1 rfl _).trans ((A_eq m c 1).trans (V_main_arg2 m c))),
    (h.1 3).trans (((dats m 0 c).arrAt_in 3 rfl _).trans ((A_eq m c 3).trans (V_main_arg3 m c)))⟩

end Cert.QuantDyIdeal.Value

end
-- ==== Proof.QuantDyRefValue.lean ====
/-
  THE REFERENCE QUANTISER of the output gradient: its rotation, and what its four results hold.
-/
module

public import proofs.«01_k».proof.Defs
public import proofs.«01_k».proof.Proof.Gen.QuantDyRefIdeal
public import proofs.«01_k».proof.Proof.Gen.QuantDyRefIdeal.Frame
public import proofs.«01_k».proof.Proof.Gen.QuantDyRefIdeal.Value
public import proofs.«01_k».proof.Proof.Gen.Pre_finite
public import proofs.«01_k».proof.Proof.QuantDyRefPays
public import proofs.«01_k».proof.Proof.QuantDyIdealValue
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic
open Idealize.ShloMosaic.Pipeline (Dat Cfg Window)

namespace Cert.QuantDyRefIdeal.Val
open Cert.QuantDyRefIdeal Cert.QuantDyRefIdeal.Gen

variable (m : (ℓ : Loc nD τ sig) → Buf (Elt Ideal) ℓ) (ρ : Dev nD → PrngReg)

/-- The table of the rotation's signs. -/
theorem lit_eq : ∀ i j : Fin 16, lit0 (S16x16.rowMajor (ix2 i j)) = if QuantDyMath.odd i j then 0xBF800000#32 else 0x3F800000#32 := by
  decide +kernel

/-- The rotation as the reference's operations write it. -/
def rotated (dy : Vec Ideal S2048x10240 .bf16) (sg : Vec Ideal S16 .f32) : Vec Ideal S128x16x10240 .f32 :=
  transpose S128x16x10240 [0, 2, 1] (Host.dotGeneral (F := Ideal) dot_S128x16x10240_S16x16_S128x10240x16_1_1_02_0_n_n (some .fp32)
    (shapeCast S128x16x10240 (extf (F := Ideal) .f32 dy bitsLt_bf16_f32) shapeCasts_S2048x10240_S128x16x10240 : FVec Ideal S128x16x10240 .f32)
    (mulf (mulf (fun i => FloatOps.ofBits .f32 (lit0 (S16x16.rowMajor i)))
      (broadcastInDim S16x16 ![0, 1] bcast_S1x16_S16x16_0_1 (broadcastInDim S1x16 ![1] bcast_S16_S1x16_1 sg)))
      (broadcastInDim S16x16 ![] bcast_S_S16x16 (constant (F := Ideal) S_ .f32 0x3E800000#32)) : FVec Ideal S16x16 .f32)) transposes_S128x10240x16_S128x16x10240_0_2_1

/-- The rotated operand, as the host code before the region leaves it. -/
theorem V_v8 (c : Dev nD) : V m c main_v8 = rotated (m ((c : Thread nD τ).loc main_arg0)) (m ((c : Thread nD τ).loc main_arg1)) := by
  show StableHlo.after hostOps0 (fun b => m (c, b)) (Proc.devRef .tc main_v8) = _
  after_results
  rfl

/-- The rotated entries. -/
theorem rotated_at (dy : Vec Ideal S2048x10240 .bf16) (sg : Vec Ideal S16 .f32) (g : Fin 128) (i : Fin 16) (n : Fin 10240) :
    rotated dy sg (ix3 g i n) = QuantDyMath.rot (fun j => sg (ix1 j)) (fun j => dy (ix2 ⟨g.val * 16 + j.val, by omega⟩ n)) i := by
  unfold rotated
  pointwise
  simp only [lit_eq]
  unfold QuantDyMath.rot
  refine Finset.sum_congr rfl fun j _ => ?_
  rw [QuantDyMath.c_quarter]
  have h : Ideal.ofBits FTy.f32 (if QuantDyMath.odd i j = true then 0xBF800000#32 else 0x3F800000#32) = ((QuantDyMath.sgn i j : ℝ) : EReal) := by
    unfold QuantDyMath.sgn
    split_ifs
    · exact QuantDyMath.c_neg
    · exact Pays.one_bits
  rw [h]

/-- The largest magnitude, before the region. -/
theorem V_v9 (c : Dev nD) : (V m c main_v9 : Vec Ideal S1x1 .f32) (ix2 0 0) = (m ((c : Thread nD τ).loc main_arg2) : Vec Ideal S1 .f32) (ix1 0) := by
  have h : V m c main_v9 = (shapeCast S1x1 (m ((c : Thread nD τ).loc main_arg2) : Vec Ideal S1 .f32) shapeCasts_S1_S1x1 : Vec Ideal S1x1 .f32) := by
    show StableHlo.after hostOps0 (fun b => m (c, b)) (Proc.devRef .tc main_v9) = _
    after_results
    rfl
  rw [h]
  pointwise

/-! ## The blocks are the arrays -/

theorem idx_facts : ∀ t : Fin cfg0.N,
    win0_0.index t 0 = 0 ∧ win0_0.index t 1 = 0 ∧ win0_0.index t 2 = 0 ∧ win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0 ∧ win0_5.index t 0 = 0 ∧ win0_5.index t 1 = 0
    ∧ win0_6.index t 0 = 0 ∧ win0_6.index t 1 = 0 :=
  (by decide +kernel : ∀ t : Fin grid0.N, _)

/-- The reference reads the rotated operand whole. -/
theorem z_blk (c : Dev nD) (t : Fin cfg0.N) : iblk m c 0 t = rotated (m ((c : Thread nD τ).loc main_arg0)) (m ((c : Thread nD τ).loc main_arg1)) := by
  obtain ⟨h0, h1, h2, -⟩ := idx_facts t
  rw [← V_v8 m c]
  funext y
  idx_vars y
  unfold iblk
  show V m c main_v8 _ = V m c main_v8 _
  refine congrArg (V m c main_v8) ?_
  blk_ext [h0, h1, h2]

/-- The reference reads the largest magnitude. -/
theorem am_blk (c : Dev nD) (t : Fin cfg0.N) : iblk m c 1 t (ix2 0 0) = (m ((c : Thread nD τ).loc main_arg2) : Vec Ideal S1 .f32) (ix1 0) := by
  obtain ⟨-, -, -, h0, h1, -⟩ := idx_facts t
  rw [← V_v9 m c]
  unfold iblk
  show V m c main_v9 _ = V m c main_v9 _
  refine congrArg (V m c main_v9) ?_
  blk_ext [h0, h1]

/-- The reference reads the random bytes whole. -/
theorem rd_blk (c : Dev nD) (t : Fin cfg0.N) : iblk m c 2 t = (m ((c : Thread nD τ).loc main_arg3) : Vec Ideal S2048x10240 .i8) := by
  obtain ⟨-, -, -, -, -, h0, h1, -⟩ := idx_facts t
  rw [← V_main_arg3 m c]
  funext y
  idx_vars y
  unfold iblk
  show V m c main_arg3 _ = V m c main_arg3 _
  refine congrArg (V m c main_arg3) ?_
  blk_ext [h0, h1]

/-! ## The results are the specification's -/

section Spec
open Cert.QuantDyIdeal.Value (colX colR resV resC resS resT)
open Cert.QuantDyIdeal.Run (sgOf stOf)
open Cert.QuantDySpec Pays

variable (dy : Vec Ideal S2048x10240 .bf16) (sg : Vec Ideal S16 .f32) (am : Vec Ideal S1x1 .f32) (a : Vec Ideal S1 .f32) (rd : Vec Ideal S2048x10240 .i8)
  (ha : am (ix2 0 0) = a (ix1 0))
include ha

/-- The reference's tensor scale is the specification's. -/
theorem st_eq : stf am = stOf a := congrArg QuantDyMath.tscale ha

omit ha in
/-- The reference's rotated entries are the specification's. -/
theorem z_eq (g : Fin 128) (n : Fin 10240) : zf (rotated dy sg) g n = Z (sgOf sg) (colX dy n.val) g.val := by
  funext i
  refine (rotated_at dy sg g i n).trans ?_
  unfold Z
  refine congrArg (fun x => QuantDyMath.rot (sgOf sg) x i) (funext fun j => ?_)
  unfold colX
  rw [dif_pos ⟨by omega, n.isLt⟩]
  exact congrArg (fun q => dy (ix2 q n)) (Fin.ext (by show g.val * 16 + j.val = 16 * g.val + j.val; omega))

omit ha in
/-- The reference's random bytes are the specification's. -/
theorem r_eq (g : Fin 128) (i : Fin 16) (n : Fin 10240) : rf rd g i n = colR rd n.val (16 * g.val + i.val) := by
  unfold rf colR
  rw [dif_pos ⟨by omega, n.isLt⟩]
  exact congrArg (fun q => rd (ix2 q n)) (Fin.ext (by show g.val * 16 + i.val = 16 * g.val + i.val; omega))

/-- The reference's block scales are the specification's. -/
theorem s_eq (g : Fin 128) (n : Fin 10240) : sf (rotated dy sg) am g n = S (sgOf sg) (stOf a) (colX dy n.val) g.val := by
  unfold sf S
  rw [z_eq, st_eq am a ha]

/-- The reference's quotients are the specification's. -/
theorem u_eq (g : Fin 128) (i : Fin 16) (n : Fin 10240) : uf (rotated dy sg) am g i n = U (sgOf sg) (stOf a) (colX dy n.val) g.val i := by
  unfold uf U
  rw [s_eq dy sg am a ha, st_eq am a ha]
  exact congrArg _ (congrFun (z_eq dy sg g n) i)

/-- The reference's values are the specification's. -/
theorem resV_eq (n : Fin 10240) (p : Fin 2048) : out0_3 (rotated dy sg) am rd (ix2 n p) = resV dy sg a rd (ix2 n p) := by
  rw [out3_at (rotated dy sg) am rd n p ⟨p.val / 128 * 8 + p.val / 2 % 8, by omega⟩ ⟨p.val / 16 % 8 * 2 + p.val % 2, by omega⟩ rfl rfl,
    u_eq dy sg am a ha, s_eq dy sg am a ha, r_eq]
  rfl

/-- The reference's codes are the specification's. -/
theorem resC_eq (n : Fin 10240) (q : Fin 1024) : out0_4 (rotated dy sg) am rd (ix2 n q) = resC dy sg a rd (ix2 n q) := by
  rw [out4_at, u_eq dy sg am a ha, u_eq dy sg am a ha, r_eq, r_eq]
  rfl

/-- The reference's scales, as an array, are the specification's. -/
theorem resS_eq (n : Fin 10240) (g : Fin 128) : out0_5 (rotated dy sg) am rd (ix2 n g) = resS dy sg a (ix2 n g) := by
  rw [out5_at, s_eq dy sg am a ha]
  rfl

/-- The reference's tensor scale, as an array, is the specification's. -/
theorem resT_eq (x : Fin 8) (y : Fin 128) : out0_6 (rotated dy sg) am rd (ix2 x y) = resT a (ix2 x y) := by
  rw [out6_at, st_eq am a ha]
  rfl

end Spec

open Cert.QuantDyIdeal.Value (resV resC resS resT)

/-- The array of window 3 after the run. -/
theorem final3 (c : Dev nD) : (dats m 0 c).arrAt 3 cfg0.N = resV (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  obtain ⟨-, -, -, -, -, -, -, h30, h31, h40, h41, h50, h51, h60, h61⟩ := idx_facts t
  blk_simp
  rw [after0_3, z_blk, rd_blk]
  idx_vars y
  refine (resV_eq _ _ _ (m ((c : Thread nD τ).loc main_arg2)) _ (am_blk m c t) y0 y1).trans ?_
  refine congrArg (resV (m ((c : Thread nD τ).loc main_arg0)) (m ((c : Thread nD τ).loc main_arg1)) (m ((c : Thread nD τ).loc main_arg2)) (m ((c : Thread nD τ).loc main_arg3))) ?_
  blk_ext [h30, h31]

/-- The array of window 4 after the run. -/
theorem final4 (c : Dev nD) : (dats m 0 c).arrAt 4 cfg0.N = resC (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨-, -, -, -, -, -, -, h30, h31, h40, h41, h50, h51, h60, h61⟩ := idx_facts t
  blk_simp
  rw [after0_4, z_blk, rd_blk]
  idx_vars y
  refine (resC_eq _ _ _ (m ((c : Thread nD τ).loc main_arg2)) _ (am_blk m c t) y0 y1).trans ?_
  refine congrArg (resC (m ((c : Thread nD τ).loc main_arg0)) (m ((c : Thread nD τ).loc main_arg1)) (m ((c : Thread nD τ).loc main_arg2)) (m ((c : Thread nD τ).loc main_arg3))) ?_
  blk_ext [h40, h41]

/-- The array of window 5 after the run. -/
theorem final5 (c : Dev nD) : (dats m 0 c).arrAt 5 cfg0.N = resS (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨-, -, -, -, -, -, -, h30, h31, h40, h41, h50, h51, h60, h61⟩ := idx_facts t
  blk_simp
  rw [after0_5, z_blk, rd_blk]
  idx_vars y
  refine (resS_eq _ _ _ (m ((c : Thread nD τ).loc main_arg2)) _ (am_blk m c t) y0 y1).trans ?_
  refine congrArg (resS (m ((c : Thread nD τ).loc main_arg0)) (m ((c : Thread nD τ).loc main_arg1)) (m ((c : Thread nD τ).loc main_arg2))) ?_
  blk_ext [h50, h51]

/-- The array of window 6 after the run. -/
theorem final6 (c : Dev nD) : (dats m 0 c).arrAt 6 cfg0.N = resT (m ((c : Thread nD τ).loc main_arg2)) := by
  refine (dats m 0 c).arrAt_eq_of_covers 6 _ (by decide +kernel) fun t hf y => ?_
  obtain ⟨-, -, -, -, -, -, -, h30, h31, h40, h41, h50, h51, h60, h61⟩ := idx_facts t
  blk_simp
  rw [after0_6, z_blk, rd_blk]
  idx_vars y
  refine (resT_eq _ _ _ (m ((c : Thread nD τ).loc main_arg2)) _ (am_blk m c t) y0 y1).trans ?_
  refine congrArg (resT (m ((c : Thread nD τ).loc main_arg2))) ?_
  blk_ext [h60, h61]

/-- THE RUN of the reference: the four results hold what the specification says, and the arguments are unchanged. -/
theorem run_blocks : θ_run defs (onTc (τ := τ) (main (F := Ideal))) ⟨m, fun _ => 0, ρ⟩ fun r => ∀ c : Dev nD,
    (r.2.mem ((c : Thread nD τ).loc main_v10_0) = resV (m ((c : Thread nD τ).loc main_arg0)) (m ((c : Thread nD τ).loc main_arg1)) (m ((c : Thread nD τ).loc main_arg2)) (m ((c : Thread nD τ).loc main_arg3))
      ∧ r.2.mem ((c : Thread nD τ).loc main_v10_1) = resC (m ((c : Thread nD τ).loc main_arg0)) (m ((c : Thread nD τ).loc main_arg1)) (m ((c : Thread nD τ).loc main_arg2)) (m ((c : Thread nD τ).loc main_arg3))
      ∧ r.2.mem ((c : Thread nD τ).loc main_v10_2) = resS (m ((c : Thread nD τ).loc main_arg0)) (m ((c : Thread nD τ).loc main_arg1)) (m ((c : Thread nD τ).loc main_arg2))
      ∧ r.2.mem ((c : Thread nD τ).loc main_v10_3) = resT (m ((c : Thread nD τ).loc main_arg2)))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3)) :=
  (θ_run defs _ _).mono (fun r h c => ⟨⟨(h c).1.trans (final3 m c), (h c).2.1.trans (final4 m c), (h c).2.2.1.trans (final5 m c), (h c).2.2.2.1.trans (final6 m c)⟩, (h c).2.2.2.2⟩)
    (Value.run_blocks m ρ)

end Cert.QuantDyRefIdeal.Val

end
-- ==== Proof.QuantDyClaims.lean ====
/-
  THE CLAIMS about the quantiser of the output gradient: the runs, and that the kernel and the reference agree where the
  entries and the signs are finite.
-/
module

public import proofs.«01_k».proof.Defs
public import proofs.«01_k».proof.Proof.Gen.QuantDy
public import proofs.«01_k».proof.Proof.Gen.Pre_finite
public import proofs.«01_k».proof.Proof.QuantDyFrame
public import proofs.«01_k».proof.Proof.QuantDyIdealFrame
public import proofs.«01_k».proof.Proof.QuantDyIdealValue
public import proofs.«01_k».proof.Proof.QuantDyRefValue
public import Idealize.ShloMosaic.Lib.Pointwise
public import Idealize.ShloMosaic.Lib.Bf16Pair

@[expose] public section

noncomputable section

namespace Cert.Proof.QuantDy
open Idealize.ShloMosaic Idealize.ShloMosaic.TcCoe Idealize.ShloMosaic.Tactic Idealize.SL.Sem

/-- A number below plus infinity in magnitude is a real number. -/
theorem real_of_lt {x : EReal} (h : max x (-x) < ⊤) : ∃ z : ℝ, x = (z : EReal) := by
  induction x with
  | bot => simp at h
  | coe z => exact ⟨z, rfl⟩
  | top => simp at h

/-- The two formats' patterns of plus infinity. -/
theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- A comparison whose bit is one holds. -/
theorem bit_one {p : Prop} [Decidable p] (h : BitVec.ofBool (decide p) = 1#1) : p := by
  by_contra hp
  simp [hp] at h

/-- The precondition: the entries and the signs are real numbers. -/
theorem real_of_pre (m : (ℓ : Loc Cert.QuantDyIdeal.nD Cert.QuantDyIdeal.τ Cert.QuantDyIdeal.sig) → Buf (Elt Ideal) ℓ)
    (h : Cert.Pre_QuantDyIdeal_finite m) : Cert.QuantDyIdeal.Value.Real m := by
  intro c
  obtain ⟨h0, h1⟩ := h c
  constructor
  · intro i
    have := congrFun h0 i
    unfold Cert.Pre_finite.fn at this
    idx_vars i
    pointwise at this
    rw [inf_bf16] at this
    exact real_of_lt (bit_one this)
  · intro i
    have := congrFun h1 i
    unfold Cert.Pre_finite.fn at this
    idx_vars i
    pointwise at this
    rw [inf_f32] at this
    exact real_of_lt (bit_one this)

/-- The runs of the printed kernel, of the idealized kernel and of the reference. -/
theorem frame : Cert.quiescent_QuantDy := fun m ρ _ => Cert.QuantDy.Run.frame m ρ
/-- The idealized kernel runs. -/
theorem frame_ideal : Cert.quiescent_QuantDyIdeal := fun m ρ _ => Cert.QuantDyIdeal.Forget.frame m ρ
/-- The idealized kernel runs under the precondition. -/
theorem frame_ideal_pre : Cert.quiescent_QuantDyIdeal_pre_finite := fun m ρ _ => Cert.QuantDyIdeal.Forget.frame m ρ
/-- The reference runs. -/
theorem frame_ref : Cert.quiescent_QuantDyRefIdeal := fun m ρ _ => Cert.QuantDyRefIdeal.Gen.frame m ρ
/-- The reference runs under the precondition. -/
theorem frame_ref_pre : Cert.quiescent_QuantDyRefIdeal_pre_finite := fun m ρ _ => Cert.QuantDyRefIdeal.Gen.frame m ρ

/-- What idealizing replaced in the kernel, at the patterns of bits and over the extended reals. -/
theorem preserves : Cert.preserves_QuantDy_QuantDyIdeal :=
  ⟨IdealRules.bf16_pair.statement _ _, IdealRules.bf16_pair.statement _ _, IdealRules.bf16_pair.packStatement _⟩

/-- From finite entries and signs, the kernel and the reference give the same values, codes, block scales and tensor scale
    over the extended reals. -/
theorem algebraic : Cert.algebraic_QuantDyIdeal_QuantDyRefIdeal_pre_finite := by
  intro m ρ m' ρ' hpre hag
  refine ⟨fun c => Cert.QuantDyIdeal.Value.resV (m (c.tc.loc Cert.QuantDyIdeal.main_arg0)) (m (c.tc.loc Cert.QuantDyIdeal.main_arg1)) (m (c.tc.loc Cert.QuantDyIdeal.main_arg2)) (m (c.tc.loc Cert.QuantDyIdeal.main_arg3)),
    fun c => Cert.QuantDyIdeal.Value.resC (m (c.tc.loc Cert.QuantDyIdeal.main_arg0)) (m (c.tc.loc Cert.QuantDyIdeal.main_arg1)) (m (c.tc.loc Cert.QuantDyIdeal.main_arg2)) (m (c.tc.loc Cert.QuantDyIdeal.main_arg3)),
    fun c => Cert.QuantDyIdeal.Value.resS (m (c.tc.loc Cert.QuantDyIdeal.main_arg0)) (m (c.tc.loc Cert.QuantDyIdeal.main_arg1)) (m (c.tc.loc Cert.QuantDyIdeal.main_arg2)),
    fun c => Cert.QuantDyIdeal.Value.resT (m (c.tc.loc Cert.QuantDyIdeal.main_arg2)), ?_, ?_⟩
  · exact (θ_run Cert.QuantDyIdeal.defs _ _).mono (fun r h c => ⟨(h c).1.1, (h c).1.2.1, (h c).1.2.2.1, (h c).1.2.2.2, (h c).2⟩)
      (Cert.QuantDyIdeal.Value.run_blocks m ρ (real_of_pre m hpre))
  · refine (θ_run Cert.QuantDyRefIdeal.defs _ _).mono (fun r h c => ?_) (Cert.QuantDyRefIdeal.Val.run_blocks m' ρ')
    have hc := h c
    obtain ⟨a0, a1, a2, a3⟩ := hag c
    refine ⟨hc.1.1.trans ?_, hc.1.2.1.trans ?_, hc.1.2.2.1.trans ?_, hc.1.2.2.2.trans ?_, hc.2⟩
    · rw [a0, a1, a2, a3]
    · rw [a0, a1, a2, a3]
    · rw [a0, a1, a2]
    · rw [a2]

end Cert.Proof.QuantDy

end
-- ==== Proof.QuantXFrame.lean ====
/- The loop of the quantiser of the activations, at the bits: one trip of it runs and leaves each buffer
   it writes at some contents. -/
module

public import proofs.«01_k».proof.Defs
public import proofs.«01_k».proof.Proof.Gen.QuantX
public import proofs.«01_k».proof.Proof.Gen.QuantX.Skeleton
public import proofs.«01_k».proof.Proof.Gen.QuantX.Loops
public import proofs.«01_k».proof.Proof.Gen.QuantX.Launch
public import proofs.«01_k».proof.Proof.Gen.QuantX.Points
public import proofs.«01_k».proof.Proof.Gen.QuantX.Frame
public import Idealize.ShloMosaic.Lib.Pipeline.FrameBody
public import Idealize.ShloMosaic.Lib.Exec
public import Idealize.ShloMosaic.Lib.Tactic
public import Idealize.ShloMosaic.Lib.Claim

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantX.Run
open Cert.QuantX.Gen

variable {F : FTy → Type} [BitOps F]

/-- Where the pair `r` of a trip's code bytes goes: eight rows, eight apart, from this one. -/
theorem off11_eq : ∀ (r : Fin 8) (k : Fin k0_t1_loop.trips), k0_off11 k (BitVec.ofNat 32 r.val) = ![k.val / 8 * 128 + k.val % 2 * 64 + r.val, 0] := by
  decide +kernel

instance (k : Fin k0_t1_loop.trips) : ClosedOff (k0_off11 k 0#32) := ⟨![k.val / 8 * 128 + k.val % 2 * 64 + 0, 0], off11_eq 0 k⟩
instance (k : Fin k0_t1_loop.trips) : ClosedOff (k0_off11 k 1#32) := ⟨![k.val / 8 * 128 + k.val % 2 * 64 + 1, 0], off11_eq 1 k⟩
instance (k : Fin k0_t1_loop.trips) : ClosedOff (k0_off11 k 2#32) := ⟨![k.val / 8 * 128 + k.val % 2 * 64 + 2, 0], off11_eq 2 k⟩
instance (k : Fin k0_t1_loop.trips) : ClosedOff (k0_off11 k 3#32) := ⟨![k.val / 8 * 128 + k.val % 2 * 64 + 3, 0], off11_eq 3 k⟩
instance (k : Fin k0_t1_loop.trips) : ClosedOff (k0_off11 k 4#32) := ⟨![k.val / 8 * 128 + k.val % 2 * 64 + 4, 0], off11_eq 4 k⟩
instance (k : Fin k0_t1_loop.trips) : ClosedOff (k0_off11 k 5#32) := ⟨![k.val / 8 * 128 + k.val % 2 * 64 + 5, 0], off11_eq 5 k⟩
instance (k : Fin k0_t1_loop.trips) : ClosedOff (k0_off11 k 6#32) := ⟨![k.val / 8 * 128 + k.val % 2 * 64 + 6, 0], off11_eq 6 k⟩
instance (k : Fin k0_t1_loop.trips) : ClosedOff (k0_off11 k 7#32) := ⟨![k.val / 8 * 128 + k.val % 2 * 64 + 7, 0], off11_eq 7 k⟩

local notation "𝕄" => MT nD τ sig Unit (Elt F) ℕ (UR sig nD τ) ℕ

/-- What a trip of the loop holds: the input it reads at its contents, and the window of values and the two scratch
    buffers at some contents. -/
def someInv (c : Dev nD) (arg3 : Memref sig .tc .vmem S2048x128 .bf16) (arg4 : Memref sig .tc .vmem S2048x128 .bf16)
    (arg8 : Memref sig .tc .vmem S256x128 .i32)
    (arg9 : Memref sig .tc .vmem S128x128 .f32) (X3 : BufTy.Contents (Elt F) arg3.view.ty) : sProp 𝕄 :=
  iprop((arg3.view.loc (c : Thread nD τ) ↦[arg3.view.set]{fullShare} X3)
    ∗ (∃ f, (arg4.view.loc (c : Thread nD τ) ↦[arg4.view.set]{fullShare} f))
    ∗ (∃ f, (arg8.view.loc (c : Thread nD τ) ↦[arg8.view.set]{fullShare} f))
    ∗ (∃ f, (arg9.view.loc (c : Thread nD τ) ↦[arg9.view.set]{fullShare} f)))

theorem trip (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) (k : Fin k0_t1_loop.trips) :
    someInv (F := F) c arg3 arg4 arg8 arg9 X3
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 k PUnit.unit)
        (fun _ => someInv (F := F) c arg3 arg4 arg8 arg9 X3) := by
  have hk : k.val < 16 := Nat.lt_of_lt_of_le k.isLt k0_t1_abs.2.1
  unfold someInv k0_t1_body
  iintro ⟨H3, ⟨%f9, H9⟩, ⟨%f10, H10⟩, ⟨%f11, H11⟩⟩
  sl_exec
  sl_step
  isplitl [H3]; · iexact H3
  isplitl [H9]; · iexists _; iexact H9
  isplitl [H10]; · iexists _; iexact H10
  iexists _; iexact H11

set_option warn.classDefReducibility false in
/-- The loop by its invariant: before each trip the scratch buffers hold some contents. -/
@[sl_loop] def loopInv (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 where
  inv _ _ := someInv (F := F) c arg3 arg4 arg8 arg9 X3
  step k acc := trip (F := F) c E i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 X3 k

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_QuantX`, Defs.lean, at any `F`). -/
theorem forget_frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 2 rfl).trans ((hA c 2).trans (V_main_arg0 m c)),
      (Pipeline.RDat.FramePost.arr_in h c 0 rfl).trans ((hA c 0).trans (V_main_arg1 m c)),
      (Pipeline.RDat.FramePost.arr_in h c 1 rfl).trans ((hA c 1).trans (V_main_arg2 m c))⟩) h

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x128 .i32 := Memref.whole cc0_scratch0
abbrev scM0_1 : Memref sig .tc .vmem S128x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- The body's triple: on whole staging memrefs — the inputs' at their contents,
    the FORGOTTEN outputs' (3, 4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole)
    (x0 : Vec F S16 .f32) (x1 : Vec F S1 .f32) (x2 : Vec F S2048x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_quant_x i arg1 harg1 arg2 harg2 arg3 harg3 arg4 harg4 arg5 harg5 arg6 harg6 arg7 harg7 arg8 harg8 arg9 harg9) K := by
    intro E K
    simp only [cc0_quant_x_eq_skeleton]; unfold cc0_quant_x_skel
    simp only [k0_part42_eq_skeleton, k0_part43_eq_skeleton, k0_part44_eq_skeleton]
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, ⟨%d7, %f7, -, H7⟩, ⟨%ds1, %fs1, -, HS1⟩, ⟨%ds2, %fs2, -, HS2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS1]
    · iexists _, _; isplitr; swap; · iexact HS1
      ipureintro; rfl
    iexists _, _; isplitr; swap; · iexact HS2
    ipureintro; rfl

/-- The output windows this certificate FORGETS (3, 4, 5, 6): nothing reads what the kernel leaves in them, so nothing
    of it is named (Lib/Pipeline/Dat.lean `Dat.toRForget`). -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS1, HS2⟩, Hg⟩, Ho, ⟨%d0, H0⟩, ⟨%d1, H1⟩, ⟨%d2, H2⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H4]; · iexists _; iexact H4
  isplitl [H5]; · iexists _; iexact H5
  isplitl [H6]; · iexists _; iexact H6
  isplitl [H7]; · iexists _; iexact H7
  isplitl [HS1]; · iexact HS1
  isplitl [HS2]; · iexact HS2
  iintro ⟨H0, H1, H2, H4, H5, H6, H7, HS1, HS2⟩
  isplitl [HS1 HS2 Hg]
  · isplitl [HS1 HS2]
    · isplitl [HS1]
      · iexact HS1
      iexact HS2
    iexact Hg
  isplitl [Ho]; · iexact Ho
  isplitl [H0]; · iexact H0
  isplitl [H1]; · iexact H1
  isplitl [H2]; · iexact H2
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  forget_frame_of m ρ (fun c => (dats m 0 c).toRForget forgets0) (A_eq m) (run_main m ρ)

/-- THE FRAME: `Cert.quiescent_QuantX`'s statement (Defs.lean) at any `F` — Proof.lean cites it at `Bits`:
    `theorem Cert.Proof.claim : Cert.Claim := ⟨Cert.QuantX.Gen.facts, fun m ρ _ => Cert.QuantX.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.QuantX.Run

end
-- ==== Proof.QuantXIdealFrame.lean ====
/- The loop of the quantiser of the activations, idealized: one trip of it runs and leaves each buffer
   it writes at some contents. -/
module

public import proofs.«01_k».proof.Defs
public import proofs.«01_k».proof.Proof.Gen.QuantXIdeal
public import proofs.«01_k».proof.Proof.Gen.QuantXIdeal.Skeleton
public import proofs.«01_k».proof.Proof.Gen.QuantXIdeal.Loops
public import proofs.«01_k».proof.Proof.Gen.QuantXIdeal.Launch
public import proofs.«01_k».proof.Proof.Gen.QuantXIdeal.Points
public import proofs.«01_k».proof.Proof.Gen.QuantXIdeal.Frame
public import Idealize.ShloMosaic.Lib.Pipeline.FrameBody
public import Idealize.ShloMosaic.Lib.Exec
public import Idealize.ShloMosaic.Lib.Tactic
public import Idealize.ShloMosaic.Lib.Claim

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantXIdeal.Forget
open Cert.QuantXIdeal.Gen

variable {F : FTy → Type} [FloatOps F]

/-- Where the pair `r` of a trip's code bytes goes: eight rows, eight apart, from this one. -/
theorem off11_eq : ∀ (r : Fin 8) (k : Fin k0_t1_loop.trips), k0_off11 k (BitVec.ofNat 32 r.val) = ![k.val / 8 * 128 + k.val % 2 * 64 + r.val, 0] := by
  decide +kernel

instance (k : Fin k0_t1_loop.trips) : ClosedOff (k0_off11 k 0#32) := ⟨![k.val / 8 * 128 + k.val % 2 * 64 + 0, 0], off11_eq 0 k⟩
instance (k : Fin k0_t1_loop.trips) : ClosedOff (k0_off11 k 1#32) := ⟨![k.val / 8 * 128 + k.val % 2 * 64 + 1, 0], off11_eq 1 k⟩
instance (k : Fin k0_t1_loop.trips) : ClosedOff (k0_off11 k 2#32) := ⟨![k.val / 8 * 128 + k.val % 2 * 64 + 2, 0], off11_eq 2 k⟩
instance (k : Fin k0_t1_loop.trips) : ClosedOff (k0_off11 k 3#32) := ⟨![k.val / 8 * 128 + k.val % 2 * 64 + 3, 0], off11_eq 3 k⟩
instance (k : Fin k0_t1_loop.trips) : ClosedOff (k0_off11 k 4#32) := ⟨![k.val / 8 * 128 + k.val % 2 * 64 + 4, 0], off11_eq 4 k⟩
instance (k : Fin k0_t1_loop.trips) : ClosedOff (k0_off11 k 5#32) := ⟨![k.val / 8 * 128 + k.val % 2 * 64 + 5, 0], off11_eq 5 k⟩
instance (k : Fin k0_t1_loop.trips) : ClosedOff (k0_off11 k 6#32) := ⟨![k.val / 8 * 128 + k.val % 2 * 64 + 6, 0], off11_eq 6 k⟩
instance (k : Fin k0_t1_loop.trips) : ClosedOff (k0_off11 k 7#32) := ⟨![k.val / 8 * 128 + k.val % 2 * 64 + 7, 0], off11_eq 7 k⟩

local notation "𝕄" => MT nD τ sig Unit (Elt F) ℕ (UR sig nD τ) ℕ

/-- What a trip of the loop holds: the input it reads at its contents, and the window of values and the two scratch
    buffers at some contents. -/
def someInv (c : Dev nD) (arg3 : Memref sig .tc .vmem S2048x128 .bf16) (arg4 : Memref sig .tc .vmem S2048x128 .bf16)
    (arg8 : Memref sig .tc .vmem S256x128 .i32)
    (arg9 : Memref sig .tc .vmem S128x128 .f32) (X3 : BufTy.Contents (Elt F) arg3.view.ty) : sProp 𝕄 :=
  iprop((arg3.view.loc (c : Thread nD τ) ↦[arg3.view.set]{fullShare} X3)
    ∗ (∃ f, (arg4.view.loc (c : Thread nD τ) ↦[arg4.view.set]{fullShare} f))
    ∗ (∃ f, (arg8.view.loc (c : Thread nD τ) ↦[arg8.view.set]{fullShare} f))
    ∗ (∃ f, (arg9.view.loc (c : Thread nD τ) ↦[arg9.view.set]{fullShare} f)))

theorem trip (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) (k : Fin k0_t1_loop.trips) :
    someInv (F := F) c arg3 arg4 arg8 arg9 X3
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 k PUnit.unit)
        (fun _ => someInv (F := F) c arg3 arg4 arg8 arg9 X3) := by
  have hk : k.val < 16 := Nat.lt_of_lt_of_le k.isLt k0_t1_abs.2.1
  unfold someInv k0_t1_body
  iintro ⟨H3, ⟨%f9, H9⟩, ⟨%f10, H10⟩, ⟨%f11, H11⟩⟩
  sl_exec
  sl_step
  isplitl [H3]; · iexact H3
  isplitl [H9]; · iexists _; iexact H9
  isplitl [H10]; · iexists _; iexact H10
  iexists _; iexact H11

set_option warn.classDefReducibility false in
/-- The loop by its invariant: before each trip the scratch buffers hold some contents. -/
@[sl_loop] def loopInv (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 where
  inv _ _ := someInv (F := F) c arg3 arg4 arg8 arg9 X3
  step k acc := trip (F := F) c E i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 X3 k

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_QuantXIdeal`, Defs.lean, at any `F`). -/
theorem forget_frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 2 rfl).trans ((hA c 2).trans (V_main_arg0 m c)),
      (Pipeline.RDat.FramePost.arr_in h c 0 rfl).trans ((hA c 0).trans (V_main_arg1 m c)),
      (Pipeline.RDat.FramePost.arr_in h c 1 rfl).trans ((hA c 1).trans (V_main_arg2 m c))⟩) h

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x128 .i32 := Memref.whole cc0_scratch0
abbrev scM0_1 : Memref sig .tc .vmem S128x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- The body's triple: on whole staging memrefs — the inputs' at their contents,
    the FORGOTTEN outputs' (3, 4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole)
    (x0 : Vec F S16 .f32) (x1 : Vec F S1 .f32) (x2 : Vec F S2048x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_quant_x i arg1 harg1 arg2 harg2 arg3 harg3 arg4 harg4 arg5 harg5 arg6 harg6 arg7 harg7 arg8 harg8 arg9 harg9) K := by
    intro E K
    simp only [cc0_quant_x_eq_skeleton]; unfold cc0_quant_x_skel
    simp only [k0_part42_eq_skeleton, k0_part43_eq_skeleton, k0_part44_eq_skeleton]
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, ⟨%d7, %f7, -, H7⟩, ⟨%ds1, %fs1, -, HS1⟩, ⟨%ds2, %fs2, -, HS2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS1]
    · iexists _, _; isplitr; swap; · iexact HS1
      ipureintro; rfl
    iexists _, _; isplitr; swap; · iexact HS2
    ipureintro; rfl

/-- The output windows this certificate FORGETS (3, 4, 5, 6): nothing reads what the kernel leaves in them, so nothing
    of it is named (Lib/Pipeline/Dat.lean `Dat.toRForget`). -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS1, HS2⟩, Hg⟩, Ho, ⟨%d0, H0⟩, ⟨%d1, H1⟩, ⟨%d2, H2⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H4]; · iexists _; iexact H4
  isplitl [H5]; · iexists _; iexact H5
  isplitl [H6]; · iexists _; iexact H6
  isplitl [H7]; · iexists _; iexact H7
  isplitl [HS1]; · iexact HS1
  isplitl [HS2]; · iexact HS2
  iintro ⟨H0, H1, H2, H4, H5, H6, H7, HS1, HS2⟩
  isplitl [HS1 HS2 Hg]
  · isplitl [HS1 HS2]
    · isplitl [HS1]
      · iexact HS1
      iexact HS2
    iexact Hg
  isplitl [Ho]; · iexact Ho
  isplitl [H0]; · iexact H0
  isplitl [H1]; · iexact H1
  isplitl [H2]; · iexact H2
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  forget_frame_of m ρ (fun c => (dats m 0 c).toRForget forgets0) (A_eq m) (run_main m ρ)

/-- THE FRAME: `Cert.quiescent_QuantXIdeal`'s statement (Defs.lean) at any `F` — Proof.lean cites it at `Ideal`:
    `theorem Cert.Proof.claim : Cert.Claim := ⟨Cert.QuantXIdeal.Gen.facts, fun m ρ _ => Cert.QuantXIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.QuantXIdeal.Forget

end
-- ==== Proof.QuantXIdealTrip.lean ====
/- One trip of the loop of the quantiser of the activations, run once at a symbolic trip number. -/
module

public import proofs.«01_k».proof.Defs
public import proofs.«01_k».proof.Proof.Gen.QuantXIdeal
public import proofs.«01_k».proof.Proof.Gen.QuantXIdeal.Skeleton
public import proofs.«01_k».proof.Proof.Gen.QuantXIdeal.Loops
public import proofs.«01_k».proof.Proof.Gen.QuantXIdeal.Launch
public import proofs.«01_k».proof.Proof.Gen.QuantXIdeal.Points
public import proofs.«01_k».proof.Proof.Gen.QuantXIdeal.Frame
public import Idealize.ShloMosaic.Lib.Pipeline.FrameBody
public import Idealize.ShloMosaic.Lib.Exec
public import Idealize.ShloMosaic.Lib.Tactic
public import Idealize.ShloMosaic.Lib.Claim

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantXIdeal.Run
open Cert.QuantXIdeal.Gen

variable {F : FTy → Type} [FloatOps F]

/-- Where the pair `r` of a trip's code bytes goes: eight rows, eight apart, from this one. -/
theorem off11_eq : ∀ (r : Fin 8) (k : Fin k0_t1_loop.trips), k0_off11 k (BitVec.ofNat 32 r.val) = ![k.val / 8 * 128 + k.val % 2 * 64 + r.val, 0] := by
  decide +kernel

instance (k : Fin k0_t1_loop.trips) : ClosedOff (k0_off11 k 0#32) := ⟨![k.val / 8 * 128 + k.val % 2 * 64 + 0, 0], off11_eq 0 k⟩
instance (k : Fin k0_t1_loop.trips) : ClosedOff (k0_off11 k 1#32) := ⟨![k.val / 8 * 128 + k.val % 2 * 64 + 1, 0], off11_eq 1 k⟩
instance (k : Fin k0_t1_loop.trips) : ClosedOff (k0_off11 k 2#32) := ⟨![k.val / 8 * 128 + k.val % 2 * 64 + 2, 0], off11_eq 2 k⟩
instance (k : Fin k0_t1_loop.trips) : ClosedOff (k0_off11 k 3#32) := ⟨![k.val / 8 * 128 + k.val % 2 * 64 + 3, 0], off11_eq 3 k⟩
instance (k : Fin k0_t1_loop.trips) : ClosedOff (k0_off11 k 4#32) := ⟨![k.val / 8 * 128 + k.val % 2 * 64 + 4, 0], off11_eq 4 k⟩
instance (k : Fin k0_t1_loop.trips) : ClosedOff (k0_off11 k 5#32) := ⟨![k.val / 8 * 128 + k.val % 2 * 64 + 5, 0], off11_eq 5 k⟩
instance (k : Fin k0_t1_loop.trips) : ClosedOff (k0_off11 k 6#32) := ⟨![k.val / 8 * 128 + k.val % 2 * 64 + 6, 0], off11_eq 6 k⟩
instance (k : Fin k0_t1_loop.trips) : ClosedOff (k0_off11 k 7#32) := ⟨![k.val / 8 * 128 + k.val % 2 * 64 + 7, 0], off11_eq 7 k⟩

local notation "𝕄" => MT nD τ sig Unit (Elt F) ℕ (UR sig nD τ) ℕ

/-- What a trip of the loop holds: the input it reads and the buffer of block scales at their contents, the window of values and
    the words of code bytes at some contents. -/
def Held (c : Dev nD) (arg3 : Memref sig .tc .vmem S2048x128 .bf16) (arg4 : Memref sig .tc .vmem S2048x128 .bf16)
    (arg8 : Memref sig .tc .vmem S256x128 .i32)
    (arg9 : Memref sig .tc .vmem S128x128 .f32) (X3 : BufTy.Contents (Elt F) arg3.view.ty)
    (f9 : BufTy.Contents (Elt F) arg9.view.ty) : sProp 𝕄 :=
  iprop((arg3.view.loc (c : Thread nD τ) ↦[arg3.view.set]{fullShare} X3)
    ∗ (∃ f, (arg4.view.loc (c : Thread nD τ) ↦[arg4.view.set]{fullShare} f))
    ∗ (∃ f, (arg8.view.loc (c : Thread nD τ) ↦[arg8.view.set]{fullShare} f))
    ∗ (arg9.view.loc (c : Thread nD τ) ↦[arg9.view.set]{fullShare} f9))

/-- One trip, run: the pieces it writes into the block scales. -/
def trip (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole) (v7 : FVec F S8x128 .f32) (v10 : F .f32) (v12 : F .f32) (v14 : F .f32) (v16 : F .f32) (v18 : F .f32) (v20 : F .f32) (v22 : F .f32) (v24 : F .f32) (v26 : F .f32) (v28 : F .f32) (v29 : Elt F .f32) (cst_15 : F .f32) (v31 : Elt F .f32) (v33 : Elt F .f32) (v35 : Elt F .f32) (v37 : Elt F .f32) (v39 : Elt F .f32) (X3 : BufTy.Contents (Elt F) arg3.view.ty) (k : Fin k0_t1_loop.trips) :
      { L9 : List (View.Piece (Elt F) S128x128 .f32) // ∀ (E : Set ℕ) (f9 : BufTy.Contents (Elt F) arg9.view.ty),
    Held (F := F) c arg3 arg4 arg8 arg9 X3 f9
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 k PUnit.unit)
        (fun _ => Held (F := F) c arg3 arg4 arg8 arg9 X3 (arg9.view.writes (Elt F) f9 L9)) } := by
  have hk : k.val < 16 := Nat.lt_of_lt_of_le k.isLt k0_t1_abs.2.1
  refine ⟨?_, fun E f9 => ?run⟩
  case run =>
    unfold Held k0_t1_body
    iintro ⟨H3, ⟨%f4, H4⟩, ⟨%f8, H8⟩, H9⟩
    sl_exec
    sl_step
    isplitl [H3]; · iexact H3
    isplitl [H4]; · iexists _; iexact H4
    isplitl [H8]; · iexists _; iexact H8
    iexact H9

end Cert.QuantXIdeal.Run

end
-- ==== Proof.QuantXMath.lean ====
/-
  THE BUTTERFLY of the kernel's rotation and the sum of the reference's, over all extended reals: they are equal entry by entry
  when the entries are real numbers, and when one is not, all sixteen results of either are infinite. So the largest magnitude
  is the same in every case.
-/
module

public import proofs.«01_k».proof.Proof.QuantDySpec

@[expose] public section

noncomputable section

open Idealize.ShloMosaic

namespace Cert.QuantXMath
open Cert.QuantDyMath

/-- The partner of entry `i` at distance `h`. -/
def mate (h : Fin 16) (i : Fin 16) : Fin 16 := Fin.ofNat 16 (i.val ^^^ h.val)

/-- One stage of the butterfly: the sum of two partners at the lower place, their difference at the upper. -/
def stage {α : Type} [Add α] [Sub α] (h : Fin 16) (v : Fin 16 → α) (i : Fin 16) : α :=
  if i.val &&& h.val = 0 then v i + v (mate h i) else v (mate h i) - v i

/-- The four stages. -/
def bfly {α : Type} [Add α] [Sub α] (v : Fin 16 → α) : Fin 16 → α := stage 8 (stage 4 (stage 2 (stage 1 v)))

section
variable {α : Type} [Add α] [Sub α] (y : Fin 16 → α)
/-! Each of the sixteen results, written out. -/
theorem bfly_0 : bfly y 0 = ((((y 0 + y 1) + (y 2 + y 3)) + ((y 4 + y 5) + (y 6 + y 7))) + (((y 8 + y 9) + (y 10 + y 11)) + ((y 12 + y 13) + (y 14 + y 15)))) := rfl
theorem bfly_1 : bfly y 1 = ((((y 0 - y 1) + (y 2 - y 3)) + ((y 4 - y 5) + (y 6 - y 7))) + (((y 8 - y 9) + (y 10 - y 11)) + ((y 12 - y 13) + (y 14 - y 15)))) := rfl
theorem bfly_2 : bfly y 2 = ((((y 0 + y 1) - (y 2 + y 3)) + ((y 4 + y 5) - (y 6 + y 7))) + (((y 8 + y 9) - (y 10 + y 11)) + ((y 12 + y 13) - (y 14 + y 15)))) := rfl
theorem bfly_3 : bfly y 3 = ((((y 0 - y 1) - (y 2 - y 3)) + ((y 4 - y 5) - (y 6 - y 7))) + (((y 8 - y 9) - (y 10 - y 11)) + ((y 12 - y 13) - (y 14 - y 15)))) := rfl
theorem bfly_4 : bfly y 4 = ((((y 0 + y 1) + (y 2 + y 3)) - ((y 4 + y 5) + (y 6 + y 7))) + (((y 8 + y 9) + (y 10 + y 11)) - ((y 12 + y 13) + (y 14 + y 15)))) := rfl
theorem bfly_5 : bfly y 5 = ((((y 0 - y 1) + (y 2 - y 3)) - ((y 4 - y 5) + (y 6 - y 7))) + (((y 8 - y 9) + (y 10 - y 11)) - ((y 12 - y 13) + (y 14 - y 15)))) := rfl
theorem bfly_6 : bfly y 6 = ((((y 0 + y 1) - (y 2 + y 3)) - ((y 4 + y 5) - (y 6 + y 7))) + (((y 8 + y 9) - (y 10 + y 11)) - ((y 12 + y 13) - (y 14 + y 15)))) := rfl
theorem bfly_7 : bfly y 7 = ((((y 0 - y 1) - (y 2 - y 3)) - ((y 4 - y 5) - (y 6 - y 7))) + (((y 8 - y 9) - (y 10 - y 11)) - ((y 12 - y 13) - (y 14 - y 15)))) := rfl
theorem bfly_8 : bfly y 8 = ((((y 0 + y 1) + (y 2 + y 3)) + ((y 4 + y 5) + (y 6 + y 7))) - (((y 8 + y 9) + (y 10 + y 11)) + ((y 12 + y 13) + (y 14 + y 15)))) := rfl
theorem bfly_9 : bfly y 9 = ((((y 0 - y 1) + (y 2 - y 3)) + ((y 4 - y 5) + (y 6 - y 7))) - (((y 8 - y 9) + (y 10 - y 11)) + ((y 12 - y 13) + (y 14 - y 15)))) := rfl
theorem bfly_10 : bfly y 10 = ((((y 0 + y 1) - (y 2 + y 3)) + ((y 4 + y 5) - (y 6 + y 7))) - (((y 8 + y 9) - (y 10 + y 11)) + ((y 12 + y 13) - (y 14 + y 15)))) := rfl
theorem bfly_11 : bfly y 11 = ((((y 0 - y 1) - (y 2 - y 3)) + ((y 4 - y 5) - (y 6 - y 7))) - (((y 8 - y 9) - (y 10 - y 11)) + ((y 12 - y 13) - (y 14 - y 15)))) := rfl
theorem bfly_12 : bfly y 12 = ((((y 0 + y 1) + (y 2 + y 3)) - ((y 4 + y 5) + (y 6 + y 7))) - (((y 8 + y 9) + (y 10 + y 11)) - ((y 12 + y 13) + (y 14 + y 15)))) := rfl
theorem bfly_13 : bfly y 13 = ((((y 0 - y 1) + (y 2 - y 3)) - ((y 4 - y 5) + (y 6 - y 7))) - (((y 8 - y 9) + (y 10 - y 11)) - ((y 12 - y 13) + (y 14 - y 15)))) := rfl
theorem bfly_14 : bfly y 14 = ((((y 0 + y 1) - (y 2 + y 3)) - ((y 4 + y 5) - (y 6 + y 7))) - (((y 8 + y 9) - (y 10 + y 11)) - ((y 12 + y 13) - (y 14 + y 15)))) := rfl
theorem bfly_15 : bfly y 15 = ((((y 0 - y 1) - (y 2 - y 3)) - ((y 4 - y 5) - (y 6 - y 7))) - (((y 8 - y 9) - (y 10 - y 11)) - ((y 12 - y 13) - (y 14 - y 15)))) := rfl
end

/-- Not a real number. -/
def Inf (x : EReal) : Prop := x = ⊤ ∨ x = ⊥

/-- Every extended real is a real number or infinite. -/
theorem inf_or (x : EReal) : IsR x ∨ Inf x := by
  induction x using EReal.rec with
  | bot => exact .inr (.inr rfl)
  | coe r => exact .inl ⟨r, rfl⟩
  | top => exact .inr (.inl rfl)

/-- A sum is infinite when a summand is, and so is a difference. -/
theorem Inf.add_left {x : EReal} (y : EReal) (h : Inf x) : Inf (x + y) := by
  rcases h with rfl | rfl
  · induction y using EReal.rec with
    | bot => exact .inr rfl
    | coe r => exact .inl rfl
    | top => exact .inl rfl
  · exact .inr (EReal.bot_add y)
theorem Inf.neg {x : EReal} (h : Inf x) : Inf (-x) := by
  rcases h with rfl | rfl
  · exact .inr rfl
  · exact .inl rfl
theorem Inf.add_right {x : EReal} (y : EReal) (h : Inf x) : Inf (y + x) := add_comm x y ▸ h.add_left y
theorem Inf.sub_left {x : EReal} (y : EReal) (h : Inf x) : Inf (x - y) := by
  rw [sub_eq_add_neg]; exact h.add_left _
theorem Inf.sub_right {x : EReal} (y : EReal) (h : Inf x) : Inf (y - x) := by
  rw [sub_eq_add_neg]; exact h.neg.add_right _

/-- A stage hands an infinite entry on to its own place and to its partner's. -/
theorem Inf.stage_self {v : Fin 16 → EReal} {i : Fin 16} (h : Fin 16) (hi : Inf (v i)) : Inf (stage h v i) := by
  unfold stage
  split_ifs
  · exact hi.add_left _
  · exact hi.sub_right _
theorem Inf.stage_mate {v : Fin 16 → EReal} {i : Fin 16} (h : Fin 16) (hi : Inf (v (mate h i))) : Inf (stage h v i) := by
  unfold stage
  split_ifs
  · exact hi.add_right _
  · exact hi.sub_left _

/-- Two places that agree but for the bit `h` are the same or partners. -/
theorem Inf.stage {v : Fin 16 → EReal} {i j : Fin 16} (h : Fin 16) (e : j = i ∨ j = mate h i) (hj : Inf (v j)) : Inf (stage h v i) := by
  rcases e with rfl | rfl
  · exact hj.stage_self h
  · exact hj.stage_mate h

/-- From place `j` to place `i`, one bit at a time. -/
def via (m : ℕ) (i j : Fin 16) : Fin 16 := Fin.ofNat 16 (j.val / m * m + i.val % m)
/-- Each step from one place to the other changes at most one bit. -/
theorem way : ∀ i j : Fin 16, (j = via 2 i j ∨ j = mate 1 (via 2 i j)) ∧ (via 2 i j = via 4 i j ∨ via 2 i j = mate 2 (via 4 i j))
    ∧ (via 4 i j = via 8 i j ∨ via 4 i j = mate 4 (via 8 i j)) ∧ (via 8 i j = i ∨ via 8 i j = mate 8 i) := by decide +kernel

/-- One infinite entry makes every result of the butterfly infinite. -/
theorem bfly_inf (y : Fin 16 → EReal) (j : Fin 16) (h : Inf (y j)) (i : Fin 16) : Inf (bfly y i) := by
  have k := way i j
  exact (((h.stage 1 k.1).stage 2 k.2.1).stage 4 k.2.2.1).stage 8 k.2.2.2

/-- The sum of the reference, over the entries already multiplied by their signs. -/
def spread (y : Fin 16 → EReal) (i : Fin 16) : EReal := ∑ j : Fin 16, ((sgn i j : ℝ) : EReal) * y j

/-- The reference's rotation is the sum over the entries times their signs. -/
theorem rot_spread (s x : Fin 16 → EReal) : rot s x = spread fun j => x j * (s j * ((1 / 4 : ℝ) : EReal)) := by
  funext i
  unfold rot spread
  refine Finset.sum_congr rfl fun j _ => ?_
  rw [mul_assoc, mul_left_comm]

/-- A sum with an infinite summand is infinite. -/
theorem Inf.sum {ι : Type} [DecidableEq ι] (f : ι → EReal) (s : Finset ι) (j : ι) (hj : j ∈ s) (h : Inf (f j)) : Inf (∑ k ∈ s, f k) := by
  rw [← Finset.add_sum_erase s f hj]
  exact h.add_left _

/-- A sign leaves an infinite entry infinite. -/
theorem Inf.sgn {x : EReal} (h : Inf x) (i j : Fin 16) : Inf (((sgn i j : ℝ) : EReal) * x) := by
  unfold QuantDyMath.sgn
  split_ifs
  · rcases h with rfl | rfl
    · exact .inr (EReal.coe_mul_top_of_neg (by norm_num))
    · exact .inl (EReal.coe_mul_bot_of_neg (by norm_num))
  · rw [EReal.coe_one, one_mul]; exact h

/-- One infinite entry makes every sum infinite. -/
theorem spread_inf (y : Fin 16 → EReal) (j : Fin 16) (h : Inf (y j)) (i : Fin 16) : Inf (spread y i) :=
  Inf.sum _ _ j (Finset.mem_univ _) (h.sgn i j)

/-- A sum over the sixteen places, written out. -/
theorem sum16 (f : Fin 16 → ℝ) : ∑ j : Fin 16, f j = f 0 + f 1 + f 2 + f 3 + f 4 + f 5 + f 6 + f 7 + f 8 + f 9 + f 10 + f 11 + f 12 + f 13 + f 14 + f 15 := by
  simp only [Fin.sum_univ_succ, Fin.sum_univ_zero, add_zero, add_assoc]
  rfl

/-! Over the real numbers the butterfly's results are the sums, one by one. -/
theorem real_0 (r : Fin 16 → ℝ) : bfly r 0 = ∑ j : Fin 16, sgn 0 j * r j := by
  rw [bfly_0, Cert.QuantXMath.sum16]
  simp only [sgn, show odd 0 0 = false from rfl, show odd 0 1 = false from rfl, show odd 0 2 = false from rfl, show odd 0 3 = false from rfl, show odd 0 4 = false from rfl, show odd 0 5 = false from rfl, show odd 0 6 = false from rfl, show odd 0 7 = false from rfl, show odd 0 8 = false from rfl, show odd 0 9 = false from rfl, show odd 0 10 = false from rfl, show odd 0 11 = false from rfl, show odd 0 12 = false from rfl, show odd 0 13 = false from rfl, show odd 0 14 = false from rfl, show odd 0 15 = false from rfl, if_true, if_false, Bool.false_eq_true]
  ring
theorem real_1 (r : Fin 16 → ℝ) : bfly r 1 = ∑ j : Fin 16, sgn 1 j * r j := by
  rw [bfly_1, Cert.QuantXMath.sum16]
  simp only [sgn, show odd 1 0 = false from rfl, show odd 1 1 = true from rfl, show odd 1 2 = false from rfl, show odd 1 3 = true from rfl, show odd 1 4 = false from rfl, show odd 1 5 = true from rfl, show odd 1 6 = false from rfl, show odd 1 7 = true from rfl, show odd 1 8 = false from rfl, show odd 1 9 = true from rfl, show odd 1 10 = false from rfl, show odd 1 11 = true from rfl, show odd 1 12 = false from rfl, show odd 1 13 = true from rfl, show odd 1 14 = false from rfl, show odd 1 15 = true from rfl, if_true, if_false, Bool.false_eq_true]
  ring
theorem real_2 (r : Fin 16 → ℝ) : bfly r 2 = ∑ j : Fin 16, sgn 2 j * r j := by
  rw [bfly_2, Cert.QuantXMath.sum16]
  simp only [sgn, show odd 2 0 = false from rfl, show odd 2 1 = false from rfl, show odd 2 2 = true from rfl, show odd 2 3 = true from rfl, show odd 2 4 = false from rfl, show odd 2 5 = false from rfl, show odd 2 6 = true from rfl, show odd 2 7 = true from rfl, show odd 2 8 = false from rfl, show odd 2 9 = false from rfl, show odd 2 10 = true from rfl, show odd 2 11 = true from rfl, show odd 2 12 = false from rfl, show odd 2 13 = false from rfl, show odd 2 14 = true from rfl, show odd 2 15 = true from rfl, if_true, if_false, Bool.false_eq_true]
  ring
theorem real_3 (r : Fin 16 → ℝ) : bfly r 3 = ∑ j : Fin 16, sgn 3 j * r j := by
  rw [bfly_3, Cert.QuantXMath.sum16]
  simp only [sgn, show odd 3 0 = false from rfl, show odd 3 1 = true from rfl, show odd 3 2 = true from rfl, show odd 3 3 = false from rfl, show odd 3 4 = false from rfl, show odd 3 5 = true from rfl, show odd 3 6 = true from rfl, show odd 3 7 = false from rfl, show odd 3 8 = false from rfl, show odd 3 9 = true from rfl, show odd 3 10 = true from rfl, show odd 3 11 = false from rfl, show odd 3 12 = false from rfl, show odd 3 13 = true from rfl, show odd 3 14 = true from rfl, show odd 3 15 = false from rfl, if_true, if_false, Bool.false_eq_true]
  ring
theorem real_4 (r : Fin 16 → ℝ) : bfly r 4 = ∑ j : Fin 16, sgn 4 j * r j := by
  rw [bfly_4, Cert.QuantXMath.sum16]
  simp only [sgn, show odd 4 0 = false from rfl, show odd 4 1 = false from rfl, show odd 4 2 = false from rfl, show odd 4 3 = false from rfl, show odd 4 4 = true from rfl, show odd 4 5 = true from rfl, show odd 4 6 = true from rfl, show odd 4 7 = true from rfl, show odd 4 8 = false from rfl, show odd 4 9 = false from rfl, show odd 4 10 = false from rfl, show odd 4 11 = false from rfl, show odd 4 12 = true from rfl, show odd 4 13 = true from rfl, show odd 4 14 = true from rfl, show odd 4 15 = true from rfl, if_true, if_false, Bool.false_eq_true]
  ring
theorem real_5 (r : Fin 16 → ℝ) : bfly r 5 = ∑ j : Fin 16, sgn 5 j * r j := by
  rw [bfly_5, Cert.QuantXMath.sum16]
  simp only [sgn, show odd 5 0 = false from rfl, show odd 5 1 = true from rfl, show odd 5 2 = false from rfl, show odd 5 3 = true from rfl, show odd 5 4 = true from rfl, show odd 5 5 = false from rfl, show odd 5 6 = true from rfl, show odd 5 7 = false from rfl, show odd 5 8 = false from rfl, show odd 5 9 = true from rfl, show odd 5 10 = false from rfl, show odd 5 11 = true from rfl, show odd 5 12 = true from rfl, show odd 5 13 = false from rfl, show odd 5 14 = true from rfl, show odd 5 15 = false from rfl, if_true, if_false, Bool.false_eq_true]
  ring
theorem real_6 (r : Fin 16 → ℝ) : bfly r 6 = ∑ j : Fin 16, sgn 6 j * r j := by
  rw [bfly_6, Cert.QuantXMath.sum16]
  simp only [sgn, show odd 6 0 = false from rfl, show odd 6 1 = false from rfl, show odd 6 2 = true from rfl, show odd 6 3 = true from rfl, show odd 6 4 = true from rfl, show odd 6 5 = true from rfl, show odd 6 6 = false from rfl, show odd 6 7 = false from rfl, show odd 6 8 = false from rfl, show odd 6 9 = false from rfl, show odd 6 10 = true from rfl, show odd 6 11 = true from rfl, show odd 6 12 = true from rfl, show odd 6 13 = true from rfl, show odd 6 14 = false from rfl, show odd 6 15 = false from rfl, if_true, if_false, Bool.false_eq_true]
  ring
theorem real_7 (r : Fin 16 → ℝ) : bfly r 7 = ∑ j : Fin 16, sgn 7 j * r j := by
  rw [bfly_7, Cert.QuantXMath.sum16]
  simp only [sgn, show odd 7 0 = false from rfl, show odd 7 1 = true from rfl, show odd 7 2 = true from rfl, show odd 7 3 = false from rfl, show odd 7 4 = true from rfl, show odd 7 5 = false from rfl, show odd 7 6 = false from rfl, show odd 7 7 = true from rfl, show odd 7 8 = false from rfl, show odd 7 9 = true from rfl, show odd 7 10 = true from rfl, show odd 7 11 = false from rfl, show odd 7 12 = true from rfl, show odd 7 13 = false from rfl, show odd 7 14 = false from rfl, show odd 7 15 = true from rfl, if_true, if_false, Bool.false_eq_true]
  ring
theorem real_8 (r : Fin 16 → ℝ) : bfly r 8 = ∑ j : Fin 16, sgn 8 j * r j := by
  rw [bfly_8, Cert.QuantXMath.sum16]
  simp only [sgn, show odd 8 0 = false from rfl, show odd 8 1 = false from rfl, show odd 8 2 = false from rfl, show odd 8 3 = false from rfl, show odd 8 4 = false from rfl, show odd 8 5 = false from rfl, show odd 8 6 = false from rfl, show odd 8 7 = false from rfl, show odd 8 8 = true from rfl, show odd 8 9 = true from rfl, show odd 8 10 = true from rfl, show odd 8 11 = true from rfl, show odd 8 12 = true from rfl, show odd 8 13 = true from rfl, show odd 8 14 = true from rfl, show odd 8 15 = true from rfl, if_true, if_false, Bool.false_eq_true]
  ring
theorem real_9 (r : Fin 16 → ℝ) : bfly r 9 = ∑ j : Fin 16, sgn 9 j * r j := by
  rw [bfly_9, Cert.QuantXMath.sum16]
  simp only [sgn, show odd 9 0 = false from rfl, show odd 9 1 = true from rfl, show odd 9 2 = false from rfl, show odd 9 3 = true from rfl, show odd 9 4 = false from rfl, show odd 9 5 = true from rfl, show odd 9 6 = false from rfl, show odd 9 7 = true from rfl, show odd 9 8 = true from rfl, show odd 9 9 = false from rfl, show odd 9 10 = true from rfl, show odd 9 11 = false from rfl, show odd 9 12 = true from rfl, show odd 9 13 = false from rfl, show odd 9 14 = true from rfl, show odd 9 15 = false from rfl, if_true, if_false, Bool.false_eq_true]
  ring
theorem real_10 (r : Fin 16 → ℝ) : bfly r 10 = ∑ j : Fin 16, sgn 10 j * r j := by
  rw [bfly_10, Cert.QuantXMath.sum16]
  simp only [sgn, show odd 10 0 = false from rfl, show odd 10 1 = false from rfl, show odd 10 2 = true from rfl, show odd 10 3 = true from rfl, show odd 10 4 = false from rfl, show odd 10 5 = false from rfl, show odd 10 6 = true from rfl, show odd 10 7 = true from rfl, show odd 10 8 = true from rfl, show odd 10 9 = true from rfl, show odd 10 10 = false from rfl, show odd 10 11 = false from rfl, show odd 10 12 = true from rfl, show odd 10 13 = true from rfl, show odd 10 14 = false from rfl, show odd 10 15 = false from rfl, if_true, if_false, Bool.false_eq_true]
  ring
theorem real_11 (r : Fin 16 → ℝ) : bfly r 11 = ∑ j : Fin 16, sgn 11 j * r j := by
  rw [bfly_11, Cert.QuantXMath.sum16]
  simp only [sgn, show odd 11 0 = false from rfl, show odd 11 1 = true from rfl, show odd 11 2 = true from rfl, show odd 11 3 = false from rfl, show odd 11 4 = false from rfl, show odd 11 5 = true from rfl, show odd 11 6 = true from rfl, show odd 11 7 = false from rfl, show odd 11 8 = true from rfl, show odd 11 9 = false from rfl, show odd 11 10 = false from rfl, show odd 11 11 = true from rfl, show odd 11 12 = true from rfl, show odd 11 13 = false from rfl, show odd 11 14 = false from rfl, show odd 11 15 = true from rfl, if_true, if_false, Bool.false_eq_true]
  ring
theorem real_12 (r : Fin 16 → ℝ) : bfly r 12 = ∑ j : Fin 16, sgn 12 j * r j := by
  rw [bfly_12, Cert.QuantXMath.sum16]
  simp only [sgn, show odd 12 0 = false from rfl, show odd 12 1 = false from rfl, show odd 12 2 = false from rfl, show odd 12 3 = false from rfl, show odd 12 4 = true from rfl, show odd 12 5 = true from rfl, show odd 12 6 = true from rfl, show odd 12 7 = true from rfl, show odd 12 8 = true from rfl, show odd 12 9 = true from rfl, show odd 12 10 = true from rfl, show odd 12 11 = true from rfl, show odd 12 12 = false from rfl, show odd 12 13 = false from rfl, show odd 12 14 = false from rfl, show odd 12 15 = false from rfl, if_true, if_false, Bool.false_eq_true]
  ring
theorem real_13 (r : Fin 16 → ℝ) : bfly r 13 = ∑ j : Fin 16, sgn 13 j * r j := by
  rw [bfly_13, Cert.QuantXMath.sum16]
  simp only [sgn, show odd 13 0 = false from rfl, show odd 13 1 = true from rfl, show odd 13 2 = false from rfl, show odd 13 3 = true from rfl, show odd 13 4 = true from rfl, show odd 13 5 = false from rfl, show odd 13 6 = true from rfl, show odd 13 7 = false from rfl, show odd 13 8 = true from rfl, show odd 13 9 = false from rfl, show odd 13 10 = true from rfl, show odd 13 11 = false from rfl, show odd 13 12 = false from rfl, show odd 13 13 = true from rfl, show odd 13 14 = false from rfl, show odd 13 15 = true from rfl, if_true, if_false, Bool.false_eq_true]
  ring
theorem real_14 (r : Fin 16 → ℝ) : bfly r 14 = ∑ j : Fin 16, sgn 14 j * r j := by
  rw [bfly_14, Cert.QuantXMath.sum16]
  simp only [sgn, show odd 14 0 = false from rfl, show odd 14 1 = false from rfl, show odd 14 2 = true from rfl, show odd 14 3 = true from rfl, show odd 14 4 = true from rfl, show odd 14 5 = true from rfl, show odd 14 6 = false from rfl, show odd 14 7 = false from rfl, show odd 14 8 = true from rfl, show odd 14 9 = true from rfl, show odd 14 10 = false from rfl, show odd 14 11 = false from rfl, show odd 14 12 = false from rfl, show odd 14 13 = false from rfl, show odd 14 14 = true from rfl, show odd 14 15 = true from rfl, if_true, if_false, Bool.false_eq_true]
  ring
theorem real_15 (r : Fin 16 → ℝ) : bfly r 15 = ∑ j : Fin 16, sgn 15 j * r j := by
  rw [bfly_15, Cert.QuantXMath.sum16]
  simp only [sgn, show odd 15 0 = false from rfl, show odd 15 1 = true from rfl, show odd 15 2 = true from rfl, show odd 15 3 = false from rfl, show odd 15 4 = true from rfl, show odd 15 5 = false from rfl, show odd 15 6 = false from rfl, show odd 15 7 = true from rfl, show odd 15 8 = true from rfl, show odd 15 9 = false from rfl, show odd 15 10 = false from rfl, show odd 15 11 = true from rfl, show odd 15 12 = false from rfl, show odd 15 13 = true from rfl, show odd 15 14 = true from rfl, show odd 15 15 = false from rfl, if_true, if_false, Bool.false_eq_true]
  ring

/-- Over the real numbers every result of the butterfly is the sum. -/
theorem real_eq (r : Fin 16 → ℝ) (i : Fin 16) : bfly r i = ∑ j : Fin 16, sgn i j * r j := by
  fin_cases i
  · exact real_0 r
  · exact real_1 r
  · exact real_2 r
  · exact real_3 r
  · exact real_4 r
  · exact real_5 r
  · exact real_6 r
  · exact real_7 r
  · exact real_8 r
  · exact real_9 r
  · exact real_10 r
  · exact real_11 r
  · exact real_12 r
  · exact real_13 r
  · exact real_14 r
  · exact real_15 r

/-- A stage of real entries, among the extended reals. -/
theorem stage_coe (h : Fin 16) (v : Fin 16 → ℝ) : stage h (fun j => (v j : EReal)) = fun i => ((stage h v i : ℝ) : EReal) := by
  funext i
  unfold stage
  split_ifs
  · exact (EReal.coe_add _ _).symm
  · exact (EReal.coe_sub _ _).symm

/-- The same among the extended reals. -/
theorem bfly_coe (r : Fin 16 → ℝ) : bfly (fun j => (r j : EReal)) = spread fun j => (r j : EReal) := by
  funext i
  have h : bfly (fun j => (r j : EReal)) i = ((bfly r i : ℝ) : EReal) := by
    unfold bfly
    rw [stage_coe, stage_coe, stage_coe, stage_coe]
  rw [h, real_eq, sum16]
  unfold spread
  simp only [Fin.sum_univ_succ, Fin.sum_univ_zero, add_zero, ← EReal.coe_mul, ← EReal.coe_add, add_assoc]
  rfl

/-- The largest magnitude of infinite entries. -/
theorem peak_inf (z : Fin 16 → EReal) (h : Inf (z 0)) : peak z = ⊤ := by
  refine top_le_iff.mp ?_
  unfold peak
  refine (Finset.le_fold_max _).mpr (.inr ⟨0, Finset.mem_univ _, ?_⟩)
  rcases h with e | e <;> rw [e]
  · exact le_max_left _ _
  · exact le_max_right _ _

/-- THE LARGEST MAGNITUDE of a block is the same after the kernel's butterfly and after the reference's sum, for all entries and
    signs. -/
theorem peak_rot (s x : Fin 16 → EReal) : peak (bfly fun j => x j * (s j * ((1 / 4 : ℝ) : EReal))) = peak (rot s x) := by
  rw [rot_spread]
  generalize (fun j => x j * (s j * ((1 / 4 : ℝ) : EReal))) = y
  by_cases h : ∃ j, Inf (y j)
  · obtain ⟨j, hj⟩ := h
    rw [peak_inf _ (bfly_inf y j hj 0), peak_inf _ (spread_inf y j hj 0)]
  · have hr : ∀ j, IsR (y j) := fun j => (inf_or (y j)).resolve_right fun hj => h ⟨j, hj⟩
    choose r hr using hr
    rw [show y = fun j => (r j : EReal) from funext hr, bfly_coe]

/-- and so is the block's scale. -/
theorem bscale_rot (st : EReal) (s x : Fin 16 → EReal) :
    bscale st (bfly fun j => x j * (s j * ((1 / 4 : ℝ) : EReal))) = bscale st (rot s x) := by
  unfold bscale
  rw [peak_rot]

end Cert.QuantXMath

end
-- ==== Proof.QuantXIdealRot.lean ====
/-
  ONE TRIP OF THE LOOP, its values: every vector that a trip of the quantiser's loop computes, read at a row and a lane, is
  a result of the butterfly over the block's entries times their signs (`QuantXMath`).
-/
module

public import proofs.«01_k».proof.Proof.QuantXIdealTrip
public import Idealize.ShloMosaic.Lib.Pointwise
public import Idealize.ShloMosaic.Lib.BitcastFour
public import Idealize.ShloMosaic.Lib.WholeRead
public import proofs.«01_k».proof.Proof.QuantDySpec
public import proofs.«01_k».proof.Proof.QuantXMath
public import proofs.«01_k».proof.Proof.QuantDyIdealStep

@[expose] public section

set_option maxRecDepth 16384
set_option maxHeartbeats 1000000

noncomputable section

open Idealize.ShloMosaic Idealize.ShloMosaic.TcCoe Idealize.ShloMosaic.Tactic

namespace Cert.QuantXIdeal.Run
open Cert.QuantXIdeal.Gen

open Cert.QuantDyMath

/-- Where the trips' loads and stores are. -/
theorem off_closed : ∀ k : Fin k0_t1_loop.trips, k0_off1 k = ![64 * k.val + 0, 0, 0] ∧ k0_off2 k = ![64 * k.val + 1, 0, 0] ∧ k0_off3 k = ![64 * k.val + 2, 0, 0]
    ∧ k0_off4 k = ![64 * k.val + 3, 0, 0] ∧ k0_off5 k = ![64 * k.val + 4, 0, 0] ∧ k0_off6 k = ![64 * k.val + 5, 0, 0] ∧ k0_off7 k = ![64 * k.val + 6, 0, 0]
    ∧ k0_off8 k = ![64 * k.val + 7, 0, 0] := by decide +kernel
theorem off9_closed : ∀ k : Fin k0_t1_loop.trips, k0_off9 k = ![8 * k.val, 0] := by decide +kernel
/-- The loop has sixteen trips. -/
theorem trips_lt (k : Fin k0_t1_loop.trips) : k.val < 16 := Nat.lt_of_lt_of_le k.isLt k0_t1_abs.2.1

/-- A strided load of the entries, eight blocks at a time, read back in the array. -/
theorem raw_at (arg3 : Memref sig .tc .vmem S2048x128 .bf16) (h1) (h2) (h3) (X3 : BufTy.Contents (Elt Ideal) arg3.view.ty)
    (off : Fin 3 → ℕ) (inb) (o : ℕ) (ho : off = ![o, 0, 0]) (s : Fin 8) (p : Fin 2) (l : Fin 128) (t : Fin 2048) (ht : t.val = 2 * (o + 8 * s.val) + p.val) :
    View.readAt (Elt Ideal) (arg3.reshape S1024x2x128 h1 h2 h3).view
      ({ off := off, size := S8x2x128.size, stride := ![8, 1, 1], inb := inb } : LoadRect S1024x2x128) X3 (ix3 s p l) = arg3.view.read (Elt Ideal) X3 (ix2 t l) := by
  subst ho
  have h : S2048x128.ShapeCasts S1024x2x128 := by decide
  have hi : (({ off := ![o, 0, 0], size := S8x2x128.size, stride := ![8, 1, 1], inb := inb } : LoadRect S1024x2x128).idx (ix3 s p l) : S1024x2x128.Idx)
      = ix3 ⟨o + 8 * s.val, by have := t.isLt; omega⟩ p l := by
    funext a
    match a with
    | ⟨0, _⟩ => exact Fin.ext (LoadRect.idx_apply _ _ _)
    | ⟨1, _⟩ => exact Fin.ext ((LoadRect.idx_apply _ _ _).trans (by show 0 + 1 * p.val = p.val; omega))
    | ⟨2, _⟩ => exact Fin.ext ((LoadRect.idx_apply _ _ _).trans (by show 0 + 1 * l.val = l.val; omega))
  have : shapeCast S1024x2x128 (arg3.view.read (Elt Ideal) X3) h (ix3 ⟨o + 8 * s.val, by have := t.isLt; omega⟩ p l)
      = arg3.view.read (Elt Ideal) X3 (ix2 t l) := by
    pointwise []
    congr 2
    apply Fin.ext
    simp only [ht]
    omega
  rw [← this, ← hi]
  rfl

/-- The entries of block `g` of a column, times their signs and a quarter. -/
def Y (sg : Fin 16 → EReal) (x : ℕ → EReal) (g : ℕ) (j : Fin 16) : EReal := x (16 * g + j.val) * (sg j * ((1 / 4 : ℝ) : EReal))

/-- What a trip reads: the entries of the columns; the tensor scale, positive; and
    the sixteen signs, most of them multiplied by a quarter already. -/
structure Inp (arg3 : Memref sig .tc .vmem S2048x128 .bf16) (harg3 : arg3.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty)  (sg : Fin 16 → EReal) (st : EReal) (x : ℕ → ℕ → EReal) : Prop where
  hx : ∀ (t : Fin 2048) (l : Fin 128), arg3.view.read (Elt Ideal) X3 (ix2 t l) = x l.val t.val
  hst : ∀ (s : Fin 8) (l : Fin 128), v7 (ix2 s l) = st
  pos : 0 < st
  s0 : v10 = sg 0 * ((1 / 4 : ℝ) : EReal)
  s1 : v12 = sg 1 * ((1 / 4 : ℝ) : EReal)
  s2 : v14 = sg 2 * ((1 / 4 : ℝ) : EReal)
  s3 : v16 = sg 3 * ((1 / 4 : ℝ) : EReal)
  s4 : v18 = sg 4 * ((1 / 4 : ℝ) : EReal)
  s5 : v20 = sg 5 * ((1 / 4 : ℝ) : EReal)
  s6 : v22 = sg 6 * ((1 / 4 : ℝ) : EReal)
  s7 : v24 = sg 7 * ((1 / 4 : ℝ) : EReal)
  s8 : v26 = sg 8 * ((1 / 4 : ℝ) : EReal)
  s9 : v28 = sg 9 * ((1 / 4 : ℝ) : EReal)
  s10 : v29 * cst_15 = sg 10 * ((1 / 4 : ℝ) : EReal)
  s11 : v31 = sg 11
  s12 : v33 = sg 12
  s13 : v35 = sg 13
  s14 : v37 = sg 14
  s15 : v39 = sg 15

variable {arg3 : Memref sig .tc .vmem S2048x128 .bf16} {harg3 : arg3.IsWhole} {v7 : FVec Ideal S8x128 .f32}
  {v10 v12 v14 v16 v18 v20 v22 v24 v26 v28 v29 cst_15 v31 v33 v35 v37 v39 : EReal} {X3 : BufTy.Contents (Elt Ideal) arg3.view.ty}
  {sg : Fin 16 → EReal} {st : EReal} {x : ℕ → ℕ → EReal}
  (I : Inp arg3 harg3 v7 v10 v12 v14 v16 v18 v20 v22 v24 v26 v28 v29 cst_15 v31 v33 v35 v37 v39 X3 sg st x) (k : Fin k0_t1_loop.trips) (s : Fin 8) (l : Fin 128)
include I

/-! ### The loads -/

theorem x0_at : (trip.sl.v120_raw (F := Ideal) arg3 harg3 X3 k) (ix3 s 0 l) = x l.val (16 * (8 * k.val + s.val) + 0) :=
  (raw_at arg3 _ _ _ X3 _ _ (64 * k.val + 0) (off_closed k).1 s 0 l ⟨16 * (8 * k.val + s.val) + 0, by have := trips_lt k; omega⟩
    (by show 16 * (8 * k.val + s.val) + 0 = 2 * (64 * k.val + 0 + 8 * s.val) + 0; omega)).trans (I.hx _ l)

theorem x1_at : (trip.sl.v120_raw (F := Ideal) arg3 harg3 X3 k) (ix3 s 1 l) = x l.val (16 * (8 * k.val + s.val) + 1) :=
  (raw_at arg3 _ _ _ X3 _ _ (64 * k.val + 0) (off_closed k).1 s 1 l ⟨16 * (8 * k.val + s.val) + 1, by have := trips_lt k; omega⟩
    (by show 16 * (8 * k.val + s.val) + 1 = 2 * (64 * k.val + 0 + 8 * s.val) + 1; omega)).trans (I.hx _ l)

theorem x2_at : (trip.sl.v133_raw (F := Ideal) arg3 harg3 X3 k) (ix3 s 0 l) = x l.val (16 * (8 * k.val + s.val) + 2) :=
  (raw_at arg3 _ _ _ X3 _ _ (64 * k.val + 1) (off_closed k).2.1 s 0 l ⟨16 * (8 * k.val + s.val) + 2, by have := trips_lt k; omega⟩
    (by show 16 * (8 * k.val + s.val) + 2 = 2 * (64 * k.val + 1 + 8 * s.val) + 0; omega)).trans (I.hx _ l)

theorem x3_at : (trip.sl.v133_raw (F := Ideal) arg3 harg3 X3 k) (ix3 s 1 l) = x l.val (16 * (8 * k.val + s.val) + 3) :=
  (raw_at arg3 _ _ _ X3 _ _ (64 * k.val + 1) (off_closed k).2.1 s 1 l ⟨16 * (8 * k.val + s.val) + 3, by have := trips_lt k; omega⟩
    (by show 16 * (8 * k.val + s.val) + 3 = 2 * (64 * k.val + 1 + 8 * s.val) + 1; omega)).trans (I.hx _ l)

theorem x4_at : (trip.sl.v146_raw (F := Ideal) arg3 harg3 X3 k) (ix3 s 0 l) = x l.val (16 * (8 * k.val + s.val) + 4) :=
  (raw_at arg3 _ _ _ X3 _ _ (64 * k.val + 2) (off_closed k).2.2.1 s 0 l ⟨16 * (8 * k.val + s.val) + 4, by have := trips_lt k; omega⟩
    (by show 16 * (8 * k.val + s.val) + 4 = 2 * (64 * k.val + 2 + 8 * s.val) + 0; omega)).trans (I.hx _ l)

theorem x5_at : (trip.sl.v146_raw (F := Ideal) arg3 harg3 X3 k) (ix3 s 1 l) = x l.val (16 * (8 * k.val + s.val) + 5) :=
  (raw_at arg3 _ _ _ X3 _ _ (64 * k.val + 2) (off_closed k).2.2.1 s 1 l ⟨16 * (8 * k.val + s.val) + 5, by have := trips_lt k; omega⟩
    (by show 16 * (8 * k.val + s.val) + 5 = 2 * (64 * k.val + 2 + 8 * s.val) + 1; omega)).trans (I.hx _ l)

theorem x6_at : (trip.sl.v159_raw (F := Ideal) arg3 harg3 X3 k) (ix3 s 0 l) = x l.val (16 * (8 * k.val + s.val) + 6) :=
  (raw_at arg3 _ _ _ X3 _ _ (64 * k.val + 3) (off_closed k).2.2.2.1 s 0 l ⟨16 * (8 * k.val + s.val) + 6, by have := trips_lt k; omega⟩
    (by show 16 * (8 * k.val + s.val) + 6 = 2 * (64 * k.val + 3 + 8 * s.val) + 0; omega)).trans (I.hx _ l)

theorem x7_at : (trip.sl.v159_raw (F := Ideal) arg3 harg3 X3 k) (ix3 s 1 l) = x l.val (16 * (8 * k.val + s.val) + 7) :=
  (raw_at arg3 _ _ _ X3 _ _ (64 * k.val + 3) (off_closed k).2.2.2.1 s 1 l ⟨16 * (8 * k.val + s.val) + 7, by have := trips_lt k; omega⟩
    (by show 16 * (8 * k.val + s.val) + 7 = 2 * (64 * k.val + 3 + 8 * s.val) + 1; omega)).trans (I.hx _ l)

theorem x8_at : (trip.sl.v172_raw (F := Ideal) arg3 harg3 X3 k) (ix3 s 0 l) = x l.val (16 * (8 * k.val + s.val) + 8) :=
  (raw_at arg3 _ _ _ X3 _ _ (64 * k.val + 4) (off_closed k).2.2.2.2.1 s 0 l ⟨16 * (8 * k.val + s.val) + 8, by have := trips_lt k; omega⟩
    (by show 16 * (8 * k.val + s.val) + 8 = 2 * (64 * k.val + 4 + 8 * s.val) + 0; omega)).trans (I.hx _ l)

theorem x9_at : (trip.sl.v172_raw (F := Ideal) arg3 harg3 X3 k) (ix3 s 1 l) = x l.val (16 * (8 * k.val + s.val) + 9) :=
  (raw_at arg3 _ _ _ X3 _ _ (64 * k.val + 4) (off_closed k).2.2.2.2.1 s 1 l ⟨16 * (8 * k.val + s.val) + 9, by have := trips_lt k; omega⟩
    (by show 16 * (8 * k.val + s.val) + 9 = 2 * (64 * k.val + 4 + 8 * s.val) + 1; omega)).trans (I.hx _ l)

theorem x10_at : (trip.sl.v185_raw (F := Ideal) arg3 harg3 X3 k) (ix3 s 0 l) = x l.val (16 * (8 * k.val + s.val) + 10) :=
  (raw_at arg3 _ _ _ X3 _ _ (64 * k.val + 5) (off_closed k).2.2.2.2.2.1 s 0 l ⟨16 * (8 * k.val + s.val) + 10, by have := trips_lt k; omega⟩
    (by show 16 * (8 * k.val + s.val) + 10 = 2 * (64 * k.val + 5 + 8 * s.val) + 0; omega)).trans (I.hx _ l)

theorem x11_at : (trip.sl.v185_raw (F := Ideal) arg3 harg3 X3 k) (ix3 s 1 l) = x l.val (16 * (8 * k.val + s.val) + 11) :=
  (raw_at arg3 _ _ _ X3 _ _ (64 * k.val + 5) (off_closed k).2.2.2.2.2.1 s 1 l ⟨16 * (8 * k.val + s.val) + 11, by have := trips_lt k; omega⟩
    (by show 16 * (8 * k.val + s.val) + 11 = 2 * (64 * k.val + 5 + 8 * s.val) + 1; omega)).trans (I.hx _ l)

theorem x12_at : (trip.sl.v198_raw (F := Ideal) arg3 harg3 X3 k) (ix3 s 0 l) = x l.val (16 * (8 * k.val + s.val) + 12) :=
  (raw_at arg3 _ _ _ X3 _ _ (64 * k.val + 6) (off_closed k).2.2.2.2.2.2.1 s 0 l ⟨16 * (8 * k.val + s.val) + 12, by have := trips_lt k; omega⟩
    (by show 16 * (8 * k.val + s.val) + 12 = 2 * (64 * k.val + 6 + 8 * s.val) + 0; omega)).trans (I.hx _ l)

theorem x13_at : (trip.sl.v198_raw (F := Ideal) arg3 harg3 X3 k) (ix3 s 1 l) = x l.val (16 * (8 * k.val + s.val) + 13) :=
  (raw_at arg3 _ _ _ X3 _ _ (64 * k.val + 6) (off_closed k).2.2.2.2.2.2.1 s 1 l ⟨16 * (8 * k.val + s.val) + 13, by have := trips_lt k; omega⟩
    (by show 16 * (8 * k.val + s.val) + 13 = 2 * (64 * k.val + 6 + 8 * s.val) + 1; omega)).trans (I.hx _ l)

theorem x14_at : (trip.sl.v211_raw (F := Ideal) arg3 harg3 X3 k) (ix3 s 0 l) = x l.val (16 * (8 * k.val + s.val) + 14) :=
  (raw_at arg3 _ _ _ X3 _ _ (64 * k.val + 7) (off_closed k).2.2.2.2.2.2.2 s 0 l ⟨16 * (8 * k.val + s.val) + 14, by have := trips_lt k; omega⟩
    (by show 16 * (8 * k.val + s.val) + 14 = 2 * (64 * k.val + 7 + 8 * s.val) + 0; omega)).trans (I.hx _ l)

theorem x15_at : (trip.sl.v211_raw (F := Ideal) arg3 harg3 X3 k) (ix3 s 1 l) = x l.val (16 * (8 * k.val + s.val) + 15) :=
  (raw_at arg3 _ _ _ X3 _ _ (64 * k.val + 7) (off_closed k).2.2.2.2.2.2.2 s 1 l ⟨16 * (8 * k.val + s.val) + 15, by have := trips_lt k; omega⟩
    (by show 16 * (8 * k.val + s.val) + 15 = 2 * (64 * k.val + 7 + 8 * s.val) + 1; omega)).trans (I.hx _ l)

/-! ### The rotated entries -/

set_option maxHeartbeats 2000000 in
/-- Result 0 of the rotation. -/
theorem z0_at : (trip.sl.r_30 (F := Ideal) arg3 harg3 v10 v12 v14 v16 v18 v20 v22 v24 v26 v28 v29 cst_15 v31 v33 v35 v37 v39 X3 k) (ix2 s l) = QuantXMath.bfly (Y sg (x l.val) (8 * k.val + s.val)) 0 := by
  rw [QuantXMath.bfly_0]
  pointwise [trip.sl.r_30, trip.sl.r_16, trip.sl.r_9, trip.sl.r_10, trip.sl.r_18, trip.sl.r_11, trip.sl.r_12, trip.sl.r_13, trip.sl.r_20, trip.sl.r_22, trip.sl.r_24, trip.sl.r, trip.sl.r_1, trip.sl.r_2, trip.sl.r_4, trip.sl.r_3, trip.sl.r_28, trip.sl.r_5, trip.sl.r_6, trip.sl.r_7, trip.sl.r_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay42, k0_pay46, k0_pay50, k0_pay54, k0_pay62, k0_pay70, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 1 of the rotation. -/
theorem z1_at : (trip.sl.r_32 (F := Ideal) arg3 harg3 v10 v12 v14 v16 v18 v20 v22 v24 v26 v28 v29 cst_15 v31 v33 v35 v37 v39 X3 k) (ix2 s l) = QuantXMath.bfly (Y sg (x l.val) (8 * k.val + s.val)) 1 := by
  rw [QuantXMath.bfly_1]
  pointwise [trip.sl.r_32, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_26, trip.sl.r, trip.sl.r_1, trip.sl.r_2, trip.sl.r_4, trip.sl.r_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay23, k0_pay25, k0_pay27, k0_pay29, k0_pay31, k0_pay33, k0_pay35, k0_pay37, k0_pay40, k0_pay44, k0_pay48, k0_pay52, k0_pay56, k0_pay64, k0_pay72, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 2 of the rotation. -/
theorem z2_at : (trip.sl.r_34 (F := Ideal) arg3 harg3 v10 v12 v14 v16 v18 v20 v22 v24 v26 v28 v29 cst_15 v31 v33 v35 v37 v39 X3 k) (ix2 s l) = QuantXMath.bfly (Y sg (x l.val) (8 * k.val + s.val)) 2 := by
  rw [QuantXMath.bfly_2]
  pointwise [trip.sl.r_34, trip.sl.r_16, trip.sl.r_9, trip.sl.r_10, trip.sl.r_18, trip.sl.r_11, trip.sl.r_12, trip.sl.r_13, trip.sl.r_20, trip.sl.r_22, trip.sl.r_25, trip.sl.r, trip.sl.r_1, trip.sl.r_2, trip.sl.r_4, trip.sl.r_3, trip.sl.r_29, trip.sl.r_5, trip.sl.r_6, trip.sl.r_7, trip.sl.r_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay39, k0_pay43, k0_pay47, k0_pay51, k0_pay58, k0_pay66, k0_pay74, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 3 of the rotation. -/
theorem z3_at : (trip.sl.r_36 (F := Ideal) arg3 harg3 v10 v12 v14 v16 v18 v20 v22 v24 v26 v28 v29 cst_15 v31 v33 v35 v37 v39 X3 k) (ix2 s l) = QuantXMath.bfly (Y sg (x l.val) (8 * k.val + s.val)) 3 := by
  rw [QuantXMath.bfly_3]
  pointwise [trip.sl.r_36, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_27, trip.sl.r, trip.sl.r_1, trip.sl.r_2, trip.sl.r_4, trip.sl.r_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay23, k0_pay25, k0_pay27, k0_pay29, k0_pay31, k0_pay33, k0_pay35, k0_pay37, k0_pay41, k0_pay45, k0_pay49, k0_pay53, k0_pay60, k0_pay68, k0_pay76, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 4 of the rotation. -/
theorem z4_at : (trip.sl.r_38 (F := Ideal) arg3 harg3 v10 v12 v14 v16 v18 v20 v22 v24 v26 v28 v29 cst_15 v31 v33 v35 v37 v39 X3 k) (ix2 s l) = QuantXMath.bfly (Y sg (x l.val) (8 * k.val + s.val)) 4 := by
  rw [QuantXMath.bfly_4]
  pointwise [trip.sl.r_38, trip.sl.r_16, trip.sl.r_9, trip.sl.r_10, trip.sl.r_18, trip.sl.r_11, trip.sl.r_12, trip.sl.r_13, trip.sl.r_20, trip.sl.r_22, trip.sl.r_24, trip.sl.r, trip.sl.r_1, trip.sl.r_2, trip.sl.r_4, trip.sl.r_3, trip.sl.r_28, trip.sl.r_5, trip.sl.r_6, trip.sl.r_7, trip.sl.r_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay42, k0_pay46, k0_pay50, k0_pay55, k0_pay63, k0_pay78, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 5 of the rotation. -/
theorem z5_at : (trip.sl.r_40 (F := Ideal) arg3 harg3 v10 v12 v14 v16 v18 v20 v22 v24 v26 v28 v29 cst_15 v31 v33 v35 v37 v39 X3 k) (ix2 s l) = QuantXMath.bfly (Y sg (x l.val) (8 * k.val + s.val)) 5 := by
  rw [QuantXMath.bfly_5]
  pointwise [trip.sl.r_40, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_26, trip.sl.r, trip.sl.r_1, trip.sl.r_2, trip.sl.r_4, trip.sl.r_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay23, k0_pay25, k0_pay27, k0_pay29, k0_pay31, k0_pay33, k0_pay35, k0_pay37, k0_pay40, k0_pay44, k0_pay48, k0_pay52, k0_pay57, k0_pay65, k0_pay80, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 6 of the rotation. -/
theorem z6_at : (trip.sl.r_42 (F := Ideal) arg3 harg3 v10 v12 v14 v16 v18 v20 v22 v24 v26 v28 v29 cst_15 v31 v33 v35 v37 v39 X3 k) (ix2 s l) = QuantXMath.bfly (Y sg (x l.val) (8 * k.val + s.val)) 6 := by
  rw [QuantXMath.bfly_6]
  pointwise [trip.sl.r_42, trip.sl.r_16, trip.sl.r_9, trip.sl.r_10, trip.sl.r_18, trip.sl.r_11, trip.sl.r_12, trip.sl.r_13, trip.sl.r_20, trip.sl.r_22, trip.sl.r_25, trip.sl.r, trip.sl.r_1, trip.sl.r_2, trip.sl.r_4, trip.sl.r_3, trip.sl.r_29, trip.sl.r_5, trip.sl.r_6, trip.sl.r_7, trip.sl.r_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay39, k0_pay43, k0_pay47, k0_pay51, k0_pay59, k0_pay67, k0_pay82, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 7 of the rotation. -/
theorem z7_at : (trip.sl.r_44 (F := Ideal) arg3 harg3 v10 v12 v14 v16 v18 v20 v22 v24 v26 v28 v29 cst_15 v31 v33 v35 v37 v39 X3 k) (ix2 s l) = QuantXMath.bfly (Y sg (x l.val) (8 * k.val + s.val)) 7 := by
  rw [QuantXMath.bfly_7]
  pointwise [trip.sl.r_44, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_27, trip.sl.r, trip.sl.r_1, trip.sl.r_2, trip.sl.r_4, trip.sl.r_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay23, k0_pay25, k0_pay27, k0_pay29, k0_pay31, k0_pay33, k0_pay35, k0_pay37, k0_pay41, k0_pay45, k0_pay49, k0_pay53, k0_pay61, k0_pay69, k0_pay84, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 8 of the rotation. -/
theorem z8_at : (trip.sl.r_31 (F := Ideal) arg3 harg3 v10 v12 v14 v16 v18 v20 v22 v24 v26 v28 v29 cst_15 v31 v33 v35 v37 v39 X3 k) (ix2 s l) = QuantXMath.bfly (Y sg (x l.val) (8 * k.val + s.val)) 8 := by
  rw [QuantXMath.bfly_8]
  pointwise [trip.sl.r_31, trip.sl.r_16, trip.sl.r_9, trip.sl.r_10, trip.sl.r_18, trip.sl.r_11, trip.sl.r_12, trip.sl.r_13, trip.sl.r_20, trip.sl.r_22, trip.sl.r_24, trip.sl.r, trip.sl.r_1, trip.sl.r_2, trip.sl.r_4, trip.sl.r_3, trip.sl.r_28, trip.sl.r_5, trip.sl.r_6, trip.sl.r_7, trip.sl.r_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay42, k0_pay46, k0_pay50, k0_pay54, k0_pay62, k0_pay71, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 9 of the rotation. -/
theorem z9_at : (trip.sl.r_33 (F := Ideal) arg3 harg3 v10 v12 v14 v16 v18 v20 v22 v24 v26 v28 v29 cst_15 v31 v33 v35 v37 v39 X3 k) (ix2 s l) = QuantXMath.bfly (Y sg (x l.val) (8 * k.val + s.val)) 9 := by
  rw [QuantXMath.bfly_9]
  pointwise [trip.sl.r_33, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_26, trip.sl.r, trip.sl.r_1, trip.sl.r_2, trip.sl.r_4, trip.sl.r_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay23, k0_pay25, k0_pay27, k0_pay29, k0_pay31, k0_pay33, k0_pay35, k0_pay37, k0_pay40, k0_pay44, k0_pay48, k0_pay52, k0_pay56, k0_pay64, k0_pay73, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 10 of the rotation. -/
theorem z10_at : (trip.sl.r_35 (F := Ideal) arg3 harg3 v10 v12 v14 v16 v18 v20 v22 v24 v26 v28 v29 cst_15 v31 v33 v35 v37 v39 X3 k) (ix2 s l) = QuantXMath.bfly (Y sg (x l.val) (8 * k.val + s.val)) 10 := by
  rw [QuantXMath.bfly_10]
  pointwise [trip.sl.r_35, trip.sl.r_16, trip.sl.r_9, trip.sl.r_10, trip.sl.r_18, trip.sl.r_11, trip.sl.r_12, trip.sl.r_13, trip.sl.r_20, trip.sl.r_22, trip.sl.r_25, trip.sl.r, trip.sl.r_1, trip.sl.r_2, trip.sl.r_4, trip.sl.r_3, trip.sl.r_29, trip.sl.r_5, trip.sl.r_6, trip.sl.r_7, trip.sl.r_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay39, k0_pay43, k0_pay47, k0_pay51, k0_pay58, k0_pay66, k0_pay75, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 11 of the rotation. -/
theorem z11_at : (trip.sl.r_37 (F := Ideal) arg3 harg3 v10 v12 v14 v16 v18 v20 v22 v24 v26 v28 v29 cst_15 v31 v33 v35 v37 v39 X3 k) (ix2 s l) = QuantXMath.bfly (Y sg (x l.val) (8 * k.val + s.val)) 11 := by
  rw [QuantXMath.bfly_11]
  pointwise [trip.sl.r_37, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_27, trip.sl.r, trip.sl.r_1, trip.sl.r_2, trip.sl.r_4, trip.sl.r_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay23, k0_pay25, k0_pay27, k0_pay29, k0_pay31, k0_pay33, k0_pay35, k0_pay37, k0_pay41, k0_pay45, k0_pay49, k0_pay53, k0_pay60, k0_pay68, k0_pay77, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 12 of the rotation. -/
theorem z12_at : (trip.sl.r_39 (F := Ideal) arg3 harg3 v10 v12 v14 v16 v18 v20 v22 v24 v26 v28 v29 cst_15 v31 v33 v35 v37 v39 X3 k) (ix2 s l) = QuantXMath.bfly (Y sg (x l.val) (8 * k.val + s.val)) 12 := by
  rw [QuantXMath.bfly_12]
  pointwise [trip.sl.r_39, trip.sl.r_16, trip.sl.r_9, trip.sl.r_10, trip.sl.r_18, trip.sl.r_11, trip.sl.r_12, trip.sl.r_13, trip.sl.r_20, trip.sl.r_22, trip.sl.r_24, trip.sl.r, trip.sl.r_1, trip.sl.r_2, trip.sl.r_4, trip.sl.r_3, trip.sl.r_28, trip.sl.r_5, trip.sl.r_6, trip.sl.r_7, trip.sl.r_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay38, k0_pay42, k0_pay46, k0_pay50, k0_pay55, k0_pay63, k0_pay79, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 13 of the rotation. -/
theorem z13_at : (trip.sl.r_41 (F := Ideal) arg3 harg3 v10 v12 v14 v16 v18 v20 v22 v24 v26 v28 v29 cst_15 v31 v33 v35 v37 v39 X3 k) (ix2 s l) = QuantXMath.bfly (Y sg (x l.val) (8 * k.val + s.val)) 13 := by
  rw [QuantXMath.bfly_13]
  pointwise [trip.sl.r_41, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_26, trip.sl.r, trip.sl.r_1, trip.sl.r_2, trip.sl.r_4, trip.sl.r_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay23, k0_pay25, k0_pay27, k0_pay29, k0_pay31, k0_pay33, k0_pay35, k0_pay37, k0_pay40, k0_pay44, k0_pay48, k0_pay52, k0_pay57, k0_pay65, k0_pay81, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 14 of the rotation. -/
theorem z14_at : (trip.sl.r_43 (F := Ideal) arg3 harg3 v10 v12 v14 v16 v18 v20 v22 v24 v26 v28 v29 cst_15 v31 v33 v35 v37 v39 X3 k) (ix2 s l) = QuantXMath.bfly (Y sg (x l.val) (8 * k.val + s.val)) 14 := by
  rw [QuantXMath.bfly_14]
  pointwise [trip.sl.r_43, trip.sl.r_16, trip.sl.r_9, trip.sl.r_10, trip.sl.r_18, trip.sl.r_11, trip.sl.r_12, trip.sl.r_13, trip.sl.r_20, trip.sl.r_22, trip.sl.r_25, trip.sl.r, trip.sl.r_1, trip.sl.r_2, trip.sl.r_4, trip.sl.r_3, trip.sl.r_29, trip.sl.r_5, trip.sl.r_6, trip.sl.r_7, trip.sl.r_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay26, k0_pay28, k0_pay30, k0_pay32, k0_pay34, k0_pay36, k0_pay39, k0_pay43, k0_pay47, k0_pay51, k0_pay59, k0_pay67, k0_pay83, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

set_option maxHeartbeats 2000000 in
/-- Result 15 of the rotation. -/
theorem z15_at : (trip.sl.r_45 (F := Ideal) arg3 harg3 v10 v12 v14 v16 v18 v20 v22 v24 v26 v28 v29 cst_15 v31 v33 v35 v37 v39 X3 k) (ix2 s l) = QuantXMath.bfly (Y sg (x l.val) (8 * k.val + s.val)) 15 := by
  rw [QuantXMath.bfly_15]
  pointwise [trip.sl.r_45, trip.sl.r_14, trip.sl.r_5, trip.sl.r_6, trip.sl.r_15, trip.sl.r_7, trip.sl.r_8, trip.sl.r_17, trip.sl.r_9, trip.sl.r_10, trip.sl.r_19, trip.sl.r_11, trip.sl.r_12, trip.sl.r_13, trip.sl.r_21, trip.sl.r_23, trip.sl.r_27, trip.sl.r, trip.sl.r_1, trip.sl.r_2, trip.sl.r_4, trip.sl.r_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay23, k0_pay25, k0_pay27, k0_pay29, k0_pay31, k0_pay33, k0_pay35, k0_pay37, k0_pay41, k0_pay45, k0_pay49, k0_pay53, k0_pay61, k0_pay69, k0_pay85, k0_pay215, k0_pay216, k0_pay217, k0_pay218, k0_pay219, k0_pay220]
  simp only [x0_at I, x1_at I, x2_at I, x3_at I, x4_at I, x5_at I, x6_at I, x7_at I, x8_at I, x9_at I, x10_at I, x11_at I, x12_at I, x13_at I, x14_at I, x15_at I, I.s0, I.s1, I.s2, I.s3, I.s4, I.s5, I.s6, I.s7, I.s8, I.s9, I.s10, I.s11, I.s12, I.s13, I.s14, I.s15, c_quarter]
  rfl

end Cert.QuantXIdeal.Run

end
-- ==== Proof.QuantXIdealStep.lean ====
/-
  ONE TRIP OF THE LOOP, its results: what a trip of the quantiser's loop stores is the block scales of its blocks (`QuantDySpec`).
-/
module

public import proofs.«01_k».proof.Proof.QuantXIdealRot
public import Idealize.ShloMosaic.Lib.Pointwise
public import Idealize.ShloMosaic.Lib.BitcastFour

@[expose] public section

set_option maxRecDepth 16384
set_option maxHeartbeats 1000000

noncomputable section

open Idealize.ShloMosaic Idealize.ShloMosaic.TcCoe Idealize.ShloMosaic.Tactic

namespace Cert.QuantXIdeal.Run
open Cert.QuantXIdeal.Gen

open Cert.QuantDyMath

/-- The largest magnitudes of the first nine rotated entries, as the kernel nests them. -/
def maxV (a b c d e f g h i : FVec Ideal S8x128 .f32) : FVec Ideal S8x128 .f32 :=
  maximumf (maximumf (maximumf (maximumf (maximumf (maximumf (maximumf (maximumf (absf a) (absf b)) (absf c)) (absf d)) (absf e)) (absf f)) (absf g)) (absf h)) (absf i)

/-- The block scale. -/
theorem scale_at (v7 z0 z1 z2 z3 z4 z5 z6 z7 z8 z9 z10 z11 z12 z13 z14 z15 : FVec Ideal S8x128 .f32) (s : Fin 8) (l : Fin 128) (st : EReal) (z : Fin 16 → EReal)
    (hst : v7 (ix2 s l) = st) (pos : 0 < st) (h0 : z0 (ix2 s l) = z 0) (h1 : z1 (ix2 s l) = z 1) (h2 : z2 (ix2 s l) = z 2) (h3 : z3 (ix2 s l) = z 3) (h4 : z4 (ix2 s l) = z 4) (h5 : z5 (ix2 s l) = z 5) (h6 : z6 (ix2 s l) = z 6) (h7 : z7 (ix2 s l) = z 7) (h8 : z8 (ix2 s l) = z 8) (h9 : z9 (ix2 s l) = z 9) (h10 : z10 (ix2 s l) = z 10) (h11 : z11 (ix2 s l) = z 11) (h12 : z12 (ix2 s l) = z 12) (h13 : z13 (ix2 s l) = z 13) (h14 : z14 (ix2 s l) = z 14) (h15 : z15 (ix2 s l) = z 15) :
    k0_pay91 (k0_pay88 v7 z10 z11 z12 z13 z14 z15 (maxV z0 z1 z2 z3 z4 z5 z6 z7 z8) (absf z9))
      (k0_pay89 v7 z10 z11 z12 z13 z14 z15 (maxV z0 z1 z2 z3 z4 z5 z6 z7 z8) (absf z9)) k0_pay90 (ix2 s l) = bscale st z := by
  have t : k0_pay88 v7 z10 z11 z12 z13 z14 z15 (maxV z0 z1 z2 z3 z4 z5 z6 z7 z8) (absf z9) (ix2 s l) = bscale st z := by
    pointwise [k0_pay88, maxV]
    rw [hst, c_six, c_top, h0, h1, h2, h3, h4, h5, h6, h7, h8, h9, h10, h11, h12, h13, h14, h15]
    unfold bscale
    congr 2
    simp only [Ideal.absf_def]
    apply peak_eq
    · exact Cert.QuantDyIdeal.Run.nest_le fun i => max (z i) (-z i)
    · exact le_rfl
  have e : IsR (k0_pay89 v7 z10 z11 z12 z13 z14 z15 (maxV z0 z1 z2 z3 z4 z5 z6 z7 z8) (absf z9) (ix2 s l)) := by
    pointwise [k0_pay89]
    repeat' first | apply IsR.ite | apply IsR.zero | exact IsR.bits _ (by decide)
  generalize k0_pay88 v7 z10 z11 z12 z13 z14 z15 (maxV z0 z1 z2 z3 z4 z5 z6 z7 z8) (absf z9) = T at t
  generalize k0_pay89 v7 z10 z11 z12 z13 z14 z15 (maxV z0 z1 z2 z3 z4 z5 z6 z7 z8) (absf z9) = E at e
  pointwise [k0_pay91, k0_pay90]
  rw [add_sub_self]
  · exact t
  · rw [t]; exact bscale_real st z pos
  · refine IsR.mul (IsR.max ?_ (IsR.bits _ (by decide))) (IsR.bits _ (by decide))
    repeat' first | apply IsR.ite | apply IsR.one | exact e | exact IsR.bits _ (by decide)

/-- The magnitudes' nested maximum, and one magnitude, in the kernel's own values. -/
theorem pay87_eq (v275 v277 v278 v279 v280 v281 v282 v283 v284 v285 v286 v287 v288 v289 v290 v291 : FVec Ideal S8x128 .f32) : k0_pay86 v275 v277 v278 v279 v280 v281 v282 v283 v284 v285 v286 v287 v288 v289 v290 v291 = maxV (k0_pay70 v278 v280 v282 v284 v286 v290) (k0_pay72 v275 v277 v279 v281 v283 v285 v288) (k0_pay74 v278 v280 v282 v284 v287 v291) (k0_pay76 v275 v277 v279 v281 v283 v285 v289) (k0_pay78 v278 v280 v282 v284 v286 v290) (k0_pay80 v275 v277 v279 v281 v283 v285 v288) (k0_pay82 v278 v280 v282 v284 v287 v291) (k0_pay84 v275 v277 v279 v281 v283 v285 v289) (k0_pay71 v278 v280 v282 v284 v286 v290) := rfl

theorem pay88_eq (v275 v277 v279 v281 v283 v285 v288 : FVec Ideal S8x128 .f32) : k0_pay87 v275 v277 v279 v281 v283 v285 v288 = absf (k0_pay73 v275 v277 v279 v281 v283 v285 v288) := rfl

/-- The first nine magnitudes' largest, and the block scales, over the trip's rotated entries. -/
theorem r46_eq (arg3 : Memref sig .tc .vmem S2048x128 .bf16) (harg3 : arg3.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (k : Fin k0_t1_loop.trips) : (trip.sl.r_46 (F := Ideal) arg3 harg3 v10 v12 v14 v16 v18 v20 v22 v24 v26 v28 v29 cst_15 v31 v33 v35 v37 v39 X3 k) = maxV (trip.sl.r_30 (F := Ideal) arg3 harg3 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k) := by
  unfold trip.sl.r_46 trip.sl.r_30 trip.sl.r_32 trip.sl.r_34 trip.sl.r_36 trip.sl.r_38 trip.sl.r_40 trip.sl.r_42 trip.sl.r_44 trip.sl.r_31
  rw [pay87_eq]

theorem r47_eq (arg3 : Memref sig .tc .vmem S2048x128 .bf16) (harg3 : arg3.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (k : Fin k0_t1_loop.trips) : (trip.sl.r_47 (F := Ideal) arg3 harg3 v10 v12 v14 v16 v18 v20 v22 v24 v26 v28 v29 cst_15 v31 v33 v35 v37 v39 X3 k) = absf (trip.sl.r_33 (F := Ideal) arg3 harg3 v10 v12 v14 v16 v18 v20 v22 v24 v26 v28 v29 cst_15 v31 v33 v35 v37 v39 X3 k) := by
  unfold trip.sl.r_47 trip.sl.r_33
  rw [pay88_eq]

theorem r50_eq (arg3 : Memref sig .tc .vmem S2048x128 .bf16) (harg3 : arg3.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (k : Fin k0_t1_loop.trips) : (trip.sl.r_50 (F := Ideal) arg3 harg3 v7 v10 v12 v14 v16 v18 v20 v22 v24 v26 v28 v29 cst_15 v31 v33 v35 v37 v39 X3 k)
    = k0_pay91 (k0_pay88 v7 (trip.sl.r_35 (F := Ideal) arg3 harg3 v10 v12 v14 v16 v18 v20 v22 v24 v26 v28 v29 cst_15 v31 v33 v35 v37 v39 X3 k) (trip.sl.r_37 (F := Ideal) arg3 harg3 v10 v12 v14 v16 v18 v20 v22 v24 v26 v28 v29 cst_15 v31 v33 v35 v37 v39 X3 k) (trip.sl.r_39 (F := Ideal) arg3 harg3 v10 v12 v14 v16 v18 v20 v22 v24 v26 v28 v29 cst_15 v31 v33 v35 v37 v39 X3 k) (trip.sl.r_41 (F := Ideal) arg3 harg3 v10 v12 v14 v16 v18 v20 v22 v24 v26 v28 v29 cst_15 v31 v33 v35 v37 v39 X3 k) (trip.sl.r_43 (F := Ideal) arg3 harg3 v10 v12 v14 v16 v18 v20 v22 v24 v26 v28 v29 cst_15 v31 v33 v35 v37 v39 X3 k) (trip.sl.r_45 (F := Ideal) arg3 harg3 v10 v12 v14 v16 v18 v20 v22 v24 v26 v28 v29 cst_15 v31 v33 v35 v37 v39 X3 k) (maxV (trip.sl.r_30 (F := Ideal) arg3 harg3 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k)) (absf (trip.sl.r_33 (F := Ideal) arg3 harg3 v10 v12 v14 v16 v18 v20 v22 v24 v26 v28 v29 cst_15 v31 v33 v35 v37 v39 X3 k)))
      (k0_pay89 v7 (trip.sl.r_35 (F := Ideal) arg3 harg3 v10 v12 v14 v16 v18 v20 v22 v24 v26 v28 v29 cst_15 v31 v33 v35 v37 v39 X3 k) (trip.sl.r_37 (F := Ideal) arg3 harg3 v10 v12 v14 v16 v18 v20 v22 v24 v26 v28 v29 cst_15 v31 v33 v35 v37 v39 X3 k) (trip.sl.r_39 (F := Ideal) arg3 harg3 v10 v12 v14 v16 v18 v20 v22 v24 v26 v28 v29 cst_15 v31 v33 v35 v37 v39 X3 k) (trip.sl.r_41 (F := Ideal) arg3 harg3 v10 v12 v14 v16 v18 v20 v22 v24 v26 v28 v29 cst_15 v31 v33 v35 v37 v39 X3 k) (trip.sl.r_43 (F := Ideal) arg3 harg3 v10 v12 v14 v16 v18 v20 v22 v24 v26 v28 v29 cst_15 v31 v33 v35 v37 v39 X3 k) (trip.sl.r_45 (F := Ideal) arg3 harg3 v10 v12 v14 v16 v18 v20 v22 v24 v26 v28 v29 cst_15 v31 v33 v35 v37 v39 X3 k) (maxV (trip.sl.r_30 (F := Ideal) arg3 harg3 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k)) (absf (trip.sl.r_33 (F := Ideal) arg3 harg3 v10 v12 v14 v16 v18 v20 v22 v24 v26 v28 v29 cst_15 v31 v33 v35 v37 v39 X3 k))) k0_pay90 := by
  rw [← r46_eq arg3 harg3 v7 v10 v12 v14 v16 v18 v20 v22 v24 v26 v28 v29 cst_15 v31 v33 v35 v37 v39 X3 k, ← r47_eq arg3 harg3 v7 v10 v12 v14 v16 v18 v20 v22 v24 v26 v28 v29 cst_15 v31 v33 v35 v37 v39 X3 k]
  unfold trip.sl.r_50 trip.sl.r_48 trip.sl.r_49
  with_reducible rfl

variable {arg3 : Memref sig .tc .vmem S2048x128 .bf16} {harg3 : arg3.IsWhole} {v7 : FVec Ideal S8x128 .f32}
  {v10 v12 v14 v16 v18 v20 v22 v24 v26 v28 v29 cst_15 v31 v33 v35 v37 v39 : EReal} {X3 : BufTy.Contents (Elt Ideal) arg3.view.ty}
  {sg : Fin 16 → EReal} {st : EReal} {x : ℕ → ℕ → EReal}
  (I : Inp arg3 harg3 v7 v10 v12 v14 v16 v18 v20 v22 v24 v26 v28 v29 cst_15 v31 v33 v35 v37 v39 X3 sg st x) (k : Fin k0_t1_loop.trips) (s : Fin 8) (l : Fin 128)
include I

/-! ### The trip's vectors -/

/-- The trip's block scales. -/
theorem sb_at : (trip.sl.r_50 (F := Ideal) arg3 harg3 v7 v10 v12 v14 v16 v18 v20 v22 v24 v26 v28 v29 cst_15 v31 v33 v35 v37 v39 X3 k) (ix2 s l) = QuantDySpec.S sg st (x l.val) (8 * k.val + s.val) := by
  rw [r50_eq arg3 harg3 v7 v10 v12 v14 v16 v18 v20 v22 v24 v26 v28 v29 cst_15 v31 v33 v35 v37 v39 X3 k]
  refine Eq.trans (scale_at v7 (trip.sl.r_30 (F := Ideal) arg3 harg3 v10 v12 v14 v16 v18 v20 v22 v24 v26 v28 v29 cst_15 v31 v33 v35 v37 v39 X3 k) (trip.sl.r_32 (F := Ideal) arg3 harg3 v10 v12 v14 v16 v18 v20 v22 v24 v26 v28 v29 cst_15 v31 v33 v35 v37 v39 X3 k) (trip.sl.r_34 (F := Ideal) arg3 harg3 v10 v12 v14 v16 v18 v20 v22 v24 v26 v28 v29 cst_15 v31 v33 v35 v37 v39 X3 k) (trip.sl.r_36 (F := Ideal) arg3 harg3 v10 v12 v14 v16 v18 v20 v22 v24 v26 v28 v29 cst_15 v31 v33 v35 v37 v39 X3 k) (trip.sl.r_38 (F := Ideal) arg3 harg3 v10 v12 v14 v16 v18 v20 v22 v24 v26 v28 v29 cst_15 v31 v33 v35 v37 v39 X3 k) (trip.sl.r_40 (F := Ideal) arg3 harg3 v10 v12 v14 v16 v18 v20 v22 v24 v26 v28 v29 cst_15 v31 v33 v35 v37 v39 X3 k) (trip.sl.r_42 (F := Ideal) arg3 harg3 v10 v12 v14 v16 v18 v20 v22 v24 v26 v28 v29 cst_15 v31 v33 v35 v37 v39 X3 k) (trip.sl.r_44 (F := Ideal) arg3 harg3 v10 v12 v14 v16 v18 v20 v22 v24 v26 v28 v29 cst_15 v31 v33 v35 v37 v39 X3 k) (trip.sl.r_31 (F := Ideal) arg3 harg3 v10 v12 v14 v16 v18 v20 v22 v24 v26 v28 v29 cst_15 v31 v33 v35 v37 v39 X3 k) (trip.sl.r_33 (F := Ideal) arg3 harg3 v10 v12 v14 v16 v18 v20 v22 v24 v26 v28 v29 cst_15 v31 v33 v35 v37 v39 X3 k) (trip.sl.r_35 (F := Ideal) arg3 harg3 v10 v12 v14 v16 v18 v20 v22 v24 v26 v28 v29 cst_15 v31 v33 v35 v37 v39 X3 k) (trip.sl.r_37 (F := Ideal) arg3 harg3 v10 v12 v14 v16 v18 v20 v22 v24 v26 v28 v29 cst_15 v31 v33 v35 v37 v39 X3 k) (trip.sl.r_39 (F := Ideal) arg3 harg3 v10 v12 v14 v16 v18 v20 v22 v24 v26 v28 v29 cst_15 v31 v33 v35 v37 v39 X3 k) (trip.sl.r_41 (F := Ideal) arg3 harg3 v10 v12 v14 v16 v18 v20 v22 v24 v26 v28 v29 cst_15 v31 v33 v35 v37 v39 X3 k) (trip.sl.r_43 (F := Ideal) arg3 harg3 v10 v12 v14 v16 v18 v20 v22 v24 v26 v28 v29 cst_15 v31 v33 v35 v37 v39 X3 k) (trip.sl.r_45 (F := Ideal) arg3 harg3 v10 v12 v14 v16 v18 v20 v22 v24 v26 v28 v29 cst_15 v31 v33 v35 v37 v39 X3 k) s l st (QuantXMath.bfly (Y sg (x l.val) (8 * k.val + s.val))) (I.hst s l) I.pos (z0_at I k s l) (z1_at I k s l) (z2_at I k s l) (z3_at I k s l) (z4_at I k s l) (z5_at I k s l) (z6_at I k s l) (z7_at I k s l) (z8_at I k s l) (z9_at I k s l) (z10_at I k s l) (z11_at I k s l) (z12_at I k s l) (z13_at I k s l) (z14_at I k s l) (z15_at I k s l)) ?_
  exact QuantXMath.bscale_rot st sg fun j => x l.val (16 * (8 * k.val + s.val) + j.val)

end Cert.QuantXIdeal.Run

end
-- ==== Proof.QuantXIdealLoop.lean ====
/-
  THE LOOP of the quantiser of the activations, by what its buffer of block scales holds before each trip: the block scales
  of the blocks of the trips before it.
-/
module

public import proofs.«01_k».proof.Proof.QuantXIdealStep
public import proofs.«01_k».proof.Proof.QuantDyIdealLoop
public import Idealize.ShloMosaic.Lib.Pointwise
public import Idealize.ShloMosaic.Lib.BitcastFour

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.QuantXIdeal.Run
open Cert.QuantXIdeal.Gen

open Cert.QuantDyIdeal.Run (Now Now.mk Now.get)

/-- What the buffer of block scales holds before trip `K`, for the signs, the tensor's scale and the entries that the kernel's
    values are. -/
def Facts (arg9 : Memref sig .tc .vmem S128x128 .f32) (sg : Fin 16 → EReal) (st : EReal) (x : ℕ → ℕ → EReal) (K : ℕ)
    (f9 : BufTy.Contents (Elt Ideal) arg9.view.ty) : Prop :=
  ∀ (g : Fin 128) (l : Fin 128), g.val < 8 * K → arg9.view.read (Elt Ideal) f9 (ix2 g l) = QuantDySpec.S sg st (x l.val) g.val

/-- Before trip 0 nothing is claimed of the buffer. -/
theorem facts_zero (arg9 : Memref sig .tc .vmem S128x128 .f32) (sg : Fin 16 → EReal) (st : EReal) (x : ℕ → ℕ → EReal)
    (f9 : BufTy.Contents (Elt Ideal) arg9.view.ty) : Facts arg9 sg st x 0 f9 := fun g l h => absurd h (by omega)

section
variable (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal)
  (X3 : BufTy.Contents (Elt Ideal) arg3.view.ty)
  {sg : Fin 16 → EReal} {st : EReal} {x : ℕ → ℕ → EReal}
  (I : Inp arg3 harg3 v7 v10 v12 v14 v16 v18 v20 v22 v24 v26 v28 v29 cst_15 v31 v33 v35 v37 v39 X3 sg st x) (k : Fin k0_t1_loop.trips)
  (f9 : BufTy.Contents (Elt Ideal) arg9.view.ty)
include I

/-- A trip's block scales. -/
theorem scales_at (g : Fin 128) (l : Fin 128) :
    arg9.view.read (Elt Ideal) (arg9.view.writes (Elt Ideal) f9 (trip (F := Ideal) c i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 X3 k).1) (ix2 g l)
      = if 8 * k.val ≤ g.val ∧ g.val < 8 * k.val + 8 then QuantDySpec.S sg st (x l.val) g.val else arg9.view.read (Elt Ideal) f9 (ix2 g l) := by
  by_cases h : 8 * k.val ≤ g.val ∧ g.val < 8 * k.val + 8
  · rw [if_pos h]
    refine (View.read_writes_cons_hit_of_coords arg9.view f9 (Rect.unit (s := S128x128) (k0_off9 k) S8x128.size (k0_off9_inb k)) (k0_pay93 (trip.sl.r_50 (F := Ideal) arg3 harg3 v7 v10 v12 v14 v16 v18 v20 v22 v24 v26 v28 v29 cst_15 v31 v33 v35 v37 v39 X3 k)) [] (ix2 (⟨g.val - 8 * k.val, by omega⟩ : Fin 8) l) (ix2 g l) ?_).trans ?_
    · intro a
      rw [show (Rect.unit (s := S128x128) (k0_off9 k) S8x128.size (k0_off9_inb k)).off = ![8 * k.val, 0] from off9_closed k]
      match a with
      | ⟨0, _⟩ => show g.val = 8 * k.val + 1 * (g.val - 8 * k.val); omega
      | ⟨1, _⟩ => show l.val = 0 + 1 * l.val; omega
    · pointwise [k0_pay93]
      rw [sb_at I]
      congr 1
      show 8 * k.val + (g.val - 8 * k.val) = g.val
      omega
  · rw [if_neg h]
    refine (View.read_writes_cons_miss arg9.view f9 ⟨Rect.unit (s := S128x128) (k0_off9 k) S8x128.size (k0_off9_inb k), k0_pay93 (trip.sl.r_50 (F := Ideal) arg3 harg3 v7 v10 v12 v14 v16 v18 v20 v22 v24 v26 v28 v29 cst_15 v31 v33 v35 v37 v39 X3 k)⟩ [] (ix2 g l) ?_).trans rfl
    rw [LoadRect.mem_set]
    intro hm
    obtain ⟨j, hj, e⟩ := hm 0
    have hj' : j < 8 := hj
    rw [show (Rect.unit (s := S128x128) (k0_off9 k) S8x128.size (k0_off9_inb k)).off = ![8 * k.val, 0] from off9_closed k] at e
    have e' : g.val = 8 * k.val + 1 * j := e
    omega

/-- A TRIP on: what the buffer holds before the next one. -/
theorem facts_next (h : Facts arg9 sg st x k.val f9) :
    Facts arg9 sg st x (k.val + 1) (arg9.view.writes (Elt Ideal) f9 (trip (F := Ideal) c i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 X3 k).1) := by
  intro g l hg
  rw [scales_at c i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 X3 I k f9]
  by_cases h1 : 8 * k.val ≤ g.val ∧ g.val < 8 * k.val + 8
  · rw [if_pos h1]
  · rw [if_neg h1]; exact h g l (by omega)

end

local notation "𝕄" => MT nD τ sig Unit (Elt Ideal) ℕ (UR sig nD τ) ℕ

/-- What the loop holds before trip `K`: the entries at their contents, the values and the words of codes at some contents, and
    the block scales at contents of which `Facts` says what they are for all signs, scale and entries that the kernel's values
    are. -/
def LoopHeld (c : Dev nD) (arg3 : Memref sig .tc .vmem S2048x128 .bf16) (harg3 : arg3.IsWhole) (arg4 : Memref sig .tc .vmem S2048x128 .bf16) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal) (X3 : BufTy.Contents (Elt Ideal) arg3.view.ty) (arg8 : Memref sig .tc .vmem S256x128 .i32) (arg9 : Memref sig .tc .vmem S128x128 .f32) (K : ℕ) : sProp 𝕄 :=
  iprop((arg3.view.loc (c : Thread nD τ) ↦[arg3.view.set]{fullShare} X3)
    ∗ (∃ f, (arg4.view.loc (c : Thread nD τ) ↦[arg4.view.set]{fullShare} f))
    ∗ (∃ f, (arg8.view.loc (c : Thread nD τ) ↦[arg8.view.set]{fullShare} f))
    ∗ (∃ f9, iprop((arg9.view.loc (c : Thread nD τ) ↦[arg9.view.set]{fullShare} f9)
      ∗ ⌜Now (fun K => ∀ sg st x, Inp arg3 harg3 v7 v10 v12 v14 v16 v18 v20 v22 v24 v26 v28 v29 cst_15 v31 v33 v35 v37 v39 X3 sg st x → Facts arg9 sg st x K f9) K⌝)))

/-- One trip, by the invariant. -/
theorem loopTrip (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal)
    (X3 : BufTy.Contents (Elt Ideal) arg3.view.ty) (k : Fin k0_t1_loop.trips) :
    LoopHeld c arg3 harg3 arg4 v7 v10 v12 v14 v16 v18 v20 v22 v24 v26 v28 v29 cst_15 v31 v33 v35 v37 v39 X3 arg8 arg9 k.val
      ⊢ wp frame (wpE (defs₀ (F := Ideal)) Variants.none (c : Thread nD τ) none) E (k0_t1_body (F := Ideal) i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 k PUnit.unit)
        (fun _ => LoopHeld c arg3 harg3 arg4 v7 v10 v12 v14 v16 v18 v20 v22 v24 v26 v28 v29 cst_15 v31 v33 v35 v37 v39 X3 arg8 arg9 (k.val + 1)) := by
  unfold LoopHeld
  iintro ⟨H3, H4, H8, ⟨%f9, H9, %hf⟩⟩
  iapply (((trip (F := Ideal) c i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 X3 k).2 E f9).trans (wp_mono _ _ _ fun _ => ?_))
  swap
  · unfold Held
    isplitl [H3]; · iexact H3
    isplitl [H4]; · iexact H4
    isplitl [H8]; · iexact H8
    iexact H9
  unfold Held
  iintro ⟨H3, H4, H8, H9⟩
  isplitl [H3]; · iexact H3
  isplitl [H4]; · iexact H4
  isplitl [H8]; · iexact H8
  iexists _
  isplitl [H9]; · iexact H9
  ipureintro
  exact Now.mk _ _ fun sg st x I => facts_next c i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 X3 I k f9 (hf.get (fun sg st x I => facts_zero _ _ _ _ _) sg st x I)

set_option warn.classDefReducibility false in
/-- The loop by its invariant. -/
@[sl_loop] def loopInv (c : Dev nD) (E : Set ℕ) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole) (v7 : FVec Ideal S8x128 .f32) (v10 : EReal) (v12 : EReal) (v14 : EReal) (v16 : EReal) (v18 : EReal) (v20 : EReal) (v22 : EReal) (v24 : EReal) (v26 : EReal) (v28 : EReal) (v29 : EReal) (cst_15 : EReal) (v31 : EReal) (v33 : EReal) (v35 : EReal) (v37 : EReal) (v39 : EReal)
    (X3 : BufTy.Contents (Elt Ideal) arg3.view.ty) :
    LoopInvTy_k0_t1 (F := Ideal) Unit ℕ (UR sig nD τ) ℕ Variants.none c none E i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 where
  inv K _ := LoopHeld c arg3 harg3 arg4 v7 v10 v12 v14 v16 v18 v20 v22 v24 v26 v28 v29 cst_15 v31 v33 v35 v37 v39 X3 arg8 arg9 K
  step k acc := loopTrip c E i arg1 harg1 arg2 harg2 arg3 harg3 arg4 harg4 arg5 harg5 arg6 harg6 arg7 harg7 arg8 harg8 arg9 harg9 v7 v10 v12 v14 v16 v18 v20 v22 v24 v26 v28 v29 cst_15 v31 v33 v35 v37 v39 X3 k

end Cert.QuantXIdeal.Run

end
-- ==== Proof.QuantXIdealBody.lean ====
/-
  THE BODY OF THE QUANTISER of the activations at Ideal: what one grid point leaves in its block scales and in its tensor scale,
  said by `QuantDySpec` of the point's columns.
-/
module

public import proofs.«01_k».proof.Defs
public import proofs.«01_k».proof.Proof.Gen.QuantXIdeal
public import proofs.«01_k».proof.Proof.Gen.QuantXIdeal.Skeleton
public import proofs.«01_k».proof.Proof.Gen.QuantXIdeal.Loops
public import proofs.«01_k».proof.Proof.Gen.QuantXIdeal.Launch
public import proofs.«01_k».proof.Proof.Gen.QuantXIdeal.Points
public import proofs.«01_k».proof.Proof.Gen.QuantXIdeal.Frame
public import Idealize.ShloMosaic.Lib.Pipeline.FrameBody
public import Idealize.ShloMosaic.Lib.Exec
public import Idealize.ShloMosaic.Lib.Tactic
public import Idealize.ShloMosaic.Lib.Claim
public import Idealize.ShloMosaic.Lib.Pointwise
public import proofs.«01_k».proof.Proof.QuantXIdealLoop
public import proofs.«01_k».proof.Proof.QuantDyIdealBody

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantXIdeal.Run
open Cert.QuantXIdeal.Gen

local notation "𝕄" => MT nD τ sig Unit (Elt Ideal) ℕ (UR sig nD τ) ℕ

open Cert.QuantDyMath Cert.QuantDySpec
open Cert.QuantDyIdeal.Run (Now Now.mk Now.get sgOf stOf xOf)

/-- What a point leaves: the block scales and the tensor's scale. -/
def outS (x0 : Vec Ideal S16 .f32) (x1 : Vec Ideal S1 .f32) (x2 : Vec Ideal S2048x128 .bf16) : Vec Ideal S128x128 .fp8e4m3 :=
  fun y => QuantDySpec.S (sgOf x0) (stOf x1) (xOf x2 (y 0).val) (y 1).val
/-- What a point leaves as the tensor's scale. -/
def outT (x1 : Vec Ideal S1 .f32) : Vec Ideal S8x128 .f32 := fun _ => stOf x1

/-! ### What the stored values are -/

theorem pay1_at (v : Vec Ideal S128x128 .f32) (a b : Fin 128) : k0_pay1 v (ix2 a b) = v (ix2 b a) := by pointwise [k0_pay1]

theorem pay204_at (v : Elt Ideal .f32) (s : Fin 8) (l : Fin 128) : k0_pay204 (F := Ideal) v (ix2 s l) = QuantDyMath.tscale v := by
  have h : k0_pay204 (F := Ideal) v (ix2 s l) = if Ideal.ofBits .f32 0#32 < v then Ideal.div v (Ideal.ofBits .f32 0x45280000#32) else Ideal.ofBits .f32 0x3F800000#32 := by
    pointwise [k0_pay204]
  rw [h, c_div, QuantDyMath.tscale, show Ideal.ofBits .f32 0#32 = (0 : EReal) by simp [Ideal.ofBits, Ideal.ieee],
    show Ideal.ofBits .f32 0x3F800000#32 = (1 : EReal) by simp [Ideal.ofBits, Ideal.ieee, -EReal.coe_mul]; norm_num]

theorem pay205_at (v : Elt Ideal .f32) : k0_pay205 (F := Ideal) v = v * ((1 / 4 : ℝ) : EReal) := congrArg (v * ·) c_quarter
theorem pay206_at (v : Elt Ideal .f32) : k0_pay206 (F := Ideal) v = v * ((1 / 4 : ℝ) : EReal) := congrArg (v * ·) c_quarter
theorem pay207_at (v : Elt Ideal .f32) : k0_pay207 (F := Ideal) v = v * ((1 / 4 : ℝ) : EReal) := congrArg (v * ·) c_quarter
theorem pay208_at (v : Elt Ideal .f32) : k0_pay208 (F := Ideal) v = v * ((1 / 4 : ℝ) : EReal) := congrArg (v * ·) c_quarter
theorem pay209_at (v : Elt Ideal .f32) : k0_pay209 (F := Ideal) v = v * ((1 / 4 : ℝ) : EReal) := congrArg (v * ·) c_quarter
theorem pay210_at (v : Elt Ideal .f32) : k0_pay210 (F := Ideal) v = v * ((1 / 4 : ℝ) : EReal) := congrArg (v * ·) c_quarter
theorem pay211_at (v : Elt Ideal .f32) : k0_pay211 (F := Ideal) v = v * ((1 / 4 : ℝ) : EReal) := congrArg (v * ·) c_quarter
theorem pay212_at (v : Elt Ideal .f32) : k0_pay212 (F := Ideal) v = v * ((1 / 4 : ℝ) : EReal) := congrArg (v * ·) c_quarter
theorem pay213_at (v : Elt Ideal .f32) : k0_pay213 (F := Ideal) v = v * ((1 / 4 : ℝ) : EReal) := congrArg (v * ·) c_quarter
theorem pay214_at (v : Elt Ideal .f32) : k0_pay214 (F := Ideal) v = v * ((1 / 4 : ℝ) : EReal) := congrArg (v * ·) c_quarter

/-- An entry of the signs. -/
theorem sign_at (arg1 : Memref sig .tc .smem S16 .f32) (harg1 : arg1.IsWhole) (x0 : Vec Ideal S16 .f32) (o : Fin 16)
    (inb : ∀ a, ![o.val] a + S1.size a ≤ S16.size a) (h : 0 < S1.numel) :
    View.readAt (Elt Ideal) arg1.view (Rect.unit (s := S16) ![o.val] S1.size inb).toLoadRect (harg1.unread x0) (Shape.Idx.first h) = sgOf x0 o := by
  rw [harg1.readAt_unread]
  refine congrArg x0 (funext fun a => ?_)
  match a with
  | ⟨0, _⟩ => exact Fin.ext ((LoadRect.idx_apply _ _ _).trans (by show o.val + 1 * 0 = o.val; omega))

/-- The amax. -/
theorem amax_at (arg2 : Memref sig .tc .smem S1 .f32) (harg2 : arg2.IsWhole) (x1 : Vec Ideal S1 .f32)
    (inb : ∀ a, ![0] a + S1.size a ≤ S1.size a) (h : 0 < S1.numel) :
    View.readAt (Elt Ideal) arg2.view (Rect.unit (s := S1) ![0] S1.size inb).toLoadRect (harg2.unread x1) (Shape.Idx.first h) = x1 (ix1 0) := by
  rw [harg2.readAt_unread]
  refine congrArg x1 (funext fun a => ?_)
  match a with
  | ⟨0, _⟩ => exact Fin.ext ((LoadRect.idx_apply _ _ _).trans (by show 0 + 1 * 0 = 0; omega))

/-- A tile of 128 rows, loaded. -/
theorem load_at {e : EltTy} {N : ℕ} (arg : Memref sig .tc .vmem (⟨2, ![N, 128]⟩ : Shape) e) (f : BufTy.Contents (Elt Ideal) arg.view.ty) (o : ℕ)
    (inb : ∀ a, ![o, 0] a + ![128, 128] a ≤ (⟨2, ![N, 128]⟩ : Shape).size a) (a b : Fin 128) (h : o + a.val < N) :
    View.readAt (Elt Ideal) arg.view (Rect.unit (s := (⟨2, ![N, 128]⟩ : Shape)) ![o, 0] ![128, 128] inb).toLoadRect f (ix2 a b) = arg.view.read (Elt Ideal) f (ix2 ⟨o + a.val, h⟩ b) := by
  refine congrArg (arg.view.read (Elt Ideal) f) (funext fun q => ?_)
  match q with
  | ⟨0, _⟩ => exact Fin.ext ((LoadRect.idx_apply _ _ _).trans (by show o + 1 * a.val = o + a.val; omega))
  | ⟨1, _⟩ => exact Fin.ext ((LoadRect.idx_apply _ _ _).trans (by show 0 + 1 * b.val = b.val; omega))

/-- A tile of 128 columns: where it puts what is stored, -/
theorem emb_at {N : ℕ} (o : ℕ) (inb : ∀ a, ![0, o] a + ![128, 128] a ≤ (⟨2, ![128, N]⟩ : Shape).size a) (a b : Fin 128) (h : o + b.val < N) :
    (Rect.unit (s := (⟨2, ![128, N]⟩ : Shape)) ![0, o] ![128, 128] inb).emb (ix2 a b) = ix2 a ⟨o + b.val, h⟩ := by
  funext q
  match q with
  | ⟨0, _⟩ => exact Fin.ext ((LoadRect.idx_apply _ _ _).trans (by show 0 + 1 * a.val = a.val; omega))
  | ⟨1, _⟩ => exact Fin.ext ((LoadRect.idx_apply _ _ _).trans (by show o + 1 * b.val = o + b.val; omega))

/-- and the columns it has. -/
theorem mem_tile {N : ℕ} (o : ℕ) (inb : ∀ a, ![0, o] a + ![128, 128] a ≤ (⟨2, ![128, N]⟩ : Shape).size a) (y : (⟨2, ![128, N]⟩ : Shape).Idx)
    (h : o ≤ (y 1).val ∧ (y 1).val < o + 128) : y ∈ (Rect.unit (s := (⟨2, ![128, N]⟩ : Shape)) ![0, o] ![128, 128] inb).set := by
  rw [LoadRect.mem_set]
  intro a
  match a with
  | ⟨0, _⟩ => exact ⟨(y 0).val, (y 0).isLt, by show (y 0).val = 0 + 1 * (y 0).val; omega⟩
  | ⟨1, _⟩ => exact ⟨(y 1).val - o, by show (y 1).val - o < 128; omega, by show (y 1).val = o + 1 * ((y 1).val - o); omega⟩

/-- The body's triple: on whole staging memrefs, the inputs' at their contents, the body leaves the block scales and the tensor's
    scale at what `QuantDySpec` says of them, when the signs and the entries are real numbers. -/
theorem kernelRun0 (c : Dev nD) (i : grid0.Coords) (arg1 : Memref sig .tc .smem S16 .f32) (harg1 : arg1.IsWhole) (arg2 : Memref sig .tc .smem S1 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S8x128 .f32) (harg7 : arg7.IsWhole) (arg8 : Memref sig .tc .vmem S256x128 .i32) (harg8 : arg8.IsWhole) (arg9 : Memref sig .tc .vmem S128x128 .f32) (harg9 : arg9.IsWhole)
    (x0 : Vec Ideal S16 .f32) (x1 : Vec Ideal S1 .f32) (x2 : Vec Ideal S2048x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare (outS x0 x1 x2) ∗ owns (c : Thread nD τ) arg7 fullShare (outT x1) ∗ (∃ d, owns (c : Thread nD τ) arg8 fullShare d) ∗ (∃ d, owns (c : Thread nD τ) arg9 fullShare d)) -∗ K ⟨⟩))
          ⊢ wp frame (wpE (defs₀ (F := Ideal)) Variants.none c none) E (cc0_quant_x i arg1 harg1 arg2 harg2 arg3 harg3 arg4 harg4 arg5 harg5 arg6 harg6 arg7 harg7 arg8 harg8 arg9 harg9) K := by
    intro E K
    simp only [cc0_quant_x_eq_skeleton]; unfold cc0_quant_x_skel
    simp only [k0_part42_eq_skeleton, k0_part43_eq_skeleton, k0_part44_eq_skeleton]
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, ⟨%d7, %f7, -, H7⟩, ⟨%ds1, %fs1, -, HS1⟩, ⟨%ds2, %fs2, -, HS2⟩, Hk⟩
    obtain rfl := harg1.eq_unread hf0; obtain rfl := harg2.eq_unread hf1; obtain rfl := harg3.eq_unread hf2
    sl_exec
    have ht : Scf.trips k0_t1_loop.lb k0_t1_loop.ub k0_t1_loop.st = 16 := by decide +kernel
    have I : Inp arg3 harg3 (kernelRun0.sl.r_12 c arg2 harg2 x1) (kernelRun0.sl.r_13 c arg1 harg1 x0) (kernelRun0.sl.r_14 c arg1 harg1 x0) (kernelRun0.sl.r_15 c arg1 harg1 x0) (kernelRun0.sl.r_16 c arg1 harg1 x0) (kernelRun0.sl.r_17 c arg1 harg1 x0) (kernelRun0.sl.r_18 c arg1 harg1 x0) (kernelRun0.sl.r_19 c arg1 harg1 x0) (kernelRun0.sl.r_20 c arg1 harg1 x0) (kernelRun0.sl.r_21 c arg1 harg1 x0) (kernelRun0.sl.r_22 c arg1 harg1 x0) (kernelRun0.sl.r_11 c arg1 harg1 x0) kernelRun0.sl.cst_15 (kernelRun0.sl.r_23 c arg1 harg1 x0) (kernelRun0.sl.r_24 c arg1 harg1 x0) (kernelRun0.sl.r_25 c arg1 harg1 x0) (kernelRun0.sl.r_26 c arg1 harg1 x0) (kernelRun0.sl.r_27 c arg1 harg1 x0) (harg3.unread x2) (sgOf x0) (stOf x1) (xOf x2) :=
      { hx := fun t l => by rw [hf2, xOf, dif_pos ⟨t.isLt, l.isLt⟩]
        hst := fun s l => (pay204_at _ s l).trans (congrArg QuantDyMath.tscale (amax_at arg2 harg2 x1 _ _))
        pos := tscale_pos _
        s0 := (pay205_at _).trans (congrArg (· * _) (sign_at arg1 harg1 x0 0 _ _))
        s1 := (pay206_at _).trans (congrArg (· * _) (sign_at arg1 harg1 x0 1 _ _))
        s2 := (pay207_at _).trans (congrArg (· * _) (sign_at arg1 harg1 x0 2 _ _))
        s3 := (pay208_at _).trans (congrArg (· * _) (sign_at arg1 harg1 x0 3 _ _))
        s4 := (pay209_at _).trans (congrArg (· * _) (sign_at arg1 harg1 x0 4 _ _))
        s5 := (pay210_at _).trans (congrArg (· * _) (sign_at arg1 harg1 x0 5 _ _))
        s6 := (pay211_at _).trans (congrArg (· * _) (sign_at arg1 harg1 x0 6 _ _))
        s7 := (pay212_at _).trans (congrArg (· * _) (sign_at arg1 harg1 x0 7 _ _))
        s8 := (pay213_at _).trans (congrArg (· * _) (sign_at arg1 harg1 x0 8 _ _))
        s9 := (pay214_at _).trans (congrArg (· * _) (sign_at arg1 harg1 x0 9 _ _))
        s10 := (congrArg (_ * ·) c_quarter).trans (congrArg (· * _) (sign_at arg1 harg1 x0 10 _ _))
        s11 := sign_at arg1 harg1 x0 11 _ _
        s12 := sign_at arg1 harg1 x0 12 _ _
        s13 := sign_at arg1 harg1 x0 13 _ _
        s14 := sign_at arg1 harg1 x0 14 _ _
        s15 := sign_at arg1 harg1 x0 15 _ _ }
    have F : Facts arg9 (sgOf x0) (stOf x1) (xOf x2) (Scf.trips k0_t1_loop.lb k0_t1_loop.ub k0_t1_loop.st) f9L2 :=
      (hL4.get fun sg st x _ => facts_zero arg9 sg st x f9L2) _ _ _ I
    rw [ht] at F
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H4]
    · iexists _, _; isplitr; swap; · iexact H4
      ipureintro; rfl
    isplitl [H5]
    · iexists _, _; isplitr; swap; · iexact H5
      ipureintro; rfl
    isplitl [H6]
    · iexists _; isplitr; swap; · iexact H6
      ipureintro
      funext y
      refine View.read_writes_apply_of_pieces arg6.view f6 (outS x0 x1 x2) _ (List.forall_mem_cons.2 ⟨fun q => ?_, List.forall_mem_nil _⟩) y
        ⟨_, List.mem_cons_self, mem_tile 0 inb_S128x128_S128x128_0_0 y ⟨Nat.zero_le _, (y 1).isLt⟩⟩
      obtain ⟨a, b, rfl⟩ : ∃ a b : Fin 128, q = ix2 a b := ⟨q 0, q 1, by funext z; match z with | ⟨0, _⟩ => rfl | ⟨1, _⟩ => rfl⟩
      refine (pay1_at _ a b).trans ?_
      rw [load_at arg9 f9L2 0 inb_S128x128_S128x128_0_0 b a (by omega), F _ _ (by show 0 + b.val < 8 * 16; omega)]
      refine Eq.trans ?_ (congrArg (outS x0 x1 x2) (emb_at 0 inb_S128x128_S128x128_0_0 a b (by omega)).symm)
      rfl
    isplitl [H7]
    · iexists _; isplitr; swap; · iexact H7
      ipureintro
      funext y
      refine View.read_writes_apply_of_pieces arg7.view _ (outT x1) _ (List.forall_mem_cons.2 ⟨fun q => ?_, List.forall_mem_nil _⟩) y
        ⟨_, List.mem_cons_self, ?_⟩
      · obtain ⟨a, b, rfl⟩ : ∃ (a : Fin 8) (b : Fin 128), q = ix2 a b := ⟨q 0, q 1, by funext z; match z with | ⟨0, _⟩ => rfl | ⟨1, _⟩ => rfl⟩
        exact (pay204_at _ a b).trans (congrArg QuantDyMath.tscale (amax_at arg2 harg2 x1 _ _))
      · rw [LoadRect.mem_set]
        intro a
        match a with
        | ⟨0, _⟩ => exact ⟨(y 0).val, (y 0).isLt, by show (y 0).val = 0 + 1 * (y 0).val; omega⟩
        | ⟨1, _⟩ => exact ⟨(y 1).val, (y 1).isLt, by show (y 1).val = 0 + 1 * (y 1).val; omega⟩
    isplitl [HS1]
    · iexists _, _; isplitr; swap; · iexact HS1
      ipureintro; rfl
    iexists _, _; isplitr; swap; · iexact HS2
    ipureintro; rfl

end Cert.QuantXIdeal.Run

end
-- ==== Proof.QuantXIdealValue.lean ====
/-
  THE QUANTISER of the activations, idealized: what the block scales and the tensor scale hold after the run, when the entries and the
  signs are real numbers.
-/
module

public import proofs.«01_k».proof.Defs
public import proofs.«01_k».proof.Proof.Gen.QuantXIdeal
public import proofs.«01_k».proof.Proof.Gen.QuantXIdeal.Skeleton
public import proofs.«01_k».proof.Proof.Gen.QuantXIdeal.Loops
public import proofs.«01_k».proof.Proof.Gen.QuantXIdeal.Launch
public import proofs.«01_k».proof.Proof.Gen.QuantXIdeal.Points
public import proofs.«01_k».proof.Proof.Gen.QuantXIdeal.Frame
public import Idealize.ShloMosaic.Lib.Pipeline.FrameBody
public import Idealize.ShloMosaic.Lib.Exec
public import Idealize.ShloMosaic.Lib.Tactic
public import Idealize.ShloMosaic.Lib.Claim
public import Idealize.ShloMosaic.Lib.Pointwise
public import Idealize.ShloMosaic.Lib.Pipeline.ValueKit
public import Idealize.ShloMosaic.Lib.Pipeline.Value
public import Idealize.ShloMosaic.Lib.Pipeline.Cells
public import proofs.«01_k».proof.Proof.QuantDyIdealValue
public import proofs.«01_k».proof.Proof.QuantXIdealBody
public import proofs.«01_k».proof.Proof.QuantXIdealFrame

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QuantXIdeal.Value
open Cert.QuantXIdeal.Gen Cert.QuantXIdeal.Forget

local notation "𝕄" => MT nD τ sig Unit (Elt Ideal) ℕ (UR sig nD τ) ℕ

variable (m : (ℓ : Loc nD τ sig) → Buf (Elt Ideal) ℓ) (ρ : Dev nD → PrngReg)

/-- The windows whose contents no claim reads: the values and the codes. -/
def fgt : Fin 7 → Bool := fun w => w.val == 3 || w.val == 4

/-- The proof data of the one pipeline on core `c`: the arrays as the region finds them (`V`); after the body at point `t` each
    input's buffer at its block, the values and the codes not named, and the scales at what `QuantDySpec` says of the blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed ⟨3, h⟩ t
    | ⟨4, h⟩ => Pipeline.Dat.unnamed ⟨4, h⟩ t
    | ⟨5, _⟩ => Run.outS (iblk m c 0 t) (iblk m c 1 t) (iblk m c 2 t)
    | ⟨6, _⟩ => Run.outT (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_5 (c : Dev nD) (t : Fin cfg0.N) : (dats m 0 c).after 5 t = Run.outS (iblk m c 0 t) (iblk m c 1 t) (iblk m c 2 t) := by dsimp only [dats]
theorem after0_6 (c : Dev nD) (t : Fin cfg0.N) : (dats m 0 c).after 6 t = Run.outT (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_5, after0_6]
  rw [show (dats m 0 c).Φ t.castSucc = Pipeline.ΦA spec0 c from rfl, PhiA0_eq]
  iintro ⟨⟨⟨HS1, HS2⟩, Hg⟩, Ho, ⟨%d0, H0⟩, ⟨%d1, H1⟩, ⟨%d2, H2⟩, ⟨%d4, H4⟩, ⟨%d5, H5⟩, ⟨%d6, H6⟩, ⟨%d7, H7⟩⟩
  iapply ((Run.kernelRun0 c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H4]; · iexists _; iexact H4
  isplitl [H5]; · iexists _; iexact H5
  isplitl [H6]; · iexists _; iexact H6
  isplitl [H7]; · iexists _; iexact H7
  isplitl [HS1]; · iexact HS1
  isplitl [HS2]; · iexact HS2
  iintro ⟨H0, H1, H2, H4, H5, H6, H7, HS1, HS2⟩
  isplitl [HS1 HS2 Hg]
  · isplitl [HS1 HS2]
    · isplitl [HS1]
      · iexact HS1
      iexact HS2
    iexact Hg
  isplitl [Ho]; · iexact Ho
  isplitl [H0]; · iexact H0
  isplitl [H1]; · iexact H1
  isplitl [H2]; · iexact H2
  isplitl [H4]; · iexact H4
  isplitl [H5]; · iexact H5
  isplitl [H6]; · iexact H6
  iexact H7

/-- The library's body obligation, at every point. -/
theorem body_obligation (c : Dev nD) : BodyObligation (dats m 0 c) (defs₀ (F := Ideal)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: every array of the pipeline but the values and the codes ends at what the proof data says. -/
theorem run_main : θ_run defs (onTc (τ := τ) (main (F := Ideal))) (s₀ m ρ) (fun r => (Pipeline.RDat.FramePost (cfgs 0) (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arrays after the run -/

open Cert.QuantDyIdeal.Run (sgOf stOf xOf)

/-- A column of the activations. -/
def colX (x : Vec Ideal S2048x8192 .bf16) (n t : ℕ) : EReal := if h : t < 2048 ∧ n < 8192 then x (ix2 ⟨t, h.1⟩ ⟨n, h.2⟩) else 0

/-- The two results, of whole arrays: the block scales and the tensor's scale. -/
def resS (x : Vec Ideal S2048x8192 .bf16) (sg : Vec Ideal S16 .f32) (am : Vec Ideal S1 .f32) : Vec Ideal S8192x128 .fp8e4m3 :=
  fun y => QuantDySpec.S (sgOf sg) (stOf am) (colX x (y 0).val) (y 1).val
/-- The tensor's scale, of whole arrays. -/
def resT (am : Vec Ideal S1 .f32) : Vec Ideal S8x128 .f32 := fun _ => stOf am

/-- The windows' block indices: columns `128 t …` at point `t`. -/
theorem idx_facts : ∀ t : Fin cfg0.N,
    win0_0.index t 0 = 0 ∧ win0_1.index t 0 = 0 ∧ win0_2.index t 0 = 0 ∧ win0_2.index t 1 = t.val ∧ win0_5.index t 0 = t.val ∧ win0_5.index t 1 = 0 :=
  (by decide +kernel : ∀ t : Fin grid0.N, _)

/-- Every point reads all the signs, the one largest magnitude, and its 128 columns. -/
theorem sg_blk (c : Dev nD) (t : Fin cfg0.N) : sgOf (iblk m c 0 t) = sgOf (m ((c : Thread nD τ).loc main_arg1)) := by
  obtain ⟨h, -⟩ := idx_facts t
  funext i
  show iblk m c 0 t (ix1 i) = m ((c : Thread nD τ).loc main_arg1) (ix1 i)
  blk_ext [iblk, V, h]

/-- Every point reads the tensor's one largest magnitude. -/
theorem st_blk (c : Dev nD) (t : Fin cfg0.N) : stOf (iblk m c 1 t) = stOf (m ((c : Thread nD τ).loc main_arg2)) := by
  obtain ⟨-, h, -⟩ := idx_facts t
  refine congrArg QuantDyMath.tscale ?_
  show iblk m c 1 t (ix1 0) = m ((c : Thread nD τ).loc main_arg2) (ix1 0)
  blk_ext [iblk, V, h]

/-- Every point reads its 128 columns of entries. -/
theorem x_blk (c : Dev nD) (t : Fin cfg0.N) (l : ℕ) (hl : l < 128) (n : ℕ) (hn : n = 128 * t.val + l) :
    xOf (iblk m c 2 t) l = colX (m ((c : Thread nD τ).loc main_arg0)) n := by
  obtain ⟨-, -, h0, h1, -⟩ := idx_facts t
  have ht : t.val < 64 := t.isLt
  funext u
  unfold xOf colX
  by_cases hu : u < 2048
  · rw [dif_pos ⟨hu, hl⟩, dif_pos ⟨hu, by omega⟩]
    blk_ext [iblk, V, h0, h1, hn]
  · rw [dif_neg (by omega), dif_neg (by omega)]

/-- The array of window 5 after the run. -/
theorem final5 (c : Dev nD) : (dats m 0 c).arrAt 5 cfg0.N = resS (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨-, -, -, -, h50, h51⟩ := idx_facts t
  idx_vars y
  have ht : t.val < 64 := t.isLt
  have hn : 128 * t.val + y0.val < 8192 := by omega
  have e : (((View.whole main_v0_2).slice (win0_5.rect t)).emb (ix2 y0 y1)) = ix2 ⟨128 * t.val + y0.val, hn⟩ y1 := by
    blk_ext [h50, h51]
  rw [e]
  unfold Run.outS resS
  rw [sg_blk m c t, st_blk m c t]
  exact congrArg (fun a => QuantDySpec.S (sgOf (m ((c : Thread nD τ).loc main_arg1))) (stOf (m ((c : Thread nD τ).loc main_arg2))) a y1.val) (x_blk m c t y0.val y0.isLt _ rfl)

/-- The array of window 6 after the run. -/
theorem final6 (c : Dev nD) : (dats m 0 c).arrAt 6 cfg0.N = resT (m ((c : Thread nD τ).loc main_arg2)) := by
  refine (dats m 0 c).arrAt_eq_of_covers 6 _ (by decide +kernel) fun t hf y => ?_
  blk_simp
  rw [after0_6]
  exact st_blk m c t

/-- THE RUN of the kernel: the block scales and the tensor's scale hold what the specification says, and the arguments are
    unchanged. -/
theorem run_blocks : θ_run defs (onTc (τ := τ) (main (F := Ideal))) (s₀ m ρ) fun r => ∀ c : Dev nD,
    (r.2.mem ((c : Thread nD τ).loc main_v0_2) = resS (m ((c : Thread nD τ).loc main_arg0)) (m ((c : Thread nD τ).loc main_arg1)) (m ((c : Thread nD τ).loc main_arg2))
      ∧ r.2.mem ((c : Thread nD τ).loc main_v0_3) = resT (m ((c : Thread nD τ).loc main_arg2)))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2)) := by
  refine (θ_run defs _ _).mono (fun r h c => ?_) (run_main m ρ)
  replace h := h.1 c
  have g : ∀ w : Fin cfg0.W, fgt w = false → r.2.mem ((cfg0.win w).arr.view.loc (c.tc : Thread nD τ)) = (dats m 0 c).arrAt w cfg0.N :=
    fun w hw => ((dats m 0 c).toRForget_arrAt_iff hw _ _).mp (h.1 w)
  exact ⟨⟨(g 5 rfl).trans (final5 m c), (g 6 rfl).trans (final6 m c)⟩,
    (g 2 rfl).trans (((dats m 0 c).arrAt_in 2 rfl _).trans ((A_eq m c 2).trans (V_main_arg0 m c))),
    (g 0 rfl).trans (((dats m 0 c).arrAt_in 0 rfl _).trans ((A_eq m c 0).trans (V_main_arg1 m c))),
    (g 1 rfl).trans (((dats m 0 c).arrAt_in 1 rfl _).trans ((A_eq m c 1).trans (V_main_arg2 m c)))⟩

end Cert.QuantXIdeal.Value

end
-- ==== Proof.QuantXRefValue.lean ====
/-
  THE REFERENCE QUANTISER of the activations: its rotation, and what its block scales and its tensor scale hold.
-/
module

public import proofs.«01_k».proof.Defs
public import proofs.«01_k».proof.Proof.Gen.QuantXRefIdeal
public import proofs.«01_k».proof.Proof.Gen.QuantXRefIdeal.Frame
public import proofs.«01_k».proof.Proof.Gen.QuantXRefIdeal.Value
public import proofs.«01_k».proof.Proof.QuantDySpec
public import proofs.«01_k».proof.Proof.QuantXIdealValue
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic
open Idealize.ShloMosaic.Pipeline (Dat Cfg Window)

namespace Cert.QuantXRefIdeal.Pays
open Cert.QuantXRefIdeal Cert.QuantXRefIdeal.Gen Cert.QuantDyMath

variable (z : Vec Ideal S128x16x8192 .f32) (am : Vec Ideal S1x1 .f32)

/-- A block of rotated entries, the tensor's scale and a block's scale. -/
def zf (g : Fin 128) (c : Fin 8192) : Fin 16 → EReal := fun i => z (ix3 g i c)
/-- The tensor's scale. -/
def stf : EReal := tscale (am (ix2 0 0))
/-- A block's scale. -/
def sf (g : Fin 128) (c : Fin 8192) : EReal := bscale (stf am) (zf z g c)

/-- The pattern of one. -/
theorem one_bits : Ideal.ofBits .f32 0x3F800000#32 = 1 := by simp [Ideal.ofBits, Ideal.ieee, -EReal.coe_mul]; norm_num

/-- The body reads its operands whole. -/
theorem ld0 : View.ld z r0_0 = z := View.ld_unit_zero (funext fun a => by fin_cases a <;> rfl) _ _
theorem ld1 : View.ld am r0_1 = am := View.ld_unit_zero (funext fun a => by fin_cases a <;> rfl) _ _

/-- The block scales. -/
theorem out2_at (c : Fin 8192) (g : Fin 128) : out0_2 z am (ix2 c g) = sf z am g c := by
  have hc : out0_2 z am (ix2 c g) = k0_pay3 (View.ld z r0_0) (View.ld am r0_1) (ix2 c g) :=
    congrFun (View.canon_unit_zero (funext fun a => by fin_cases a <;> rfl) _ _) _
  rw [hc, ld0, ld1]
  pointwise [k0_pay3, k0_pay1]
  simp only [c_six, c_div, c_top, c_bot]
  rfl

/-- The tensor's scale. -/
theorem out3_at (a : Fin 8) (b : Fin 128) : out0_3 z am (ix2 a b) = stf am := by
  have hc : out0_3 z am (ix2 a b) = k0_pay2 (View.ld am r0_1) (ix2 a b) :=
    congrFun (View.canon_unit_zero (funext fun a => by fin_cases a <;> rfl) _ _) _
  rw [hc, ld1]
  pointwise [k0_pay2, k0_pay1]
  rw [c_div]
  rfl

end Cert.QuantXRefIdeal.Pays

namespace Cert.QuantXRefIdeal.Val
open Cert.QuantXRefIdeal Cert.QuantXRefIdeal.Gen

variable (m : (ℓ : Loc nD τ sig) → Buf (Elt Ideal) ℓ) (ρ : Dev nD → PrngReg)

/-- The table of the rotation's signs. -/
theorem lit_eq : ∀ i j : Fin 16, lit0 (S16x16.rowMajor (ix2 i j)) = if QuantDyMath.odd i j then 0xBF800000#32 else 0x3F800000#32 := by
  decide +kernel

/-- The rotation as the reference's operations write it. -/
def rotated (dy : Vec Ideal S2048x8192 .bf16) (sg : Vec Ideal S16 .f32) : Vec Ideal S128x16x8192 .f32 :=
  transpose S128x16x8192 [0, 2, 1] (Host.dotGeneral (F := Ideal) dot_S128x16x8192_S16x16_S128x8192x16_1_1_02_0_n_n (some .fp32)
    (shapeCast S128x16x8192 (extf (F := Ideal) .f32 dy bitsLt_bf16_f32) shapeCasts_S2048x8192_S128x16x8192 : FVec Ideal S128x16x8192 .f32)
    (mulf (mulf (fun i => FloatOps.ofBits .f32 (lit0 (S16x16.rowMajor i)))
      (broadcastInDim S16x16 ![0, 1] bcast_S1x16_S16x16_0_1 (broadcastInDim S1x16 ![1] bcast_S16_S1x16_1 sg)))
      (broadcastInDim S16x16 ![] bcast_S_S16x16 (constant (F := Ideal) S_ .f32 0x3E800000#32)) : FVec Ideal S16x16 .f32)) transposes_S128x8192x16_S128x16x8192_0_2_1

/-- The rotated operand, as the host code before the region leaves it. -/
theorem V_v8 (c : Dev nD) : V m c main_v8 = rotated (m ((c : Thread nD τ).loc main_arg0)) (m ((c : Thread nD τ).loc main_arg1)) := by
  show StableHlo.after hostOps0 (fun b => m (c, b)) (Proc.devRef .tc main_v8) = _
  after_results
  rfl

/-- The rotated entries. -/
theorem rotated_at (dy : Vec Ideal S2048x8192 .bf16) (sg : Vec Ideal S16 .f32) (g : Fin 128) (i : Fin 16) (n : Fin 8192) :
    rotated dy sg (ix3 g i n) = QuantDyMath.rot (fun j => sg (ix1 j)) (fun j => dy (ix2 ⟨g.val * 16 + j.val, by omega⟩ n)) i := by
  unfold rotated
  pointwise
  simp only [lit_eq]
  unfold QuantDyMath.rot
  refine Finset.sum_congr rfl fun j _ => ?_
  rw [QuantDyMath.c_quarter]
  have h : Ideal.ofBits FTy.f32 (if QuantDyMath.odd i j = true then 0xBF800000#32 else 0x3F800000#32) = ((QuantDyMath.sgn i j : ℝ) : EReal) := by
    unfold QuantDyMath.sgn
    split_ifs
    · exact QuantDyMath.c_neg
    · exact Pays.one_bits
  rw [h]

/-- The largest magnitude, before the region. -/
theorem V_v9 (c : Dev nD) : (V m c main_v9 : Vec Ideal S1x1 .f32) (ix2 0 0) = (m ((c : Thread nD τ).loc main_arg2) : Vec Ideal S1 .f32) (ix1 0) := by
  have h : V m c main_v9 = (shapeCast S1x1 (m ((c : Thread nD τ).loc main_arg2) : Vec Ideal S1 .f32) shapeCasts_S1_S1x1 : Vec Ideal S1x1 .f32) := by
    show StableHlo.after hostOps0 (fun b => m (c, b)) (Proc.devRef .tc main_v9) = _
    after_results
    rfl
  rw [h]
  pointwise

/-! ## The blocks are the arrays -/

/-- Every window of the reference is its whole array. -/
theorem idx_facts : ∀ t : Fin cfg0.N,
    win0_0.index t 0 = 0 ∧ win0_0.index t 1 = 0 ∧ win0_0.index t 2 = 0 ∧ win0_1.index t 0 = 0 ∧ win0_1.index t 1 = 0 ∧ win0_2.index t 0 = 0 ∧ win0_2.index t 1 = 0
    ∧ win0_3.index t 0 = 0 ∧ win0_3.index t 1 = 0 :=
  (by decide +kernel : ∀ t : Fin grid0.N, _)

/-- The reference reads the rotated operand whole. -/
theorem z_blk (c : Dev nD) (t : Fin cfg0.N) : iblk m c 0 t = rotated (m ((c : Thread nD τ).loc main_arg0)) (m ((c : Thread nD τ).loc main_arg1)) := by
  obtain ⟨h0, h1, h2, -⟩ := idx_facts t
  rw [← V_v8 m c]
  funext y
  idx_vars y
  unfold iblk
  show V m c main_v8 _ = V m c main_v8 _
  refine congrArg (V m c main_v8) ?_
  blk_ext [h0, h1, h2]

/-- The reference reads the largest magnitude. -/
theorem am_blk (c : Dev nD) (t : Fin cfg0.N) : iblk m c 1 t (ix2 0 0) = (m ((c : Thread nD τ).loc main_arg2) : Vec Ideal S1 .f32) (ix1 0) := by
  obtain ⟨-, -, -, h0, h1, -⟩ := idx_facts t
  rw [← V_v9 m c]
  unfold iblk
  show V m c main_v9 _ = V m c main_v9 _
  refine congrArg (V m c main_v9) ?_
  blk_ext [h0, h1]

/-! ## The results are the specification's -/

section Spec
open Cert.QuantXIdeal.Value (colX resS resT)
open Cert.QuantDyIdeal.Run (sgOf stOf)
open Cert.QuantDySpec Pays

variable (dy : Vec Ideal S2048x8192 .bf16) (sg : Vec Ideal S16 .f32) (am : Vec Ideal S1x1 .f32) (a : Vec Ideal S1 .f32)
  (ha : am (ix2 0 0) = a (ix1 0))
include ha

/-- The reference's tensor scale is the specification's. -/
theorem st_eq : stf am = stOf a := congrArg QuantDyMath.tscale ha

omit ha in
/-- The reference's rotated entries are the specification's. -/
theorem z_eq (g : Fin 128) (n : Fin 8192) : zf (rotated dy sg) g n = Z (sgOf sg) (colX dy n.val) g.val := by
  funext i
  refine (rotated_at dy sg g i n).trans ?_
  unfold Z
  refine congrArg (fun x => QuantDyMath.rot (sgOf sg) x i) (funext fun j => ?_)
  unfold colX
  rw [dif_pos ⟨by omega, n.isLt⟩]
  exact congrArg (fun q => dy (ix2 q n)) (Fin.ext (by show g.val * 16 + j.val = 16 * g.val + j.val; omega))

/-- The reference's block scales are the specification's. -/
theorem s_eq (g : Fin 128) (n : Fin 8192) : sf (rotated dy sg) am g n = S (sgOf sg) (stOf a) (colX dy n.val) g.val := by
  unfold sf S
  rw [z_eq, st_eq am a ha]

/-- The reference's scales, as an array, are the specification's. -/
theorem resS_eq (n : Fin 8192) (g : Fin 128) : out0_2 (rotated dy sg) am (ix2 n g) = resS dy sg a (ix2 n g) := by
  rw [out2_at, s_eq dy sg am a ha]
  rfl

/-- The reference's tensor scale, as an array, is the specification's. -/
theorem resT_eq (x : Fin 8) (y : Fin 128) : out0_3 (rotated dy sg) am (ix2 x y) = resT a (ix2 x y) := by
  rw [out3_at, st_eq am a ha]
  rfl

end Spec

open Cert.QuantXIdeal.Value (resS resT)

/-- The array of window 2 after the run. -/
theorem final2 (c : Dev nD) : (dats m 0 c).arrAt 2 cfg0.N = resS (m ((c : Thread nD τ).loc main_arg0)) (m ((c : Thread nD τ).loc main_arg1)) (m ((c : Thread nD τ).loc main_arg2)) := by
  refine (dats m 0 c).arrAt_eq_of_covers 2 _ (by decide +kernel) fun t hf y => ?_
  obtain ⟨-, -, -, -, -, h20, h21, h30, h31⟩ := idx_facts t
  blk_simp
  rw [after0_2, z_blk]
  idx_vars y
  refine (resS_eq _ _ _ (m ((c : Thread nD τ).loc main_arg2)) (am_blk m c t) y0 y1).trans ?_
  refine congrArg (resS (m ((c : Thread nD τ).loc main_arg0)) (m ((c : Thread nD τ).loc main_arg1)) (m ((c : Thread nD τ).loc main_arg2))) ?_
  blk_ext [h20, h21]

/-- The array of window 3 after the run. -/
theorem final3 (c : Dev nD) : (dats m 0 c).arrAt 3 cfg0.N = resT (m ((c : Thread nD τ).loc main_arg2)) := by
  refine (dats m 0 c).arrAt_eq_of_covers 3 _ (by decide +kernel) fun t hf y => ?_
  obtain ⟨-, -, -, -, -, h20, h21, h30, h31⟩ := idx_facts t
  blk_simp
  rw [after0_3, z_blk]
  idx_vars y
  refine (resT_eq _ _ _ (m ((c : Thread nD τ).loc main_arg2)) (am_blk m c t) y0 y1).trans ?_
  refine congrArg (resT (m ((c : Thread nD τ).loc main_arg2))) ?_
  blk_ext [h30, h31]

/-- THE RUN of the reference: the two results hold what the specification says, and the arguments are unchanged. -/
theorem run_blocks : θ_run defs (onTc (τ := τ) (main (F := Ideal))) ⟨m, fun _ => 0, ρ⟩ fun r => ∀ c : Dev nD,
    (r.2.mem ((c : Thread nD τ).loc main_v10_0) = resS (m ((c : Thread nD τ).loc main_arg0)) (m ((c : Thread nD τ).loc main_arg1)) (m ((c : Thread nD τ).loc main_arg2))
      ∧ r.2.mem ((c : Thread nD τ).loc main_v10_1) = resT (m ((c : Thread nD τ).loc main_arg2)))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2)) :=
  (θ_run defs _ _).mono (fun r h c => ⟨⟨(h c).1.trans (final2 m c), (h c).2.1.trans (final3 m c)⟩, (h c).2.2⟩)
    (Value.run_blocks m ρ)

end Cert.QuantXRefIdeal.Val

end
-- ==== Proof.QuantXClaims.lean ====
/-
  THE CLAIMS about the quantiser of the activations: the runs, and that the block scales and the tensor scale of the kernel and of
  the reference agree, whatever the entries, the signs and the largest magnitude.
-/
module

public import proofs.«01_k».proof.Defs
public import proofs.«01_k».proof.Proof.Gen.QuantX
public import proofs.«01_k».proof.Proof.QuantXFrame
public import proofs.«01_k».proof.Proof.QuantXIdealFrame
public import proofs.«01_k».proof.Proof.QuantXIdealValue
public import proofs.«01_k».proof.Proof.QuantXRefValue
public import Idealize.ShloMosaic.Lib.Pointwise
public import Idealize.ShloMosaic.Lib.Bf16Pair

@[expose] public section

noncomputable section

namespace Cert.Proof.QuantX
open Idealize.ShloMosaic Idealize.ShloMosaic.TcCoe Idealize.ShloMosaic.Tactic Idealize.SL.Sem

/-- The runs of the printed kernel, of the idealized kernel and of the reference. -/
theorem frame : Cert.quiescent_QuantX := fun m ρ _ => Cert.QuantX.Run.frame m ρ
/-- The idealized kernel runs. -/
theorem frame_ideal : Cert.quiescent_QuantXIdeal := fun m ρ _ => Cert.QuantXIdeal.Forget.frame m ρ
/-- The reference runs. -/
theorem frame_ref : Cert.quiescent_QuantXRefIdeal := fun m ρ _ => Cert.QuantXRefIdeal.Gen.frame m ρ

/-- What idealizing replaced in the kernel, at the patterns of bits and over the extended reals. -/
theorem preserves : Cert.preserves_QuantX_QuantXIdeal :=
  ⟨IdealRules.bf16_pair.statement _ _, IdealRules.bf16_pair.statement _ _, IdealRules.bf16_pair.packStatement _⟩

/-- The kernel and the reference give the same block scales and tensor scale over the extended
    reals. -/
theorem algebraic : Cert.algebraic_QuantXIdeal_QuantXRefIdeal := by
  intro m ρ m' ρ' _ hag
  refine ⟨fun c => Cert.QuantXIdeal.Value.resS (m (c.tc.loc Cert.QuantXIdeal.main_arg0)) (m (c.tc.loc Cert.QuantXIdeal.main_arg1)) (m (c.tc.loc Cert.QuantXIdeal.main_arg2)),
    fun c => Cert.QuantXIdeal.Value.resT (m (c.tc.loc Cert.QuantXIdeal.main_arg2)), ?_, ?_⟩
  · exact (θ_run Cert.QuantXIdeal.defs _ _).mono (fun r h c => ⟨(h c).1.1, (h c).1.2, (h c).2⟩)
      (Cert.QuantXIdeal.Value.run_blocks m ρ)
  · refine (θ_run Cert.QuantXRefIdeal.defs _ _).mono (fun r h c => ?_) (Cert.QuantXRefIdeal.Val.run_blocks m' ρ')
    have hc := h c
    obtain ⟨a0, a1, a2⟩ := hag c
    refine ⟨hc.1.1.trans ?_, hc.1.2.trans ?_, hc.2⟩
    · rw [a0, a1, a2]
    · rw [a2]

end Cert.Proof.QuantX

end
-- ==== Proof.RefFrames.lean ====
/-
  THE REFERENCES as printed: each runs to the end, on patterns of bits, and leaves its arguments as they were.
-/
module

public import proofs.«01_k».proof.Defs
public import proofs.«01_k».proof.Proof.Gen.WgradRef
public import proofs.«01_k».proof.Proof.Gen.WgradRef.Run
public import proofs.«01_k».proof.Proof.Gen.QuantDyRef
public import proofs.«01_k».proof.Proof.Gen.QuantDyRef.Skeleton
public import proofs.«01_k».proof.Proof.Gen.QuantDyRef.Launch
public import proofs.«01_k».proof.Proof.Gen.QuantDyRef.Points
public import proofs.«01_k».proof.Proof.Gen.QuantDyRef.Frame
public import proofs.«01_k».proof.Proof.Gen.QuantXRef
public import proofs.«01_k».proof.Proof.Gen.QuantXRef.Skeleton
public import proofs.«01_k».proof.Proof.Gen.QuantXRef.Launch
public import proofs.«01_k».proof.Proof.Gen.QuantXRef.Points
public import proofs.«01_k».proof.Proof.Gen.QuantXRef.Frame

@[expose] public section

noncomputable section

namespace Cert.Proof.Refs
open Idealize.ShloMosaic Idealize.ShloMosaic.TcCoe Idealize.SL.Sem

/-- The plain product runs. -/
theorem frame_wgrad : Cert.quiescent_WgradRef := fun m ρ _ =>
  (θ_run Cert.WgradRef.defs _ _).mono (fun r h => ⟨fun c => (h c).2, sem_eq_zero_of_no_sems (by decide) r.2⟩)
    (Cert.WgradRef.Value.run m ρ)

/-- The reference quantiser of the output gradient runs. -/
theorem frame_quant_dy : Cert.quiescent_QuantDyRef := fun m ρ _ => Cert.QuantDyRef.Gen.frame m ρ

/-- The reference quantiser of the activations runs. -/
theorem frame_quant_x : Cert.quiescent_QuantXRef := fun m ρ _ => Cert.QuantXRef.Gen.frame m ρ

end Cert.Proof.Refs

end
-- ==== Proof.lean ====
module

public import proofs.«01_k».proof.Defs
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradIdeal.Value
public import proofs.«01_k».proof.Proof.Gen.WgradRefIdeal.Run
public import proofs.«01_k».proof.Proof.Gen.WgradRefIdeal
public import proofs.«01_k».proof.Proof.WgradValue
public import proofs.«01_k».proof.Proof.QuantDyFrame
public import proofs.«01_k».proof.Proof.QuantDyIdealFrame
public import proofs.«01_k».proof.Proof.QuantDyRefValue
public import proofs.«01_k».proof.Proof.QuantDyClaims
public import proofs.«01_k».proof.Proof.QuantXFrame
public import proofs.«01_k».proof.Proof.QuantXIdealFrame
public import proofs.«01_k».proof.Proof.QuantXRefValue
public import proofs.«01_k».proof.Proof.QuantXClaims
public import proofs.«01_k».proof.Proof.RefFrames
public import proofs.«01_k».proof.Proof.Gen.QuantDy
public import proofs.«01_k».proof.Proof.Gen.QuantDyIdeal
public import proofs.«01_k».proof.Proof.Gen.QuantDyRefIdeal
public import proofs.«01_k».proof.Proof.Gen.Pre_finite
public import proofs.«01_k».proof.Proof.Gen.QuantX
public import proofs.«01_k».proof.Proof.Gen.QuantXIdeal
public import proofs.«01_k».proof.Proof.Gen.QuantXRefIdeal
public import Idealize.ShloMosaic.Adequacy
public import Idealize.ShloMosaic.Init

@[expose] public section

noncomputable section

namespace Cert.Proof

open Idealize.ShloMosaic Idealize.SL.Sem Cert.Wgrad

/-- Every claim, of the product call, of the quantiser of the output gradient and of the quantiser of the activations. -/
theorem claim : Cert.Claim := ⟨Cert.Wgrad.Gen.facts, Cert.WgradIdeal.Gen.facts, Cert.WgradRef.Gen.facts, Cert.WgradRefIdeal.Gen.facts,
  Cert.QuantDy.Gen.facts, Cert.QuantDyIdeal.Gen.facts, Cert.QuantDyRef.Gen.facts, Cert.QuantDyRefIdeal.Gen.facts,
  Cert.QuantX.Gen.facts, Cert.QuantXIdeal.Gen.facts, Cert.QuantXRef.Gen.facts, Cert.QuantXRefIdeal.Gen.facts, Cert.Pre_finite.Gen.facts,
  fun m ρ _ => Cert.Wgrad.Gen.frame m ρ,
  fun m ρ _ => Cert.WgradIdeal.Gen.frame m ρ,
  Cert.Proof.Refs.frame_wgrad,
  Cert.Proof.Wgrad.frame_ref,
  Cert.Proof.QuantDy.frame,
  Cert.Proof.QuantDy.frame_ideal,
  Cert.Proof.QuantDy.frame_ideal_pre,
  Cert.Proof.Refs.frame_quant_dy,
  Cert.Proof.QuantDy.frame_ref,
  Cert.Proof.QuantDy.frame_ref_pre,
  Cert.Proof.QuantX.frame,
  Cert.Proof.QuantX.frame_ideal,
  Cert.Proof.Refs.frame_quant_x,
  Cert.Proof.QuantX.frame_ref,
  trivial,
  Cert.Proof.Wgrad.algebraic,
  Cert.Proof.QuantDy.preserves,
  Cert.Proof.QuantDy.algebraic,
  Cert.Proof.QuantX.preserves,
  Cert.Proof.QuantX.algebraic⟩

end Cert.Proof

end
